-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_ok [hPre_row_ok : Cert.Pre_row_ok.Facts] (m : (ℓ : Loc Cert.KernelIdeal.nD Cert.KernelIdeal.τ Cert.KernelIdeal.sig) → Buf (Elt Ideal) ℓ) : Prop :=
  ∀ c : Dev Cert.KernelIdeal.nD,
    (Cert.Pre_row_ok.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_ok [hPre_row_ok : Cert.Pre_row_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_ok.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_ok [hKernelIdeal : Cert.KernelIdeal.Facts] [hPre_row_ok : Cert.Pre_row_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_ok [hReferenceIdeal : Cert.ReferenceIdeal.Facts] [hPre_row_ok : Cert.Pre_row_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_ok [hKernelIdeal : Cert.KernelIdeal.Facts] [hReferenceIdeal : Cert.ReferenceIdeal.Facts] [hPre_row_ok : Cert.Pre_row_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_ok : Cert.Pre_row_ok.Facts),
    quiescent_Kernel (hKernel := hKernel)
    ∧ quiescent_KernelIdeal (hKernelIdeal := hKernelIdeal)
    ∧ quiescent_KernelIdeal_pre_row_ok (hKernelIdeal := hKernelIdeal) (hPre_row_ok := hPre_row_ok)
    ∧ quiescent_ReferenceIdeal (hReferenceIdeal := hReferenceIdeal)
    ∧ quiescent_ReferenceIdeal_pre_row_ok (hReferenceIdeal := hReferenceIdeal) (hPre_row_ok := hPre_row_ok)
    ∧ preserves_Kernel_KernelIdeal
    ∧ algebraic_KernelIdeal_ReferenceIdeal_pre_row_ok (hKernelIdeal := hKernelIdeal) (hReferenceIdeal := hReferenceIdeal) (hPre_row_ok := hPre_row_ok)
-- ==== Pre_row_ok.lean ====
abbrev S64x100000 : Shape := ⟨2, ![64, 100000]⟩
abbrev S64x4097 : Shape := ⟨2, ![64, 4097]⟩
abbrev S_ : Shape := ⟨0, ![]⟩
abbrev S64x96 : Shape := ⟨2, ![64, 96]⟩
abbrev S64x100096 : Shape := ⟨2, ![64, 100096]⟩
abbrev S64x1564x64 : Shape := ⟨3, ![64, 1564, 64]⟩
abbrev S64x1 : Shape := ⟨2, ![64, 1]⟩
abbrev S64 : Shape := ⟨1, ![64]⟩
abbrev S64x49 : Shape := ⟨2, ![64, 49]⟩
abbrev S64x1x1 : Shape := ⟨3, ![64, 1, 1]⟩
abbrev S64x64 : Shape := ⟨2, ![64, 64]⟩

class Facts : Prop where
  sliceFits_S64x100000_S64x4097 : S64x100000.Slices (fun _ => 0) S64x4097
  bcast_S_S64x96 : S_.BroadcastsInDim S64x96 (![] : Fin 0 → Fin S64x96.rank)
  concatenates_S64x100000_S64x96_S64x100096_d1 : Shape.Concatenates [S64x100000, S64x96] S64x100096 1
  shapeCasts_S64x100096_S64x1564x64 : S64x100096.ShapeCasts S64x1564x64
  slices_S64x4097_S64x1_0_0 : S64x4097.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel
  slices_S64x4097_S64x49_0_16 : S64x4097.Slices ![0, 16] S64x49
  slices_S64x4097_S64x49_0_0 : S64x4097.Slices ![0, 0] S64x49
  reducesTo_S64x49_S_d0_1 : S64x49.ReducesTo [0, 1] S_
  slices_S64x4097_S64x1_0_64 : S64x4097.Slices ![0, 64] S64x1
  slices_S64x4097_S64x1_0_49 : S64x4097.Slices ![0, 49] S64x1
  slices_S64x4097_S64x1_0_4096 : S64x4097.Slices ![0, 4096] S64x1
  bcast_S64_S64x1x1_0 : S64.BroadcastsInDim S64x1x1 (![0] : Fin 1 → Fin S64x1x1.rank)
  bcast_S64x1x1_S64x1564x64_0_1_2 : S64x1x1.BroadcastsInDim S64x1564x64 (![0, 1, 2] : Fin 3 → Fin S64x1564x64.rank)
  reducesTo_S64x1564x64_S64x64_d1 : S64x1564x64.ReducesTo [1] S64x64
  reducesTo_S64x64_S_d0_1 : S64x64.ReducesTo [0, 1] S_

variable [Facts]

def fn_part1 {F : FTy → Type} [FloatOps F] (main_values : FVec F S64x4097 .f32) (main_v2 : FVec F S64x1564x64 .f32) (main_v7 : IVec S_ 1) (main_v11 : IVec S_ 1) (main_v16 : IVec S64 1) (main_c_2 : IVec S_ 1) : IVec S_ 1 :=
  let main_v17 : IVec S_ 1 := (fun x v => Host.reduce IntOp.andi x v reducesTo_S64_S_d0 h_S_) main_v16 main_c_2
  let main_v18 : IVec S_ 1 := andi main_v11 main_v17
  let main_v19 : FVec F S64x1 .f32 := (extractStridedSlice S64x1 ![0, 4096] · slices_S64x4097_S64x1_0_4096) main_values
  let main_v20 : FVec F S64 .f32 := shapeCast S64 main_v19 shapeCasts_S64x1_S64
  let main_v21 : FVec F S64x1x1 .f32 := broadcastInDim S64x1x1 ![0] bcast_S64_S64x1x1_0 main_v20
  let main_v22 : FVec F S64x1564x64 .f32 := broadcastInDim S64x1564x64 ![0, 1, 2] bcast_S64x1x1_S64x1564x64_0_1_2 main_v21
  let main_v23 : IVec S64x1564x64 1 := cmpf .ogt main_v2 main_v22
  let main_c_3 : IVec S_ 1 := constantI S_ 1 0#1
  let main_v24 : IVec S64x64 1 := (fun x v => Host.reduce IntOp.ori x v reducesTo_S64x1564x64_S64x64_d1 h_S_) main_v23 main_c_3
  let main_c_4 : IVec S_ 1 := constantI S_ 1 1#1
  let main_v25 : IVec S_ 1 := (fun x v => Host.reduce IntOp.andi x v reducesTo_S64x64_S_d0_1 h_S_) main_v24 main_c_4
  let main_v26 : IVec S_ 1 := andi main_v7 main_v18
  let main_v27 : IVec S_ 1 := andi main_v26 main_v25
  main_v27

def fn {F : FTy → Type} [FloatOps F] (main_arg0 : FVec F S64x100000 .f32) : IVec S_ 1 :=
  let main_values : FVec F S64x4097 .f32 := (fun x => (Host.topK S64x4097 1 (FloatOps.cmpfTotal .gt) x sliceFits_S64x100000_S64x4097).1) main_arg0
  let main_indices : IVec S64x4097 32 := (fun x => (Host.topK S64x4097 1 (FloatOps.cmpfTotal .gt) x sliceFits_S64x100000_S64x4097).2) main_arg0
  let main_cst : FVec F S_ .f32 := constant S_ .f32 0xFF800000#32
  let main_v0 : FVec F S64x96 .f32 := broadcastInDim S64x96 ![] bcast_S_S64x96 main_cst
  let main_v1 : FVec F S64x100096 .f32 := (fun a b => concatenate S64x100096 1 [⟨S64x100000, a⟩, ⟨S64x96, b⟩] concatenates_S64x100000_S64x96_S64x100096_d1) main_arg0 main_v0
  let main_v2 : FVec F S64x1564x64 .f32 := shapeCast S64x1564x64 main_v1 shapeCasts_S64x100096_S64x1564x64
  let main_v3 : FVec F S64x1 .f32 := (extractStridedSlice S64x1 ![0, 0] · slices_S64x4097_S64x1_0_0) main_values
  let main_v4 : FVec F S64 .f32 := shapeCast S64 main_v3 shapeCasts_S64x1_S64
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c : IVec S_ 1 := constantI S_ 1 1#1
  let main_v7 : IVec S_ 1 := (fun x v => Host.reduce IntOp.andi x v reducesTo_S64_S_d0 h_S_) main_v6 main_c
  let main_v8 : FVec F S64x49 .f32 := (extractStridedSlice S64x49 ![0, 16] · slices_S64x4097_S64x49_0_16) main_values
  let main_v9 : FVec F S64x49 .f32 := (extractStridedSlice S64x49 ![0, 0] · slices_S64x4097_S64x49_0_0) main_values
  let main_v10 : IVec S64x49 1 := cmpf .olt main_v8 main_v9
  let main_c_1 : IVec S_ 1 := constantI S_ 1 1#1
  let main_v11 : IVec S_ 1 := (fun x v => Host.reduce IntOp.andi x v reducesTo_S64x49_S_d0_1 h_S_) main_v10 main_c_1
  let main_v12 : FVec F S64x1 .f32 := (extractStridedSlice S64x1 ![0, 64] · slices_S64x4097_S64x1_0_64) main_values
  let main_v13 : FVec F S64 .f32 := shapeCast S64 main_v12 shapeCasts_S64x1_S64
  let main_v14 : FVec F S64x1 .f32 := (extractStridedSlice S64x1 ![0, 49] · slices_S64x4097_S64x1_0_49) main_values
  let main_v15 : FVec F S64 .f32 := shapeCast S64 main_v14 shapeCasts_S64x1_S64
  let main_v16 : IVec S64 1 := cmpf .olt main_v13 main_v15
  let main_c_2 : IVec S_ 1 := constantI S_ 1 1#1
  fn_part1 (F := F) main_values main_v2 main_v7 main_v11 main_v16 main_c_2
-- ==== Kernel.lean ====
abbrev S64x100000 : Shape := ⟨2, ![64, 100000]⟩
abbrev S64x16 : Shape := ⟨2, ![64, 16]⟩
abbrev S100096 : Shape := ⟨1, ![100096]⟩
abbrev S4224 : Shape := ⟨1, ![4224]⟩
abbrev S64 : Shape := ⟨1, ![64]⟩
abbrev S96 : Shape := ⟨1, ![96]⟩
abbrev S16 : Shape := ⟨1, ![16]⟩
abbrev S_ : Shape := ⟨0, ![]⟩
abbrev S100000 : Shape := ⟨1, ![100000]⟩
abbrev S1x100000 : Shape := ⟨2, ![1, 100000]⟩
abbrev S1 : Shape := ⟨1, ![1]⟩
abbrev S1x16 : Shape := ⟨2, ![1, 16]⟩
abbrev S64x6400 : Shape := ⟨2, ![64, 6400]⟩
abbrev S64x1 : Shape := ⟨2, ![64, 1]⟩

abbrev nBuf : Table → Nat
  | .hbm => 4
  | .local .tc .vmem => 6
  | .local .scVector .vmem => 9
  | _ => 0

abbrev bufTy : (tb : Table) → Fin (nBuf tb) → BufTy
  | .hbm, ⟨0, _⟩ => ⟨S64x100000, .f32⟩
  | .hbm, ⟨1, _⟩ => ⟨S64x16, .f32⟩
  | .hbm, ⟨2, _⟩ => ⟨S64x16, .i32⟩
  | .hbm, ⟨3, _⟩ => ⟨S64x100000, .f32⟩
  | .local .tc .vmem, ⟨0, _⟩ => ⟨S64x16, .f32⟩
  | .local .tc .vmem, ⟨1, _⟩ => ⟨S64x16, .i32⟩
  | .local .tc .vmem, ⟨2, _⟩ => ⟨S64x6400, .f32⟩
  | .local .tc .vmem, ⟨3, _⟩ => ⟨S64x6400, .f32⟩
  | .local .tc .vmem, ⟨4, _⟩ => ⟨S64x6400, .f32⟩
  | .local .tc .vmem, ⟨5, _⟩ => ⟨S64x6400, .f32⟩
  | .local .scVector .vmem, ⟨0, _⟩ => ⟨S100096, .f32⟩
  | .local .scVector .vmem, ⟨1, _⟩ => ⟨S4224, .f32⟩
  | .local .scVector .vmem, ⟨2, _⟩ => ⟨S4224, .i32⟩
  | .local .scVector .vmem, ⟨3, _⟩ => ⟨S64, .f32⟩
  | .local .scVector .vmem, ⟨4, _⟩ => ⟨S96, .i32⟩
  | .local .scVector .vmem, ⟨5, _⟩ => ⟨S16, .f32⟩
  | .local .scVector .vmem, ⟨6, _⟩ => ⟨S16, .i32⟩
  | .local .scVector .vmem, ⟨7, _⟩ => ⟨S16, .f32⟩
  | .local .scVector .vmem, ⟨8, _⟩ => ⟨S16, .i32⟩
  | _, _ => ⟨S64x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c2_i32_6 : BitVec 32 := 2#32
  let v14 : BitVec 32 := Scalar.addi c0_i32_5 c2_i32_6
  let c1_i32 : BitVec 32 := 1#32
  ⟨c0_i32_5, v14, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_5 : BitVec 32 := 0#32
  let c1_i32 : BitVec 32 := 1#32
  let arg14 : BitVec 32 := Scf.iv c0_i32_5 c1_i32 k0_t1
  let v16 : BitVec 32 := Scalar.muli c32_i32 arg14
  let v17 : BitVec 32 := Scalar.addi v1 v16
  let c0_i32_349_r0 : BitVec 32 := 0#32
  ![v17.toNat, 0]
@[reducible] def k0_t2_loop : Scf.Loop 32 :=
  let c0_i32_12 : BitVec 32 := 0#32
  let c1564_i32 : BitVec 32 := 1564#32
  let v22 : BitVec 32 := Scalar.addi c0_i32_12 c1564_i32
  let c1_i32_13 : BitVec 32 := 1#32
  ⟨c0_i32_12, v22, c1_i32_13⟩
def k0_off2 (k0_t2 : Fin k0_t2_loop.trips) (c0_i32_349 : BitVec 32) : Fin 1 → Nat :=
  let c0_i32_12 : BitVec 32 := 0#32
  let c1_i32_13 : BitVec 32 := 1#32
  let arg16 : BitVec 32 := Scf.iv c0_i32_12 c1_i32_13 k0_t2
  let c64_i32_348 : BitVec 32 := 64#32
  let v1397 : BitVec 32 := Scalar.muli arg16 c64_i32_348
  let v1398 : BitVec 32 := Scalar.addi v1397 c0_i32_349
  let v1399 : Index := Scalar.indexCast v1398
  ![v1399.toNat]
@[reducible] def k0_t3_loop : Scf.Loop 32 :=
  let c0_i32_16 : BitVec 32 := 0#32
  let c33_i32 : BitVec 32 := 33#32
  let v75 : BitVec 32 := Scalar.addi c0_i32_16 c33_i32
  let c1_i32_17 : BitVec 32 := 1#32
  ⟨c0_i32_16, v75, c1_i32_17⟩
def k0_off3 (k0_t3 : Fin k0_t3_loop.trips) (c0_i32_349 : BitVec 32) : Fin 1 → Nat :=
  let c0_i32_16 : BitVec 32 := 0#32
  let c1_i32_17 : BitVec 32 := 1#32
  let arg16 : BitVec 32 := Scf.iv c0_i32_16 c1_i32_17 k0_t3
  let c128_i32 : BitVec 32 := 128#32
  let v1397 : BitVec 32 := Scalar.muli arg16 c128_i32
  let v1399 : BitVec 32 := Scalar.addi v1397 c0_i32_349
  let v1400 : Index := Scalar.indexCast v1399
  ![v1400.toNat]
@[reducible] def k0_t4_loop : Scf.Loop 32 :=
  let c0_i32_20 : BitVec 32 := 0#32
  let c782_i32 : BitVec 32 := 782#32
  let v79 : BitVec 32 := Scalar.addi c0_i32_20 c782_i32
  let c1_i32_21 : BitVec 32 := 1#32
  ⟨c0_i32_20, v79, c1_i32_21⟩
def k0_off4 (k0_t4 : Fin k0_t4_loop.trips) (c0_i32_348 : BitVec 32) : Fin 1 → Nat :=
  let c0_i32_20 : BitVec 32 := 0#32
  let c1_i32_21 : BitVec 32 := 1#32
  let arg16 : BitVec 32 := Scf.iv c0_i32_20 c1_i32_21 k0_t4
  let c128_i32 : BitVec 32 := 128#32
  let v1397 : BitVec 32 := Scalar.muli arg16 c128_i32
  let v1398 : BitVec 32 := Scalar.addi v1397 c0_i32_348
  let v1399 : Index := Scalar.indexCast v1398
  ![v1399.toNat]

def k0_chk1 (v1500 : IVec S16 32) : Prop :=
  (∀ a x, ((![v1500] : Fin 1 → IVec S16 32) a x).toNat < S4224.size a) ∧
  (∀ a x, ((![v1500] : Fin 1 → IVec S16 32) a x).toNat < S4224.size a)
theorem k0_idx1_inb : ∀ (v1500 : IVec S16 32) (k0_hw1 : k0_chk1 v1500), ∀ a x, ((![v1500] : Fin 1 → IVec S16 32) a x).toNat < S4224.size a := fun v1500 k0_hw1 => k0_hw1.1
theorem k0_idx2_inb : ∀ (v1500 : IVec S16 32) (k0_hw1 : k0_chk1 v1500), ∀ a x, ((![v1500] : Fin 1 → IVec S16 32) a x).toNat < S4224.size a := fun v1500 k0_hw1 => k0_hw1.2

def k0_chk2 (v1510 : IVec S16 32) : Prop :=
  (∀ a x, ((![v1510] : Fin 1 → IVec S16 32) a x).toNat < S4224.size a) ∧
  (∀ a x, ((![v1510] : Fin 1 → IVec S16 32) a x).toNat < S4224.size a)
theorem k0_idx3_inb : ∀ (v1510 : IVec S16 32) (k0_hw2 : k0_chk2 v1510), ∀ a x, ((![v1510] : Fin 1 → IVec S16 32) a x).toNat < S4224.size a := fun v1510 k0_hw2 => k0_hw2.1
theorem k0_idx4_inb : ∀ (v1510 : IVec S16 32) (k0_hw2 : k0_chk2 v1510), ∀ a x, ((![v1510] : Fin 1 → IVec S16 32) a x).toNat < S4224.size a := fun v1510 k0_hw2 => k0_hw2.2

def k0_chk3 (v1520 : IVec S16 32) : Prop :=
  (∀ a x, ((![v1520] : Fin 1 → IVec S16 32) a x).toNat < S4224.size a) ∧
  (∀ a x, ((![v1520] : Fin 1 → IVec S16 32) a x).toNat < S4224.size a)
theorem k0_idx5_inb : ∀ (v1520 : IVec S16 32) (k0_hw3 : k0_chk3 v1520), ∀ a x, ((![v1520] : Fin 1 → IVec S16 32) a x).toNat < S4224.size a := fun v1520 k0_hw3 => k0_hw3.1
theorem k0_idx6_inb : ∀ (v1520 : IVec S16 32) (k0_hw3 : k0_chk3 v1520), ∀ a x, ((![v1520] : Fin 1 → IVec S16 32) a x).toNat < S4224.size a := fun v1520 k0_hw3 => k0_hw3.2

def k0_chk4 (v1530 : IVec S16 32) : Prop :=
  (∀ a x, ((![v1530] : Fin 1 → IVec S16 32) a x).toNat < S4224.size a) ∧
  (∀ a x, ((![v1530] : Fin 1 → IVec S16 32) a x).toNat < S4224.size a)
theorem k0_idx7_inb : ∀ (v1530 : IVec S16 32) (k0_hw4 : k0_chk4 v1530), ∀ a x, ((![v1530] : Fin 1 → IVec S16 32) a x).toNat < S4224.size a := fun v1530 k0_hw4 => k0_hw4.1
theorem k0_idx8_inb : ∀ (v1530 : IVec S16 32) (k0_hw4 : k0_chk4 v1530), ∀ a x, ((![v1530] : Fin 1 → IVec S16 32) a x).toNat < S4224.size a := fun v1530 k0_hw4 => k0_hw4.2

def k0_chk5 (v1540 : IVec S16 32) : Prop :=
  (∀ a x, ((![v1540] : Fin 1 → IVec S16 32) a x).toNat < S4224.size a) ∧
  (∀ a x, ((![v1540] : Fin 1 → IVec S16 32) a x).toNat < S4224.size a)
theorem k0_idx9_inb : ∀ (v1540 : IVec S16 32) (k0_hw5 : k0_chk5 v1540), ∀ a x, ((![v1540] : Fin 1 → IVec S16 32) a x).toNat < S4224.size a := fun v1540 k0_hw5 => k0_hw5.1
theorem k0_idx10_inb : ∀ (v1540 : IVec S16 32) (k0_hw5 : k0_chk5 v1540), ∀ a x, ((![v1540] : Fin 1 → IVec S16 32) a x).toNat < S4224.size a := fun v1540 k0_hw5 => k0_hw5.2

def k0_chk6 (v1550 : IVec S16 32) : Prop :=
  (∀ a x, ((![v1550] : Fin 1 → IVec S16 32) a x).toNat < S4224.size a) ∧
  (∀ a x, ((![v1550] : Fin 1 → IVec S16 32) a x).toNat < S4224.size a)
theorem k0_idx11_inb : ∀ (v1550 : IVec S16 32) (k0_hw6 : k0_chk6 v1550), ∀ a x, ((![v1550] : Fin 1 → IVec S16 32) a x).toNat < S4224.size a := fun v1550 k0_hw6 => k0_hw6.1
theorem k0_idx12_inb : ∀ (v1550 : IVec S16 32) (k0_hw6 : k0_chk6 v1550), ∀ a x, ((![v1550] : Fin 1 → IVec S16 32) a x).toNat < S4224.size a := fun v1550 k0_hw6 => k0_hw6.2

def k0_chk7 (v1560 : IVec S16 32) : Prop :=
  (∀ a x, ((![v1560] : Fin 1 → IVec S16 32) a x).toNat < S4224.size a) ∧
  (∀ a x, ((![v1560] : Fin 1 → IVec S16 32) a x).toNat < S4224.size a)
theorem k0_idx13_inb : ∀ (v1560 : IVec S16 32) (k0_hw7 : k0_chk7 v1560), ∀ a x, ((![v1560] : Fin 1 → IVec S16 32) a x).toNat < S4224.size a := fun v1560 k0_hw7 => k0_hw7.1
theorem k0_idx14_inb : ∀ (v1560 : IVec S16 32) (k0_hw7 : k0_chk7 v1560), ∀ a x, ((![v1560] : Fin 1 → IVec S16 32) a x).toNat < S4224.size a := fun v1560 k0_hw7 => k0_hw7.2

def k0_chk8 (v1570 : IVec S16 32) : Prop :=
  (∀ a x, ((![v1570] : Fin 1 → IVec S16 32) a x).toNat < S4224.size a) ∧
  (∀ a x, ((![v1570] : Fin 1 → IVec S16 32) a x).toNat < S4224.size a)
theorem k0_idx15_inb : ∀ (v1570 : IVec S16 32) (k0_hw8 : k0_chk8 v1570), ∀ a x, ((![v1570] : Fin 1 → IVec S16 32) a x).toNat < S4224.size a := fun v1570 k0_hw8 => k0_hw8.1
theorem k0_idx16_inb : ∀ (v1570 : IVec S16 32) (k0_hw8 : k0_chk8 v1570), ∀ a x, ((![v1570] : Fin 1 → IVec S16 32) a x).toNat < S4224.size a := fun v1570 k0_hw8 => k0_hw8.2
def k0_off5 (c0_i32_31 : BitVec 32) : Fin 1 → Nat :=
  let c0_i32_29 : BitVec 32 := 0#32
  let c64_i32_30 : BitVec 32 := 64#32
  let v105 : BitVec 32 := Scalar.muli c0_i32_29 c64_i32_30
  let v106 : BitVec 32 := Scalar.addi v105 c0_i32_31
  let v107 : Index := Scalar.indexCast v106
  ![v107.toNat]
@[reducible] def k0_t5_loop : Scf.Loop 32 :=
  let c0_i32_39 : BitVec 32 := 0#32
  let c16_i32_40 : BitVec 32 := 16#32
  let v134 : BitVec 32 := Scalar.addi c0_i32_39 c16_i32_40
  let c1_i32_41 : BitVec 32 := 1#32
  ⟨c0_i32_39, v134, c1_i32_41⟩

def k0_chk9 (v1397 : IVec S16 32) : Prop :=
  (∀ a x, ((![v1397] : Fin 1 → IVec S16 32) a x).toNat < S16.size a)
theorem k0_idx17_inb : ∀ (v1397 : IVec S16 32) (k0_hw9 : k0_chk9 v1397), ∀ a x, ((![v1397] : Fin 1 → IVec S16 32) a x).toNat < S16.size a := fun v1397 k0_hw9 => k0_hw9

def k0_chk10 (v137 : IVec S16 32) : Prop :=
  (∀ a x, ((![v137] : Fin 1 → IVec S16 32) a x).toNat < S16.size a) ∧
  (∀ a x, ((![v137] : Fin 1 → IVec S16 32) a x).toNat < S16.size a)
theorem k0_idx18_inb : ∀ (v137 : IVec S16 32) (k0_hw10 : k0_chk10 v137), ∀ a x, ((![v137] : Fin 1 → IVec S16 32) a x).toNat < S16.size a := fun v137 k0_hw10 => k0_hw10.1
theorem k0_idx19_inb : ∀ (v137 : IVec S16 32) (k0_hw10 : k0_chk10 v137), ∀ a x, ((![v137] : Fin 1 → IVec S16 32) a x).toNat < S16.size a := fun v137 k0_hw10 => k0_hw10.2
@[reducible] def k0_t6_loop : Scf.Loop 32 :=
  let c0_i32_48 : BitVec 32 := 0#32
  let c16_i32_49 : BitVec 32 := 16#32
  let v144 : BitVec 32 := Scalar.addi c0_i32_48 c16_i32_49
  let c1_i32_50 : BitVec 32 := 1#32
  ⟨c0_i32_48, v144, c1_i32_50⟩

def k0_chk11 (v1397 : IVec S16 32) : Prop :=
  (∀ a x, ((![v1397] : Fin 1 → IVec S16 32) a x).toNat < S16.size a)
theorem k0_idx20_inb : ∀ (v1397 : IVec S16 32) (k0_hw11 : k0_chk11 v1397), ∀ a x, ((![v1397] : Fin 1 → IVec S16 32) a x).toNat < S16.size a := fun v1397 k0_hw11 => k0_hw11

def k0_chk12 (v147 : IVec S16 32) : Prop :=
  (∀ a x, ((![v147] : Fin 1 → IVec S16 32) a x).toNat < S16.size a) ∧
  (∀ a x, ((![v147] : Fin 1 → IVec S16 32) a x).toNat < S16.size a)
theorem k0_idx21_inb : ∀ (v147 : IVec S16 32) (k0_hw12 : k0_chk12 v147), ∀ a x, ((![v147] : Fin 1 → IVec S16 32) a x).toNat < S16.size a := fun v147 k0_hw12 => k0_hw12.1
theorem k0_idx22_inb : ∀ (v147 : IVec S16 32) (k0_hw12 : k0_chk12 v147), ∀ a x, ((![v147] : Fin 1 → IVec S16 32) a x).toNat < S16.size a := fun v147 k0_hw12 => k0_hw12.2
@[reducible] def k0_t7_loop : Scf.Loop 32 :=
  let c0_i32_58 : BitVec 32 := 0#32
  let c16_i32_59 : BitVec 32 := 16#32
  let v154 : BitVec 32 := Scalar.addi c0_i32_58 c16_i32_59
  let c1_i32_60 : BitVec 32 := 1#32
  ⟨c0_i32_58, v154, c1_i32_60⟩

def k0_chk13 (v1397 : IVec S16 32) : Prop :=
  (∀ a x, ((![v1397] : Fin 1 → IVec S16 32) a x).toNat < S16.size a)
theorem k0_idx23_inb : ∀ (v1397 : IVec S16 32) (k0_hw13 : k0_chk13 v1397), ∀ a x, ((![v1397] : Fin 1 → IVec S16 32) a x).toNat < S16.size a := fun v1397 k0_hw13 => k0_hw13

def k0_chk14 (v157 : IVec S16 32) : Prop :=
  (∀ a x, ((![v157] : Fin 1 → IVec S16 32) a x).toNat < S16.size a) ∧
  (∀ a x, ((![v157] : Fin 1 → IVec S16 32) a x).toNat < S16.size a)
theorem k0_idx24_inb : ∀ (v157 : IVec S16 32) (k0_hw14 : k0_chk14 v157), ∀ a x, ((![v157] : Fin 1 → IVec S16 32) a x).toNat < S16.size a := fun v157 k0_hw14 => k0_hw14.1
theorem k0_idx25_inb : ∀ (v157 : IVec S16 32) (k0_hw14 : k0_chk14 v157), ∀ a x, ((![v157] : Fin 1 → IVec S16 32) a x).toNat < S16.size a := fun v157 k0_hw14 => k0_hw14.2
@[reducible] def k0_t8_loop : Scf.Loop 32 :=
  let c0_i32_68 : BitVec 32 := 0#32
  let c16_i32_69 : BitVec 32 := 16#32
  let v164 : BitVec 32 := Scalar.addi c0_i32_68 c16_i32_69
  let c1_i32_70 : BitVec 32 := 1#32
  ⟨c0_i32_68, v164, c1_i32_70⟩

def k0_chk15 (v1397 : IVec S16 32) : Prop :=
  (∀ a x, ((![v1397] : Fin 1 → IVec S16 32) a x).toNat < S16.size a)
theorem k0_idx26_inb : ∀ (v1397 : IVec S16 32) (k0_hw15 : k0_chk15 v1397), ∀ a x, ((![v1397] : Fin 1 → IVec S16 32) a x).toNat < S16.size a := fun v1397 k0_hw15 => k0_hw15

def k0_chk16 (v167 : IVec S16 32) : Prop :=
  (∀ a x, ((![v167] : Fin 1 → IVec S16 32) a x).toNat < S16.size a) ∧
  (∀ a x, ((![v167] : Fin 1 → IVec S16 32) a x).toNat < S16.size a)
theorem k0_idx27_inb : ∀ (v167 : IVec S16 32) (k0_hw16 : k0_chk16 v167), ∀ a x, ((![v167] : Fin 1 → IVec S16 32) a x).toNat < S16.size a := fun v167 k0_hw16 => k0_hw16.1
theorem k0_idx28_inb : ∀ (v167 : IVec S16 32) (k0_hw16 : k0_chk16 v167), ∀ a x, ((![v167] : Fin 1 → IVec S16 32) a x).toNat < S16.size a := fun v167 k0_hw16 => k0_hw16.2

def k0_chk17 (v173 : IVec S16 32) : Prop :=
  (∀ a x, ((![v173] : Fin 1 → IVec S16 32) a x).toNat < S16.size a)
theorem k0_idx29_inb : ∀ (v173 : IVec S16 32) (k0_hw17 : k0_chk17 v173), ∀ a x, ((![v173] : Fin 1 → IVec S16 32) a x).toNat < S16.size a := fun v173 k0_hw17 => k0_hw17

def k0_chk18 (v178 : IVec S16 32) : Prop :=
  (∀ a x, ((![v178] : Fin 1 → IVec S16 32) a x).toNat < S16.size a)
theorem k0_idx30_inb : ∀ (v178 : IVec S16 32) (k0_hw18 : k0_chk18 v178), ∀ a x, ((![v178] : Fin 1 → IVec S16 32) a x).toNat < S16.size a := fun v178 k0_hw18 => k0_hw18
@[reducible] def k0_t9_loop : Scf.Loop 32 :=
  let c0_i32_82 : BitVec 32 := 0#32
  let c16_i32_83 : BitVec 32 := 16#32
  let v189 : BitVec 32 := Scalar.addi c0_i32_82 c16_i32_83
  let c1_i32_84 : BitVec 32 := 1#32
  ⟨c0_i32_82, v189, c1_i32_84⟩

def k0_chk19 (v1397 : IVec S16 32) : Prop :=
  (∀ a x, ((![v1397] : Fin 1 → IVec S16 32) a x).toNat < S16.size a)
theorem k0_idx31_inb : ∀ (v1397 : IVec S16 32) (k0_hw19 : k0_chk19 v1397), ∀ a x, ((![v1397] : Fin 1 → IVec S16 32) a x).toNat < S16.size a := fun v1397 k0_hw19 => k0_hw19

def k0_chk20 (v192 : IVec S16 32) : Prop :=
  (∀ a x, ((![v192] : Fin 1 → IVec S16 32) a x).toNat < S16.size a) ∧
  (∀ a x, ((![v192] : Fin 1 → IVec S16 32) a x).toNat < S16.size a)
theorem k0_idx32_inb : ∀ (v192 : IVec S16 32) (k0_hw20 : k0_chk20 v192), ∀ a x, ((![v192] : Fin 1 → IVec S16 32) a x).toNat < S16.size a := fun v192 k0_hw20 => k0_hw20.1
theorem k0_idx33_inb : ∀ (v192 : IVec S16 32) (k0_hw20 : k0_chk20 v192), ∀ a x, ((![v192] : Fin 1 → IVec S16 32) a x).toNat < S16.size a := fun v192 k0_hw20 => k0_hw20.2
@[reducible] def k0_t10_loop : Scf.Loop 32 :=
  let c0_i32_92 : BitVec 32 := 0#32
  let c16_i32_93 : BitVec 32 := 16#32
  let v199 : BitVec 32 := Scalar.addi c0_i32_92 c16_i32_93
  let c1_i32_94 : BitVec 32 := 1#32
  ⟨c0_i32_92, v199, c1_i32_94⟩

def k0_chk21 (v1397 : IVec S16 32) : Prop :=
  (∀ a x, ((![v1397] : Fin 1 → IVec S16 32) a x).toNat < S16.size a)
theorem k0_idx34_inb : ∀ (v1397 : IVec S16 32) (k0_hw21 : k0_chk21 v1397), ∀ a x, ((![v1397] : Fin 1 → IVec S16 32) a x).toNat < S16.size a := fun v1397 k0_hw21 => k0_hw21

def k0_chk22 (v202 : IVec S16 32) : Prop :=
  (∀ a x, ((![v202] : Fin 1 → IVec S16 32) a x).toNat < S16.size a) ∧
  (∀ a x, ((![v202] : Fin 1 → IVec S16 32) a x).toNat < S16.size a)
theorem k0_idx35_inb : ∀ (v202 : IVec S16 32) (k0_hw22 : k0_chk22 v202), ∀ a x, ((![v202] : Fin 1 → IVec S16 32) a x).toNat < S16.size a := fun v202 k0_hw22 => k0_hw22.1
theorem k0_idx36_inb : ∀ (v202 : IVec S16 32) (k0_hw22 : k0_chk22 v202), ∀ a x, ((![v202] : Fin 1 → IVec S16 32) a x).toNat < S16.size a := fun v202 k0_hw22 => k0_hw22.2

def k0_chk23 (v208 : IVec S16 32) : Prop :=
  (∀ a x, ((![v208] : Fin 1 → IVec S16 32) a x).toNat < S16.size a)
theorem k0_idx37_inb : ∀ (v208 : IVec S16 32) (k0_hw23 : k0_chk23 v208), ∀ a x, ((![v208] : Fin 1 → IVec S16 32) a x).toNat < S16.size a := fun v208 k0_hw23 => k0_hw23

def k0_chk24 (v213 : IVec S16 32) : Prop :=
  (∀ a x, ((![v213] : Fin 1 → IVec S16 32) a x).toNat < S16.size a)
theorem k0_idx38_inb : ∀ (v213 : IVec S16 32) (k0_hw24 : k0_chk24 v213), ∀ a x, ((![v213] : Fin 1 → IVec S16 32) a x).toNat < S16.size a := fun v213 k0_hw24 => k0_hw24
@[reducible] def k0_t11_loop : Scf.Loop 32 :=
  let c0_i32_106 : BitVec 32 := 0#32
  let c16_i32_107 : BitVec 32 := 16#32
  let v224 : BitVec 32 := Scalar.addi c0_i32_106 c16_i32_107
  let c1_i32_108 : BitVec 32 := 1#32
  ⟨c0_i32_106, v224, c1_i32_108⟩

def k0_chk25 (v1397 : IVec S16 32) : Prop :=
  (∀ a x, ((![v1397] : Fin 1 → IVec S16 32) a x).toNat < S16.size a)
theorem k0_idx39_inb : ∀ (v1397 : IVec S16 32) (k0_hw25 : k0_chk25 v1397), ∀ a x, ((![v1397] : Fin 1 → IVec S16 32) a x).toNat < S16.size a := fun v1397 k0_hw25 => k0_hw25

def k0_chk26 (v227 : IVec S16 32) : Prop :=
  (∀ a x, ((![v227] : Fin 1 → IVec S16 32) a x).toNat < S16.size a) ∧
  (∀ a x, ((![v227] : Fin 1 → IVec S16 32) a x).toNat < S16.size a)
theorem k0_idx40_inb : ∀ (v227 : IVec S16 32) (k0_hw26 : k0_chk26 v227), ∀ a x, ((![v227] : Fin 1 → IVec S16 32) a x).toNat < S16.size a := fun v227 k0_hw26 => k0_hw26.1
theorem k0_idx41_inb : ∀ (v227 : IVec S16 32) (k0_hw26 : k0_chk26 v227), ∀ a x, ((![v227] : Fin 1 → IVec S16 32) a x).toNat < S16.size a := fun v227 k0_hw26 => k0_hw26.2
@[reducible] def k0_t12_loop : Scf.Loop 32 :=
  let c0_i32_116 : BitVec 32 := 0#32
  let c16_i32_117 : BitVec 32 := 16#32
  let v234 : BitVec 32 := Scalar.addi c0_i32_116 c16_i32_117
  let c1_i32_118 : BitVec 32 := 1#32
  ⟨c0_i32_116, v234, c1_i32_118⟩

def k0_chk27 (v1397 : IVec S16 32) : Prop :=
  (∀ a x, ((![v1397] : Fin 1 → IVec S16 32) a x).toNat < S16.size a)
theorem k0_idx42_inb : ∀ (v1397 : IVec S16 32) (k0_hw27 : k0_chk27 v1397), ∀ a x, ((![v1397] : Fin 1 → IVec S16 32) a x).toNat < S16.size a := fun v1397 k0_hw27 => k0_hw27

def k0_chk28 (v237 : IVec S16 32) : Prop :=
  (∀ a x, ((![v237] : Fin 1 → IVec S16 32) a x).toNat < S16.size a) ∧
  (∀ a x, ((![v237] : Fin 1 → IVec S16 32) a x).toNat < S16.size a)
theorem k0_idx43_inb : ∀ (v237 : IVec S16 32) (k0_hw28 : k0_chk28 v237), ∀ a x, ((![v237] : Fin 1 → IVec S16 32) a x).toNat < S16.size a := fun v237 k0_hw28 => k0_hw28.1
theorem k0_idx44_inb : ∀ (v237 : IVec S16 32) (k0_hw28 : k0_chk28 v237), ∀ a x, ((![v237] : Fin 1 → IVec S16 32) a x).toNat < S16.size a := fun v237 k0_hw28 => k0_hw28.2

def k0_chk29 (v243 : IVec S16 32) : Prop :=
  (∀ a x, ((![v243] : Fin 1 → IVec S16 32) a x).toNat < S16.size a)
theorem k0_idx45_inb : ∀ (v243 : IVec S16 32) (k0_hw29 : k0_chk29 v243), ∀ a x, ((![v243] : Fin 1 → IVec S16 32) a x).toNat < S16.size a := fun v243 k0_hw29 => k0_hw29

def k0_chk30 (v248 : IVec S16 32) : Prop :=
  (∀ a x, ((![v248] : Fin 1 → IVec S16 32) a x).toNat < S16.size a)
theorem k0_idx46_inb : ∀ (v248 : IVec S16 32) (k0_hw30 : k0_chk30 v248), ∀ a x, ((![v248] : Fin 1 → IVec S16 32) a x).toNat < S16.size a := fun v248 k0_hw30 => k0_hw30

def k0_chk31 (v253 : IVec S16 32) : Prop :=
  (∀ a x, ((![v253] : Fin 1 → IVec S16 32) a x).toNat < S16.size a)
theorem k0_idx47_inb : ∀ (v253 : IVec S16 32) (k0_hw31 : k0_chk31 v253), ∀ a x, ((![v253] : Fin 1 → IVec S16 32) a x).toNat < S16.size a := fun v253 k0_hw31 => k0_hw31

def k0_chk32 (v258 : IVec S16 32) : Prop :=
  (∀ a x, ((![v258] : Fin 1 → IVec S16 32) a x).toNat < S16.size a)
theorem k0_idx48_inb : ∀ (v258 : IVec S16 32) (k0_hw32 : k0_chk32 v258), ∀ a x, ((![v258] : Fin 1 → IVec S16 32) a x).toNat < S16.size a := fun v258 k0_hw32 => k0_hw32
@[reducible] def k0_t13_loop : Scf.Loop 32 :=
  let c0_i32_134 : BitVec 32 := 0#32
  let c16_i32_135 : BitVec 32 := 16#32
  let v279 : BitVec 32 := Scalar.addi c0_i32_134 c16_i32_135
  let c1_i32_136 : BitVec 32 := 1#32
  ⟨c0_i32_134, v279, c1_i32_136⟩

def k0_chk33 (v1397 : IVec S16 32) : Prop :=
  (∀ a x, ((![v1397] : Fin 1 → IVec S16 32) a x).toNat < S16.size a)
theorem k0_idx49_inb : ∀ (v1397 : IVec S16 32) (k0_hw33 : k0_chk33 v1397), ∀ a x, ((![v1397] : Fin 1 → IVec S16 32) a x).toNat < S16.size a := fun v1397 k0_hw33 => k0_hw33

def k0_chk34 (v282 : IVec S16 32) : Prop :=
  (∀ a x, ((![v282] : Fin 1 → IVec S16 32) a x).toNat < S16.size a) ∧
  (∀ a x, ((![v282] : Fin 1 → IVec S16 32) a x).toNat < S16.size a)
theorem k0_idx50_inb : ∀ (v282 : IVec S16 32) (k0_hw34 : k0_chk34 v282), ∀ a x, ((![v282] : Fin 1 → IVec S16 32) a x).toNat < S16.size a := fun v282 k0_hw34 => k0_hw34.1
theorem k0_idx51_inb : ∀ (v282 : IVec S16 32) (k0_hw34 : k0_chk34 v282), ∀ a x, ((![v282] : Fin 1 → IVec S16 32) a x).toNat < S16.size a := fun v282 k0_hw34 => k0_hw34.2
@[reducible] def k0_t14_loop : Scf.Loop 32 :=
  let c0_i32_144 : BitVec 32 := 0#32
  let c16_i32_145 : BitVec 32 := 16#32
  let v289 : BitVec 32 := Scalar.addi c0_i32_144 c16_i32_145
  let c1_i32_146 : BitVec 32 := 1#32
  ⟨c0_i32_144, v289, c1_i32_146⟩

def k0_chk35 (v1397 : IVec S16 32) : Prop :=
  (∀ a x, ((![v1397] : Fin 1 → IVec S16 32) a x).toNat < S16.size a)
theorem k0_idx52_inb : ∀ (v1397 : IVec S16 32) (k0_hw35 : k0_chk35 v1397), ∀ a x, ((![v1397] : Fin 1 → IVec S16 32) a x).toNat < S16.size a := fun v1397 k0_hw35 => k0_hw35

def k0_chk36 (v292 : IVec S16 32) : Prop :=
  (∀ a x, ((![v292] : Fin 1 → IVec S16 32) a x).toNat < S16.size a) ∧
  (∀ a x, ((![v292] : Fin 1 → IVec S16 32) a x).toNat < S16.size a)
theorem k0_idx53_inb : ∀ (v292 : IVec S16 32) (k0_hw36 : k0_chk36 v292), ∀ a x, ((![v292] : Fin 1 → IVec S16 32) a x).toNat < S16.size a := fun v292 k0_hw36 => k0_hw36.1
theorem k0_idx54_inb : ∀ (v292 : IVec S16 32) (k0_hw36 : k0_chk36 v292), ∀ a x, ((![v292] : Fin 1 → IVec S16 32) a x).toNat < S16.size a := fun v292 k0_hw36 => k0_hw36.2
@[reducible] def k0_t15_loop : Scf.Loop 32 :=
  let c0_i32_154 : BitVec 32 := 0#32
  let c16_i32_155 : BitVec 32 := 16#32
  let v304 : BitVec 32 := Scalar.addi c0_i32_154 c16_i32_155
  let c1_i32_156 : BitVec 32 := 1#32
  ⟨c0_i32_154, v304, c1_i32_156⟩

def k0_chk37 (v1397 : IVec S16 32) : Prop :=
  (∀ a x, ((![v1397] : Fin 1 → IVec S16 32) a x).toNat < S16.size a)
theorem k0_idx55_inb : ∀ (v1397 : IVec S16 32) (k0_hw37 : k0_chk37 v1397), ∀ a x, ((![v1397] : Fin 1 → IVec S16 32) a x).toNat < S16.size a := fun v1397 k0_hw37 => k0_hw37

def k0_chk38 (v307 : IVec S16 32) : Prop :=
  (∀ a x, ((![v307] : Fin 1 → IVec S16 32) a x).toNat < S16.size a) ∧
  (∀ a x, ((![v307] : Fin 1 → IVec S16 32) a x).toNat < S16.size a)
theorem k0_idx56_inb : ∀ (v307 : IVec S16 32) (k0_hw38 : k0_chk38 v307), ∀ a x, ((![v307] : Fin 1 → IVec S16 32) a x).toNat < S16.size a := fun v307 k0_hw38 => k0_hw38.1
theorem k0_idx57_inb : ∀ (v307 : IVec S16 32) (k0_hw38 : k0_chk38 v307), ∀ a x, ((![v307] : Fin 1 → IVec S16 32) a x).toNat < S16.size a := fun v307 k0_hw38 => k0_hw38.2
@[reducible] def k0_t16_loop : Scf.Loop 32 :=
  let c0_i32_164 : BitVec 32 := 0#32
  let c16_i32_165 : BitVec 32 := 16#32
  let v314 : BitVec 32 := Scalar.addi c0_i32_164 c16_i32_165
  let c1_i32_166 : BitVec 32 := 1#32
  ⟨c0_i32_164, v314, c1_i32_166⟩

def k0_chk39 (v1397 : IVec S16 32) : Prop :=
  (∀ a x, ((![v1397] : Fin 1 → IVec S16 32) a x).toNat < S16.size a)
theorem k0_idx58_inb : ∀ (v1397 : IVec S16 32) (k0_hw39 : k0_chk39 v1397), ∀ a x, ((![v1397] : Fin 1 → IVec S16 32) a x).toNat < S16.size a := fun v1397 k0_hw39 => k0_hw39

def k0_chk40 (v317 : IVec S16 32) : Prop :=
  (∀ a x, ((![v317] : Fin 1 → IVec S16 32) a x).toNat < S16.size a) ∧
  (∀ a x, ((![v317] : Fin 1 → IVec S16 32) a x).toNat < S16.size a)
theorem k0_idx59_inb : ∀ (v317 : IVec S16 32) (k0_hw40 : k0_chk40 v317), ∀ a x, ((![v317] : Fin 1 → IVec S16 32) a x).toNat < S16.size a := fun v317 k0_hw40 => k0_hw40.1
theorem k0_idx60_inb : ∀ (v317 : IVec S16 32) (k0_hw40 : k0_chk40 v317), ∀ a x, ((![v317] : Fin 1 → IVec S16 32) a x).toNat < S16.size a := fun v317 k0_hw40 => k0_hw40.2
@[reducible] def k0_t17_loop (v86 : BitVec 32) : Scf.Loop 32 :=
  let c1_i32_171 : BitVec 32 := 1#32
  let c63_i32 : BitVec 32 := 63#32
  let v87 : BitVec 32 := Scalar.addi v86 c63_i32
  let c0_i32_23 : BitVec 32 := 0#32
  let v89 : BitVec 1 := Scalar.cmpi .sgt v87 c0_i32_23
  let v90 : BitVec 32 := Scalar.extui v89
  let c0_i32_24 : BitVec 32 := 0#32
  let v91 : BitVec 1 := Scalar.cmpi .slt v87 c0_i32_24
  let v92 : BitVec 32 := Scalar.extui v91
  let v93 : BitVec 32 := Scalar.subi v90 v92
  let c64_i32 : BitVec 32 := 64#32
  let c0_i32_25 : BitVec 32 := 0#32
  let v94 : BitVec 1 := Scalar.cmpi .sgt c64_i32 c0_i32_25
  let v95 : BitVec 32 := Scalar.extui v94
  let c0_i32_26 : BitVec 32 := 0#32
  let v96 : BitVec 1 := Scalar.cmpi .slt c64_i32 c0_i32_26
  let v97 : BitVec 32 := Scalar.extui v96
  let v98 : BitVec 32 := Scalar.subi v95 v97
  let v99 : BitVec 1 := Scalar.cmpi .ne v93 v98
  let v100 : BitVec 32 := Scalar.remsi v87 c64_i32
  let c0_i32_27 : BitVec 32 := 0#32
  let v101 : BitVec 1 := Scalar.cmpi .ne v100 c0_i32_27
  let v102 : BitVec 1 := Scalar.andi v99 v101
  let v88 : BitVec 32 := Scalar.divsi v87 c64_i32
  let c1_i32_28 : BitVec 32 := 1#32
  let v103 : BitVec 32 := Scalar.subi v88 c1_i32_28
  let v104 : BitVec 32 := Scalar.select v102 v103 v88
  let v320 : BitVec 32 := Scalar.subi v104 c1_i32_171
  let c1_i32_172 : BitVec 32 := 1#32
  let v322 : BitVec 32 := Scalar.divsi v320 c1_i32_172
  let v323 : BitVec 32 := Scalar.muli v322 c1_i32_172
  let v324 : BitVec 32 := Scalar.addi c1_i32_171 v323
  let c1_i32_173 : BitVec 32 := 1#32
  ⟨c1_i32_171, v324, c1_i32_173⟩

def k0_off6 (v86 : BitVec 32) (k0_t17 : Fin (k0_t17_loop v86).trips) (c0_i32_349 : BitVec 32) : Fin 1 → Nat :=
  let c1_i32_171 : BitVec 32 := 1#32
  let c1_i32_173 : BitVec 32 := 1#32
  let arg16 : BitVec 32 := Scf.iv c1_i32_171 c1_i32_173 k0_t17
  let c64_i32_348 : BitVec 32 := 64#32
  let v1397 : BitVec 32 := Scalar.muli arg16 c64_i32_348
  let v1398 : BitVec 32 := Scalar.addi v1397 c0_i32_349
  let v1399 : Index := Scalar.indexCast v1398
  ![v1399.toNat]
@[reducible] def k0_t18_loop : Scf.Loop 32 :=
  let c0_i32_360 : BitVec 32 := 0#32
  let c16_i32_361 : BitVec 32 := 16#32
  let v1426 : BitVec 32 := Scalar.addi c0_i32_360 c16_i32_361
  let c1_i32_362 : BitVec 32 := 1#32
  ⟨c0_i32_360, v1426, c1_i32_362⟩

def k0_chk42 (v1724 : IVec S16 32) : Prop :=
  (∀ a x, ((![v1724] : Fin 1 → IVec S16 32) a x).toNat < S16.size a)
theorem k0_idx61_inb : ∀ (v1724 : IVec S16 32) (k0_hw42 : k0_chk42 v1724), ∀ a x, ((![v1724] : Fin 1 → IVec S16 32) a x).toNat < S16.size a := fun v1724 k0_hw42 => k0_hw42

def k0_chk43 (v1429 : IVec S16 32) : Prop :=
  (∀ a x, ((![v1429] : Fin 1 → IVec S16 32) a x).toNat < S16.size a) ∧
  (∀ a x, ((![v1429] : Fin 1 → IVec S16 32) a x).toNat < S16.size a)
theorem k0_idx62_inb : ∀ (v1429 : IVec S16 32) (k0_hw43 : k0_chk43 v1429), ∀ a x, ((![v1429] : Fin 1 → IVec S16 32) a x).toNat < S16.size a := fun v1429 k0_hw43 => k0_hw43.1
theorem k0_idx63_inb : ∀ (v1429 : IVec S16 32) (k0_hw43 : k0_chk43 v1429), ∀ a x, ((![v1429] : Fin 1 → IVec S16 32) a x).toNat < S16.size a := fun v1429 k0_hw43 => k0_hw43.2
@[reducible] def k0_t19_loop : Scf.Loop 32 :=
  let c0_i32_370 : BitVec 32 := 0#32
  let c16_i32_371 : BitVec 32 := 16#32
  let v1436 : BitVec 32 := Scalar.addi c0_i32_370 c16_i32_371
  let c1_i32_372 : BitVec 32 := 1#32
  ⟨c0_i32_370, v1436, c1_i32_372⟩

def k0_chk44 (v1724 : IVec S16 32) : Prop :=
  (∀ a x, ((![v1724] : Fin 1 → IVec S16 32) a x).toNat < S16.size a)
theorem k0_idx64_inb : ∀ (v1724 : IVec S16 32) (k0_hw44 : k0_chk44 v1724), ∀ a x, ((![v1724] : Fin 1 → IVec S16 32) a x).toNat < S16.size a := fun v1724 k0_hw44 => k0_hw44

def k0_chk45 (v1439 : IVec S16 32) : Prop :=
  (∀ a x, ((![v1439] : Fin 1 → IVec S16 32) a x).toNat < S16.size a) ∧
  (∀ a x, ((![v1439] : Fin 1 → IVec S16 32) a x).toNat < S16.size a)
theorem k0_idx65_inb : ∀ (v1439 : IVec S16 32) (k0_hw45 : k0_chk45 v1439), ∀ a x, ((![v1439] : Fin 1 → IVec S16 32) a x).toNat < S16.size a := fun v1439 k0_hw45 => k0_hw45.1
theorem k0_idx66_inb : ∀ (v1439 : IVec S16 32) (k0_hw45 : k0_chk45 v1439), ∀ a x, ((![v1439] : Fin 1 → IVec S16 32) a x).toNat < S16.size a := fun v1439 k0_hw45 => k0_hw45.2
@[reducible] def k0_t20_loop : Scf.Loop 32 :=
  let c0_i32_380 : BitVec 32 := 0#32
  let c16_i32_381 : BitVec 32 := 16#32
  let v1446 : BitVec 32 := Scalar.addi c0_i32_380 c16_i32_381
  let c1_i32_382 : BitVec 32 := 1#32
  ⟨c0_i32_380, v1446, c1_i32_382⟩

def k0_chk46 (v1724 : IVec S16 32) : Prop :=
  (∀ a x, ((![v1724] : Fin 1 → IVec S16 32) a x).toNat < S16.size a)
theorem k0_idx67_inb : ∀ (v1724 : IVec S16 32) (k0_hw46 : k0_chk46 v1724), ∀ a x, ((![v1724] : Fin 1 → IVec S16 32) a x).toNat < S16.size a := fun v1724 k0_hw46 => k0_hw46

def k0_chk47 (v1449 : IVec S16 32) : Prop :=
  (∀ a x, ((![v1449] : Fin 1 → IVec S16 32) a x).toNat < S16.size a) ∧
  (∀ a x, ((![v1449] : Fin 1 → IVec S16 32) a x).toNat < S16.size a)
theorem k0_idx68_inb : ∀ (v1449 : IVec S16 32) (k0_hw47 : k0_chk47 v1449), ∀ a x, ((![v1449] : Fin 1 → IVec S16 32) a x).toNat < S16.size a := fun v1449 k0_hw47 => k0_hw47.1
theorem k0_idx69_inb : ∀ (v1449 : IVec S16 32) (k0_hw47 : k0_chk47 v1449), ∀ a x, ((![v1449] : Fin 1 → IVec S16 32) a x).toNat < S16.size a := fun v1449 k0_hw47 => k0_hw47.2
@[reducible] def k0_t21_loop : Scf.Loop 32 :=
  let c0_i32_390 : BitVec 32 := 0#32
  let c16_i32_391 : BitVec 32 := 16#32
  let v1456 : BitVec 32 := Scalar.addi c0_i32_390 c16_i32_391
  let c1_i32_392 : BitVec 32 := 1#32
  ⟨c0_i32_390, v1456, c1_i32_392⟩

def k0_chk48 (v1724 : IVec S16 32) : Prop :=
  (∀ a x, ((![v1724] : Fin 1 → IVec S16 32) a x).toNat < S16.size a)
theorem k0_idx70_inb : ∀ (v1724 : IVec S16 32) (k0_hw48 : k0_chk48 v1724), ∀ a x, ((![v1724] : Fin 1 → IVec S16 32) a x).toNat < S16.size a := fun v1724 k0_hw48 => k0_hw48

def k0_chk49 (v1459 : IVec S16 32) : Prop :=
  (∀ a x, ((![v1459] : Fin 1 → IVec S16 32) a x).toNat < S16.size a) ∧
  (∀ a x, ((![v1459] : Fin 1 → IVec S16 32) a x).toNat < S16.size a)
theorem k0_idx71_inb : ∀ (v1459 : IVec S16 32) (k0_hw49 : k0_chk49 v1459), ∀ a x, ((![v1459] : Fin 1 → IVec S16 32) a x).toNat < S16.size a := fun v1459 k0_hw49 => k0_hw49.1
theorem k0_idx72_inb : ∀ (v1459 : IVec S16 32) (k0_hw49 : k0_chk49 v1459), ∀ a x, ((![v1459] : Fin 1 → IVec S16 32) a x).toNat < S16.size a := fun v1459 k0_hw49 => k0_hw49.2

def k0_chk50 (v1465 : IVec S16 32) : Prop :=
  (∀ a x, ((![v1465] : Fin 1 → IVec S16 32) a x).toNat < S16.size a)
theorem k0_idx73_inb : ∀ (v1465 : IVec S16 32) (k0_hw50 : k0_chk50 v1465), ∀ a x, ((![v1465] : Fin 1 → IVec S16 32) a x).toNat < S16.size a := fun v1465 k0_hw50 => k0_hw50

def k0_chk51 (v1470 : IVec S16 32) : Prop :=
  (∀ a x, ((![v1470] : Fin 1 → IVec S16 32) a x).toNat < S16.size a)
theorem k0_idx74_inb : ∀ (v1470 : IVec S16 32) (k0_hw51 : k0_chk51 v1470), ∀ a x, ((![v1470] : Fin 1 → IVec S16 32) a x).toNat < S16.size a := fun v1470 k0_hw51 => k0_hw51
@[reducible] def k0_t22_loop : Scf.Loop 32 :=
  let c0_i32_404 : BitVec 32 := 0#32
  let c16_i32_405 : BitVec 32 := 16#32
  let v1481 : BitVec 32 := Scalar.addi c0_i32_404 c16_i32_405
  let c1_i32_406 : BitVec 32 := 1#32
  ⟨c0_i32_404, v1481, c1_i32_406⟩

def k0_chk52 (v1724 : IVec S16 32) : Prop :=
  (∀ a x, ((![v1724] : Fin 1 → IVec S16 32) a x).toNat < S16.size a)
theorem k0_idx75_inb : ∀ (v1724 : IVec S16 32) (k0_hw52 : k0_chk52 v1724), ∀ a x, ((![v1724] : Fin 1 → IVec S16 32) a x).toNat < S16.size a := fun v1724 k0_hw52 => k0_hw52

def k0_chk53 (v1484 : IVec S16 32) : Prop :=
  (∀ a x, ((![v1484] : Fin 1 → IVec S16 32) a x).toNat < S16.size a) ∧
  (∀ a x, ((![v1484] : Fin 1 → IVec S16 32) a x).toNat < S16.size a)
theorem k0_idx76_inb : ∀ (v1484 : IVec S16 32) (k0_hw53 : k0_chk53 v1484), ∀ a x, ((![v1484] : Fin 1 → IVec S16 32) a x).toNat < S16.size a := fun v1484 k0_hw53 => k0_hw53.1
theorem k0_idx77_inb : ∀ (v1484 : IVec S16 32) (k0_hw53 : k0_chk53 v1484), ∀ a x, ((![v1484] : Fin 1 → IVec S16 32) a x).toNat < S16.size a := fun v1484 k0_hw53 => k0_hw53.2
@[reducible] def k0_t23_loop : Scf.Loop 32 :=
  let c0_i32_414 : BitVec 32 := 0#32
  let c16_i32_415 : BitVec 32 := 16#32
  let v1491 : BitVec 32 := Scalar.addi c0_i32_414 c16_i32_415
  let c1_i32_416 : BitVec 32 := 1#32
  ⟨c0_i32_414, v1491, c1_i32_416⟩

def k0_chk54 (v1724 : IVec S16 32) : Prop :=
  (∀ a x, ((![v1724] : Fin 1 → IVec S16 32) a x).toNat < S16.size a)
theorem k0_idx78_inb : ∀ (v1724 : IVec S16 32) (k0_hw54 : k0_chk54 v1724), ∀ a x, ((![v1724] : Fin 1 → IVec S16 32) a x).toNat < S16.size a := fun v1724 k0_hw54 => k0_hw54

def k0_chk55 (v1494 : IVec S16 32) : Prop :=
  (∀ a x, ((![v1494] : Fin 1 → IVec S16 32) a x).toNat < S16.size a) ∧
  (∀ a x, ((![v1494] : Fin 1 → IVec S16 32) a x).toNat < S16.size a)
theorem k0_idx79_inb : ∀ (v1494 : IVec S16 32) (k0_hw55 : k0_chk55 v1494), ∀ a x, ((![v1494] : Fin 1 → IVec S16 32) a x).toNat < S16.size a := fun v1494 k0_hw55 => k0_hw55.1
theorem k0_idx80_inb : ∀ (v1494 : IVec S16 32) (k0_hw55 : k0_chk55 v1494), ∀ a x, ((![v1494] : Fin 1 → IVec S16 32) a x).toNat < S16.size a := fun v1494 k0_hw55 => k0_hw55.2

def k0_chk56 (v1500 : IVec S16 32) : Prop :=
  (∀ a x, ((![v1500] : Fin 1 → IVec S16 32) a x).toNat < S16.size a)
theorem k0_idx81_inb : ∀ (v1500 : IVec S16 32) (k0_hw56 : k0_chk56 v1500), ∀ a x, ((![v1500] : Fin 1 → IVec S16 32) a x).toNat < S16.size a := fun v1500 k0_hw56 => k0_hw56

def k0_chk57 (v1505 : IVec S16 32) : Prop :=
  (∀ a x, ((![v1505] : Fin 1 → IVec S16 32) a x).toNat < S16.size a)
theorem k0_idx82_inb : ∀ (v1505 : IVec S16 32) (k0_hw57 : k0_chk57 v1505), ∀ a x, ((![v1505] : Fin 1 → IVec S16 32) a x).toNat < S16.size a := fun v1505 k0_hw57 => k0_hw57
@[reducible] def k0_t24_loop : Scf.Loop 32 :=
  let c0_i32_428 : BitVec 32 := 0#32
  let c16_i32_429 : BitVec 32 := 16#32
  let v1516 : BitVec 32 := Scalar.addi c0_i32_428 c16_i32_429
  let c1_i32_430 : BitVec 32 := 1#32
  ⟨c0_i32_428, v1516, c1_i32_430⟩

def k0_chk58 (v1724 : IVec S16 32) : Prop :=
  (∀ a x, ((![v1724] : Fin 1 → IVec S16 32) a x).toNat < S16.size a)
theorem k0_idx83_inb : ∀ (v1724 : IVec S16 32) (k0_hw58 : k0_chk58 v1724), ∀ a x, ((![v1724] : Fin 1 → IVec S16 32) a x).toNat < S16.size a := fun v1724 k0_hw58 => k0_hw58

def k0_chk59 (v1519 : IVec S16 32) : Prop :=
  (∀ a x, ((![v1519] : Fin 1 → IVec S16 32) a x).toNat < S16.size a) ∧
  (∀ a x, ((![v1519] : Fin 1 → IVec S16 32) a x).toNat < S16.size a)
theorem k0_idx84_inb : ∀ (v1519 : IVec S16 32) (k0_hw59 : k0_chk59 v1519), ∀ a x, ((![v1519] : Fin 1 → IVec S16 32) a x).toNat < S16.size a := fun v1519 k0_hw59 => k0_hw59.1
theorem k0_idx85_inb : ∀ (v1519 : IVec S16 32) (k0_hw59 : k0_chk59 v1519), ∀ a x, ((![v1519] : Fin 1 → IVec S16 32) a x).toNat < S16.size a := fun v1519 k0_hw59 => k0_hw59.2
@[reducible] def k0_t25_loop : Scf.Loop 32 :=
  let c0_i32_438 : BitVec 32 := 0#32
  let c16_i32_439 : BitVec 32 := 16#32
  let v1526 : BitVec 32 := Scalar.addi c0_i32_438 c16_i32_439
  let c1_i32_440 : BitVec 32 := 1#32
  ⟨c0_i32_438, v1526, c1_i32_440⟩

def k0_chk60 (v1724 : IVec S16 32) : Prop :=
  (∀ a x, ((![v1724] : Fin 1 → IVec S16 32) a x).toNat < S16.size a)
theorem k0_idx86_inb : ∀ (v1724 : IVec S16 32) (k0_hw60 : k0_chk60 v1724), ∀ a x, ((![v1724] : Fin 1 → IVec S16 32) a x).toNat < S16.size a := fun v1724 k0_hw60 => k0_hw60

def k0_chk61 (v1529 : IVec S16 32) : Prop :=
  (∀ a x, ((![v1529] : Fin 1 → IVec S16 32) a x).toNat < S16.size a) ∧
  (∀ a x, ((![v1529] : Fin 1 → IVec S16 32) a x).toNat < S16.size a)
theorem k0_idx87_inb : ∀ (v1529 : IVec S16 32) (k0_hw61 : k0_chk61 v1529), ∀ a x, ((![v1529] : Fin 1 → IVec S16 32) a x).toNat < S16.size a := fun v1529 k0_hw61 => k0_hw61.1
theorem k0_idx88_inb : ∀ (v1529 : IVec S16 32) (k0_hw61 : k0_chk61 v1529), ∀ a x, ((![v1529] : Fin 1 → IVec S16 32) a x).toNat < S16.size a := fun v1529 k0_hw61 => k0_hw61.2

def k0_chk62 (v1535 : IVec S16 32) : Prop :=
  (∀ a x, ((![v1535] : Fin 1 → IVec S16 32) a x).toNat < S16.size a)
theorem k0_idx89_inb : ∀ (v1535 : IVec S16 32) (k0_hw62 : k0_chk62 v1535), ∀ a x, ((![v1535] : Fin 1 → IVec S16 32) a x).toNat < S16.size a := fun v1535 k0_hw62 => k0_hw62

def k0_chk63 (v1540 : IVec S16 32) : Prop :=
  (∀ a x, ((![v1540] : Fin 1 → IVec S16 32) a x).toNat < S16.size a)
theorem k0_idx90_inb : ∀ (v1540 : IVec S16 32) (k0_hw63 : k0_chk63 v1540), ∀ a x, ((![v1540] : Fin 1 → IVec S16 32) a x).toNat < S16.size a := fun v1540 k0_hw63 => k0_hw63

def k0_chk64 (v1545 : IVec S16 32) : Prop :=
  (∀ a x, ((![v1545] : Fin 1 → IVec S16 32) a x).toNat < S16.size a)
theorem k0_idx91_inb : ∀ (v1545 : IVec S16 32) (k0_hw64 : k0_chk64 v1545), ∀ a x, ((![v1545] : Fin 1 → IVec S16 32) a x).toNat < S16.size a := fun v1545 k0_hw64 => k0_hw64

def k0_chk65 (v1550 : IVec S16 32) : Prop :=
  (∀ a x, ((![v1550] : Fin 1 → IVec S16 32) a x).toNat < S16.size a)
theorem k0_idx92_inb : ∀ (v1550 : IVec S16 32) (k0_hw65 : k0_chk65 v1550), ∀ a x, ((![v1550] : Fin 1 → IVec S16 32) a x).toNat < S16.size a := fun v1550 k0_hw65 => k0_hw65
@[reducible] def k0_t26_loop : Scf.Loop 32 :=
  let c0_i32_456 : BitVec 32 := 0#32
  let c16_i32_457 : BitVec 32 := 16#32
  let v1571 : BitVec 32 := Scalar.addi c0_i32_456 c16_i32_457
  let c1_i32_458 : BitVec 32 := 1#32
  ⟨c0_i32_456, v1571, c1_i32_458⟩

def k0_chk66 (v1724 : IVec S16 32) : Prop :=
  (∀ a x, ((![v1724] : Fin 1 → IVec S16 32) a x).toNat < S16.size a)
theorem k0_idx93_inb : ∀ (v1724 : IVec S16 32) (k0_hw66 : k0_chk66 v1724), ∀ a x, ((![v1724] : Fin 1 → IVec S16 32) a x).toNat < S16.size a := fun v1724 k0_hw66 => k0_hw66

def k0_chk67 (v1574 : IVec S16 32) : Prop :=
  (∀ a x, ((![v1574] : Fin 1 → IVec S16 32) a x).toNat < S16.size a) ∧
  (∀ a x, ((![v1574] : Fin 1 → IVec S16 32) a x).toNat < S16.size a)
theorem k0_idx94_inb : ∀ (v1574 : IVec S16 32) (k0_hw67 : k0_chk67 v1574), ∀ a x, ((![v1574] : Fin 1 → IVec S16 32) a x).toNat < S16.size a := fun v1574 k0_hw67 => k0_hw67.1
theorem k0_idx95_inb : ∀ (v1574 : IVec S16 32) (k0_hw67 : k0_chk67 v1574), ∀ a x, ((![v1574] : Fin 1 → IVec S16 32) a x).toNat < S16.size a := fun v1574 k0_hw67 => k0_hw67.2
@[reducible] def k0_t27_loop : Scf.Loop 32 :=
  let c0_i32_466 : BitVec 32 := 0#32
  let c16_i32_467 : BitVec 32 := 16#32
  let v1581 : BitVec 32 := Scalar.addi c0_i32_466 c16_i32_467
  let c1_i32_468 : BitVec 32 := 1#32
  ⟨c0_i32_466, v1581, c1_i32_468⟩

def k0_chk68 (v1724 : IVec S16 32) : Prop :=
  (∀ a x, ((![v1724] : Fin 1 → IVec S16 32) a x).toNat < S16.size a)
theorem k0_idx96_inb : ∀ (v1724 : IVec S16 32) (k0_hw68 : k0_chk68 v1724), ∀ a x, ((![v1724] : Fin 1 → IVec S16 32) a x).toNat < S16.size a := fun v1724 k0_hw68 => k0_hw68

def k0_chk69 (v1584 : IVec S16 32) : Prop :=
  (∀ a x, ((![v1584] : Fin 1 → IVec S16 32) a x).toNat < S16.size a) ∧
  (∀ a x, ((![v1584] : Fin 1 → IVec S16 32) a x).toNat < S16.size a)
theorem k0_idx97_inb : ∀ (v1584 : IVec S16 32) (k0_hw69 : k0_chk69 v1584), ∀ a x, ((![v1584] : Fin 1 → IVec S16 32) a x).toNat < S16.size a := fun v1584 k0_hw69 => k0_hw69.1
theorem k0_idx98_inb : ∀ (v1584 : IVec S16 32) (k0_hw69 : k0_chk69 v1584), ∀ a x, ((![v1584] : Fin 1 → IVec S16 32) a x).toNat < S16.size a := fun v1584 k0_hw69 => k0_hw69.2
@[reducible] def k0_t28_loop : Scf.Loop 32 :=
  let c0_i32_476 : BitVec 32 := 0#32
  let c16_i32_477 : BitVec 32 := 16#32
  let v1596 : BitVec 32 := Scalar.addi c0_i32_476 c16_i32_477
  let c1_i32_478 : BitVec 32 := 1#32
  ⟨c0_i32_476, v1596, c1_i32_478⟩

def k0_chk70 (v1724 : IVec S16 32) : Prop :=
  (∀ a x, ((![v1724] : Fin 1 → IVec S16 32) a x).toNat < S16.size a)
theorem k0_idx99_inb : ∀ (v1724 : IVec S16 32) (k0_hw70 : k0_chk70 v1724), ∀ a x, ((![v1724] : Fin 1 → IVec S16 32) a x).toNat < S16.size a := fun v1724 k0_hw70 => k0_hw70

def k0_chk71 (v1599 : IVec S16 32) : Prop :=
  (∀ a x, ((![v1599] : Fin 1 → IVec S16 32) a x).toNat < S16.size a) ∧
  (∀ a x, ((![v1599] : Fin 1 → IVec S16 32) a x).toNat < S16.size a)
theorem k0_idx100_inb : ∀ (v1599 : IVec S16 32) (k0_hw71 : k0_chk71 v1599), ∀ a x, ((![v1599] : Fin 1 → IVec S16 32) a x).toNat < S16.size a := fun v1599 k0_hw71 => k0_hw71.1
theorem k0_idx101_inb : ∀ (v1599 : IVec S16 32) (k0_hw71 : k0_chk71 v1599), ∀ a x, ((![v1599] : Fin 1 → IVec S16 32) a x).toNat < S16.size a := fun v1599 k0_hw71 => k0_hw71.2
@[reducible] def k0_t29_loop : Scf.Loop 32 :=
  let c0_i32_486 : BitVec 32 := 0#32
  let c16_i32_487 : BitVec 32 := 16#32
  let v1606 : BitVec 32 := Scalar.addi c0_i32_486 c16_i32_487
  let c1_i32_488 : BitVec 32 := 1#32
  ⟨c0_i32_486, v1606, c1_i32_488⟩

def k0_chk72 (v1724 : IVec S16 32) : Prop :=
  (∀ a x, ((![v1724] : Fin 1 → IVec S16 32) a x).toNat < S16.size a)
theorem k0_idx102_inb : ∀ (v1724 : IVec S16 32) (k0_hw72 : k0_chk72 v1724), ∀ a x, ((![v1724] : Fin 1 → IVec S16 32) a x).toNat < S16.size a := fun v1724 k0_hw72 => k0_hw72

def k0_chk73 (v1609 : IVec S16 32) : Prop :=
  (∀ a x, ((![v1609] : Fin 1 → IVec S16 32) a x).toNat < S16.size a) ∧
  (∀ a x, ((![v1609] : Fin 1 → IVec S16 32) a x).toNat < S16.size a)
theorem k0_idx103_inb : ∀ (v1609 : IVec S16 32) (k0_hw73 : k0_chk73 v1609), ∀ a x, ((![v1609] : Fin 1 → IVec S16 32) a x).toNat < S16.size a := fun v1609 k0_hw73 => k0_hw73.1
theorem k0_idx104_inb : ∀ (v1609 : IVec S16 32) (k0_hw73 : k0_chk73 v1609), ∀ a x, ((![v1609] : Fin 1 → IVec S16 32) a x).toNat < S16.size a := fun v1609 k0_hw73 => k0_hw73.2

def k0_chk74 (v1615 : IVec S16 32) : Prop :=
  (∀ a x, ((![v1615] : Fin 1 → IVec S16 32) a x).toNat < S16.size a)
theorem k0_idx105_inb : ∀ (v1615 : IVec S16 32) (k0_hw74 : k0_chk74 v1615), ∀ a x, ((![v1615] : Fin 1 → IVec S16 32) a x).toNat < S16.size a := fun v1615 k0_hw74 => k0_hw74

def k0_chk75 (v1620 : IVec S16 32) : Prop :=
  (∀ a x, ((![v1620] : Fin 1 → IVec S16 32) a x).toNat < S16.size a)
theorem k0_idx106_inb : ∀ (v1620 : IVec S16 32) (k0_hw75 : k0_chk75 v1620), ∀ a x, ((![v1620] : Fin 1 → IVec S16 32) a x).toNat < S16.size a := fun v1620 k0_hw75 => k0_hw75

def k0_chk76 (v1625 : IVec S16 32) : Prop :=
  (∀ a x, ((![v1625] : Fin 1 → IVec S16 32) a x).toNat < S16.size a)
theorem k0_idx107_inb : ∀ (v1625 : IVec S16 32) (k0_hw76 : k0_chk76 v1625), ∀ a x, ((![v1625] : Fin 1 → IVec S16 32) a x).toNat < S16.size a := fun v1625 k0_hw76 => k0_hw76

def k0_chk77 (v1630 : IVec S16 32) : Prop :=
  (∀ a x, ((![v1630] : Fin 1 → IVec S16 32) a x).toNat < S16.size a)
theorem k0_idx108_inb : ∀ (v1630 : IVec S16 32) (k0_hw77 : k0_chk77 v1630), ∀ a x, ((![v1630] : Fin 1 → IVec S16 32) a x).toNat < S16.size a := fun v1630 k0_hw77 => k0_hw77

def k0_chk78 (v1635 : IVec S16 32) : Prop :=
  (∀ a x, ((![v1635] : Fin 1 → IVec S16 32) a x).toNat < S16.size a)
theorem k0_idx109_inb : ∀ (v1635 : IVec S16 32) (k0_hw78 : k0_chk78 v1635), ∀ a x, ((![v1635] : Fin 1 → IVec S16 32) a x).toNat < S16.size a := fun v1635 k0_hw78 => k0_hw78

def k0_chk79 (v1640 : IVec S16 32) : Prop :=
  (∀ a x, ((![v1640] : Fin 1 → IVec S16 32) a x).toNat < S16.size a)
theorem k0_idx110_inb : ∀ (v1640 : IVec S16 32) (k0_hw79 : k0_chk79 v1640), ∀ a x, ((![v1640] : Fin 1 → IVec S16 32) a x).toNat < S16.size a := fun v1640 k0_hw79 => k0_hw79

def k0_chk80 (v1645 : IVec S16 32) : Prop :=
  (∀ a x, ((![v1645] : Fin 1 → IVec S16 32) a x).toNat < S16.size a)
theorem k0_idx111_inb : ∀ (v1645 : IVec S16 32) (k0_hw80 : k0_chk80 v1645), ∀ a x, ((![v1645] : Fin 1 → IVec S16 32) a x).toNat < S16.size a := fun v1645 k0_hw80 => k0_hw80

def k0_chk81 (v1650 : IVec S16 32) : Prop :=
  (∀ a x, ((![v1650] : Fin 1 → IVec S16 32) a x).toNat < S16.size a)
theorem k0_idx112_inb : ∀ (v1650 : IVec S16 32) (k0_hw81 : k0_chk81 v1650), ∀ a x, ((![v1650] : Fin 1 → IVec S16 32) a x).toNat < S16.size a := fun v1650 k0_hw81 => k0_hw81
@[reducible] def k0_t30_loop : Scf.Loop 32 :=
  let c0_i32_512 : BitVec 32 := 0#32
  let c16_i32_513 : BitVec 32 := 16#32
  let v1683 : BitVec 32 := Scalar.addi c0_i32_512 c16_i32_513
  let c1_i32_514 : BitVec 32 := 1#32
  ⟨c0_i32_512, v1683, c1_i32_514⟩

def k0_chk82 (v1724 : IVec S16 32) : Prop :=
  (∀ a x, ((![v1724] : Fin 1 → IVec S16 32) a x).toNat < S16.size a)
theorem k0_idx113_inb : ∀ (v1724 : IVec S16 32) (k0_hw82 : k0_chk82 v1724), ∀ a x, ((![v1724] : Fin 1 → IVec S16 32) a x).toNat < S16.size a := fun v1724 k0_hw82 => k0_hw82

def k0_chk83 (v1686 : IVec S16 32) : Prop :=
  (∀ a x, ((![v1686] : Fin 1 → IVec S16 32) a x).toNat < S16.size a) ∧
  (∀ a x, ((![v1686] : Fin 1 → IVec S16 32) a x).toNat < S16.size a)
theorem k0_idx114_inb : ∀ (v1686 : IVec S16 32) (k0_hw83 : k0_chk83 v1686), ∀ a x, ((![v1686] : Fin 1 → IVec S16 32) a x).toNat < S16.size a := fun v1686 k0_hw83 => k0_hw83.1
theorem k0_idx115_inb : ∀ (v1686 : IVec S16 32) (k0_hw83 : k0_chk83 v1686), ∀ a x, ((![v1686] : Fin 1 → IVec S16 32) a x).toNat < S16.size a := fun v1686 k0_hw83 => k0_hw83.2
@[reducible] def k0_t31_loop : Scf.Loop 32 :=
  let c0_i32_522 : BitVec 32 := 0#32
  let c16_i32_523 : BitVec 32 := 16#32
  let v1693 : BitVec 32 := Scalar.addi c0_i32_522 c16_i32_523
  let c1_i32_524 : BitVec 32 := 1#32
  ⟨c0_i32_522, v1693, c1_i32_524⟩

def k0_chk84 (v1724 : IVec S16 32) : Prop :=
  (∀ a x, ((![v1724] : Fin 1 → IVec S16 32) a x).toNat < S16.size a)
theorem k0_idx116_inb : ∀ (v1724 : IVec S16 32) (k0_hw84 : k0_chk84 v1724), ∀ a x, ((![v1724] : Fin 1 → IVec S16 32) a x).toNat < S16.size a := fun v1724 k0_hw84 => k0_hw84

def k0_chk85 (v1696 : IVec S16 32) : Prop :=
  (∀ a x, ((![v1696] : Fin 1 → IVec S16 32) a x).toNat < S16.size a) ∧
  (∀ a x, ((![v1696] : Fin 1 → IVec S16 32) a x).toNat < S16.size a)
theorem k0_idx117_inb : ∀ (v1696 : IVec S16 32) (k0_hw85 : k0_chk85 v1696), ∀ a x, ((![v1696] : Fin 1 → IVec S16 32) a x).toNat < S16.size a := fun v1696 k0_hw85 => k0_hw85.1
theorem k0_idx118_inb : ∀ (v1696 : IVec S16 32) (k0_hw85 : k0_chk85 v1696), ∀ a x, ((![v1696] : Fin 1 → IVec S16 32) a x).toNat < S16.size a := fun v1696 k0_hw85 => k0_hw85.2
@[reducible] def k0_t32_loop : Scf.Loop 32 :=
  let c0_i32_532 : BitVec 32 := 0#32
  let c16_i32_533 : BitVec 32 := 16#32
  let v1708 : BitVec 32 := Scalar.addi c0_i32_532 c16_i32_533
  let c1_i32_534 : BitVec 32 := 1#32
  ⟨c0_i32_532, v1708, c1_i32_534⟩

def k0_chk86 (v1724 : IVec S16 32) : Prop :=
  (∀ a x, ((![v1724] : Fin 1 → IVec S16 32) a x).toNat < S16.size a)
theorem k0_idx119_inb : ∀ (v1724 : IVec S16 32) (k0_hw86 : k0_chk86 v1724), ∀ a x, ((![v1724] : Fin 1 → IVec S16 32) a x).toNat < S16.size a := fun v1724 k0_hw86 => k0_hw86

def k0_chk87 (v1711 : IVec S16 32) : Prop :=
  (∀ a x, ((![v1711] : Fin 1 → IVec S16 32) a x).toNat < S16.size a) ∧
  (∀ a x, ((![v1711] : Fin 1 → IVec S16 32) a x).toNat < S16.size a)
theorem k0_idx120_inb : ∀ (v1711 : IVec S16 32) (k0_hw87 : k0_chk87 v1711), ∀ a x, ((![v1711] : Fin 1 → IVec S16 32) a x).toNat < S16.size a := fun v1711 k0_hw87 => k0_hw87.1
theorem k0_idx121_inb : ∀ (v1711 : IVec S16 32) (k0_hw87 : k0_chk87 v1711), ∀ a x, ((![v1711] : Fin 1 → IVec S16 32) a x).toNat < S16.size a := fun v1711 k0_hw87 => k0_hw87.2
@[reducible] def k0_t33_loop : Scf.Loop 32 :=
  let c0_i32_542 : BitVec 32 := 0#32
  let c16_i32_543 : BitVec 32 := 16#32
  let v1718 : BitVec 32 := Scalar.addi c0_i32_542 c16_i32_543
  let c1_i32_544 : BitVec 32 := 1#32
  ⟨c0_i32_542, v1718, c1_i32_544⟩

def k0_chk88 (v1724 : IVec S16 32) : Prop :=
  (∀ a x, ((![v1724] : Fin 1 → IVec S16 32) a x).toNat < S16.size a)
theorem k0_idx122_inb : ∀ (v1724 : IVec S16 32) (k0_hw88 : k0_chk88 v1724), ∀ a x, ((![v1724] : Fin 1 → IVec S16 32) a x).toNat < S16.size a := fun v1724 k0_hw88 => k0_hw88

def k0_chk89 (v1721 : IVec S16 32) : Prop :=
  (∀ a x, ((![v1721] : Fin 1 → IVec S16 32) a x).toNat < S16.size a) ∧
  (∀ a x, ((![v1721] : Fin 1 → IVec S16 32) a x).toNat < S16.size a)
theorem k0_idx123_inb : ∀ (v1721 : IVec S16 32) (k0_hw89 : k0_chk89 v1721), ∀ a x, ((![v1721] : Fin 1 → IVec S16 32) a x).toNat < S16.size a := fun v1721 k0_hw89 => k0_hw89.1
theorem k0_idx124_inb : ∀ (v1721 : IVec S16 32) (k0_hw89 : k0_chk89 v1721), ∀ a x, ((![v1721] : Fin 1 → IVec S16 32) a x).toNat < S16.size a := fun v1721 k0_hw89 => k0_hw89.2
@[reducible] def k0_t34_loop (v86 : BitVec 32) : Scf.Loop 32 :=
  let c1_i32_171 : BitVec 32 := 1#32
  let c63_i32 : BitVec 32 := 63#32
  let v87 : BitVec 32 := Scalar.addi v86 c63_i32
  let c0_i32_23 : BitVec 32 := 0#32
  let v89 : BitVec 1 := Scalar.cmpi .sgt v87 c0_i32_23
  let v90 : BitVec 32 := Scalar.extui v89
  let c0_i32_24 : BitVec 32 := 0#32
  let v91 : BitVec 1 := Scalar.cmpi .slt v87 c0_i32_24
  let v92 : BitVec 32 := Scalar.extui v91
  let v93 : BitVec 32 := Scalar.subi v90 v92
  let c64_i32 : BitVec 32 := 64#32
  let c0_i32_25 : BitVec 32 := 0#32
  let v94 : BitVec 1 := Scalar.cmpi .sgt c64_i32 c0_i32_25
  let v95 : BitVec 32 := Scalar.extui v94
  let c0_i32_26 : BitVec 32 := 0#32
  let v96 : BitVec 1 := Scalar.cmpi .slt c64_i32 c0_i32_26
  let v97 : BitVec 32 := Scalar.extui v96
  let v98 : BitVec 32 := Scalar.subi v95 v97
  let v99 : BitVec 1 := Scalar.cmpi .ne v93 v98
  let v100 : BitVec 32 := Scalar.remsi v87 c64_i32
  let c0_i32_27 : BitVec 32 := 0#32
  let v101 : BitVec 1 := Scalar.cmpi .ne v100 c0_i32_27
  let v102 : BitVec 1 := Scalar.andi v99 v101
  let v88 : BitVec 32 := Scalar.divsi v87 c64_i32
  let c1_i32_28 : BitVec 32 := 1#32
  let v103 : BitVec 32 := Scalar.subi v88 c1_i32_28
  let v104 : BitVec 32 := Scalar.select v102 v103 v88
  let v320 : BitVec 32 := Scalar.subi v104 c1_i32_171
  let c1_i32_172 : BitVec 32 := 1#32
  let v322 : BitVec 32 := Scalar.divsi v320 c1_i32_172
  let v323 : BitVec 32 := Scalar.muli v322 c1_i32_172
  let v324 : BitVec 32 := Scalar.addi c1_i32_171 v323
  let v321 : BitVec 32 := Scalar.addi c1_i32_171 v320
  let c1_i32_174 : BitVec 32 := 1#32
  ⟨v324, v321, c1_i32_174⟩
def k0_off7 (v86 : BitVec 32) (k0_t34 : Fin (k0_t34_loop v86).trips) (c0_i32_349 : BitVec 32) : Fin 1 → Nat :=
  let c1_i32_171 : BitVec 32 := 1#32
  let c63_i32 : BitVec 32 := 63#32
  let v87 : BitVec 32 := Scalar.addi v86 c63_i32
  let c0_i32_23 : BitVec 32 := 0#32
  let v89 : BitVec 1 := Scalar.cmpi .sgt v87 c0_i32_23
  let v90 : BitVec 32 := Scalar.extui v89
  let c0_i32_24 : BitVec 32 := 0#32
  let v91 : BitVec 1 := Scalar.cmpi .slt v87 c0_i32_24
  let v92 : BitVec 32 := Scalar.extui v91
  let v93 : BitVec 32 := Scalar.subi v90 v92
  let c64_i32 : BitVec 32 := 64#32
  let c0_i32_25 : BitVec 32 := 0#32
  let v94 : BitVec 1 := Scalar.cmpi .sgt c64_i32 c0_i32_25
  let v95 : BitVec 32 := Scalar.extui v94
  let c0_i32_26 : BitVec 32 := 0#32
  let v96 : BitVec 1 := Scalar.cmpi .slt c64_i32 c0_i32_26
  let v97 : BitVec 32 := Scalar.extui v96
  let v98 : BitVec 32 := Scalar.subi v95 v97
  let v99 : BitVec 1 := Scalar.cmpi .ne v93 v98
  let v100 : BitVec 32 := Scalar.remsi v87 c64_i32
  let c0_i32_27 : BitVec 32 := 0#32
  let v101 : BitVec 1 := Scalar.cmpi .ne v100 c0_i32_27
  let v102 : BitVec 1 := Scalar.andi v99 v101
  let v88 : BitVec 32 := Scalar.divsi v87 c64_i32
  let c1_i32_28 : BitVec 32 := 1#32
  let v103 : BitVec 32 := Scalar.subi v88 c1_i32_28
  let v104 : BitVec 32 := Scalar.select v102 v103 v88
  let v320 : BitVec 32 := Scalar.subi v104 c1_i32_171
  let c1_i32_172 : BitVec 32 := 1#32
  let v322 : BitVec 32 := Scalar.divsi v320 c1_i32_172
  let v323 : BitVec 32 := Scalar.muli v322 c1_i32_172
  let v324 : BitVec 32 := Scalar.addi c1_i32_171 v323
  let c1_i32_174 : BitVec 32 := 1#32
  let arg16 : BitVec 32 := Scf.iv v324 c1_i32_174 k0_t34
  let c64_i32_348 : BitVec 32 := 64#32
  let v1397 : BitVec 32 := Scalar.muli arg16 c64_i32_348
  let v1398 : BitVec 32 := Scalar.addi v1397 c0_i32_349
  let v1399 : Index := Scalar.indexCast v1398
  ![v1399.toNat]

def k0_chk41 (v86 : BitVec 32) : Prop :=
  ((k0_t17_loop v86).OK) ∧
  (∀ k0_t17 : Fin (k0_t17_loop v86).trips, ∀ (r : Fin 4), ∀ a, (k0_off6 v86 k0_t17 (BitVec.ofNat 32 (16 * r.val))) a + S16.size a ≤ S4224.size a) ∧
  ((k0_t34_loop v86).OK) ∧
  (∀ k0_t34 : Fin (k0_t34_loop v86).trips, ∀ (r : Fin 4), ∀ a, (k0_off7 v86 k0_t34 (BitVec.ofNat 32 (16 * r.val))) a + S16.size a ≤ S4224.size a)
theorem k0_t17_ok : ∀ (v86 : BitVec 32) (k0_hw41 : k0_chk41 v86), (k0_t17_loop v86).OK := fun v86 k0_hw41 => k0_hw41.1
theorem k0_off6_inb : ∀ (v86 : BitVec 32) (k0_hw41 : k0_chk41 v86) (k0_t17 : Fin (k0_t17_loop v86).trips), ∀ (r : Fin 4), ∀ a, (k0_off6 v86 k0_t17 (BitVec.ofNat 32 (16 * r.val))) a + S16.size a ≤ S4224.size a := fun v86 k0_hw41 k0_t17 r => k0_hw41.2.1 k0_t17 r
theorem k0_t34_ok : ∀ (v86 : BitVec 32) (k0_hw41 : k0_chk41 v86), (k0_t34_loop v86).OK := fun v86 k0_hw41 => k0_hw41.2.2.1
theorem k0_off7_inb : ∀ (v86 : BitVec 32) (k0_hw41 : k0_chk41 v86) (k0_t34 : Fin (k0_t34_loop v86).trips), ∀ (r : Fin 4), ∀ a, (k0_off7 v86 k0_t34 (BitVec.ofNat 32 (16 * r.val))) a + S16.size a ≤ S4224.size a := fun v86 k0_hw41 k0_t34 r => k0_hw41.2.2.2 k0_t34 r

@[reducible] def k0_t35_loop : Scf.Loop 32 :=
  let c0_i32_360 : BitVec 32 := 0#32
  let c16_i32_361 : BitVec 32 := 16#32
  let v1426 : BitVec 32 := Scalar.addi c0_i32_360 c16_i32_361
  let c1_i32_362 : BitVec 32 := 1#32
  ⟨c0_i32_360, v1426, c1_i32_362⟩

def k0_chk90 (v1724 : IVec S16 32) : Prop :=
  (∀ a x, ((![v1724] : Fin 1 → IVec S16 32) a x).toNat < S16.size a)
theorem k0_idx125_inb : ∀ (v1724 : IVec S16 32) (k0_hw90 : k0_chk90 v1724), ∀ a x, ((![v1724] : Fin 1 → IVec S16 32) a x).toNat < S16.size a := fun v1724 k0_hw90 => k0_hw90

def k0_chk91 (v1429 : IVec S16 32) : Prop :=
  (∀ a x, ((![v1429] : Fin 1 → IVec S16 32) a x).toNat < S16.size a) ∧
  (∀ a x, ((![v1429] : Fin 1 → IVec S16 32) a x).toNat < S16.size a)
theorem k0_idx126_inb : ∀ (v1429 : IVec S16 32) (k0_hw91 : k0_chk91 v1429), ∀ a x, ((![v1429] : Fin 1 → IVec S16 32) a x).toNat < S16.size a := fun v1429 k0_hw91 => k0_hw91.1
theorem k0_idx127_inb : ∀ (v1429 : IVec S16 32) (k0_hw91 : k0_chk91 v1429), ∀ a x, ((![v1429] : Fin 1 → IVec S16 32) a x).toNat < S16.size a := fun v1429 k0_hw91 => k0_hw91.2
@[reducible] def k0_t36_loop : Scf.Loop 32 :=
  let c0_i32_370 : BitVec 32 := 0#32
  let c16_i32_371 : BitVec 32 := 16#32
  let v1436 : BitVec 32 := Scalar.addi c0_i32_370 c16_i32_371
  let c1_i32_372 : BitVec 32 := 1#32
  ⟨c0_i32_370, v1436, c1_i32_372⟩

def k0_chk92 (v1724 : IVec S16 32) : Prop :=
  (∀ a x, ((![v1724] : Fin 1 → IVec S16 32) a x).toNat < S16.size a)
theorem k0_idx128_inb : ∀ (v1724 : IVec S16 32) (k0_hw92 : k0_chk92 v1724), ∀ a x, ((![v1724] : Fin 1 → IVec S16 32) a x).toNat < S16.size a := fun v1724 k0_hw92 => k0_hw92

def k0_chk93 (v1439 : IVec S16 32) : Prop :=
  (∀ a x, ((![v1439] : Fin 1 → IVec S16 32) a x).toNat < S16.size a) ∧
  (∀ a x, ((![v1439] : Fin 1 → IVec S16 32) a x).toNat < S16.size a)
theorem k0_idx129_inb : ∀ (v1439 : IVec S16 32) (k0_hw93 : k0_chk93 v1439), ∀ a x, ((![v1439] : Fin 1 → IVec S16 32) a x).toNat < S16.size a := fun v1439 k0_hw93 => k0_hw93.1
theorem k0_idx130_inb : ∀ (v1439 : IVec S16 32) (k0_hw93 : k0_chk93 v1439), ∀ a x, ((![v1439] : Fin 1 → IVec S16 32) a x).toNat < S16.size a := fun v1439 k0_hw93 => k0_hw93.2
@[reducible] def k0_t37_loop : Scf.Loop 32 :=
  let c0_i32_380 : BitVec 32 := 0#32
  let c16_i32_381 : BitVec 32 := 16#32
  let v1446 : BitVec 32 := Scalar.addi c0_i32_380 c16_i32_381
  let c1_i32_382 : BitVec 32 := 1#32
  ⟨c0_i32_380, v1446, c1_i32_382⟩

def k0_chk94 (v1724 : IVec S16 32) : Prop :=
  (∀ a x, ((![v1724] : Fin 1 → IVec S16 32) a x).toNat < S16.size a)
theorem k0_idx131_inb : ∀ (v1724 : IVec S16 32) (k0_hw94 : k0_chk94 v1724), ∀ a x, ((![v1724] : Fin 1 → IVec S16 32) a x).toNat < S16.size a := fun v1724 k0_hw94 => k0_hw94

def k0_chk95 (v1449 : IVec S16 32) : Prop :=
  (∀ a x, ((![v1449] : Fin 1 → IVec S16 32) a x).toNat < S16.size a) ∧
  (∀ a x, ((![v1449] : Fin 1 → IVec S16 32) a x).toNat < S16.size a)
theorem k0_idx132_inb : ∀ (v1449 : IVec S16 32) (k0_hw95 : k0_chk95 v1449), ∀ a x, ((![v1449] : Fin 1 → IVec S16 32) a x).toNat < S16.size a := fun v1449 k0_hw95 => k0_hw95.1
theorem k0_idx133_inb : ∀ (v1449 : IVec S16 32) (k0_hw95 : k0_chk95 v1449), ∀ a x, ((![v1449] : Fin 1 → IVec S16 32) a x).toNat < S16.size a := fun v1449 k0_hw95 => k0_hw95.2
@[reducible] def k0_t38_loop : Scf.Loop 32 :=
  let c0_i32_390 : BitVec 32 := 0#32
  let c16_i32_391 : BitVec 32 := 16#32
  let v1456 : BitVec 32 := Scalar.addi c0_i32_390 c16_i32_391
  let c1_i32_392 : BitVec 32 := 1#32
  ⟨c0_i32_390, v1456, c1_i32_392⟩

def k0_chk96 (v1724 : IVec S16 32) : Prop :=
  (∀ a x, ((![v1724] : Fin 1 → IVec S16 32) a x).toNat < S16.size a)
theorem k0_idx134_inb : ∀ (v1724 : IVec S16 32) (k0_hw96 : k0_chk96 v1724), ∀ a x, ((![v1724] : Fin 1 → IVec S16 32) a x).toNat < S16.size a := fun v1724 k0_hw96 => k0_hw96

def k0_chk97 (v1459 : IVec S16 32) : Prop :=
  (∀ a x, ((![v1459] : Fin 1 → IVec S16 32) a x).toNat < S16.size a) ∧
  (∀ a x, ((![v1459] : Fin 1 → IVec S16 32) a x).toNat < S16.size a)
theorem k0_idx135_inb : ∀ (v1459 : IVec S16 32) (k0_hw97 : k0_chk97 v1459), ∀ a x, ((![v1459] : Fin 1 → IVec S16 32) a x).toNat < S16.size a := fun v1459 k0_hw97 => k0_hw97.1
theorem k0_idx136_inb : ∀ (v1459 : IVec S16 32) (k0_hw97 : k0_chk97 v1459), ∀ a x, ((![v1459] : Fin 1 → IVec S16 32) a x).toNat < S16.size a := fun v1459 k0_hw97 => k0_hw97.2

def k0_chk98 (v1465 : IVec S16 32) : Prop :=
  (∀ a x, ((![v1465] : Fin 1 → IVec S16 32) a x).toNat < S16.size a)
theorem k0_idx137_inb : ∀ (v1465 : IVec S16 32) (k0_hw98 : k0_chk98 v1465), ∀ a x, ((![v1465] : Fin 1 → IVec S16 32) a x).toNat < S16.size a := fun v1465 k0_hw98 => k0_hw98

def k0_chk99 (v1470 : IVec S16 32) : Prop :=
  (∀ a x, ((![v1470] : Fin 1 → IVec S16 32) a x).toNat < S16.size a)
theorem k0_idx138_inb : ∀ (v1470 : IVec S16 32) (k0_hw99 : k0_chk99 v1470), ∀ a x, ((![v1470] : Fin 1 → IVec S16 32) a x).toNat < S16.size a := fun v1470 k0_hw99 => k0_hw99
@[reducible] def k0_t39_loop : Scf.Loop 32 :=
  let c0_i32_404 : BitVec 32 := 0#32
  let c16_i32_405 : BitVec 32 := 16#32
  let v1481 : BitVec 32 := Scalar.addi c0_i32_404 c16_i32_405
  let c1_i32_406 : BitVec 32 := 1#32
  ⟨c0_i32_404, v1481, c1_i32_406⟩

def k0_chk100 (v1724 : IVec S16 32) : Prop :=
  (∀ a x, ((![v1724] : Fin 1 → IVec S16 32) a x).toNat < S16.size a)
theorem k0_idx139_inb : ∀ (v1724 : IVec S16 32) (k0_hw100 : k0_chk100 v1724), ∀ a x, ((![v1724] : Fin 1 → IVec S16 32) a x).toNat < S16.size a := fun v1724 k0_hw100 => k0_hw100

def k0_chk101 (v1484 : IVec S16 32) : Prop :=
  (∀ a x, ((![v1484] : Fin 1 → IVec S16 32) a x).toNat < S16.size a) ∧
  (∀ a x, ((![v1484] : Fin 1 → IVec S16 32) a x).toNat < S16.size a)
theorem k0_idx140_inb : ∀ (v1484 : IVec S16 32) (k0_hw101 : k0_chk101 v1484), ∀ a x, ((![v1484] : Fin 1 → IVec S16 32) a x).toNat < S16.size a := fun v1484 k0_hw101 => k0_hw101.1
theorem k0_idx141_inb : ∀ (v1484 : IVec S16 32) (k0_hw101 : k0_chk101 v1484), ∀ a x, ((![v1484] : Fin 1 → IVec S16 32) a x).toNat < S16.size a := fun v1484 k0_hw101 => k0_hw101.2
@[reducible] def k0_t40_loop : Scf.Loop 32 :=
  let c0_i32_414 : BitVec 32 := 0#32
  let c16_i32_415 : BitVec 32 := 16#32
  let v1491 : BitVec 32 := Scalar.addi c0_i32_414 c16_i32_415
  let c1_i32_416 : BitVec 32 := 1#32
  ⟨c0_i32_414, v1491, c1_i32_416⟩

def k0_chk102 (v1724 : IVec S16 32) : Prop :=
  (∀ a x, ((![v1724] : Fin 1 → IVec S16 32) a x).toNat < S16.size a)
theorem k0_idx142_inb : ∀ (v1724 : IVec S16 32) (k0_hw102 : k0_chk102 v1724), ∀ a x, ((![v1724] : Fin 1 → IVec S16 32) a x).toNat < S16.size a := fun v1724 k0_hw102 => k0_hw102

def k0_chk103 (v1494 : IVec S16 32) : Prop :=
  (∀ a x, ((![v1494] : Fin 1 → IVec S16 32) a x).toNat < S16.size a) ∧
  (∀ a x, ((![v1494] : Fin 1 → IVec S16 32) a x).toNat < S16.size a)
theorem k0_idx143_inb : ∀ (v1494 : IVec S16 32) (k0_hw103 : k0_chk103 v1494), ∀ a x, ((![v1494] : Fin 1 → IVec S16 32) a x).toNat < S16.size a := fun v1494 k0_hw103 => k0_hw103.1
theorem k0_idx144_inb : ∀ (v1494 : IVec S16 32) (k0_hw103 : k0_chk103 v1494), ∀ a x, ((![v1494] : Fin 1 → IVec S16 32) a x).toNat < S16.size a := fun v1494 k0_hw103 => k0_hw103.2

def k0_chk104 (v1500 : IVec S16 32) : Prop :=
  (∀ a x, ((![v1500] : Fin 1 → IVec S16 32) a x).toNat < S16.size a)
theorem k0_idx145_inb : ∀ (v1500 : IVec S16 32) (k0_hw104 : k0_chk104 v1500), ∀ a x, ((![v1500] : Fin 1 → IVec S16 32) a x).toNat < S16.size a := fun v1500 k0_hw104 => k0_hw104

def k0_chk105 (v1505 : IVec S16 32) : Prop :=
  (∀ a x, ((![v1505] : Fin 1 → IVec S16 32) a x).toNat < S16.size a)
theorem k0_idx146_inb : ∀ (v1505 : IVec S16 32) (k0_hw105 : k0_chk105 v1505), ∀ a x, ((![v1505] : Fin 1 → IVec S16 32) a x).toNat < S16.size a := fun v1505 k0_hw105 => k0_hw105
@[reducible] def k0_t41_loop : Scf.Loop 32 :=
  let c0_i32_428 : BitVec 32 := 0#32
  let c16_i32_429 : BitVec 32 := 16#32
  let v1516 : BitVec 32 := Scalar.addi c0_i32_428 c16_i32_429
  let c1_i32_430 : BitVec 32 := 1#32
  ⟨c0_i32_428, v1516, c1_i32_430⟩

def k0_chk106 (v1724 : IVec S16 32) : Prop :=
  (∀ a x, ((![v1724] : Fin 1 → IVec S16 32) a x).toNat < S16.size a)
theorem k0_idx147_inb : ∀ (v1724 : IVec S16 32) (k0_hw106 : k0_chk106 v1724), ∀ a x, ((![v1724] : Fin 1 → IVec S16 32) a x).toNat < S16.size a := fun v1724 k0_hw106 => k0_hw106

def k0_chk107 (v1519 : IVec S16 32) : Prop :=
  (∀ a x, ((![v1519] : Fin 1 → IVec S16 32) a x).toNat < S16.size a) ∧
  (∀ a x, ((![v1519] : Fin 1 → IVec S16 32) a x).toNat < S16.size a)
theorem k0_idx148_inb : ∀ (v1519 : IVec S16 32) (k0_hw107 : k0_chk107 v1519), ∀ a x, ((![v1519] : Fin 1 → IVec S16 32) a x).toNat < S16.size a := fun v1519 k0_hw107 => k0_hw107.1
theorem k0_idx149_inb : ∀ (v1519 : IVec S16 32) (k0_hw107 : k0_chk107 v1519), ∀ a x, ((![v1519] : Fin 1 → IVec S16 32) a x).toNat < S16.size a := fun v1519 k0_hw107 => k0_hw107.2
@[reducible] def k0_t42_loop : Scf.Loop 32 :=
  let c0_i32_438 : BitVec 32 := 0#32
  let c16_i32_439 : BitVec 32 := 16#32
  let v1526 : BitVec 32 := Scalar.addi c0_i32_438 c16_i32_439
  let c1_i32_440 : BitVec 32 := 1#32
  ⟨c0_i32_438, v1526, c1_i32_440⟩

def k0_chk108 (v1724 : IVec S16 32) : Prop :=
  (∀ a x, ((![v1724] : Fin 1 → IVec S16 32) a x).toNat < S16.size a)
theorem k0_idx150_inb : ∀ (v1724 : IVec S16 32) (k0_hw108 : k0_chk108 v1724), ∀ a x, ((![v1724] : Fin 1 → IVec S16 32) a x).toNat < S16.size a := fun v1724 k0_hw108 => k0_hw108

def k0_chk109 (v1529 : IVec S16 32) : Prop :=
  (∀ a x, ((![v1529] : Fin 1 → IVec S16 32) a x).toNat < S16.size a) ∧
  (∀ a x, ((![v1529] : Fin 1 → IVec S16 32) a x).toNat < S16.size a)
theorem k0_idx151_inb : ∀ (v1529 : IVec S16 32) (k0_hw109 : k0_chk109 v1529), ∀ a x, ((![v1529] : Fin 1 → IVec S16 32) a x).toNat < S16.size a := fun v1529 k0_hw109 => k0_hw109.1
theorem k0_idx152_inb : ∀ (v1529 : IVec S16 32) (k0_hw109 : k0_chk109 v1529), ∀ a x, ((![v1529] : Fin 1 → IVec S16 32) a x).toNat < S16.size a := fun v1529 k0_hw109 => k0_hw109.2

def k0_chk110 (v1535 : IVec S16 32) : Prop :=
  (∀ a x, ((![v1535] : Fin 1 → IVec S16 32) a x).toNat < S16.size a)
theorem k0_idx153_inb : ∀ (v1535 : IVec S16 32) (k0_hw110 : k0_chk110 v1535), ∀ a x, ((![v1535] : Fin 1 → IVec S16 32) a x).toNat < S16.size a := fun v1535 k0_hw110 => k0_hw110

def k0_chk111 (v1540 : IVec S16 32) : Prop :=
  (∀ a x, ((![v1540] : Fin 1 → IVec S16 32) a x).toNat < S16.size a)
theorem k0_idx154_inb : ∀ (v1540 : IVec S16 32) (k0_hw111 : k0_chk111 v1540), ∀ a x, ((![v1540] : Fin 1 → IVec S16 32) a x).toNat < S16.size a := fun v1540 k0_hw111 => k0_hw111

def k0_chk112 (v1545 : IVec S16 32) : Prop :=
  (∀ a x, ((![v1545] : Fin 1 → IVec S16 32) a x).toNat < S16.size a)
theorem k0_idx155_inb : ∀ (v1545 : IVec S16 32) (k0_hw112 : k0_chk112 v1545), ∀ a x, ((![v1545] : Fin 1 → IVec S16 32) a x).toNat < S16.size a := fun v1545 k0_hw112 => k0_hw112

def k0_chk113 (v1550 : IVec S16 32) : Prop :=
  (∀ a x, ((![v1550] : Fin 1 → IVec S16 32) a x).toNat < S16.size a)
theorem k0_idx156_inb : ∀ (v1550 : IVec S16 32) (k0_hw113 : k0_chk113 v1550), ∀ a x, ((![v1550] : Fin 1 → IVec S16 32) a x).toNat < S16.size a := fun v1550 k0_hw113 => k0_hw113
@[reducible] def k0_t43_loop : Scf.Loop 32 :=
  let c0_i32_456 : BitVec 32 := 0#32
  let c16_i32_457 : BitVec 32 := 16#32
  let v1571 : BitVec 32 := Scalar.addi c0_i32_456 c16_i32_457
  let c1_i32_458 : BitVec 32 := 1#32
  ⟨c0_i32_456, v1571, c1_i32_458⟩

def k0_chk114 (v1724 : IVec S16 32) : Prop :=
  (∀ a x, ((![v1724] : Fin 1 → IVec S16 32) a x).toNat < S16.size a)
theorem k0_idx157_inb : ∀ (v1724 : IVec S16 32) (k0_hw114 : k0_chk114 v1724), ∀ a x, ((![v1724] : Fin 1 → IVec S16 32) a x).toNat < S16.size a := fun v1724 k0_hw114 => k0_hw114

def k0_chk115 (v1574 : IVec S16 32) : Prop :=
  (∀ a x, ((![v1574] : Fin 1 → IVec S16 32) a x).toNat < S16.size a) ∧
  (∀ a x, ((![v1574] : Fin 1 → IVec S16 32) a x).toNat < S16.size a)
theorem k0_idx158_inb : ∀ (v1574 : IVec S16 32) (k0_hw115 : k0_chk115 v1574), ∀ a x, ((![v1574] : Fin 1 → IVec S16 32) a x).toNat < S16.size a := fun v1574 k0_hw115 => k0_hw115.1
theorem k0_idx159_inb : ∀ (v1574 : IVec S16 32) (k0_hw115 : k0_chk115 v1574), ∀ a x, ((![v1574] : Fin 1 → IVec S16 32) a x).toNat < S16.size a := fun v1574 k0_hw115 => k0_hw115.2
@[reducible] def k0_t44_loop : Scf.Loop 32 :=
  let c0_i32_466 : BitVec 32 := 0#32
  let c16_i32_467 : BitVec 32 := 16#32
  let v1581 : BitVec 32 := Scalar.addi c0_i32_466 c16_i32_467
  let c1_i32_468 : BitVec 32 := 1#32
  ⟨c0_i32_466, v1581, c1_i32_468⟩

def k0_chk116 (v1724 : IVec S16 32) : Prop :=
  (∀ a x, ((![v1724] : Fin 1 → IVec S16 32) a x).toNat < S16.size a)
theorem k0_idx160_inb : ∀ (v1724 : IVec S16 32) (k0_hw116 : k0_chk116 v1724), ∀ a x, ((![v1724] : Fin 1 → IVec S16 32) a x).toNat < S16.size a := fun v1724 k0_hw116 => k0_hw116

def k0_chk117 (v1584 : IVec S16 32) : Prop :=
  (∀ a x, ((![v1584] : Fin 1 → IVec S16 32) a x).toNat < S16.size a) ∧
  (∀ a x, ((![v1584] : Fin 1 → IVec S16 32) a x).toNat < S16.size a)
theorem k0_idx161_inb : ∀ (v1584 : IVec S16 32) (k0_hw117 : k0_chk117 v1584), ∀ a x, ((![v1584] : Fin 1 → IVec S16 32) a x).toNat < S16.size a := fun v1584 k0_hw117 => k0_hw117.1
theorem k0_idx162_inb : ∀ (v1584 : IVec S16 32) (k0_hw117 : k0_chk117 v1584), ∀ a x, ((![v1584] : Fin 1 → IVec S16 32) a x).toNat < S16.size a := fun v1584 k0_hw117 => k0_hw117.2
@[reducible] def k0_t45_loop : Scf.Loop 32 :=
  let c0_i32_476 : BitVec 32 := 0#32
  let c16_i32_477 : BitVec 32 := 16#32
  let v1596 : BitVec 32 := Scalar.addi c0_i32_476 c16_i32_477
  let c1_i32_478 : BitVec 32 := 1#32
  ⟨c0_i32_476, v1596, c1_i32_478⟩

def k0_chk118 (v1724 : IVec S16 32) : Prop :=
  (∀ a x, ((![v1724] : Fin 1 → IVec S16 32) a x).toNat < S16.size a)
theorem k0_idx163_inb : ∀ (v1724 : IVec S16 32) (k0_hw118 : k0_chk118 v1724), ∀ a x, ((![v1724] : Fin 1 → IVec S16 32) a x).toNat < S16.size a := fun v1724 k0_hw118 => k0_hw118

def k0_chk119 (v1599 : IVec S16 32) : Prop :=
  (∀ a x, ((![v1599] : Fin 1 → IVec S16 32) a x).toNat < S16.size a) ∧
  (∀ a x, ((![v1599] : Fin 1 → IVec S16 32) a x).toNat < S16.size a)
theorem k0_idx164_inb : ∀ (v1599 : IVec S16 32) (k0_hw119 : k0_chk119 v1599), ∀ a x, ((![v1599] : Fin 1 → IVec S16 32) a x).toNat < S16.size a := fun v1599 k0_hw119 => k0_hw119.1
theorem k0_idx165_inb : ∀ (v1599 : IVec S16 32) (k0_hw119 : k0_chk119 v1599), ∀ a x, ((![v1599] : Fin 1 → IVec S16 32) a x).toNat < S16.size a := fun v1599 k0_hw119 => k0_hw119.2
@[reducible] def k0_t46_loop : Scf.Loop 32 :=
  let c0_i32_486 : BitVec 32 := 0#32
  let c16_i32_487 : BitVec 32 := 16#32
  let v1606 : BitVec 32 := Scalar.addi c0_i32_486 c16_i32_487
  let c1_i32_488 : BitVec 32 := 1#32
  ⟨c0_i32_486, v1606, c1_i32_488⟩

def k0_chk120 (v1724 : IVec S16 32) : Prop :=
  (∀ a x, ((![v1724] : Fin 1 → IVec S16 32) a x).toNat < S16.size a)
theorem k0_idx166_inb : ∀ (v1724 : IVec S16 32) (k0_hw120 : k0_chk120 v1724), ∀ a x, ((![v1724] : Fin 1 → IVec S16 32) a x).toNat < S16.size a := fun v1724 k0_hw120 => k0_hw120

def k0_chk121 (v1609 : IVec S16 32) : Prop :=
  (∀ a x, ((![v1609] : Fin 1 → IVec S16 32) a x).toNat < S16.size a) ∧
  (∀ a x, ((![v1609] : Fin 1 → IVec S16 32) a x).toNat < S16.size a)
theorem k0_idx167_inb : ∀ (v1609 : IVec S16 32) (k0_hw121 : k0_chk121 v1609), ∀ a x, ((![v1609] : Fin 1 → IVec S16 32) a x).toNat < S16.size a := fun v1609 k0_hw121 => k0_hw121.1
theorem k0_idx168_inb : ∀ (v1609 : IVec S16 32) (k0_hw121 : k0_chk121 v1609), ∀ a x, ((![v1609] : Fin 1 → IVec S16 32) a x).toNat < S16.size a := fun v1609 k0_hw121 => k0_hw121.2

def k0_chk122 (v1615 : IVec S16 32) : Prop :=
  (∀ a x, ((![v1615] : Fin 1 → IVec S16 32) a x).toNat < S16.size a)
theorem k0_idx169_inb : ∀ (v1615 : IVec S16 32) (k0_hw122 : k0_chk122 v1615), ∀ a x, ((![v1615] : Fin 1 → IVec S16 32) a x).toNat < S16.size a := fun v1615 k0_hw122 => k0_hw122

def k0_chk123 (v1620 : IVec S16 32) : Prop :=
  (∀ a x, ((![v1620] : Fin 1 → IVec S16 32) a x).toNat < S16.size a)
theorem k0_idx170_inb : ∀ (v1620 : IVec S16 32) (k0_hw123 : k0_chk123 v1620), ∀ a x, ((![v1620] : Fin 1 → IVec S16 32) a x).toNat < S16.size a := fun v1620 k0_hw123 => k0_hw123

def k0_chk124 (v1625 : IVec S16 32) : Prop :=
  (∀ a x, ((![v1625] : Fin 1 → IVec S16 32) a x).toNat < S16.size a)
theorem k0_idx171_inb : ∀ (v1625 : IVec S16 32) (k0_hw124 : k0_chk124 v1625), ∀ a x, ((![v1625] : Fin 1 → IVec S16 32) a x).toNat < S16.size a := fun v1625 k0_hw124 => k0_hw124

def k0_chk125 (v1630 : IVec S16 32) : Prop :=
  (∀ a x, ((![v1630] : Fin 1 → IVec S16 32) a x).toNat < S16.size a)
theorem k0_idx172_inb : ∀ (v1630 : IVec S16 32) (k0_hw125 : k0_chk125 v1630), ∀ a x, ((![v1630] : Fin 1 → IVec S16 32) a x).toNat < S16.size a := fun v1630 k0_hw125 => k0_hw125

def k0_chk126 (v1635 : IVec S16 32) : Prop :=
  (∀ a x, ((![v1635] : Fin 1 → IVec S16 32) a x).toNat < S16.size a)
theorem k0_idx173_inb : ∀ (v1635 : IVec S16 32) (k0_hw126 : k0_chk126 v1635), ∀ a x, ((![v1635] : Fin 1 → IVec S16 32) a x).toNat < S16.size a := fun v1635 k0_hw126 => k0_hw126

def k0_chk127 (v1640 : IVec S16 32) : Prop :=
  (∀ a x, ((![v1640] : Fin 1 → IVec S16 32) a x).toNat < S16.size a)
theorem k0_idx174_inb : ∀ (v1640 : IVec S16 32) (k0_hw127 : k0_chk127 v1640), ∀ a x, ((![v1640] : Fin 1 → IVec S16 32) a x).toNat < S16.size a := fun v1640 k0_hw127 => k0_hw127

def k0_chk128 (v1645 : IVec S16 32) : Prop :=
  (∀ a x, ((![v1645] : Fin 1 → IVec S16 32) a x).toNat < S16.size a)
theorem k0_idx175_inb : ∀ (v1645 : IVec S16 32) (k0_hw128 : k0_chk128 v1645), ∀ a x, ((![v1645] : Fin 1 → IVec S16 32) a x).toNat < S16.size a := fun v1645 k0_hw128 => k0_hw128

def k0_chk129 (v1650 : IVec S16 32) : Prop :=
  (∀ a x, ((![v1650] : Fin 1 → IVec S16 32) a x).toNat < S16.size a)
theorem k0_idx176_inb : ∀ (v1650 : IVec S16 32) (k0_hw129 : k0_chk129 v1650), ∀ a x, ((![v1650] : Fin 1 → IVec S16 32) a x).toNat < S16.size a := fun v1650 k0_hw129 => k0_hw129
@[reducible] def k0_t47_loop : Scf.Loop 32 :=
  let c0_i32_512 : BitVec 32 := 0#32
  let c16_i32_513 : BitVec 32 := 16#32
  let v1683 : BitVec 32 := Scalar.addi c0_i32_512 c16_i32_513
  let c1_i32_514 : BitVec 32 := 1#32
  ⟨c0_i32_512, v1683, c1_i32_514⟩

def k0_chk130 (v1724 : IVec S16 32) : Prop :=
  (∀ a x, ((![v1724] : Fin 1 → IVec S16 32) a x).toNat < S16.size a)
theorem k0_idx177_inb : ∀ (v1724 : IVec S16 32) (k0_hw130 : k0_chk130 v1724), ∀ a x, ((![v1724] : Fin 1 → IVec S16 32) a x).toNat < S16.size a := fun v1724 k0_hw130 => k0_hw130

def k0_chk131 (v1686 : IVec S16 32) : Prop :=
  (∀ a x, ((![v1686] : Fin 1 → IVec S16 32) a x).toNat < S16.size a) ∧
  (∀ a x, ((![v1686] : Fin 1 → IVec S16 32) a x).toNat < S16.size a)
theorem k0_idx178_inb : ∀ (v1686 : IVec S16 32) (k0_hw131 : k0_chk131 v1686), ∀ a x, ((![v1686] : Fin 1 → IVec S16 32) a x).toNat < S16.size a := fun v1686 k0_hw131 => k0_hw131.1
theorem k0_idx179_inb : ∀ (v1686 : IVec S16 32) (k0_hw131 : k0_chk131 v1686), ∀ a x, ((![v1686] : Fin 1 → IVec S16 32) a x).toNat < S16.size a := fun v1686 k0_hw131 => k0_hw131.2
@[reducible] def k0_t48_loop : Scf.Loop 32 :=
  let c0_i32_522 : BitVec 32 := 0#32
  let c16_i32_523 : BitVec 32 := 16#32
  let v1693 : BitVec 32 := Scalar.addi c0_i32_522 c16_i32_523
  let c1_i32_524 : BitVec 32 := 1#32
  ⟨c0_i32_522, v1693, c1_i32_524⟩

def k0_chk132 (v1724 : IVec S16 32) : Prop :=
  (∀ a x, ((![v1724] : Fin 1 → IVec S16 32) a x).toNat < S16.size a)
theorem k0_idx180_inb : ∀ (v1724 : IVec S16 32) (k0_hw132 : k0_chk132 v1724), ∀ a x, ((![v1724] : Fin 1 → IVec S16 32) a x).toNat < S16.size a := fun v1724 k0_hw132 => k0_hw132

def k0_chk133 (v1696 : IVec S16 32) : Prop :=
  (∀ a x, ((![v1696] : Fin 1 → IVec S16 32) a x).toNat < S16.size a) ∧
  (∀ a x, ((![v1696] : Fin 1 → IVec S16 32) a x).toNat < S16.size a)
theorem k0_idx181_inb : ∀ (v1696 : IVec S16 32) (k0_hw133 : k0_chk133 v1696), ∀ a x, ((![v1696] : Fin 1 → IVec S16 32) a x).toNat < S16.size a := fun v1696 k0_hw133 => k0_hw133.1
theorem k0_idx182_inb : ∀ (v1696 : IVec S16 32) (k0_hw133 : k0_chk133 v1696), ∀ a x, ((![v1696] : Fin 1 → IVec S16 32) a x).toNat < S16.size a := fun v1696 k0_hw133 => k0_hw133.2
@[reducible] def k0_t49_loop : Scf.Loop 32 :=
  let c0_i32_532 : BitVec 32 := 0#32
  let c16_i32_533 : BitVec 32 := 16#32
  let v1708 : BitVec 32 := Scalar.addi c0_i32_532 c16_i32_533
  let c1_i32_534 : BitVec 32 := 1#32
  ⟨c0_i32_532, v1708, c1_i32_534⟩

def k0_chk134 (v1724 : IVec S16 32) : Prop :=
  (∀ a x, ((![v1724] : Fin 1 → IVec S16 32) a x).toNat < S16.size a)
theorem k0_idx183_inb : ∀ (v1724 : IVec S16 32) (k0_hw134 : k0_chk134 v1724), ∀ a x, ((![v1724] : Fin 1 → IVec S16 32) a x).toNat < S16.size a := fun v1724 k0_hw134 => k0_hw134

def k0_chk135 (v1711 : IVec S16 32) : Prop :=
  (∀ a x, ((![v1711] : Fin 1 → IVec S16 32) a x).toNat < S16.size a) ∧
  (∀ a x, ((![v1711] : Fin 1 → IVec S16 32) a x).toNat < S16.size a)
theorem k0_idx184_inb : ∀ (v1711 : IVec S16 32) (k0_hw135 : k0_chk135 v1711), ∀ a x, ((![v1711] : Fin 1 → IVec S16 32) a x).toNat < S16.size a := fun v1711 k0_hw135 => k0_hw135.1
theorem k0_idx185_inb : ∀ (v1711 : IVec S16 32) (k0_hw135 : k0_chk135 v1711), ∀ a x, ((![v1711] : Fin 1 → IVec S16 32) a x).toNat < S16.size a := fun v1711 k0_hw135 => k0_hw135.2
@[reducible] def k0_t50_loop : Scf.Loop 32 :=
  let c0_i32_542 : BitVec 32 := 0#32
  let c16_i32_543 : BitVec 32 := 16#32
  let v1718 : BitVec 32 := Scalar.addi c0_i32_542 c16_i32_543
  let c1_i32_544 : BitVec 32 := 1#32
  ⟨c0_i32_542, v1718, c1_i32_544⟩

def k0_chk136 (v1724 : IVec S16 32) : Prop :=
  (∀ a x, ((![v1724] : Fin 1 → IVec S16 32) a x).toNat < S16.size a)
theorem k0_idx186_inb : ∀ (v1724 : IVec S16 32) (k0_hw136 : k0_chk136 v1724), ∀ a x, ((![v1724] : Fin 1 → IVec S16 32) a x).toNat < S16.size a := fun v1724 k0_hw136 => k0_hw136

def k0_chk137 (v1721 : IVec S16 32) : Prop :=
  (∀ a x, ((![v1721] : Fin 1 → IVec S16 32) a x).toNat < S16.size a) ∧
  (∀ a x, ((![v1721] : Fin 1 → IVec S16 32) a x).toNat < S16.size a)
theorem k0_idx187_inb : ∀ (v1721 : IVec S16 32) (k0_hw137 : k0_chk137 v1721), ∀ a x, ((![v1721] : Fin 1 → IVec S16 32) a x).toNat < S16.size a := fun v1721 k0_hw137 => k0_hw137.1
theorem k0_idx188_inb : ∀ (v1721 : IVec S16 32) (k0_hw137 : k0_chk137 v1721), ∀ a x, ((![v1721] : Fin 1 → IVec S16 32) a x).toNat < S16.size a := fun v1721 k0_hw137 => k0_hw137.2

def k0_chk138 (v331 : IVec S16 32) : Prop :=
  (∀ a x, ((![v331] : Fin 1 → IVec S16 32) a x).toNat < S64.size a)
theorem k0_idx189_inb : ∀ (v331 : IVec S16 32) (k0_hw138 : k0_chk138 v331), ∀ a x, ((![v331] : Fin 1 → IVec S16 32) a x).toNat < S64.size a := fun v331 k0_hw138 => k0_hw138

def k0_chk139 (v333 : IVec S16 32) : Prop :=
  (∀ a x, ((![v333] : Fin 1 → IVec S16 32) a x).toNat < S64.size a)
theorem k0_idx190_inb : ∀ (v333 : IVec S16 32) (k0_hw139 : k0_chk139 v333), ∀ a x, ((![v333] : Fin 1 → IVec S16 32) a x).toNat < S64.size a := fun v333 k0_hw139 => k0_hw139

def k0_chk140 (v1294 : IVec S16 32) : Prop :=
  (∀ a x, ((![v1294] : Fin 1 → IVec S16 32) a x).toNat < S64.size a)
theorem k0_idx191_inb : ∀ (v1294 : IVec S16 32) (k0_hw140 : k0_chk140 v1294), ∀ a x, ((![v1294] : Fin 1 → IVec S16 32) a x).toNat < S64.size a := fun v1294 k0_hw140 => k0_hw140

def k0_chk141 (v1330 : IVec S16 32) : Prop :=
  (∀ a x, ((![v1330] : Fin 1 → IVec S16 32) a x).toNat < S96.size a)
theorem k0_idx192_inb : ∀ (v1330 : IVec S16 32) (k0_hw141 : k0_chk141 v1330), ∀ a x, ((![v1330] : Fin 1 → IVec S16 32) a x).toNat < S96.size a := fun v1330 k0_hw141 => k0_hw141

def k0_chk142 (v1344 : IVec S16 32) : Prop :=
  (∀ a x, ((![v1344] : Fin 1 → IVec S16 32) a x).toNat < S96.size a)
theorem k0_idx193_inb : ∀ (v1344 : IVec S16 32) (k0_hw142 : k0_chk142 v1344), ∀ a x, ((![v1344] : Fin 1 → IVec S16 32) a x).toNat < S96.size a := fun v1344 k0_hw142 => k0_hw142

def k0_chk143 (v1358 : IVec S16 32) : Prop :=
  (∀ a x, ((![v1358] : Fin 1 → IVec S16 32) a x).toNat < S96.size a)
theorem k0_idx194_inb : ∀ (v1358 : IVec S16 32) (k0_hw143 : k0_chk143 v1358), ∀ a x, ((![v1358] : Fin 1 → IVec S16 32) a x).toNat < S96.size a := fun v1358 k0_hw143 => k0_hw143

def k0_chk144 (v1372 : IVec S16 32) : Prop :=
  (∀ a x, ((![v1372] : Fin 1 → IVec S16 32) a x).toNat < S96.size a)
theorem k0_idx195_inb : ∀ (v1372 : IVec S16 32) (k0_hw144 : k0_chk144 v1372), ∀ a x, ((![v1372] : Fin 1 → IVec S16 32) a x).toNat < S96.size a := fun v1372 k0_hw144 => k0_hw144
def k0_off8 (v1333 : BitVec 32) (v1347 : BitVec 32) (v1361 : BitVec 32) (v1375 : BitVec 32) : Fin 1 → Nat :=
  let c0_i32_319 : BitVec 32 := 0#32
  let v1334 : BitVec 32 := Scalar.addi c0_i32_319 v1333
  let v1348 : BitVec 32 := Scalar.addi v1334 v1347
  let v1362 : BitVec 32 := Scalar.addi v1348 v1361
  let v1376 : BitVec 32 := Scalar.addi v1362 v1375
  let v1378 : Index := Scalar.indexCast v1376
  ![v1378.toNat]

def k0_chk145 (v1333 : BitVec 32) (v1347 : BitVec 32) (v1361 : BitVec 32) (v1375 : BitVec 32) : Prop :=
  (∀ a, (k0_off8 v1333 v1347 v1361 v1375) a + S16.size a ≤ S96.size a)
theorem k0_off8_inb : ∀ (v1333 : BitVec 32) (v1347 : BitVec 32) (v1361 : BitVec 32) (v1375 : BitVec 32) (k0_hw145 : k0_chk145 v1333 v1347 v1361 v1375), ∀ a, (k0_off8 v1333 v1347 v1361 v1375) a + S16.size a ≤ S96.size a := fun v1333 v1347 v1361 v1375 k0_hw145 => k0_hw145

@[reducible] def k0_t51_loop : Scf.Loop 32 :=
  let c0_i32_335 : BitVec 32 := 0#32
  let c16_i32_336 : BitVec 32 := 16#32
  let v1384 : BitVec 32 := Scalar.addi c0_i32_335 c16_i32_336
  let c1_i32_337 : BitVec 32 := 1#32
  ⟨c0_i32_335, v1384, c1_i32_337⟩

def k0_chk146 (v1397 : IVec S16 32) : Prop :=
  (∀ a x, ((![v1397] : Fin 1 → IVec S16 32) a x).toNat < S16.size a)
theorem k0_idx196_inb : ∀ (v1397 : IVec S16 32) (k0_hw146 : k0_chk146 v1397), ∀ a x, ((![v1397] : Fin 1 → IVec S16 32) a x).toNat < S16.size a := fun v1397 k0_hw146 => k0_hw146

def k0_chk147 (v1387 : IVec S16 32) : Prop :=
  (∀ a x, ((![v1387] : Fin 1 → IVec S16 32) a x).toNat < S16.size a)
theorem k0_idx197_inb : ∀ (v1387 : IVec S16 32) (k0_hw147 : k0_chk147 v1387), ∀ a x, ((![v1387] : Fin 1 → IVec S16 32) a x).toNat < S16.size a := fun v1387 k0_hw147 => k0_hw147

def k0_chk148 (v1393 : IVec S16 32) : Prop :=
  (∀ a x, ((![v1393] : Fin 1 → IVec S16 32) a x).toNat < S96.size a)
theorem k0_idx198_inb : ∀ (v1393 : IVec S16 32) (k0_hw148 : k0_chk148 v1393), ∀ a x, ((![v1393] : Fin 1 → IVec S16 32) a x).toNat < S96.size a := fun v1393 k0_hw148 => k0_hw148
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_5 : BitVec 32 := 0#32
  let c1_i32 : BitVec 32 := 1#32
  let arg14 : BitVec 32 := Scf.iv c0_i32_5 c1_i32 k0_t1
  let v16 : BitVec 32 := Scalar.muli c32_i32 arg14
  let v17 : BitVec 32 := Scalar.addi v1 v16
  let c0_i32_348_r1 : BitVec 32 := 0#32
  ![v17.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x6400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x100000 : Shape := ⟨2, ![64, 100000]⟩
abbrev S64x50 : Shape := ⟨2, ![64, 50]⟩
abbrev S64x1 : Shape := ⟨2, ![64, 1]⟩
abbrev S_ : Shape := ⟨0, ![]⟩
abbrev S64x100000x1 : Shape := ⟨3, ![64, 100000, 1]⟩
abbrev S1 : Shape := ⟨1, ![1]⟩
abbrev S1x1x1 : Shape := ⟨3, ![1, 1, 1]⟩
abbrev S64 : Shape := ⟨1, ![64]⟩
abbrev S64x99999 : Shape := ⟨2, ![64, 99999]⟩
abbrev S64x100000x2 : Shape := ⟨3, ![64, 100000, 2]⟩

abbrev nBuf : Space → Nat
  | .hbm => 86
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x50, .f32⟩
  | .hbm, ⟨2, _⟩ => ⟨S64x50, .i32⟩
  | .hbm, ⟨3, _⟩ => ⟨S64x1, .f32⟩
  | .hbm, ⟨4, _⟩ => ⟨S64x100000, .f32⟩
  | .hbm, ⟨5, _⟩ => ⟨S64x100000, .i1⟩
  | .hbm, ⟨6, _⟩ => ⟨S_, .f32⟩
  | .hbm, ⟨7, _⟩ => ⟨S64x100000, .f32⟩
  | .hbm, ⟨8, _⟩ => ⟨S64x100000, .f32⟩
  | .hbm, ⟨9, _⟩ => ⟨S64x100000, .f32⟩
  | .hbm, ⟨10, _⟩ => ⟨S64x100000, .i32⟩
  | .hbm, ⟨11, _⟩ => ⟨S64x100000, .f32⟩
  | .hbm, ⟨12, _⟩ => ⟨S64x100000, .i32⟩
  | .hbm, ⟨13, _⟩ => ⟨S_, .i32⟩
  | .hbm, ⟨14, _⟩ => ⟨S64x100000, .i32⟩
  | .hbm, ⟨15, _⟩ => ⟨S64x100000, .i1⟩
  | .hbm, ⟨16, _⟩ => ⟨S_, .i32⟩
  | .hbm, ⟨17, _⟩ => ⟨S64x100000, .i32⟩
  | .hbm, ⟨18, _⟩ => ⟨S64x100000, .i32⟩
  | .hbm, ⟨19, _⟩ => ⟨S64x100000, .i32⟩
  | .hbm, ⟨20, _⟩ => ⟨S64x100000x1, .i32⟩
  | .hbm, ⟨21, _⟩ => ⟨S1, .i32⟩
  | .hbm, ⟨22, _⟩ => ⟨S_, .i32⟩
  | .hbm, ⟨23, _⟩ => ⟨S64x100000x1, .i32⟩
  | .hbm, ⟨24, _⟩ => ⟨S64x100000x1, .i1⟩
  | .hbm, ⟨25, _⟩ => ⟨S1x1x1, .i32⟩
  | .hbm, ⟨26, _⟩ => ⟨S64x100000x1, .i32⟩
  | .hbm, ⟨27, _⟩ => ⟨S64x100000x1, .i1⟩
  | .hbm, ⟨28, _⟩ => ⟨S64x100000x1, .i1⟩
  | .hbm, ⟨29, _⟩ => ⟨S_, .i1⟩
  | .hbm, ⟨30, _⟩ => ⟨S64x100000, .i1⟩
  | .hbm, ⟨31, _⟩ => ⟨S64x100000, .f32⟩
  | .hbm, ⟨32, _⟩ => ⟨S_, .f32⟩
  | .hbm, ⟨33, _⟩ => ⟨S64x100000, .f32⟩
  | .hbm, ⟨34, _⟩ => ⟨S64x100000, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x100000, .f32⟩
  | .hbm, ⟨42, _⟩ => ⟨S64x100000, .f32⟩
  | .hbm, ⟨43, _⟩ => ⟨S64x100000, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x100000, .f32⟩
  | .hbm, ⟨48, _⟩ => ⟨S64x100000, .f32⟩
  | .hbm, ⟨49, _⟩ => ⟨S_, .f32⟩
  | .hbm, ⟨50, _⟩ => ⟨S_, .f32⟩
  | .hbm, ⟨51, _⟩ => ⟨S64x100000, .f32⟩
  | .hbm, ⟨52, _⟩ => ⟨S_, .f32⟩
  | .hbm, ⟨53, _⟩ => ⟨S64x100000, .f32⟩
  | .hbm, ⟨54, _⟩ => ⟨S64x100000, .i1⟩
  | .hbm, ⟨55, _⟩ => ⟨S64x1, .i1⟩
  | .hbm, ⟨56, _⟩ => ⟨S_, .i1⟩
  | .hbm, ⟨57, _⟩ => ⟨S64x1, .i1⟩
  | .hbm, ⟨58, _⟩ => ⟨S64x99999, .i1⟩
  | .hbm, ⟨59, _⟩ => ⟨S64x100000, .i1⟩
  | .hbm, ⟨60, _⟩ => ⟨S64, .i32⟩
  | .hbm, ⟨61, _⟩ => ⟨S64x1, .i32⟩
  | .hbm, ⟨62, _⟩ => ⟨S_, .i1⟩
  | .hbm, ⟨63, _⟩ => ⟨S64x100000, .i1⟩
  | .hbm, ⟨64, _⟩ => ⟨S_, .i32⟩
  | .hbm, ⟨65, _⟩ => ⟨S64x1, .i32⟩
  | .hbm, ⟨66, _⟩ => ⟨S64x1, .i1⟩
  | .hbm, ⟨67, _⟩ => ⟨S_, .i32⟩
  | .hbm, ⟨68, _⟩ => ⟨S64x1, .i32⟩
  | .hbm, ⟨69, _⟩ => ⟨S64x1, .i32⟩
  | .hbm, ⟨70, _⟩ => ⟨S64x1, .i32⟩
  | .hbm, ⟨71, _⟩ => ⟨S_, .i32⟩
  | .hbm, ⟨72, _⟩ => ⟨S64x100000, .i32⟩
  | .hbm, ⟨73, _⟩ => ⟨S64x100000, .i1⟩
  | .hbm, ⟨74, _⟩ => ⟨S_, .i32⟩
  | .hbm, ⟨75, _⟩ => ⟨S64x100000, .i32⟩
  | .hbm, ⟨76, _⟩ => ⟨S64x100000, .i32⟩
  | .hbm, ⟨77, _⟩ => ⟨S64x100000, .i32⟩
  | .hbm, ⟨78, _⟩ => ⟨S64x100000, .i32⟩
  | .hbm, ⟨79, _⟩ => ⟨S64x100000x1, .i32⟩
  | .hbm, ⟨80, _⟩ => ⟨S64x100000x1, .i32⟩
  | .hbm, ⟨81, _⟩ => ⟨S64x100000x2, .i32⟩
  | .hbm, ⟨82, _⟩ => ⟨S64x100000, .i1⟩
  | .hbm, ⟨83, _⟩ => ⟨S_, .f32⟩
  | .hbm, ⟨84, _⟩ => ⟨S64x100000, .f32⟩
  | .hbm, ⟨85, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_v1_0 : Ref sig .tc := ⟨.hbm, 11, rfl⟩
abbrev main_v5 : Ref sig .tc := ⟨.hbm, 12, rfl⟩
abbrev main_call2_c : Ref sig .tc := ⟨.hbm, 13, rfl⟩
abbrev main_call2_v0 : Ref sig .tc := ⟨.hbm, 14, rfl⟩
abbrev main_call2_v1 : Ref sig .tc := ⟨.hbm, 15, rfl⟩
abbrev main_call2_c_0 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_call2_v5 : Ref sig .tc := ⟨.hbm, 20, rfl⟩
abbrev main_call2_c_1 : Ref sig .tc := ⟨.hbm, 21, rfl⟩
abbrev main_call2_c_2 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_call2_v11 : Ref sig .tc := ⟨.hbm, 28, rfl⟩
abbrev main_call2_c_3 : Ref sig .tc := ⟨.hbm, 29, rfl⟩
abbrev main_call2_v12 : Ref sig .tc := ⟨.hbm, 30, rfl⟩
abbrev main_call2_v13 : Ref sig .tc := ⟨.hbm, 31, rfl⟩
abbrev main_call2_cst : Ref sig .tc := ⟨.hbm, 32, rfl⟩
abbrev main_call2_v14 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call3_call0_cst : Ref sig .tc := ⟨.hbm, 49, rfl⟩
abbrev main_call3_call0_v0 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_c_5 : Ref sig .tc := ⟨.hbm, 64, rfl⟩
abbrev main_v28 : Ref sig .tc := ⟨.hbm, 65, rfl⟩
abbrev main_v29 : Ref sig .tc := ⟨.hbm, 66, rfl⟩
abbrev main_c_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_7 : Ref sig .tc := ⟨.hbm, 71, rfl⟩
abbrev main_v33 : Ref sig .tc := ⟨.hbm, 72, rfl⟩
abbrev main_v34 : Ref sig .tc := ⟨.hbm, 73, rfl⟩
abbrev main_c_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_call4_v0 : Ref sig .tc := ⟨.hbm, 84, rfl⟩
abbrev main_v43 : Ref sig .tc := ⟨.hbm, 85, rfl⟩

abbrev nD : Nat := 1
abbrev τ : Topo := Topo.v7x

variable {F : FTy → Type} [FloatOps F]
-- ==== Proof.Sc.Ops.lean ====
/- Rules for the memory operations of a vector subcore over memrefs held by what they read. -/
module

public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Sc

open Idealize.ShloMosaic
open Idealize.SL
open Idealize.SL.BI (sProp)
open scoped Idealize.SL.BI
open Idealize.SL.BI.BIBase Idealize.SL.BI.Laws Idealize.SL.Sem Idealize.SL.ProofMode
open Idealize.SL.RA

section Rules

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

local notation "𝕄" => MT nD τ sig Ix (Elt F) Name U Lvl

/-- A memref of a tile's memory held outright, reading `X`. -/
abbrev own {sp : Space} (m : Memref sig c.2.kind sp s e) (X : s.Idx → Elt F e) : sProp 𝕄 := owns c m fullShare X

theorem wp_loadR {cs : CoreSpace} {m : Memref sig c.2.kind cs s e} {r : Rect s} {hl : m.view.LoadsAt r}
    {k : (r.shape.Idx → Elt F e) → Prog (TpuEff nD τ sig (Elt F) Λ c.2) α} {X : s.Idx → Elt F e} :
    (own c m X : sProp 𝕄)
      ⊢ iprop((own c m X -∗ wp frame (wpE defs 𝒱 c bd) E (k fun i => X (r.emb i)) Q)
        -∗ wp frame (wpE defs 𝒱 c bd) E (.op (.load m r.toLoadRect hl) k) Q) := by
  unfold own owns
  iintro ⟨%f, %hf, H⟩ Hk
  iapply (wp_load (defs := defs) 𝒱 c bd E (Q := Q) (k := k) (m := m) (r := r.toLoadRect) (hl := hl) (S := m.view.set) (f := f) (q := fullShare)
    (View.setOn_subset_set _ _)) $$ H
  iintro H
  have hr : m.view.readAt (Elt F) r.toLoadRect f = fun i => X (r.emb i) := by
    rw [View.readAt_rect, ← hf]; rfl
  rw [hr]
  iapply Hk
  iexists f
  isplitr; · ipureintro; exact hf
  iexact H

theorem wp_storeR {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : s.Idx → Elt F e} :
    (own c m X : sProp 𝕄)
      ⊢ iprop((own c m (r.overlay X w) -∗ wp frame (wpE defs 𝒱 c bd) E (k ⟨⟩) Q)
        -∗ wp frame (wpE defs 𝒱 c bd) E (.op (.store m r w Finset.univ hx hm) k) Q) := by
  unfold own owns
  iintro ⟨%f, %hf, H⟩ Hk
  have hsub : (m.access r).setOn Finset.univ ⊆ m.view.set := by
    intro x hx
    have : x ∈ (m.view.slice r).set := hx
    rw [View.set_slice] at this
    exact View.setOn_subset_set _ _ this
  iapply (wp_store (defs := defs) 𝒱 c bd E (Q := Q) (m := m) (r := r) (w := w) (Mk := Finset.univ) (hx := hx) (hm := hm) (k := k) (f := f) (S := m.view.set) hsub) $$ H
  iintro H
  iapply Hk
  iexists ((m.access r).write (Elt F) f w Finset.univ)
  isplitr
  · ipureintro
    funext j
    by_cases hj : j ∈ r.set
    · obtain ⟨i, rfl⟩ := r.exists_idx_of_mem hj
      change _ = r.overlay X w (r.emb i)
      rw [Rect.overlay_emb]
      exact congrFun (View.read_write_univ (v := m.access r) f w) i
    · rw [Rect.overlay_of_not_mem _ _ _ hj, ← hf, View.read_apply, View.read_apply]
      rw [View.write_of_not_mem]
      intro hm'
      apply hj
      have : m.view.emb j ∈ (m.view.slice r).set := hm'
      rw [View.set_slice] at this
      obtain ⟨j', hj', he⟩ := Finset.mem_map.mp this
      rwa [← m.view.emb.injective he]
  · iexact H

theorem wp_gatherR {base : Memref sig c.2.kind .vmem s e} {idxs : Fin s.rank → IVec t 32}
    {h : ∀ a x, (idxs a x).toNat < s.size a} {hl : base.view.Loads} {k : Vec F t e → Prog (TpuEff nD τ sig (Elt F) Λ c.2) α}
    {X : s.Idx → Elt F e} :
    (own c base X : sProp 𝕄)
      ⊢ iprop((own c base X -∗ wp frame (wpE defs 𝒱 c bd) E (k (loadIdx X idxs h)) Q)
        -∗ wp frame (wpE defs 𝒱 c bd) E (SparseCore.vectorLoadIdx base idxs h hl >>= k) Q) := by
  rw [SparseCore.vectorLoadIdx_bind]
  have := wp_loadR (defs := defs) 𝒱 c bd E (Q := Q) (m := base) (r := Rect.whole s) (hl := View.loadsAt_whole hl)
    (k := fun f => k (loadIdx f idxs h)) (X := X)
  have e : (fun i => X ((Rect.whole s).emb i)) = X := by funext i; simp
  rw [e] at this
  exact this

theorem wp_scatterR [FloatOps F] {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} :
    (own c base X : sProp 𝕄)
      ⊢ iprop((own c base (storeIdx X idxs v mask add h) -∗ wp frame (wpE defs 𝒱 c bd) E (k ⟨⟩) Q)
        -∗ wp frame (wpE defs 𝒱 c bd) E (SparseCore.vectorStoreIdx base idxs v mask add h hs >>= k) Q) := by
  rw [SparseCore.vectorStoreIdx_bind]
  iintro H Hk
  have e : (fun i => X ((Rect.whole s).emb i)) = X := by funext i; simp
  iapply (wp_loadR (defs := defs) 𝒱 c bd E (Q := Q) (m := base) (r := Rect.whole s) (hl := View.loadsAt_rect hs.loads)
    (k := fun f => .op (.store base (.whole s) (storeIdx f idxs v mask add h) Finset.univ hs (.inl rfl)) k) (X := X)) $$ H
  iintro H
  rw [e]
  iapply (wp_storeR (defs := defs) 𝒱 c bd E (Q := Q) (m := base) (r := Rect.whole s) (w := storeIdx X idxs v mask add h) (hx := hs) (hm := .inl rfl) (k := k) (X := X)) $$ H
  have e' : (Rect.whole s).overlay X (storeIdx X idxs v mask add h) = storeIdx X idxs v mask add h := by
    funext j
    have := Rect.overlay_emb (Rect.whole s) X (storeIdx X idxs v mask add h) j
    simpa using this
  rw [e']
  iexact Hk

end Rules

end Cert.Proof.Sc
-- ==== Proof.Sc.Struct.lean ====
/- The vector-subcore program restated over named pieces: sorts, merges, the scans and the tail of a row. -/
module

public import proofs.«01_k».proof.Proof.Sc.Ops

@[expose] public section

noncomputable section

namespace Cert.Proof.Sc

open Idealize.ShloMosaic Idealize.SL.Sem
open Cert.KernelIdeal Cert.KernelIdeal.Facts₀ Cert.KernelIdeal.Facts

variable {F : FTy → Type} [FloatOps F]

/-! ## Pure pieces -/

/-- The lane numbers. -/
abbrev lanes : IVec S16 32 := iota .scVector S16 32 [0] iota_S16_d0_w32_scVector
/-- A word in every lane. -/
abbrev bc (b : BitVec 32) : IVec S16 32 := broadcast S16 b
/-- Minus infinity in every lane. -/
def negs : FVec F S16 .f32 := broadcast S16 (Scalar.ofBits .f32 0xFF800000#32)
/-- Lane `j`. -/
abbrev lane (j : Fin 16) (h : S16.Slices ![j.val] S1) (v : FVec F S16 .f32) : F .f32 :=
  extractAt ![0] (extractStridedSlice S1 ![j.val] v h) inpos_S1_p0
/-- The rank summand: the lanes before which lane `j` (holding `w`) comes. -/
def before (w v : FVec F S16 .f32) (j : BitVec 32) : IVec S16 32 :=
  extui 32 (ori (cmpf .ogt w v) (andi (cmpf .oeq w v) (cmpi .slt (bc j) lanes))) natLt_1_32
/-- The same of ascending words. -/
def beforeI (w v : IVec S16 32) (j : BitVec 32) : IVec S16 32 :=
  extui 32 (ori (cmpi .slt w v) (andi (cmpi .eq w v) (cmpi .slt (bc j) lanes))) natLt_1_32
/-- The greater-or-equal mask of a compare-exchange. -/
def ge (a b : FVec F S16 .f32) : IVec S16 1 := cmpf .oge a b
/-- A vector of (value, index) pairs. -/
abbrev VI (F : FTy → Type) := FVec F S16 .f32 × IVec S16 32
/-- The pairs kept first by a compare-exchange. -/
def hiP (a b : VI F) : VI F := (select (ge a.1 b.1) a.1 b.1, select (ge a.1 b.1) a.2 b.2)
/-- The pairs kept second. -/
def loP (a b : VI F) : VI F := (select (ge a.1 b.1) b.1 a.1, select (ge a.1 b.1) b.2 a.2)
/-- Four vectors of pairs. -/
structure Blk (F : FTy → Type) where
  (a b c d : VI F)

/-! ## Checks -/

/-- The indices are inside 16 words. -/
def ck16 (v : IVec S16 32) : Prop := (∀ a x, ((![v] : Fin 1 → IVec S16 32) a x).toNat < S16.size a)
instance ck16.dec (v : IVec S16 32) : Decidable (ck16 v) := decidable_of_iff' _ (Iff.of_eq (ck16.eq_1 v))
/-- The same, of two uses. -/
def ck16b (v : IVec S16 32) : Prop :=
  (∀ a x, ((![v] : Fin 1 → IVec S16 32) a x).toNat < S16.size a) ∧ (∀ a x, ((![v] : Fin 1 → IVec S16 32) a x).toNat < S16.size a)
instance ck16b.dec (v : IVec S16 32) : Decidable (ck16b v) := decidable_of_iff' _ (Iff.of_eq (ck16b.eq_1 v))
/-- The indices are inside the candidates. -/
def ckC (v : IVec S16 32) : Prop :=
  (∀ a x, ((![v] : Fin 1 → IVec S16 32) a x).toNat < S4224.size a) ∧ (∀ a x, ((![v] : Fin 1 → IVec S16 32) a x).toNat < S4224.size a)
instance ckC.dec (v : IVec S16 32) : Decidable (ckC v) := decidable_of_iff' _ (Iff.of_eq (ckC.eq_1 v))
/-- The indices are inside 64 words. -/
def ck64 (v : IVec S16 32) : Prop := (∀ a x, ((![v] : Fin 1 → IVec S16 32) a x).toNat < S64.size a)
instance ck64.dec (v : IVec S16 32) : Decidable (ck64 v) := decidable_of_iff' _ (Iff.of_eq (ck64.eq_1 v))
/-- The indices are inside 96 words. -/
def ck96 (v : IVec S16 32) : Prop := (∀ a x, ((![v] : Fin 1 → IVec S16 32) a x).toNat < S96.size a)
instance ck96.dec (v : IVec S16 32) : Decidable (ck96 v) := decidable_of_iff' _ (Iff.of_eq (ck96.eq_1 v))

/-! ## Sorts and merges -/

variable {i : grid0.Coords}

/-- A vector subcore's programs. -/
abbrev TP (F : FTy → Type) (i : grid0.Coords) (α : Type) := Prog (TpuEff nD τ sig (Elt F) Λ₀ (.scVector ((i 0).castLE hcore0) ((i 1).castLE hsub0))) α
/-- Its scratch. -/
abbrev MV (s : Shape) (e : EltTy) := Memref sig .scVector .vmem s e

/-- The whole of a 16-word scratch. -/
abbrev R0 : Rect S16 := Rect.unit (s := S16) ![0] S16.size inb_S16_S16_0

/-- Read 16 words. -/
abbrev ldP {s : Shape} {e : EltTy} (m : MV s e) (o : Fin s.rank → Nat) (n : Fin s.rank → Nat) (h : ∀ a, o a + n a ≤ s.size a)
    (hl : m.view.LoadsAt (Rect.unit (s := s) o n h)) : TP F i ((Rect.unit (s := s) o n h).shape.Idx → Elt F e) :=
  Prog.lift (.load m (Rect.unit (s := s) o n h).toLoadRect hl)

/-- A sort of 16 pairs, descending: each lane's rank counted, the pairs scattered to their ranks. -/
def sortP (tv : MV S16 .f32) (ti : MV S16 .i32) (p : VI F) : TP F i (VI F) := do
  let _ ← Prog.lift (.load tv R0.toLoadRect (View.loadsAt_vmem h_S16))
  Prog.lift (.store tv R0 p.1 Finset.univ (View.stores_vmem_bits_univ h_S16 rfl) (.inl rfl))
  let _ ← Prog.lift (.load ti R0.toLoadRect (View.loadsAt_vmem h_S16))
  Prog.lift (.store ti R0 p.2 Finset.univ (View.stores_vmem_bits_univ h_S16 rfl) (.inl rfl))
  let r : IVec S16 32 ← Scf.Loop.for k0_t5_loop k0_t5_ok (bc 0#32) fun k r => do
    have h : ck16 (bc (Scf.iv 0#32 1#32 k)) := (← Prog.lift (TpuEff.assume (ck16 (bc (Scf.iv 0#32 1#32 k))) (ck16.dec (bc (Scf.iv 0#32 1#32 k))))).down
    let w : Vec F S16 .f32 ← SparseCore.vectorLoadIdx tv ![bc (Scf.iv 0#32 1#32 k)] h (View.loads_vmem h_S16)
    pure (addi r (before w p.1 (Scf.iv 0#32 1#32 k)))
  have h : ck16b (minsi r (bc 15#32)) := (← Prog.lift (TpuEff.assume (ck16b (minsi r (bc 15#32))) (ck16b.dec (minsi r (bc 15#32))))).down
  SparseCore.vectorStoreIdx tv ![minsi r (bc 15#32)] p.1 (fun _ => 1#1) false h.1 (View.stores_vmem_bits_univ h_S16 rfl)
  SparseCore.vectorStoreIdx ti ![minsi r (bc 15#32)] p.2 (fun _ => 1#1) false h.2 (View.stores_vmem_bits_univ h_S16 rfl)
  let v' : Vec F S16 .f32 ← Prog.lift (.load tv R0.toLoadRect (View.loadsAt_vmem h_S16))
  let x' : Vec F S16 .i32 ← Prog.lift (.load ti R0.toLoadRect (View.loadsAt_vmem h_S16))
  pure (v', x')

/-- A vector reversed through scratch. -/
def revP {e : EltTy} (m : MV S16 e) (v : Vec F S16 e) (hw : EltTy.bits e = 32) : TP F i (Vec F S16 e) := do
  let _ ← Prog.lift (.load m R0.toLoadRect (View.loadsAt_vmem h_S16))
  Prog.lift (.store m R0 v Finset.univ (View.stores_vmem_bits_univ h_S16 hw) (.inl rfl))
  have h : ck16 (subi (bc 15#32) lanes) := (← Prog.lift (TpuEff.assume (ck16 (subi (bc 15#32) lanes)) (ck16.dec (subi (bc 15#32) lanes)))).down
  SparseCore.vectorLoadIdx m ![subi (bc 15#32) lanes] h (View.loads_vmem h_S16)

/-- A compare-exchange of two vectors, each then sorted. -/
def bm32P (tv : MV S16 .f32) (ti : MV S16 .i32) (a b : VI F) : TP F i (VI F × VI F) := do
  let h ← sortP tv ti (hiP a b)
  let l ← sortP tv ti (loP a b)
  pure (h, l)

/-- Two sorted vectors merged. -/
def m16P (tv : MV S16 .f32) (ti : MV S16 .i32) (a b : VI F) : TP F i (VI F × VI F) := do
  let rv ← revP tv b.1 rfl
  let ri ← revP ti b.2 rfl
  bm32P tv ti a (rv, ri)

/-- Two sorted pairs of vectors merged. -/
def m32P (tv : MV S16 .f32) (ti : MV S16 .i32) (a b : VI F × VI F) : TP F i (Blk F) := do
  let r0 ← revP tv b.2.1 rfl
  let r1 ← revP tv b.1.1 rfl
  let s0 ← revP ti b.2.2 rfl
  let s1 ← revP ti b.1.2 rfl
  let h ← bm32P tv ti (hiP a.1 (r0, s0)) (hiP a.2 (r1, s1))
  let l ← bm32P tv ti (loP a.1 (r0, s0)) (loP a.2 (r1, s1))
  pure ⟨h.1, h.2, l.1, l.2⟩

/-- A block of 64 pairs sorted. -/
def sort64P (tv : MV S16 .f32) (ti : MV S16 .i32) (b : Blk F) : TP F i (Blk F) := do
  let s0 ← sortP tv ti b.a
  let s1 ← sortP tv ti b.b
  let s2 ← sortP tv ti b.c
  let s3 ← sortP tv ti b.d
  let x ← m16P tv ti s0 s1
  let y ← m16P tv ti s2 s3
  m32P tv ti x y

/-- The first 64 of two sorted blocks. -/
def top64P (tv : MV S16 .f32) (ti : MV S16 .i32) (s b : Blk F) : TP F i (Blk F) := do
  let r0 ← revP tv b.d.1 rfl
  let r1 ← revP tv b.c.1 rfl
  let r2 ← revP tv b.b.1 rfl
  let r3 ← revP tv b.a.1 rfl
  let s0 ← revP ti b.d.2 rfl
  let s1 ← revP ti b.c.2 rfl
  let s2 ← revP ti b.b.2 rfl
  let s3 ← revP ti b.a.2 rfl
  let h0 := hiP s.a (r0, s0)
  let h1 := hiP s.b (r1, s1)
  let h2 := hiP s.c (r2, s2)
  let h3 := hiP s.d (r3, s3)
  let t ← bm32P tv ti (hiP h0 h2) (hiP h1 h3)
  let u ← bm32P tv ti (loP h0 h2) (loP h1 h3)
  pure ⟨t.1, t.2, u.1, u.2⟩

/-! ## The scans of a row -/

/-- The column maxima of a row. -/
def paP (rb : MV S100096 .f32) : TP F i (FVec F S16 .f32 × FVec F S16 .f32 × FVec F S16 .f32 × FVec F S16 .f32) :=
  Scf.Loop.for k0_t2_loop k0_t2_ok (negs, negs, negs, negs) fun k (a, b, c, d) => do
    let x : Vec F S16 .f32 ← Prog.lift (.load rb (Rect.unit (s := S100096) (k0_off2 k 0#32) S16.size (k0_off2_inb k 0)).toLoadRect (View.loadsAt_vmem h_S16))
    let y : Vec F S16 .f32 ← Prog.lift (.load rb (Rect.unit (s := S100096) (k0_off2 k 16#32) S16.size (k0_off2_inb k 1)).toLoadRect (View.loadsAt_vmem h_S16))
    let z : Vec F S16 .f32 ← Prog.lift (.load rb (Rect.unit (s := S100096) (k0_off2 k 32#32) S16.size (k0_off2_inb k 2)).toLoadRect (View.loadsAt_vmem h_S16))
    let w : Vec F S16 .f32 ← Prog.lift (.load rb (Rect.unit (s := S100096) (k0_off2 k 48#32) S16.size (k0_off2_inb k 3)).toLoadRect (View.loadsAt_vmem h_S16))
    pure (maximumf a x, maximumf b y, maximumf c z, maximumf d w)

/-- The least lane. -/
def min16 (v : FVec F S16 .f32) : F .f32 :=
  Scalar.minimumf (Scalar.minimumf (Scalar.minimumf (Scalar.minimumf (Scalar.minimumf (Scalar.minimumf (Scalar.minimumf (Scalar.minimumf
  (Scalar.minimumf (Scalar.minimumf (Scalar.minimumf (Scalar.minimumf (Scalar.minimumf (Scalar.minimumf (Scalar.minimumf
    (lane 0 slices_S16_o0_S1 v) (lane 1 slices_S16_o1_S1 v)) (lane 2 slices_S16_o2_S1 v)) (lane 3 slices_S16_o3_S1 v))
    (lane 4 slices_S16_o4_S1 v)) (lane 5 slices_S16_o5_S1 v)) (lane 6 slices_S16_o6_S1 v)) (lane 7 slices_S16_o7_S1 v))
    (lane 8 slices_S16_o8_S1 v)) (lane 9 slices_S16_o9_S1 v)) (lane 10 slices_S16_o10_S1 v)) (lane 11 slices_S16_o11_S1 v))
    (lane 12 slices_S16_o12_S1 v)) (lane 13 slices_S16_o13_S1 v)) (lane 14 slices_S16_o14_S1 v)) (lane 15 slices_S16_o15_S1 v)

/-- The sum of the lanes. -/
def sum16 (v : FVec F S16 .f32) : F .f32 :=
  Scalar.addf (Scalar.addf (Scalar.addf (Scalar.addf (Scalar.addf (Scalar.addf (Scalar.addf (Scalar.addf
  (Scalar.addf (Scalar.addf (Scalar.addf (Scalar.addf (Scalar.addf (Scalar.addf (Scalar.addf
    (lane 0 slices_S16_o0_S1 v) (lane 1 slices_S16_o1_S1 v)) (lane 2 slices_S16_o2_S1 v)) (lane 3 slices_S16_o3_S1 v))
    (lane 4 slices_S16_o4_S1 v)) (lane 5 slices_S16_o5_S1 v)) (lane 6 slices_S16_o6_S1 v)) (lane 7 slices_S16_o7_S1 v))
    (lane 8 slices_S16_o8_S1 v)) (lane 9 slices_S16_o9_S1 v)) (lane 10 slices_S16_o10_S1 v)) (lane 11 slices_S16_o11_S1 v))
    (lane 12 slices_S16_o12_S1 v)) (lane 13 slices_S16_o13_S1 v)) (lane 14 slices_S16_o14_S1 v)) (lane 15 slices_S16_o15_S1 v)

/-- Lane `j`'s value in the lanes from `j` on. -/
def from16 (j : Fin 16) (h : S16.Slices ![j.val] S1) (b : BitVec 32) (v : FVec F S16 .f32) : FVec F S16 .f32 :=
  select (cmpi .sge lanes (bc b)) (broadcast S16 (lane j h v)) (broadcast S16 (Scalar.ofBits .f32 0x00000000#32))

/-- The prefix sums of the lanes. -/
def cumsum16 (v : FVec F S16 .f32) : FVec F S16 .f32 :=
  addf (addf (addf (addf (addf (addf (addf (addf (addf (addf (addf (addf (addf (addf (addf
    (from16 0 slices_S16_o0_S1 0#32 v) (from16 1 slices_S16_o1_S1 1#32 v)) (from16 2 slices_S16_o2_S1 2#32 v)) (from16 3 slices_S16_o3_S1 3#32 v))
    (from16 4 slices_S16_o4_S1 4#32 v)) (from16 5 slices_S16_o5_S1 5#32 v)) (from16 6 slices_S16_o6_S1 6#32 v)) (from16 7 slices_S16_o7_S1 7#32 v))
    (from16 8 slices_S16_o8_S1 8#32 v)) (from16 9 slices_S16_o9_S1 9#32 v)) (from16 10 slices_S16_o10_S1 10#32 v)) (from16 11 slices_S16_o11_S1 11#32 v))
    (from16 12 slices_S16_o12_S1 12#32 v)) (from16 13 slices_S16_o13_S1 13#32 v)) (from16 14 slices_S16_o14_S1 14#32 v)) (from16 15 slices_S16_o15_S1 15#32 v)

/-- The threshold of a row. -/
def thr (p : FVec F S16 .f32 × FVec F S16 .f32 × FVec F S16 .f32 × FVec F S16 .f32) : FVec F S16 .f32 :=
  broadcast S16 (min16 (minimumf (minimumf p.1 p.2.1) (minimumf p.2.2.1 p.2.2.2)))

/-- The candidates filled with minus infinity. -/
def fill1P (cv : MV S4224 .f32) (ci : MV S4224 .i32) (k : Fin k0_t3_loop.trips) (b : BitVec 32) (h : ∀ a, k0_off3 k b a + S16.size a ≤ S4224.size a) : TP F i PUnit := do
  let _ ← Prog.lift (.load cv (Rect.unit (s := S4224) (k0_off3 k b) S16.size h).toLoadRect (View.loadsAt_vmem h_S16))
  Prog.lift (.store cv (Rect.unit (s := S4224) (k0_off3 k b) S16.size h) negs Finset.univ (View.stores_vmem_bits_univ h_S16 rfl) (.inl rfl))
  let _ ← Prog.lift (.load ci (Rect.unit (s := S4224) (k0_off3 k b) S16.size h).toLoadRect (View.loadsAt_vmem h_S16))
  Prog.lift (.store ci (Rect.unit (s := S4224) (k0_off3 k b) S16.size h) (bc 2147483647#32) Finset.univ (View.stores_vmem_bits_univ h_S16 rfl) (.inl rfl))

/-- The fill of the candidates. -/
def fillP (cv : MV S4224 .f32) (ci : MV S4224 .i32) : TP F i (BitVec 32) :=
  Scf.Loop.for k0_t3_loop k0_t3_ok 0#32 fun k _ => do
    fill1P cv ci k 0#32 (k0_off3_inb k 0)
    fill1P cv ci k 16#32 (k0_off3_inb k 1)
    fill1P cv ci k 32#32 (k0_off3_inb k 2)
    fill1P cv ci k 48#32 (k0_off3_inb k 3)
    fill1P cv ci k 64#32 (k0_off3_inb k 4)
    fill1P cv ci k 80#32 (k0_off3_inb k 5)
    fill1P cv ci k 96#32 (k0_off3_inb k 6)
    fill1P cv ci k 112#32 (k0_off3_inb k 7)
    pure 0#32

/-- The running counts of a mask. -/
def csum (m : IVec S16 1) : IVec S16 32 := scan .sum (extui 32 m natLt_1_32)
/-- Its whole count. -/
def cnt16 (m : IVec S16 1) : BitVec 32 := extractAt ![15] (csum m) inpos_S16_p15
/-- Where a candidate goes. -/
def dest (pre : IVec S16 32) (m : IVec S16 1) : IVec S16 32 := maxsi (minsi (subi (addi pre (csum m)) (bc 1#32)) (bc 4095#32)) (bc 0#32)

/-- The candidates of 16 words stored. -/
def putP (cv : MV S4224 .f32) (ci : MV S4224 .i32) (pre : IVec S16 32) (x : FVec F S16 .f32) (m : IVec S16 1) (ix : IVec S16 32) : TP F i PUnit := do
  have h : ckC (dest pre m) := (← Prog.lift (TpuEff.assume (ckC (dest pre m)) (ckC.dec (dest pre m)))).down
  SparseCore.vectorStoreIdx cv ![dest pre m] x m false h.1 (View.stores_vmem_bits_univ h_S4224 rfl)
  SparseCore.vectorStoreIdx ci ![dest pre m] ix m false h.2 (View.stores_vmem_bits_univ h_S4224 rfl)

/-- The count after 16 words. -/
def adv (pre : IVec S16 32) (m : IVec S16 1) : IVec S16 32 := addi pre (bc (cnt16 m))

/-- The candidates of a row stored. -/
def pbP (rb : MV S100096 .f32) (cv : MV S4224 .f32) (ci : MV S4224 .i32) (t : FVec F S16 .f32) : TP F i (IVec S16 32 × IVec S16 32) :=
  Scf.Loop.for k0_t4_loop k0_t4_ok (bc 0#32, lanes) fun k (cur, ix) => do
    let x0 : Vec F S16 .f32 ← Prog.lift (.load rb (Rect.unit (s := S100096) (k0_off4 k 0#32) S16.size (k0_off4_inb k 0)).toLoadRect (View.loadsAt_vmem h_S16))
    let x1 : Vec F S16 .f32 ← Prog.lift (.load rb (Rect.unit (s := S100096) (k0_off4 k 16#32) S16.size (k0_off4_inb k 1)).toLoadRect (View.loadsAt_vmem h_S16))
    let x2 : Vec F S16 .f32 ← Prog.lift (.load rb (Rect.unit (s := S100096) (k0_off4 k 32#32) S16.size (k0_off4_inb k 2)).toLoadRect (View.loadsAt_vmem h_S16))
    let x3 : Vec F S16 .f32 ← Prog.lift (.load rb (Rect.unit (s := S100096) (k0_off4 k 48#32) S16.size (k0_off4_inb k 3)).toLoadRect (View.loadsAt_vmem h_S16))
    let x4 : Vec F S16 .f32 ← Prog.lift (.load rb (Rect.unit (s := S100096) (k0_off4 k 64#32) S16.size (k0_off4_inb k 4)).toLoadRect (View.loadsAt_vmem h_S16))
    let x5 : Vec F S16 .f32 ← Prog.lift (.load rb (Rect.unit (s := S100096) (k0_off4 k 80#32) S16.size (k0_off4_inb k 5)).toLoadRect (View.loadsAt_vmem h_S16))
    let x6 : Vec F S16 .f32 ← Prog.lift (.load rb (Rect.unit (s := S100096) (k0_off4 k 96#32) S16.size (k0_off4_inb k 6)).toLoadRect (View.loadsAt_vmem h_S16))
    let x7 : Vec F S16 .f32 ← Prog.lift (.load rb (Rect.unit (s := S100096) (k0_off4 k 112#32) S16.size (k0_off4_inb k 7)).toLoadRect (View.loadsAt_vmem h_S16))
    let p0 := cur
    putP cv ci p0 x0 (ge x0 t) (addi ix (bc 0#32))
    let p1 := adv p0 (ge x0 t)
    putP cv ci p1 x1 (ge x1 t) (addi ix (bc 16#32))
    let p2 := adv p1 (ge x1 t)
    putP cv ci p2 x2 (ge x2 t) (addi ix (bc 32#32))
    let p3 := adv p2 (ge x2 t)
    putP cv ci p3 x3 (ge x3 t) (addi ix (bc 48#32))
    let p4 := adv p3 (ge x3 t)
    putP cv ci p4 x4 (ge x4 t) (addi ix (bc 64#32))
    let p5 := adv p4 (ge x4 t)
    putP cv ci p5 x5 (ge x5 t) (addi ix (bc 80#32))
    let p6 := adv p5 (ge x5 t)
    putP cv ci p6 x6 (ge x6 t) (addi ix (bc 96#32))
    let p7 := adv p6 (ge x6 t)
    putP cv ci p7 x7 (ge x7 t) (addi ix (bc 112#32))
    let p8 := adv p7 (ge x7 t)
    pure (minsi p8 (bc 4096#32), addi ix (bc 128#32))

/-- The greatest lane, of signed words. -/
def max16 (v : IVec S16 32) : BitVec 32 :=
  extractAt ![15] (xori (scan .max (xori v (bc 2147483648#32))) (bc 2147483648#32)) inpos_S16_p15

/-! ## The blocks of the candidates -/

/-- Four vectors of pairs read from the candidates. -/
def ldBlkP (cv : MV S4224 .f32) (ci : MV S4224 .i32) (o : BitVec 32 → Fin 1 → Nat) (h : ∀ (r : Fin 4), ∀ a, o (BitVec.ofNat 32 (16 * r.val)) a + S16.size a ≤ S4224.size a) : TP F i (Blk F) := do
  let x0 : Vec F S16 .f32 ← Prog.lift (.load cv (Rect.unit (s := S4224) (o 0#32) S16.size (h 0)).toLoadRect (View.loadsAt_vmem h_S16))
  let x1 : Vec F S16 .f32 ← Prog.lift (.load cv (Rect.unit (s := S4224) (o 16#32) S16.size (h 1)).toLoadRect (View.loadsAt_vmem h_S16))
  let x2 : Vec F S16 .f32 ← Prog.lift (.load cv (Rect.unit (s := S4224) (o 32#32) S16.size (h 2)).toLoadRect (View.loadsAt_vmem h_S16))
  let x3 : Vec F S16 .f32 ← Prog.lift (.load cv (Rect.unit (s := S4224) (o 48#32) S16.size (h 3)).toLoadRect (View.loadsAt_vmem h_S16))
  let y0 : Vec F S16 .i32 ← Prog.lift (.load ci (Rect.unit (s := S4224) (o 0#32) S16.size (h 0)).toLoadRect (View.loadsAt_vmem h_S16))
  let y1 : Vec F S16 .i32 ← Prog.lift (.load ci (Rect.unit (s := S4224) (o 16#32) S16.size (h 1)).toLoadRect (View.loadsAt_vmem h_S16))
  let y2 : Vec F S16 .i32 ← Prog.lift (.load ci (Rect.unit (s := S4224) (o 32#32) S16.size (h 2)).toLoadRect (View.loadsAt_vmem h_S16))
  let y3 : Vec F S16 .i32 ← Prog.lift (.load ci (Rect.unit (s := S4224) (o 48#32) S16.size (h 3)).toLoadRect (View.loadsAt_vmem h_S16))
  pure ⟨(x0, y0), (x1, y1), (x2, y2), (x3, y3)⟩

/-- Eight vectors, as the loop over the blocks carries them. -/
abbrev V8 (F : FTy → Type) := FVec F S16 .f32 × FVec F S16 .f32 × FVec F S16 .f32 × FVec F S16 .f32 × IVec S16 32 × IVec S16 32 × IVec S16 32 × IVec S16 32
/-- The block they are. -/
def toBlk (p : V8 F) : Blk F := ⟨(p.1, p.2.2.2.2.1), (p.2.1, p.2.2.2.2.2.1), (p.2.2.1, p.2.2.2.2.2.2.1), (p.2.2.2.1, p.2.2.2.2.2.2.2)⟩
/-- A block as they are. -/
def ofBlk (b : Blk F) : V8 F := (b.a.1, b.b.1, b.c.1, b.d.1, b.a.2, b.b.2, b.c.2, b.d.2)

/-- One more block taken in. -/
def stepP (tv : MV S16 .f32) (ti : MV S16 .i32) (cv : MV S4224 .f32) (ci : MV S4224 .i32) (o : BitVec 32 → Fin 1 → Nat)
    (h : ∀ (r : Fin 4), ∀ a, o (BitVec.ofNat 32 (16 * r.val)) a + S16.size a ≤ S4224.size a) (b : Blk F) : TP F i (V8 F) := do
  let y ← ldBlkP cv ci o h
  let z ← sort64P tv ti y
  let w ← top64P tv ti b z
  pure (ofBlk w)

/-- The loop over the blocks. -/
def blksP (tv : MV S16 .f32) (ti : MV S16 .i32) (cv : MV S4224 .f32) (ci : MV S4224 .i32) (cur : BitVec 32) (hc : k0_chk41 cur) (b : Blk F) : TP F i (Blk F) := do
  let p ← Scf.Loop.for (k0_t17_loop cur) (k0_t17_ok cur hc) (ofBlk b) fun k (a0, a1, a2, a3, b0, b1, b2, b3) =>
    stepP tv ti cv ci (k0_off6 cur k) (k0_off6_inb cur hc k) ⟨(a0, b0), (a1, b1), (a2, b2), (a3, b3)⟩
  let p ← Scf.Loop.for (k0_t34_loop cur) (k0_t34_ok cur hc) p fun k (a0, a1, a2, a3, b0, b1, b2, b3) =>
    stepP tv ti cv ci (k0_off7 cur k) (k0_off7_inb cur hc k) ⟨(a0, b0), (a1, b1), (a2, b2), (a3, b3)⟩
  pure (toBlk p)

/-! ## The tail of a row -/

/-- A store of 16 words. -/
def stP {s : Shape} {e : EltTy} (m : MV s e) (o n : Fin s.rank → Nat) (h : ∀ a, o a + n a ≤ s.size a) (w : (Rect.unit (s := s) o n h).shape.Idx → Elt F e)
    (hl : m.view.LoadsAt (Rect.unit (s := s) o n h).toLoadRect) (hs : (m.access (Rect.unit (s := s) o n h)).Stores Finset.univ) : TP F i PUnit := do
  let _ ← Prog.lift (.load m (Rect.unit (s := s) o n h).toLoadRect hl)
  Prog.lift (.store m (Rect.unit (s := s) o n h) w Finset.univ hs (.inl rfl))

/-- The best values stored, and the values at their 50th and first places. -/
def spillP (sb : MV S64 .f32) (b : Blk F) : TP F i (FVec F S16 .f32 × FVec F S16 .f32) := do
  stP sb ![0] S16.size inb_S64_S16_0 b.a.1 (View.loadsAt_vmem h_S16) (View.stores_vmem_bits_univ h_S16 rfl)
  stP sb ![16] S16.size inb_S64_S16_16 b.b.1 (View.loadsAt_vmem h_S16) (View.stores_vmem_bits_univ h_S16 rfl)
  stP sb ![32] S16.size inb_S64_S16_32 b.c.1 (View.loadsAt_vmem h_S16) (View.stores_vmem_bits_univ h_S16 rfl)
  stP sb ![48] S16.size inb_S64_S16_48 b.d.1 (View.loadsAt_vmem h_S16) (View.stores_vmem_bits_univ h_S16 rfl)
  have h : ck64 (bc 49#32) := (← Prog.lift (TpuEff.assume (ck64 (bc 49#32)) (ck64.dec (bc 49#32)))).down
  let kth : Vec F S16 .f32 ← SparseCore.vectorLoadIdx sb ![bc 49#32] h (View.loads_vmem h_S64)
  have h : ck64 (bc 0#32) := (← Prog.lift (TpuEff.assume (ck64 (bc 0#32)) (ck64.dec (bc 0#32)))).down
  let mx : Vec F S16 .f32 ← SparseCore.vectorLoadIdx sb ![bc 0#32] h (View.loads_vmem h_S64)
  pure (kth, mx)

/-- The exponentials kept. -/
def expk (kth mx v : FVec F S16 .f32) : FVec F S16 .f32 :=
  select (ge v kth) (exp (subf v mx)) (broadcast S16 (Scalar.ofBits .f32 0x00000000#32))

/-- How many of a vector are at most the bound. -/
def cntLe (v : FVec F S16 .f32) : BitVec 32 := cnt16 (cmpf .ole v (broadcast S16 (Scalar.ofBits .f32 0x3F666666#32)))
/-- How many exceed another. -/
def cntGt (v c : FVec F S16 .f32) : BitVec 32 := cnt16 (cmpf .ogt v c)

/-- The weights of four vectors of exponentials. -/
def wts (e : FVec F S16 .f32 × FVec F S16 .f32 × FVec F S16 .f32 × FVec F S16 .f32) : FVec F S16 .f32 × FVec F S16 .f32 × FVec F S16 .f32 × FVec F S16 .f32 :=
  let z : FVec F S16 .f32 := broadcast S16 (Scalar.addf (Scalar.addf (Scalar.addf (sum16 e.1) (sum16 e.2.1)) (sum16 e.2.2.1)) (sum16 e.2.2.2))
  (divf e.1 z, divf e.2.1 z, divf e.2.2.1 z, divf e.2.2.2 z)

/-- How many prefix sums are at most the bound, and one more. -/
def mth (q : FVec F S16 .f32 × FVec F S16 .f32 × FVec F S16 .f32 × FVec F S16 .f32) : BitVec 32 :=
  let s0 := sum16 q.1
  let s1 := sum16 q.2.1
  let s2 := sum16 q.2.2.1
  Scalar.addi (Scalar.addi (Scalar.addi (Scalar.addi (Scalar.addi 0#32 (cntLe (cumsum16 q.1))) (cntLe (addf (cumsum16 q.2.1) (broadcast S16 s0))))
    (cntLe (addf (cumsum16 q.2.2.1) (broadcast S16 (Scalar.addf s0 s1))))) (cntLe (addf (cumsum16 q.2.2.2) (broadcast S16 (Scalar.addf (Scalar.addf s0 s1) s2))))) 1#32

/-- The last of a block's values kept: the `m`-th. -/
def mOf (kth mx : FVec F S16 .f32) (b : Blk F) : BitVec 32 :=
  mth (wts (expk kth mx b.a.1, expk kth mx b.b.1, expk kth mx b.c.1, expk kth mx b.d.1))

/-- Where an equal's index goes. -/
def destE (e : BitVec 32) (m : IVec S16 1) : IVec S16 32 := maxsi (subi (addi (bc e) (csum m)) (bc 1#32)) (bc 0#32)

/-- The indices of a vector's equals stored. -/
def putEP (eb : MV S96 .i32) (e : BitVec 32) (m : IVec S16 1) (ix : IVec S16 32) : TP F i PUnit := do
  have h : ck96 (destE e m) := (← Prog.lift (TpuEff.assume (ck96 (destE e m)) (ck96.dec (destE e m)))).down
  SparseCore.vectorStoreIdx eb ![destE e m] ix m false h (View.stores_vmem_bits_univ h_S96 rfl)

/-- 16 words sorted ascending. -/
def sortIP (ti : MV S16 .i32) (v : IVec S16 32) : TP F i (IVec S16 32) := do
  let _ ← Prog.lift (.load ti R0.toLoadRect (View.loadsAt_vmem h_S16))
  Prog.lift (.store ti R0 v Finset.univ (View.stores_vmem_bits_univ h_S16 rfl) (.inl rfl))
  let r : IVec S16 32 ← Scf.Loop.for k0_t51_loop k0_t51_ok (bc 0#32) fun k r => do
    have h : ck16 (bc (Scf.iv 0#32 1#32 k)) := (← Prog.lift (TpuEff.assume (ck16 (bc (Scf.iv 0#32 1#32 k))) (ck16.dec (bc (Scf.iv 0#32 1#32 k))))).down
    let w : Vec F S16 .i32 ← SparseCore.vectorLoadIdx ti ![bc (Scf.iv 0#32 1#32 k)] h (View.loads_vmem h_S16)
    pure (addi r (beforeI w v (Scf.iv 0#32 1#32 k)))
  have h : ck16 (minsi r (bc 15#32)) := (← Prog.lift (TpuEff.assume (ck16 (minsi r (bc 15#32))) (ck16.dec (minsi r (bc 15#32))))).down
  SparseCore.vectorStoreIdx ti ![minsi r (bc 15#32)] v (fun _ => 1#1) false h (View.stores_vmem_bits_univ h_S16 rfl)
  let v' : Vec F S16 .i32 ← Prog.lift (.load ti R0.toLoadRect (View.loadsAt_vmem h_S16))
  pure v'

/-- The bound on the indices of the values equal to `c`. -/
def bndP (ti : MV S16 .i32) (eb : MV S96 .i32) (b : Blk F) (c : FVec F S16 .f32) (m : BitVec 32) : TP F i (IVec S16 32) := do
  let n := Scalar.subi m (Scalar.addi (Scalar.addi (Scalar.addi (Scalar.addi 0#32 (cntGt b.a.1 c)) (cntGt b.b.1 c)) (cntGt b.c.1 c)) (cntGt b.d.1 c))
  let m0 := cmpf .oeq b.a.1 c
  let m1 := cmpf .oeq b.b.1 c
  let m2 := cmpf .oeq b.c.1 c
  let m3 := cmpf .oeq b.d.1 c
  let e1 := Scalar.addi 0#32 (cnt16 m0)
  let e2 := Scalar.addi e1 (cnt16 m1)
  let e3 := Scalar.addi e2 (cnt16 m2)
  putEP eb 0#32 m0 b.a.2
  putEP eb e1 m1 b.b.2
  putEP eb e2 m2 b.c.2
  putEP eb e3 m3 b.d.2
  have h : k0_chk145 (cnt16 m0) (cnt16 m1) (cnt16 m2) (cnt16 m3) :=
    (← Prog.lift (TpuEff.assume (k0_chk145 (cnt16 m0) (cnt16 m1) (cnt16 m2) (cnt16 m3)) (k0_chk145.dec (cnt16 m0) (cnt16 m1) (cnt16 m2) (cnt16 m3)))).down
  stP eb (k0_off8 (cnt16 m0) (cnt16 m1) (cnt16 m2) (cnt16 m3)) S16.size (k0_off8_inb _ _ _ _ h) (bc 2147483647#32) (View.loadsAt_vmem h_S16) (View.stores_vmem_bits_univ h_S16 rfl)
  let x : Vec F S16 .i32 ← Prog.lift (.load eb (Rect.unit (s := S96) ![0] S16.size inb_S96_S16_0).toLoadRect (View.loadsAt_vmem h_S16))
  let y ← sortIP ti x
  stP eb ![0] S16.size inb_S96_S16_0 y (View.loadsAt_vmem h_S16) (View.stores_vmem_bits_univ h_S16 rfl)
  let j : IVec S16 32 := bc (Scalar.maxsi (Scalar.subi (Scalar.minsi n 16#32) 1#32) 0#32)
  have h : ck96 j := (← Prog.lift (TpuEff.assume (ck96 j) (ck96.dec j))).down
  let y : Vec F S16 .i32 ← SparseCore.vectorLoadIdx eb ![j] h (View.loads_vmem h_S96)
  pure y

/-- The index of the last value kept. -/
def cIx (m : BitVec 32) : IVec S16 32 := bc (Scalar.minsi (Scalar.subi m 1#32) 63#32)

/-- From a row in scratch to its cut and bound. -/
def coreP (rb : MV S100096 .f32) (cv : MV S4224 .f32) (ci : MV S4224 .i32) (sb : MV S64 .f32) (eb : MV S96 .i32) (of : MV S16 .f32) (oi : MV S16 .i32)
    (tv : MV S16 .f32) (ti : MV S16 .i32) : TP F i PUnit := do
  let a ← paP rb
  let _ ← fillP cv ci
  let p ← pbP rb cv ci (thr a)
  have hc : k0_chk41 (max16 p.1) := (← Prog.lift (TpuEff.assume (k0_chk41 (max16 p.1)) (k0_chk41.dec (max16 p.1)))).down
  let b0 ← ldBlkP cv ci k0_off5 k0_off5_inb
  let s0 ← sort64P tv ti b0
  let s ← blksP tv ti cv ci (max16 p.1) hc s0
  let km ← spillP sb s
  let m := mOf km.1 km.2 s
  have h : ck64 (cIx m) := (← Prog.lift (TpuEff.assume (ck64 (cIx m)) (ck64.dec (cIx m)))).down
  let c : Vec F S16 .f32 ← SparseCore.vectorLoadIdx sb ![cIx m] h (View.loads_vmem h_S64)
  let y ← bndP ti eb s c m
  stP of ![0] S16.size inb_S16_S16_0 c (View.loadsAt_vmem h_S16) (View.stores_vmem_bits_univ h_S16 rfl)
  stP oi ![0] S16.size inb_S16_S16_0 y (View.loadsAt_vmem h_S16) (View.stores_vmem_bits_univ h_S16 rfl)

/-! ## A row and the program -/

/-- A whole memref. -/
abbrev MH (s : Shape) (e : EltTy) := Memref sig .scVector .hbm s e

/-- A row of the logits. -/
abbrev rowM (i : grid0.Coords) (k : Fin k0_t1_loop.trips) (xs : MH S64x100000 .f32) : MH S100000 .f32 :=
  (xs.slice (Rect.unit (s := S64x100000) (k0_off1 i k) S1x100000.size (k0_off1_inb i k)) (fun _ => rfl)).squeeze S100000 squeezes_S1x100000_S100000
/-- A row of a result. -/
abbrev outM (i : grid0.Coords) (k : Fin k0_t1_loop.trips) {e : EltTy} (o : MH S64x16 e) : MH S16 e :=
  (o.slice (Rect.unit (s := S64x16) (k0_off9 i k) S1x16.size (k0_off9_inb i k)) (fun _ => rfl)).squeeze S16 squeezes_S1x16_S16
/-- The words of the scratch a row fills. -/
abbrev bufM (rb : MV S100096 .f32) : MV S100000 .f32 := rb.slice (Rect.unit (s := S100096) ![0] S100000.size inb_S100096_S100000_0) (fun _ => rfl)

/-- The row fetched. -/
def inP (xs : MH S64x100000 .f32) (rb : MV S100096 .f32) (d0 : DmaSems sig S_) (k : Fin k0_t1_loop.trips) : TP F i PUnit := do
  Prog.lift (.enqueueDma (rowM i k xs) (.here (bufM rb)) (.dma d0.sem) ((View.wordExact_bits rfl).reshape _ _) (View.wordExact_bits rfl) ⟨Or.inl rfl, trivial⟩)
  Prog.lift (.waitDma2 d0.sem (rowM i k xs) (bufM rb) ((View.wordExact_bits rfl).reshape _ _) (View.wordExact_bits rfl))

/-- A result's row put back. -/
def outP {e : EltTy} (b : MV S16 e) (hb : b.IsWhole) (o : MH S64x16 e) (he : EltTy.bits e = 32) (d : DmaSems sig S_) (k : Fin k0_t1_loop.trips) : TP F i PUnit := do
  Prog.lift (.enqueueDma b (.here (outM i k o)) (.dma d.sem) hb.wordExact ((View.wordExact_bits he).reshape _ _) ⟨Or.inl rfl, trivial⟩)
  Prog.lift (.waitDma2 d.sem b (outM i k o) hb.wordExact ((View.wordExact_bits he).reshape _ _))

/-- A row. -/
def rowP (xs : MH S64x100000 .f32) (oc : MH S64x16 .f32) (ob : MH S64x16 .i32) (rb : MV S100096 .f32) (cv : MV S4224 .f32) (ci : MV S4224 .i32) (sb : MV S64 .f32)
    (eb : MV S96 .i32) (of : MV S16 .f32) (hof : of.IsWhole) (oi : MV S16 .i32) (hoi : oi.IsWhole) (tv : MV S16 .f32) (ti : MV S16 .i32) (d0 d1 d2 : DmaSems sig S_)
    (k : Fin k0_t1_loop.trips) : TP F i (BitVec 32) := do
  inP xs rb d0 k
  coreP rb cv ci sb eb of oi tv ti
  outP of hof oc rfl d1 k
  outP oi hoi ob rfl d2 k
  pure 0#32

/-- The scratch's overhang filled. -/
def padP (rb : MV S100096 .f32) : TP F i PUnit := do
  stP rb ![100000] S16.size inb_S100096_S16_100000 negs (View.loadsAt_vmem h_S16) (View.stores_vmem_bits_univ h_S16 rfl)
  stP rb ![100016] S16.size inb_S100096_S16_100016 negs (View.loadsAt_vmem h_S16) (View.stores_vmem_bits_univ h_S16 rfl)
  stP rb ![100032] S16.size inb_S100096_S16_100032 negs (View.loadsAt_vmem h_S16) (View.stores_vmem_bits_univ h_S16 rfl)
  stP rb ![100048] S16.size inb_S100096_S16_100048 negs (View.loadsAt_vmem h_S16) (View.stores_vmem_bits_univ h_S16 rfl)
  stP rb ![100064] S16.size inb_S100096_S16_100064 negs (View.loadsAt_vmem h_S16) (View.stores_vmem_bits_univ h_S16 rfl)
  stP rb ![100080] S16.size inb_S100096_S16_100080 negs (View.loadsAt_vmem h_S16) (View.stores_vmem_bits_univ h_S16 rfl)

/-- The program. -/
def bodyP (xs : MH S64x100000 .f32) (oc : MH S64x16 .f32) (ob : MH S64x16 .i32) (rb : MV S100096 .f32) (cv : MV S4224 .f32) (ci : MV S4224 .i32) (sb : MV S64 .f32)
    (eb : MV S96 .i32) (of : MV S16 .f32) (hof : of.IsWhole) (oi : MV S16 .i32) (hoi : oi.IsWhole) (tv : MV S16 .f32) (ti : MV S16 .i32) (d0 d1 d2 : DmaSems sig S_) :
    TP F i PUnit := do
  padP rb
  let _ ← Scf.Loop.for k0_t1_loop k0_t1_ok 0#32 fun k _ => rowP xs oc ob rb cv ci sb eb of hof oi hoi tv ti d0 d1 d2 k
  pure ⟨⟩

end Cert.Proof.Sc
-- ==== Proof.Sc.Vals.lean ====
/- What the named pieces of the vector-subcore program compute, as functions of the values they are given. -/
module

public import proofs.«01_k».proof.Proof.Sc.Struct

@[expose] public section

noncomputable section

namespace Cert.Proof.Sc

open Idealize.ShloMosaic Idealize.SL.Sem
open Cert.KernelIdeal Cert.KernelIdeal.Facts₀ Cert.KernelIdeal.Facts

variable {F : FTy → Type} [FloatOps F]

/-- Place `n` of 16 (mod 16). -/
def ix16 (n : Nat) : S16.Idx := fun a => ⟨n % 16, by fin_cases a; exact Nat.mod_lt _ (by decide)⟩

/-- The ranks counted over the first `n` places. -/
def rkN (v : FVec F S16 .f32) : Nat → IVec S16 32
  | 0 => bc 0#32
  | n + 1 => addi (rkN v n) (before (fun _ => v (ix16 n)) v (BitVec.ofNat 32 n))
/-- The same of ascending words. -/
def rkI (v : IVec S16 32) : Nat → IVec S16 32
  | 0 => bc 0#32
  | n + 1 => addi (rkI v n) (beforeI (fun _ => v (ix16 n)) v (BitVec.ofNat 32 n))

theorem ext1_le (b : BitVec 1) : (b.setWidth 32).toNat ≤ 1 := by
  have := b.isLt
  rw [BitVec.toNat_setWidth, Nat.mod_eq_of_lt (by omega)]; omega

theorem rkN_le (v : FVec F S16 .f32) : ∀ n, n ≤ 16 → ∀ l, (rkN v n l).toNat ≤ n
  | 0, _, l => by simp [rkN, bc, broadcast]
  | n + 1, hn, l => by
    have h := rkN_le v n (by omega) l
    have h1 : (before (fun _ => v (ix16 n)) v (BitVec.ofNat 32 n) l).toNat ≤ 1 := ext1_le _
    change (rkN v n l + before (fun _ => v (ix16 n)) v (BitVec.ofNat 32 n) l).toNat ≤ n + 1
    rw [BitVec.toNat_add, Nat.mod_eq_of_lt (by omega)]; omega

theorem rkI_le (v : IVec S16 32) : ∀ n, n ≤ 16 → ∀ l, (rkI v n l).toNat ≤ n
  | 0, _, l => by simp [rkI, bc, broadcast]
  | n + 1, hn, l => by
    have h := rkI_le v n (by omega) l
    have h1 : (beforeI (fun _ => v (ix16 n)) v (BitVec.ofNat 32 n) l).toNat ≤ 1 := ext1_le _
    change (rkI v n l + beforeI (fun _ => v (ix16 n)) v (BitVec.ofNat 32 n) l).toNat ≤ n + 1
    rw [BitVec.toNat_add, Nat.mod_eq_of_lt (by omega)]; omega

theorem minsi_nat (a b : BitVec 32) (ha : a.toNat < 2 ^ 31) (hb : b.toNat < 2 ^ 31) : (IntOp.minsi a b).toNat = min a.toNat b.toNat := by
  simp only [IntOp.minsi, BitVec.slt, BitVec.toInt_eq_toNat_of_lt (show 2 * a.toNat < 2 ^ 32 by omega), BitVec.toInt_eq_toNat_of_lt (show 2 * b.toNat < 2 ^ 32 by omega)]
  by_cases h : a.toNat < b.toNat
  · rw [if_pos (by simpa using h)]; omega
  · rw [if_neg (by simpa using h)]; omega

theorem maxsi_nat (a b : BitVec 32) (ha : a.toNat < 2 ^ 31) (hb : b.toNat < 2 ^ 31) : (IntOp.maxsi a b).toNat = max a.toNat b.toNat := by
  simp only [IntOp.maxsi, BitVec.slt, BitVec.toInt_eq_toNat_of_lt (show 2 * a.toNat < 2 ^ 32 by omega), BitVec.toInt_eq_toNat_of_lt (show 2 * b.toNat < 2 ^ 32 by omega)]
  by_cases h : b.toNat < a.toNat
  · rw [if_pos (by simpa using h)]; omega
  · rw [if_neg (by simpa using h)]; omega

/-- A signed least of anything and a small word, then at least zero, is inside. -/
theorem clamp_lt (a b : BitVec 32) (hb : b.toNat < 2 ^ 31) : (IntOp.maxsi (IntOp.minsi a b) 0#32).toNat ≤ b.toNat := by
  have hb' := BitVec.toInt_eq_toNat_of_lt (show 2 * b.toNat < 2 ^ 32 by omega)
  simp only [IntOp.maxsi, IntOp.minsi, BitVec.slt]
  split <;> rename_i h <;> split <;> rename_i h' <;> simp_all
  by_cases ha : a.toNat < 2 ^ 31
  · rw [BitVec.toInt_eq_toNat_of_lt (show 2 * a.toNat < 2 ^ 32 by omega)] at h; omega
  · have := a.isLt
    rw [BitVec.toInt_eq_toNat_cond] at h'
    split at h' <;> omega

theorem rk_in (v : FVec F S16 .f32) : ck16 (minsi (rkN v 16) (bc 15#32)) := by
  intro a x
  have h := rkN_le v 16 le_rfl x
  have : a = 0 := Fin.eq_zero a
  subst this
  change (IntOp.minsi (rkN v 16 x) 15#32).toNat < 16
  rw [minsi_nat _ _ (by omega) (by decide)]
  have : (15#32).toNat = 15 := rfl
  omega

theorem rkI_in (v : IVec S16 32) : ck16 (minsi (rkI v 16) (bc 15#32)) := by
  intro a x
  have h := rkI_le v 16 le_rfl x
  have : a = 0 := Fin.eq_zero a
  subst this
  change (IntOp.minsi (rkI v 16 x) 15#32).toNat < 16
  rw [minsi_nat _ _ (by omega) (by decide)]
  have : (15#32).toNat = 15 := rfl
  omega

theorem bc_in (k : Nat) (h : k < 16) : ck16 (bc (BitVec.ofNat 32 k)) := by
  intro a x
  have : a = 0 := Fin.eq_zero a
  subst this
  change (BitVec.ofNat 32 k).toNat < 16
  rw [BitVec.toNat_ofNat]; omega

theorem rev_in : ck16 (subi (bc 15#32) lanes) := by
  intro a x
  have : a = 0 := Fin.eq_zero a
  subst this
  change (15#32 - BitVec.ofNat 32 (0 * 16 + (x 0).val)).toNat < 16
  have hx : (x 0).val < 16 := (x 0).isLt
  rw [BitVec.toNat_sub, BitVec.toNat_ofNat]
  have : (15#32).toNat = 15 := rfl
  omega

/-- A sorted vector of pairs. -/
def sortV (p : VI F) : VI F :=
  (storeIdx (F := F) (s := S16) (e := .f32) p.1 ![minsi (rkN p.1 16) (bc 15#32)] p.1 (fun _ => 1#1) false (rk_in p.1),
   storeIdx (F := F) (s := S16) (e := .i32) p.2 ![minsi (rkN p.1 16) (bc 15#32)] p.2 (fun _ => 1#1) false (rk_in p.1))
/-- Words sorted. -/
def sortIV (v : IVec S16 32) : IVec S16 32 :=
  storeIdx (F := F) (e := .i32) v ![minsi (rkI v 16) (bc 15#32)] v (fun _ => 1#1) false (rkI_in v)
/-- A vector reversed. -/
def revV {α : Type} (v : S16.Idx → α) : S16.Idx → α := fun l => v (ix16 (15 - (l 0).val))
/-- A vector of pairs reversed. -/
def revB (p : VI F) : VI F := (revV p.1, revV p.2)

/-- The two steps of a merge of two vectors. -/
def bm32V (a b : VI F) : VI F × VI F := (sortV (hiP a b), sortV (loP a b))
def m16V (a b : VI F) : VI F × VI F := bm32V a (revB b)
def m32V (a b : VI F × VI F) : Blk F :=
  let h := bm32V (hiP a.1 (revB b.2)) (hiP a.2 (revB b.1))
  let l := bm32V (loP a.1 (revB b.2)) (loP a.2 (revB b.1))
  ⟨h.1, h.2, l.1, l.2⟩
/-- A block sorted. -/
def sort64V (b : Blk F) : Blk F := m32V (m16V (sortV b.a) (sortV b.b)) (m16V (sortV b.c) (sortV b.d))
/-- The first of two sorted blocks. -/
def top64V (s b : Blk F) : Blk F :=
  let h0 := hiP s.a (revB b.d)
  let h1 := hiP s.b (revB b.c)
  let h2 := hiP s.c (revB b.b)
  let h3 := hiP s.d (revB b.a)
  let t := bm32V (hiP h0 h2) (hiP h1 h3)
  let u := bm32V (loP h0 h2) (loP h1 h3)
  ⟨t.1, t.2, u.1, u.2⟩

theorem load_bc {e : EltTy} (v : Vec F S16 e) (k : Nat) (hk : k < 16) (h : ∀ a x, ((![bc (BitVec.ofNat 32 k)] : Fin 1 → IVec S16 32) a x).toNat < S16.size a) :
    loadIdx v ![bc (BitVec.ofNat 32 k)] h = fun _ => v (ix16 k) := by
  funext x
  change v _ = v _
  congr 1
  funext a
  have : a = 0 := Fin.eq_zero a
  subst this
  apply Fin.ext
  change (BitVec.ofNat 32 k).toNat = k % 16
  rw [BitVec.toNat_ofNat]; omega

theorem load_rev {e : EltTy} (v : Vec F S16 e) (h : ∀ a x, ((![subi (bc 15#32) lanes] : Fin 1 → IVec S16 32) a x).toNat < S16.size a) :
    loadIdx v ![subi (bc 15#32) lanes] h = revV v := by
  funext x
  change v _ = v _
  congr 1
  funext a
  have : a = 0 := Fin.eq_zero a
  subst this
  apply Fin.ext
  change (15#32 - BitVec.ofNat 32 (0 * 16 + (x 0).val)).toNat = (15 - (x 0).val) % 16
  have hx : (x 0).val < 16 := (x 0).isLt
  rw [BitVec.toNat_sub, BitVec.toNat_ofNat]
  have : (15#32).toNat = 15 := rfl
  omega

theorem iv01 (k : Nat) : Scf.iv 0#32 1#32 k = BitVec.ofNat 32 k := by simp [Scf.iv]

theorem iv_in (k : Nat) (h : k < 16) : ck16 (bc (Scf.iv 0#32 1#32 k)) := by rw [iv01]; exact bc_in k h

theorem load_iv {e : EltTy} (v : Vec F S16 e) (k : Nat) (hk : k < 16) (h : ∀ a x, ((![bc (Scf.iv 0#32 1#32 k)] : Fin 1 → IVec S16 32) a x).toNat < S16.size a) :
    loadIdx v ![bc (Scf.iv 0#32 1#32 k)] h = fun _ => v (ix16 k) := by
  have := load_bc v k hk (bc_in k hk)
  rw [← this]
  funext x; change v _ = v _
  congr 1; funext a; apply Fin.ext
  have : a = 0 := Fin.eq_zero a
  subst this
  change (Scf.iv 0#32 1#32 k).toNat = (BitVec.ofNat 32 k).toNat
  rw [iv01]

theorem ov0 {α : Type} (X w : S16.Idx → α) : R0.overlay X w = w := by
  funext j
  have h := Rect.overlay_emb R0 X w j
  have e : R0.emb j = j := by
    funext a; apply Fin.ext
    have : a = 0 := Fin.eq_zero a
    subst this
    change 0 + 1 * (j 0).val = (j 0).val
    omega
  rwa [e] at h

theorem rd0 {α : Type} (X : S16.Idx → α) : (fun j => X (R0.emb j)) = X := by
  funext j
  have e : R0.emb j = j := by
    funext a; apply Fin.ext
    have : a = 0 := Fin.eq_zero a
    subst this
    change 0 + 1 * (j 0).val = (j 0).val
    omega
  rw [e]

end Cert.Proof.Sc
-- ==== Proof.Sc.Wp1.lean ====
/- The sorts and merges of a vector subcore run: what each leaves. -/
module

public import proofs.«01_k».proof.Proof.Sc.Vals

@[expose] public section

noncomputable section

namespace Cert.Proof.Sc

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Facts₀ Cert.KernelIdeal.Facts

variable {Ix : Type} [DecidableEq Ix]
variable {F : FTy → Type} [FloatOps F] {Name : Type} [DecidableEq Name]
variable {U : Type} [URA U] {Lvl : Type} [Preorder Lvl]
variable {defs : Defs nD τ sig (Elt F) Λ₀} (𝒱 : Variants) (d : Dev nD) (i : grid0.Coords) (bd : Option 𝒱.V) (E : Set Name)

local notation "𝕄" => MT nD τ sig Ix (Elt F) Name U Lvl

/-- The vector subcore's thread. -/
abbrev th (d : Dev nD) (i : grid0.Coords) : Thread nD τ := (d, .scVector ((i 0).castLE hcore0) ((i 1).castLE hsub0))

local notation "W" => wp frame (wpE defs 𝒱 (th d i) bd) E

/-- The sort scratch, holding anything. -/
def scr (tv : MV S16 .f32) (ti : MV S16 .i32) : sProp 𝕄 :=
  iprop((∃ X, own (F := F) (th d i) tv X) ∗ (∃ Y, own (F := F) (th d i) ti Y))

variable {α : Type} {Q : α → sProp (MT nD τ sig Ix (Elt F) Name U Lvl)}

/-- A gather of known value. -/
theorem wp_gatherV {s t : Shape} {e : EltTy} {base : MV s e} {idxs : Fin s.rank → IVec t 32}
    {h : ∀ a x, (idxs a x).toNat < s.size a} {hl : base.view.Loads} {k : Vec F t e → TP F i α}
    {X : s.Idx → Elt F e} {Z : Vec F t e} (hz : loadIdx X idxs h = Z) :
    (own (F := F) (th d i) base X : sProp 𝕄)
      ⊢ iprop((own (F := F) (th d i) base X -∗ W (k Z) Q) -∗ W (SparseCore.vectorLoadIdx base idxs h hl >>= k) Q) := by
  subst hz
  exact wp_gatherR (defs := defs) 𝒱 (th d i) bd E

/-- A side condition that holds. -/
theorem wp_chk {P : Prop} {dP : Decidable P} {k : PLift P → TP F i α} (h : P) :
    (W (k ⟨h⟩) Q : sProp 𝕄) ⊢ W (.op (.assume P dP) k) Q := by
  rw [wp_assume_of _ _ _ _ h]

theorem wp_sort (tv : MV S16 .f32) (ti : MV S16 .i32) (p : VI F) (k : VI F → TP F i α) :
    (scr (F := F) d i tv ti : sProp 𝕄)
      ⊢ iprop((scr (F := F) d i tv ti -∗ W (k (sortV p)) Q) -∗ W (sortP tv ti p >>= k) Q) := by
  unfold scr sortP
  iintro ⟨⟨%X, H⟩, ⟨%Y, G⟩⟩ Hk
  simp only [Prog.bind_assoc, Prog.bind_lift, Prog.bind_op, Prog.bind_ret, Prog.pure_eq_ret]
  iapply (wp_loadR (defs := defs) 𝒱 (th d i) bd E) $$ H
  iintro H
  iapply (wp_storeR (defs := defs) 𝒱 (th d i) bd E) $$ H
  iintro H
  iapply (wp_loadR (defs := defs) 𝒱 (th d i) bd E) $$ G
  iintro G
  iapply (wp_storeR (defs := defs) 𝒱 (th d i) bd E) $$ G
  iintro G
  rw [ov0, ov0]
  sl_for (fun n (r : IVec S16 32) => iprop(⌜r = rkN p.1 n⌝ ∗ own (F := F) (th d i) tv p.1)) $$ [H]
  · intro n r
    iintro ⟨%hr, H⟩
    delta wp_sort.sl.prog.body_1
    have hn : n.val < 16 := n.isLt
    rw [wp_assume_of _ _ _ _ (iv_in n.val hn)]
    iapply (wp_gatherV (defs := defs) 𝒱 d i bd E (load_iv p.1 n.val hn (iv_in n.val hn))) $$ H
    iintro H
    rw [wp_ret]
    imodintro
    isplitr
    · ipureintro
      rw [hr, iv01]; rfl
    · iexact H
  · isplitr
    · ipureintro; rfl
    · iexact H
  iintro %r ⟨%hr, H⟩
  have hr' : r = rkN p.1 16 := hr
  subst hr'
  delta wp_sort.sl.prog.cont_1
  iapply (wp_chk (defs := defs) 𝒱 d i bd E (P := ck16b _) ⟨rk_in p.1, rk_in p.1⟩)
  iapply (wp_scatterR (defs := defs) 𝒱 (th d i) bd E) $$ H
  iintro H
  iapply (wp_scatterR (defs := defs) 𝒱 (th d i) bd E) $$ G
  iintro G
  iapply (wp_loadR (defs := defs) 𝒱 (th d i) bd E) $$ H
  iintro H
  iapply (wp_loadR (defs := defs) 𝒱 (th d i) bd E) $$ G
  iintro G
  rw [rd0, rd0]
  iapply Hk
  isplitl [H]
  · iexists _; iexact H
  · iexists _; iexact G

theorem wp_revF (tv : MV S16 .f32) (ti : MV S16 .i32) (v : FVec F S16 .f32) (k : FVec F S16 .f32 → TP F i α) :
    (scr (F := F) d i tv ti : sProp 𝕄)
      ⊢ iprop((scr (F := F) d i tv ti -∗ W (k (revV v)) Q) -∗ W (revP tv v rfl >>= k) Q) := by
  unfold scr revP
  iintro ⟨⟨%X, H⟩, G⟩ Hk
  simp only [Prog.bind_assoc, Prog.bind_lift, Prog.bind_op, Prog.bind_ret, Prog.pure_eq_ret]
  iapply (wp_loadR (defs := defs) 𝒱 (th d i) bd E) $$ H
  iintro H
  iapply (wp_storeR (defs := defs) 𝒱 (th d i) bd E) $$ H
  iintro H
  rw [ov0, wp_assume_of _ _ _ _ rev_in]
  iapply (wp_gatherV (defs := defs) 𝒱 d i bd E (load_rev (F := F) (e := .f32) v rev_in)) $$ H
  iintro H
  iapply Hk
  isplitl [H]
  · iexists _; iexact H
  · iexact G

theorem wp_revI (tv : MV S16 .f32) (ti : MV S16 .i32) (v : IVec S16 32) (k : IVec S16 32 → TP F i α) :
    (scr (F := F) d i tv ti : sProp 𝕄)
      ⊢ iprop((scr (F := F) d i tv ti -∗ W (k (revV v)) Q) -∗ W (revP (e := .i32) ti v rfl >>= k) Q) := by
  unfold scr revP
  iintro ⟨G, ⟨%X, H⟩⟩ Hk
  simp only [Prog.bind_assoc, Prog.bind_lift, Prog.bind_op, Prog.bind_ret, Prog.pure_eq_ret]
  iapply (wp_loadR (defs := defs) 𝒱 (th d i) bd E) $$ H
  iintro H
  iapply (wp_storeR (defs := defs) 𝒱 (th d i) bd E) $$ H
  iintro H
  rw [ov0, wp_assume_of _ _ _ _ rev_in]
  iapply (wp_gatherV (defs := defs) 𝒱 d i bd E (load_rev (F := F) (e := .i32) v rev_in)) $$ H
  iintro H
  iapply Hk
  isplitl [G]
  · iexact G
  · iexists _; iexact H

theorem wp_bm32 (tv : MV S16 .f32) (ti : MV S16 .i32) (a b : VI F) (k : VI F × VI F → TP F i α) :
    (scr (F := F) d i tv ti : sProp 𝕄)
      ⊢ iprop((scr (F := F) d i tv ti -∗ W (k (bm32V a b)) Q) -∗ W (bm32P tv ti a b >>= k) Q) := by
  unfold bm32P
  iintro H Hk
  simp only [Prog.bind_assoc, Prog.bind_ret, Prog.pure_eq_ret]
  iapply (wp_sort (defs := defs) 𝒱 d i bd E) $$ H
  iintro H
  iapply (wp_sort (defs := defs) 𝒱 d i bd E) $$ H
  iexact Hk

theorem wp_m16 (tv : MV S16 .f32) (ti : MV S16 .i32) (a b : VI F) (k : VI F × VI F → TP F i α) :
    (scr (F := F) d i tv ti : sProp 𝕄)
      ⊢ iprop((scr (F := F) d i tv ti -∗ W (k (m16V a b)) Q) -∗ W (m16P tv ti a b >>= k) Q) := by
  unfold m16P
  iintro H Hk
  simp only [Prog.bind_assoc, Prog.bind_ret, Prog.pure_eq_ret]
  iapply (wp_revF (defs := defs) 𝒱 d i bd E) $$ H
  iintro H
  iapply (wp_revI (defs := defs) 𝒱 d i bd E) $$ H
  iintro H
  iapply (wp_bm32 (defs := defs) 𝒱 d i bd E) $$ H
  iexact Hk

theorem wp_m32 (tv : MV S16 .f32) (ti : MV S16 .i32) (a b : VI F × VI F) (k : Blk F → TP F i α) :
    (scr (F := F) d i tv ti : sProp 𝕄)
      ⊢ iprop((scr (F := F) d i tv ti -∗ W (k (m32V a b)) Q) -∗ W (m32P tv ti a b >>= k) Q) := by
  unfold m32P
  iintro H Hk
  simp only [Prog.bind_assoc, Prog.bind_ret, Prog.pure_eq_ret]
  iapply (wp_revF (defs := defs) 𝒱 d i bd E) $$ H
  iintro H
  iapply (wp_revF (defs := defs) 𝒱 d i bd E) $$ H
  iintro H
  iapply (wp_revI (defs := defs) 𝒱 d i bd E) $$ H
  iintro H
  iapply (wp_revI (defs := defs) 𝒱 d i bd E) $$ H
  iintro H
  iapply (wp_bm32 (defs := defs) 𝒱 d i bd E) $$ H
  iintro H
  iapply (wp_bm32 (defs := defs) 𝒱 d i bd E) $$ H
  iexact Hk

theorem wp_sort64 (tv : MV S16 .f32) (ti : MV S16 .i32) (b : Blk F) (k : Blk F → TP F i α) :
    (scr (F := F) d i tv ti : sProp 𝕄)
      ⊢ iprop((scr (F := F) d i tv ti -∗ W (k (sort64V b)) Q) -∗ W (sort64P tv ti b >>= k) Q) := by
  unfold sort64P
  iintro H Hk
  simp only [Prog.bind_assoc, Prog.bind_ret, Prog.pure_eq_ret]
  iapply (wp_sort (defs := defs) 𝒱 d i bd E) $$ H
  iintro H
  iapply (wp_sort (defs := defs) 𝒱 d i bd E) $$ H
  iintro H
  iapply (wp_sort (defs := defs) 𝒱 d i bd E) $$ H
  iintro H
  iapply (wp_sort (defs := defs) 𝒱 d i bd E) $$ H
  iintro H
  iapply (wp_m16 (defs := defs) 𝒱 d i bd E) $$ H
  iintro H
  iapply (wp_m16 (defs := defs) 𝒱 d i bd E) $$ H
  iintro H
  iapply (wp_m32 (defs := defs) 𝒱 d i bd E) $$ H
  iexact Hk

theorem wp_top64 (tv : MV S16 .f32) (ti : MV S16 .i32) (s b : Blk F) (k : Blk F → TP F i α) :
    (scr (F := F) d i tv ti : sProp 𝕄)
      ⊢ iprop((scr (F := F) d i tv ti -∗ W (k (top64V s b)) Q) -∗ W (top64P tv ti s b >>= k) Q) := by
  unfold top64P
  iintro H Hk
  simp only [Prog.bind_assoc, Prog.bind_ret, Prog.pure_eq_ret]
  iapply (wp_revF (defs := defs) 𝒱 d i bd E) $$ H
  iintro H
  iapply (wp_revF (defs := defs) 𝒱 d i bd E) $$ H
  iintro H
  iapply (wp_revF (defs := defs) 𝒱 d i bd E) $$ H
  iintro H
  iapply (wp_revF (defs := defs) 𝒱 d i bd E) $$ H
  iintro H
  iapply (wp_revI (defs := defs) 𝒱 d i bd E) $$ H
  iintro H
  iapply (wp_revI (defs := defs) 𝒱 d i bd E) $$ H
  iintro H
  iapply (wp_revI (defs := defs) 𝒱 d i bd E) $$ H
  iintro H
  iapply (wp_revI (defs := defs) 𝒱 d i bd E) $$ H
  iintro H
  iapply (wp_bm32 (defs := defs) 𝒱 d i bd E) $$ H
  iintro H
  iapply (wp_bm32 (defs := defs) 𝒱 d i bd E) $$ H
  iexact Hk

end Cert.Proof.Sc
-- ==== Proof.Sc.Vals2.lean ====
/- What a row's scans, blocks and tail compute, and the bounds its index checks ask for. -/
module

public import proofs.«01_k».proof.Proof.Sc.Vals
public import Idealize.ShloMosaic.Lib.LoopRemainder

@[expose] public section

noncomputable section

namespace Cert.Proof.Sc

open Idealize.ShloMosaic Idealize.SL.Sem
open Cert.KernelIdeal Cert.KernelIdeal.Facts₀ Cert.KernelIdeal.Facts

variable {F : FTy → Type} [FloatOps F]

/-- The first `n` of `T` steps. -/
def iterN {σ : Type} {T : Nat} (f : Fin T → σ → σ) (x : σ) : Nat → σ
  | 0 => x
  | n + 1 => if h : n < T then f ⟨n, h⟩ (iterN f x n) else iterN f x n

theorem iterN_succ {σ : Type} {T : Nat} (f : Fin T → σ → σ) (x : σ) (k : Fin T) : iterN f x (k.val + 1) = f k (iterN f x k.val) := by
  simp only [iterN, dif_pos k.isLt]

/-- 16 words of an array. -/
def rd {α : Type} {s : Shape} (X : s.Idx → α) (o n : Fin s.rank → Nat) (h : ∀ a, o a + n a ≤ s.size a) : (Rect.unit (s := s) o n h).shape.Idx → α :=
  fun j => X ((Rect.unit (s := s) o n h).emb j)

/-! ## The column maxima -/

abbrev Q4 (F : FTy → Type) := FVec F S16 .f32 × FVec F S16 .f32 × FVec F S16 .f32 × FVec F S16 .f32

def paStep (X : Vec F S100096 .f32) (k : Fin k0_t2_loop.trips) (a : Q4 F) : Q4 F :=
  (maximumf a.1 (rd X (k0_off2 k 0#32) S16.size (k0_off2_inb k 0)), maximumf a.2.1 (rd X (k0_off2 k 16#32) S16.size (k0_off2_inb k 1)),
   maximumf a.2.2.1 (rd X (k0_off2 k 32#32) S16.size (k0_off2_inb k 2)), maximumf a.2.2.2 (rd X (k0_off2 k 48#32) S16.size (k0_off2_inb k 3)))
def paN (X : Vec F S100096 .f32) (n : Nat) : Q4 F := iterN (paStep X) (negs, negs, negs, negs) n

/-! ## Counts -/

/-- The count of a mask's first lanes, up to `n`. -/
def cs (m : IVec S16 1) : Nat → BitVec 32
  | 0 => (m (ix16 0)).setWidth 32
  | n + 1 => cs m n + (m (ix16 (n + 1))).setWidth 32

theorem ofLane_ix (k : Fin 16) : (Shape.ofLane (d := ![16]) k : S16.Idx) = ix16 k.val := by
  funext a
  have : a = 0 := Fin.eq_zero a
  subst this
  apply Fin.ext
  change k.val = k.val % 16
  omega

theorem csum_eq (m : IVec S16 1) (l : S16.Idx) : csum m l = cs m (l 0).val := by
  have e : ∀ k : Fin 16, (extui 32 m natLt_1_32 : IVec S16 32) (Shape.ofLane (d := ![16]) k) = (m (ix16 k.val)).setWidth 32 := by
    intro k
    change (m (Shape.ofLane (d := ![16]) k)).setWidth 32 = _
    exact congrArg (fun i => (m i).setWidth 32) (ofLane_ix k)
  obtain ⟨n, hn⟩ : ∃ n : Fin 16, l 0 = n := ⟨l 0, rfl⟩
  unfold csum scan
  simp only [ScanKind.step]
  rw [hn]
  change (((List.finRange 16).filter fun k => decide (0 < k.val ∧ k.val ≤ n.val)).foldl (fun r k => IntOp.addi r ((extui 32 m natLt_1_32 : IVec S16 32) (Shape.ofLane (d := ![16]) k)))
    ((extui 32 m natLt_1_32 : IVec S16 32) (Shape.ofLane (d := ![16]) (0 : Fin 16)))) = _
  simp only [e]
  clear hn
  fin_cases n <;> rfl

theorem cs_nat (m : IVec S16 1) : ∀ n, n < 16 → (cs m n).toNat = ((Finset.range (n + 1)).filter fun j => m (ix16 j) = 1#1).card
  | 0, _ => by
    have h : ∀ b : BitVec 1, (b.setWidth 32).toNat = if b = 1#1 then 1 else 0 := by decide
    simp only [cs, h]
    rw [Finset.range_one, Finset.filter_singleton]
    split <;> simp
  | n + 1, hn => by
    have h : ∀ b : BitVec 1, (b.setWidth 32).toNat = if b = 1#1 then 1 else 0 := by decide
    have ih := cs_nat m n (by omega)
    have hle : ((Finset.range (n + 1)).filter fun j => m (ix16 j) = 1#1).card ≤ n + 1 := (Finset.card_filter_le _ _).trans (by simp)
    simp only [cs]
    rw [BitVec.toNat_add, ih, h, Finset.range_add_one (n := n + 1), Finset.filter_insert]
    split
    · rw [Finset.card_insert_of_notMem (by simp)]; omega
    · omega

theorem cs_le (m : IVec S16 1) (n : Nat) (hn : n < 16) : (cs m n).toNat ≤ n + 1 := by
  rw [cs_nat m n hn]; exact (Finset.card_filter_le _ _).trans (by simp)

theorem csum_le (m : IVec S16 1) (l : S16.Idx) : (csum m l).toNat ≤ 16 := by
  rw [csum_eq]; have h : (l 0).val < 16 := (l 0).isLt
  exact (cs_le m _ h).trans (by omega)

theorem cnt16_eq (m : IVec S16 1) : cnt16 m = cs m 15 := by
  have h : ∀ i : S16.Idx, (i 0).val = 15 → csum m i = cs m 15 := fun i hi => by rw [csum_eq, hi]
  unfold cnt16 extractAt
  exact h _ rfl

theorem cnt16_le (m : IVec S16 1) : (cnt16 m).toNat ≤ 16 := by rw [cnt16_eq]; exact cs_le m 15 (by decide)

/-! ## The candidates -/

/-- The fill's words. -/
def negF : F .f32 := Scalar.ofBits .f32 0xFF800000#32

theorem dest_in (pre : IVec S16 32) (m : IVec S16 1) : ∀ a x, ((![dest pre m] : Fin 1 → IVec S16 32) a x).toNat < S4224.size a := by
  intro a x
  have : a = 0 := Fin.eq_zero a
  subst this
  change (IntOp.maxsi (IntOp.minsi _ 4095#32) 0#32).toNat < 4224
  have := clamp_lt (subi (addi pre (csum m)) (bc 1#32) x) 4095#32 (by decide)
  have h : (4095#32).toNat = 4095 := rfl
  omega

/-- The candidates so far: values, indices, their number, the lanes' indices. -/
structure PB (F : FTy → Type) where
  cv : Vec F S4224 .f32
  ci : IVec S4224 32
  cur : IVec S16 32
  ix : IVec S16 32

/-- 16 words taken in. -/
def putV (s : PB F) (x : FVec F S16 .f32) (m : IVec S16 1) (b : BitVec 32) : PB F :=
  { cv := storeIdx (F := F) (s := S4224) (e := .f32) s.cv ![dest s.cur m] x m false (dest_in s.cur m)
    ci := storeIdx (F := F) (s := S4224) (e := .i32) s.ci ![dest s.cur m] (addi s.ix (bc b)) m false (dest_in s.cur m)
    cur := adv s.cur m
    ix := s.ix }

/-- 16 words of the row at a trip. -/
def pbX (X : Vec F S100096 .f32) (k : Fin k0_t4_loop.trips) (r : Fin 8) : FVec F S16 .f32 := rd X (k0_off4 k (BitVec.ofNat 32 (16 * r.val))) S16.size (k0_off4_inb k r)

def pbPut (X : Vec F S100096 .f32) (t : FVec F S16 .f32) (k : Fin k0_t4_loop.trips) (s : PB F) (r : Fin 8) : PB F :=
  putV s (pbX X k r) (ge (pbX X k r) t) (BitVec.ofNat 32 (16 * r.val))

def pbStep (X : Vec F S100096 .f32) (t : FVec F S16 .f32) (k : Fin k0_t4_loop.trips) (s : PB F) : PB F :=
  let s' := pbPut X t k (pbPut X t k (pbPut X t k (pbPut X t k (pbPut X t k (pbPut X t k (pbPut X t k (pbPut X t k s 0) 1) 2) 3) 4) 5) 6) 7
  { s' with cur := minsi s'.cur (bc 4096#32), ix := addi s'.ix (bc 128#32) }

def pb0 : PB F := ⟨fun _ => negF, fun _ => 2147483647#32, bc 0#32, lanes⟩
def pbN (X : Vec F S100096 .f32) (t : FVec F S16 .f32) (n : Nat) : PB F := iterN (pbStep X t) pb0 n

/-- Every lane holds one small number. -/
def Small (b : Nat) (v : IVec S16 32) : Prop := ∃ n : BitVec 32, v = bc n ∧ n.toNat ≤ b

theorem adv_small {b : Nat} (hb : b + 16 < 4294967296) {v : IVec S16 32} (h : Small b v) (m : IVec S16 1) : Small (b + 16) (adv v m) := by
  obtain ⟨n, rfl, hn⟩ := h
  refine ⟨n + cnt16 m, by unfold adv; generalize cnt16 m = c; rfl, ?_⟩
  have := cnt16_le m
  generalize cnt16 m = c at this
  rw [BitVec.toNat_add, Nat.mod_eq_of_lt (by omega)]; omega

theorem minsi_small {v : IVec S16 32} (h : Small (4096 + 128) v) : Small 4096 (minsi v (bc 4096#32)) := by
  obtain ⟨n, rfl, hle⟩ := h
  refine ⟨IntOp.minsi n 4096#32, rfl, ?_⟩
  rw [minsi_nat _ _ (by omega) (by decide)]
  have : (4096#32).toNat = 4096 := rfl
  omega

theorem pbPut_small {b : Nat} (hb : b + 16 < 4294967296) (X : Vec F S100096 .f32) (t : FVec F S16 .f32) (k : Fin k0_t4_loop.trips) (s : PB F) (h : Small b s.cur) (r : Fin 8) :
    Small (b + 16) (pbPut X t k s r).cur := by
  unfold pbPut putV
  exact adv_small hb h _

theorem pbStep_small (X : Vec F S100096 .f32) (t : FVec F S16 .f32) (k : Fin k0_t4_loop.trips) (s : PB F) (h : Small 4096 s.cur) : Small 4096 (pbStep X t k s).cur := by
  have h0 := pbPut_small (by decide) X t k s h 0
  have h1 := pbPut_small (by decide) X t k _ h0 1
  have h2 := pbPut_small (by decide) X t k _ h1 2
  have h3 := pbPut_small (by decide) X t k _ h2 3
  have h4 := pbPut_small (by decide) X t k _ h3 4
  have h5 := pbPut_small (by decide) X t k _ h4 5
  have h6 := pbPut_small (by decide) X t k _ h5 6
  have h7 := pbPut_small (by decide) X t k _ h6 7
  unfold pbStep
  exact minsi_small h7

theorem pbN_small (X : Vec F S100096 .f32) (t : FVec F S16 .f32) : ∀ n, Small 4096 (pbN X t n).cur
  | 0 => ⟨0#32, rfl, by decide⟩
  | n + 1 => by
    have ih := pbN_small X t n
    unfold pbN iterN
    split
    · exact pbStep_small X t _ _ ih
    · exact ih

theorem max16_bc (n : BitVec 32) : max16 (bc n) = n := by
  have key : ∀ (c : BitVec 32) (l : List (Fin 16)), l.foldl (fun r _ => IntOp.maxui r c) c = c := by
    intro c l
    induction l with
    | nil => rfl
    | cons a l ih => rw [List.foldl_cons]; simp only [IntOp.maxui, ite_self] at ih ⊢; exact ih
  have := key (n ^^^ 2147483648#32) ((List.finRange 16).filter fun k => decide (0 < k.val ∧ k.val ≤ 15))
  have h : max16 (bc n) = (List.foldl (fun r _ => IntOp.maxui r (n ^^^ 2147483648#32)) (n ^^^ 2147483648#32) ((List.finRange 16).filter fun k => decide (0 < k.val ∧ k.val ≤ 15))) ^^^ 2147483648#32 := rfl
  rw [h, this, BitVec.xor_assoc, BitVec.xor_self, BitVec.xor_zero]

/-! ## The blocks -/

theorem t17_ub : ∀ c : Fin 4097, (k0_t17_loop (BitVec.ofNat 32 c.val)).ub = BitVec.ofNat 32 ((c.val + 63) / 64) := by
  decide +kernel

theorem t17_trips (v : BitVec 32) (h : v.toNat ≤ 4096) : (k0_t17_loop v).trips = (v.toNat + 63) / 64 - 1 := by
  have e : v = BitVec.ofNat 32 v.toNat := by simp
  have hu := t17_ub ⟨v.toNat, by omega⟩
  rw [← e] at hu
  have hub : (k0_t17_loop v).ub.toInt = ((v.toNat + 63) / 64 : Nat) := by
    replace hu : (k0_t17_loop v).ub = BitVec.ofNat 32 ((v.toNat + 63) / 64) := hu
    rw [congrArg BitVec.toInt hu, BitVec.toInt_eq_toNat_of_lt] <;> rw [BitVec.toNat_ofNat] <;> omega
  change Scf.trips 1#32 (k0_t17_loop v).ub 1#32 = _
  unfold Scf.trips
  rw [hub]
  have : (1#32).toInt = 1 := by decide
  rw [this]
  omega

theorem t34_trips (v : BitVec 32) : (k0_t34_loop v).trips = 0 := Scf.rem_trips _ _

theorem off6_val (v : BitVec 32) (k : Fin (k0_t17_loop v).trips) (hk : k.val < 64) (b : BitVec 32) (hb : b.toNat ≤ 64) : k0_off6 v k b 0 = 64 * (k.val + 1) + b.toNat := by
  change ((1#32 + BitVec.ofNat 32 k.val * 1#32) * 64#32 + b).toNat = _
  simp only [BitVec.toNat_add, BitVec.toNat_mul, BitVec.toNat_ofNat]
  omega

theorem chk41 (v : BitVec 32) (h : v.toNat ≤ 4096) : k0_chk41 v := by
  refine ⟨?_, ?_, ?_, ?_⟩
  · have e : v = BitVec.ofNat 32 v.toNat := by simp
    have hu := t17_ub ⟨v.toNat, by omega⟩
    rw [← e] at hu
    have hub : (k0_t17_loop v).ub.toInt = ((v.toNat + 63) / 64 : Nat) := by
      replace hu : (k0_t17_loop v).ub = BitVec.ofNat 32 ((v.toNat + 63) / 64) := hu
      rw [congrArg BitVec.toInt hu, BitVec.toInt_eq_toNat_of_lt] <;> rw [BitVec.toNat_ofNat] <;> omega
    have ht := t17_trips v h
    change Scf.OK 1#32 (k0_t17_loop v).ub 1#32
    change Scf.trips 1#32 (k0_t17_loop v).ub 1#32 = _ at ht
    unfold Scf.OK
    rw [ht]
    have : (1#32).toInt = 1 := by decide
    rw [this]
    refine ⟨by decide, ?_⟩
    have e : (2 : Int) ^ (32 - 1) = 2147483648 := by decide
    rw [e]
    omega
  · intro k r a
    have ht := t17_trips v h
    have hk := k.isLt
    have : a = 0 := Fin.eq_zero a
    subst this
    have hb : (BitVec.ofNat 32 (16 * r.val)).toNat = 16 * r.val := by rw [BitVec.toNat_ofNat]; omega
    rw [off6_val v k (by omega) _ (by omega)]
    change _ + 16 ≤ 4224
    omega
  · exact Scf.rem_ok _ _
  · intro k; have h1 := k.isLt; have h2 := t34_trips v; omega

def blkV (cv : Vec F S4224 .f32) (ci : IVec S4224 32) (o : BitVec 32 → Fin 1 → Nat)
    (h : ∀ (r : Fin 4), ∀ a, o (BitVec.ofNat 32 (16 * r.val)) a + S16.size a ≤ S4224.size a) : Blk F :=
  ⟨(rd cv (o 0#32) S16.size (h 0), rd ci (o 0#32) S16.size (h 0)), (rd cv (o 16#32) S16.size (h 1), rd ci (o 16#32) S16.size (h 1)),
   (rd cv (o 32#32) S16.size (h 2), rd ci (o 32#32) S16.size (h 2)), (rd cv (o 48#32) S16.size (h 3), rd ci (o 48#32) S16.size (h 3))⟩

def blkN (cv : Vec F S4224 .f32) (ci : IVec S4224 32) (cur : BitVec 32) (hc : k0_chk41 cur) (n : Nat) : Blk F :=
  iterN (fun k b => top64V b (sort64V (blkV cv ci (k0_off6 cur k) (k0_off6_inb cur hc k)))) (sort64V (blkV cv ci k0_off5 k0_off5_inb)) n

/-! ## The tail -/

/-- The best values in order. -/
def sbV (b : Blk F) : Vec F S64 .f32 := fun j =>
  if (j 0).val < 16 then b.a.1 (ix16 (j 0).val) else if (j 0).val < 32 then b.b.1 (ix16 (j 0).val) else if (j 0).val < 48 then b.c.1 (ix16 (j 0).val) else b.d.1 (ix16 (j 0).val)

/-- Place `n` of 64. -/
def ix64 (n : Nat) : S64.Idx := fun a => ⟨n % 64, by fin_cases a; exact Nat.mod_lt _ (by decide)⟩

theorem mth_pos (q : Q4 F) : 1 ≤ (mth q).toNat ∧ (mth q).toNat ≤ 65 := by
  unfold mth cntLe
  simp only []
  generalize hx : cnt16 (cmpf .ole (cumsum16 q.1) (broadcast S16 (Scalar.ofBits .f32 0x3F666666#32))) = x
  generalize hy : cnt16 (cmpf .ole (addf (cumsum16 q.2.1) _) _) = y
  generalize hz : cnt16 (cmpf .ole (addf (cumsum16 q.2.2.1) _) _) = z
  generalize hw : cnt16 (cmpf .ole (addf (cumsum16 q.2.2.2) _) _) = w
  have h1 : x.toNat ≤ 16 := hx ▸ cnt16_le _
  have h2 : y.toNat ≤ 16 := hy ▸ cnt16_le _
  have h3 : z.toNat ≤ 16 := hz ▸ cnt16_le _
  have h4 : w.toNat ≤ 16 := hw ▸ cnt16_le _
  change 1 ≤ (0#32 + x + y + z + w + 1#32).toNat ∧ (0#32 + x + y + z + w + 1#32).toNat ≤ 65
  simp only [BitVec.toNat_add, BitVec.toNat_ofNat]
  omega

theorem cIx_in (m : BitVec 32) (h : 1 ≤ m.toNat ∧ m.toNat ≤ 65) : ∀ a x, ((![cIx m] : Fin 1 → IVec S16 32) a x).toNat < S64.size a := by
  intro a x
  have : a = 0 := Fin.eq_zero a
  subst this
  change (IntOp.minsi (m - 1#32) 63#32).toNat < 64
  have : (m - 1#32).toNat = m.toNat - 1 := by rw [BitVec.toNat_sub, BitVec.toNat_ofNat]; omega
  rw [minsi_nat _ _ (by omega) (by decide)]
  have : (63#32).toNat = 63 := rfl
  omega

theorem destE_in (e : BitVec 32) (he : e.toNat ≤ 64) (m : IVec S16 1) : ∀ a x, ((![destE e m] : Fin 1 → IVec S16 32) a x).toNat < S96.size a := by
  intro a x
  have : a = 0 := Fin.eq_zero a
  subst this
  change (IntOp.maxsi (e + csum m x - 1#32) 0#32).toNat < 96
  have := csum_le m x
  by_cases h0 : (e + csum m x).toNat = 0
  · have : e + csum m x = 0#32 := BitVec.eq_of_toNat_eq h0
    rw [this]; decide
  · have h1 : (e + csum m x).toNat = e.toNat + (csum m x).toNat := by rw [BitVec.toNat_add]; omega
    have h2 : (e + csum m x - 1#32).toNat = e.toNat + (csum m x).toNat - 1 := by rw [BitVec.toNat_sub, BitVec.toNat_ofNat]; omega
    rw [maxsi_nat _ _ (by omega) (by decide)]
    have : (0#32).toNat = 0 := rfl
    omega

/-- The equals' masks and counts. -/
def eqm (c v : FVec F S16 .f32) : IVec S16 1 := cmpf .oeq v c

/-- The number of equals wanted. -/
def nOf (b : Blk F) (c : FVec F S16 .f32) (m : BitVec 32) : BitVec 32 :=
  Scalar.subi m (Scalar.addi (Scalar.addi (Scalar.addi (Scalar.addi 0#32 (cntGt b.a.1 c)) (cntGt b.b.1 c)) (cntGt b.c.1 c)) (cntGt b.d.1 c))

/-- The place of the bound among the equals. -/
def jOf (n : BitVec 32) : BitVec 32 := Scalar.maxsi (Scalar.subi (Scalar.minsi n 16#32) 1#32) 0#32

theorem jOf_in (b : Blk F) (c : FVec F S16 .f32) (m : BitVec 32) (h : 1 ≤ m.toNat ∧ m.toNat ≤ 65) : (jOf (nOf b c m)).toNat < 16 := by
  unfold nOf cntGt
  generalize hx : cnt16 (cmpf .ogt b.a.1 c) = x
  generalize hy : cnt16 (cmpf .ogt b.b.1 c) = y
  generalize hz : cnt16 (cmpf .ogt b.c.1 c) = z
  generalize hw : cnt16 (cmpf .ogt b.d.1 c) = w
  have h1 : x.toNat ≤ 16 := hx ▸ cnt16_le _
  have h2 : y.toNat ≤ 16 := hy ▸ cnt16_le _
  have h3 : z.toNat ≤ 16 := hz ▸ cnt16_le _
  have h4 : w.toNat ≤ 16 := hw ▸ cnt16_le _
  have hs : (0#32 + x + y + z + w).toNat ≤ 64 := by
    simp only [BitVec.toNat_add, BitVec.toNat_ofNat]; omega
  change (IntOp.maxsi (IntOp.minsi (m - (0#32 + x + y + z + w)) 16#32 - 1#32) 0#32).toNat < 16
  generalize (0#32 + x + y + z + w) = s at hs
  by_cases hle : s.toNat ≤ m.toNat
  · have e : (m - s).toNat = m.toNat - s.toNat := by rw [BitVec.toNat_sub]; omega
    have e2 : (IntOp.minsi (m - s) 16#32).toNat = min (m.toNat - s.toNat) 16 := by
      rw [minsi_nat _ _ (by omega) (by decide), e]; rfl
    by_cases h0 : m.toNat - s.toNat = 0
    · have : IntOp.minsi (m - s) 16#32 = 0#32 := BitVec.eq_of_toNat_eq (by rw [e2, h0]; rfl)
      rw [this]; decide
    · have e3 : (IntOp.minsi (m - s) 16#32 - 1#32).toNat = min (m.toNat - s.toNat) 16 - 1 := by
        rw [BitVec.toNat_sub, e2, BitVec.toNat_ofNat]; omega
      rw [maxsi_nat _ _ (by omega) (by decide), e3]
      have : (0#32).toNat = 0 := rfl
      omega
  · have e : (m - s).toInt = (m.toNat : Int) - s.toNat := by
      have e1 : (m - s).toNat = 2 ^ 32 + m.toNat - s.toNat := by rw [BitVec.toNat_sub]; omega
      rw [BitVec.toInt_eq_toNat_cond, e1]; omega
    have hm : IntOp.minsi (m - s) 16#32 = m - s := by
      simp only [IntOp.minsi, BitVec.slt, e]
      rw [if_pos]
      have : (16#32).toInt = 16 := by decide
      simp only [this, decide_eq_true_eq]; omega
    have e1 : (m - s).toNat = 2 ^ 32 + m.toNat - s.toNat := by rw [BitVec.toNat_sub]; omega
    have e2 : (m - s - 1#32).toInt < 0 := by
      rw [BitVec.toInt_eq_toNat_cond, BitVec.toNat_sub, e1, BitVec.toNat_ofNat]; omega
    rw [hm]
    simp only [IntOp.maxsi, BitVec.slt]
    rw [if_neg]
    · decide
    · have : (0#32).toInt = 0 := by decide
      simp only [this, decide_eq_true_eq]; omega

theorem j96_in (b : BitVec 32) (h : b.toNat < 16) : ∀ a x, ((![bc b] : Fin 1 → IVec S16 32) a x).toNat < S96.size a := by
  intro a x
  have : a = 0 := Fin.eq_zero a
  subst this
  change b.toNat < 96
  omega

theorem chk145 (a b c d : IVec S16 1) : k0_chk145 (cnt16 a) (cnt16 b) (cnt16 c) (cnt16 d) := by
  have h1 := cnt16_le a
  have h2 := cnt16_le b
  have h3 := cnt16_le c
  have h4 := cnt16_le d
  intro e
  have : e = 0 := Fin.eq_zero e
  subst this
  change (0#32 + cnt16 a + cnt16 b + cnt16 c + cnt16 d).toNat + 16 ≤ 96
  simp only [BitVec.toNat_add, BitVec.toNat_ofNat]; omega

def eAdd (e : BitVec 32) (m : IVec S16 1) : BitVec 32 := Scalar.addi e (cnt16 m)

theorem eAdd_le (n : Nat) (hn : n ≤ 64) (e : BitVec 32) (he : e.toNat ≤ n) (m : IVec S16 1) : (eAdd e m).toNat ≤ n + 16 := by
  have := cnt16_le m
  change (e + cnt16 m).toNat ≤ _
  rw [BitVec.toNat_add]; omega

/-- The equals' indices gathered, before they are sorted. -/
def ebV (E : IVec S96 32) (b : Blk F) (c : FVec F S16 .f32) : IVec S96 32 :=
  let m0 := eqm c b.a.1
  let m1 := eqm c b.b.1
  let m2 := eqm c b.c.1
  let m3 := eqm c b.d.1
  have h1 : (eAdd 0#32 m0).toNat ≤ 16 := eAdd_le 0 (by decide) _ (by decide) m0
  have h2 : (eAdd (eAdd 0#32 m0) m1).toNat ≤ 32 := eAdd_le 16 (by decide) _ h1 m1
  have h3 : (eAdd (eAdd (eAdd 0#32 m0) m1) m2).toNat ≤ 48 := eAdd_le 32 (by decide) _ h2 m2
  let E1 : IVec S96 32 := storeIdx (F := F) (s := S96) (e := .i32) E ![destE 0#32 m0] b.a.2 m0 false (destE_in _ (by decide) _)
  let E2 : IVec S96 32 := storeIdx (F := F) (s := S96) (e := .i32) E1 ![destE (eAdd 0#32 m0) m1] b.b.2 m1 false (destE_in _ (by omega) _)
  let E3 : IVec S96 32 := storeIdx (F := F) (s := S96) (e := .i32) E2 ![destE (eAdd (eAdd 0#32 m0) m1) m2] b.c.2 m2 false (destE_in _ (by omega) _)
  let E4 : IVec S96 32 := storeIdx (F := F) (s := S96) (e := .i32) E3 ![destE (eAdd (eAdd (eAdd 0#32 m0) m1) m2) m3] b.d.2 m3 false (destE_in _ (by omega) _)
  (Rect.unit (s := S96) (k0_off8 (cnt16 m0) (cnt16 m1) (cnt16 m2) (cnt16 m3)) S16.size (chk145 m0 m1 m2 m3)).overlay E4 (bc 2147483647#32)

/-- The bound on the equals' indices. -/
def bndV (E : IVec S96 32) (b : Blk F) (c : FVec F S16 .f32) (m : BitVec 32) : IVec S16 32 :=
  bc (sortIV (F := F) (rd (ebV E b c) ![0] S16.size inb_S96_S16_0) (ix16 (jOf (nOf b c m)).toNat))

/-- The block of a row's best. -/
def bestV (X : Vec F S100096 .f32) : Blk F :=
  let p := pbN X (thr (paN X k0_t2_loop.trips)) k0_t4_loop.trips
  have h : (max16 p.cur).toNat ≤ 4096 := by
    obtain ⟨n, hn, hle⟩ := pbN_small X (thr (paN X k0_t2_loop.trips)) k0_t4_loop.trips
    change (max16 (pbN X (thr (paN X k0_t2_loop.trips)) k0_t4_loop.trips).cur).toNat ≤ 4096
    rw [hn, max16_bc]; exact hle
  blkN p.cv p.ci (max16 p.cur) (chk41 _ h) (k0_t17_loop (max16 p.cur)).trips

/-- How many a row keeps. -/
def mV (b : Blk F) : BitVec 32 := mOf (fun _ => b.d.1 (ix16 1)) (fun _ => b.a.1 (ix16 0)) b
/-- The cut. -/
def cutV (b : Blk F) : FVec F S16 .f32 := fun _ => sbV b (ix64 (Scalar.minsi (Scalar.subi (mV b) 1#32) 63#32).toNat)

end Cert.Proof.Sc
-- ==== Proof.Sc.Wp2.lean ====
/- A row's scans, blocks and tail run: what each leaves. -/
module

public import proofs.«01_k».proof.Proof.Sc.Wp1
public import proofs.«01_k».proof.Proof.Sc.Vals2

@[expose] public section

noncomputable section

namespace Cert.Proof.Sc

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Facts₀ Cert.KernelIdeal.Facts

/-! ## A store of 16 words -/

theorem overlay16 {α : Type} {N : Nat} (o : Fin 1 → Nat) (h : ∀ a, o a + S16.size a ≤ (⟨1, ![N]⟩ : Shape).size a) (X : (⟨1, ![N]⟩ : Shape).Idx → α)
    (w : (Rect.unit (s := ⟨1, ![N]⟩) o S16.size h).shape.Idx → α) (j : (⟨1, ![N]⟩ : Shape).Idx) :
    (Rect.unit (s := ⟨1, ![N]⟩) o S16.size h).overlay X w j =
      if o 0 ≤ (j 0).val ∧ (j 0).val < o 0 + 16 then w (ix16 ((j 0).val - o 0)) else X j := by
  split
  · next hj =>
    have e : j = (Rect.unit (s := ⟨1, ![N]⟩) o S16.size h).emb (ix16 ((j 0).val - o 0)) := by
      funext a
      have ha : a = 0 := Fin.eq_zero a
      subst ha
      apply Fin.ext
      change (j 0).val = o 0 + 1 * (((j 0).val - o 0) % 16)
      omega
    conv_lhs => rw [e]
    rw [Rect.overlay_emb]
  · next hj =>
    rw [Rect.overlay_of_not_mem]
    intro hm
    obtain ⟨i, rfl⟩ := (Rect.unit (s := ⟨1, ![N]⟩) o S16.size h).exists_idx_of_mem hm
    apply hj
    have hi : (i 0).val < 16 := (i 0).isLt
    change o 0 ≤ o 0 + 1 * (i 0).val ∧ o 0 + 1 * (i 0).val < o 0 + 16
    omega

variable {Ix : Type} [DecidableEq Ix]
variable {F : FTy → Type} [FloatOps F] {Name : Type} [DecidableEq Name]
variable {U : Type} [URA U] {Lvl : Type} [Preorder Lvl]
variable {defs : Defs nD τ sig (Elt F) Λ₀} (𝒱 : Variants) (d : Dev nD) (i : grid0.Coords) (bd : Option 𝒱.V) (E : Set Name)

local notation "𝕄" => MT nD τ sig Ix (Elt F) Name U Lvl
local notation "W" => wp frame (wpE defs 𝒱 (th d i) bd) E

variable {α : Type} {Q : α → sProp (MT nD τ sig Ix (Elt F) Name U Lvl)}

theorem wp_pa (rb : MV S100096 .f32) (X : Vec F S100096 .f32) (k : Q4 F → TP F i α) :
    (own (F := F) (th d i) rb X : sProp 𝕄)
      ⊢ iprop((own (F := F) (th d i) rb X -∗ W (k (paN X k0_t2_loop.trips)) Q) -∗ W (paP rb >>= k) Q) := by
  unfold paP
  iintro H Hk
  simp only [Prog.bind_assoc, Prog.bind_lift, Prog.bind_op, Prog.bind_ret, Prog.pure_eq_ret]
  sl_for (fun n (r : Q4 F) => iprop(⌜r = paN X n⌝ ∗ own (F := F) (th d i) rb X)) $$ [H]
  · intro n r
    iintro ⟨%hr, H⟩
    subst hr
    delta wp_pa.sl.prog.body_1
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    rw [wp_ret]
    imodintro
    isplitr
    · ipureintro
      unfold paN
      rw [iterN_succ]; rfl
    · iexact H
  · isplitr
    · ipureintro; rfl
    · iexact H
  iintro %r ⟨%hr, H⟩
  delta wp_pa.sl.prog.cont_1
  have hr' : r = paN X k0_t2_loop.trips := hr
  subst hr'
  iapply Hk
  iexact H

/-- The first words filled. -/
def Filled {β : Type} (n : Nat) (z : β) (X : S4224.Idx → β) : Prop := ∀ j : S4224.Idx, (j 0).val < n → X j = z

theorem filled_step {β : Type} {n : Nat} {z : β} {X : S4224.Idx → β} (hX : Filled n z X) (o : Fin 1 → Nat) (ho : o 0 = n)
    (h : ∀ a, o a + S16.size a ≤ S4224.size a) : Filled (n + 16) z ((Rect.unit (s := S4224) o S16.size h).overlay X fun _ => z) := by
  intro j hj
  have := overlay16 (N := 4224) o h X (fun _ => z) j
  refine this.trans ?_
  split
  · rfl
  · exact hX j (by omega)

theorem off3_val (k : Fin k0_t3_loop.trips) (b : BitVec 32) (hb : b.toNat ≤ 128) : k0_off3 k b 0 = 128 * k.val + b.toNat := by
  have hk : k.val < 33 := k.isLt
  change ((0#32 + BitVec.ofNat 32 k.val * 1#32) * 128#32 + b).toNat = _
  simp only [BitVec.toNat_add, BitVec.toNat_mul, BitVec.toNat_ofNat]
  omega

/-- The candidates' scratch, filled below `n`. -/
def fld (cv : MV S4224 .f32) (ci : MV S4224 .i32) (n : Nat) : sProp 𝕄 :=
  iprop((∃ X, ⌜Filled n (negF (F := F)) X⌝ ∗ own (F := F) (th d i) cv X) ∗ (∃ Y, ⌜Filled n 2147483647#32 Y⌝ ∗ own (F := F) (th d i) ci Y))

theorem wp_fill1 (cv : MV S4224 .f32) (ci : MV S4224 .i32) (n : Nat) (j : Fin k0_t3_loop.trips) (b : BitVec 32) (h : ∀ a, k0_off3 j b a + S16.size a ≤ S4224.size a)
    (hn : k0_off3 j b 0 = n) (k : PUnit → TP F i α) :
    (fld (F := F) d i cv ci n : sProp 𝕄)
      ⊢ iprop((fld (F := F) d i cv ci (n + 16) -∗ W (k ⟨⟩) Q) -∗ W (fill1P cv ci j b h >>= k) Q) := by
  unfold fill1P fld
  iintro ⟨⟨%X, %hX, H⟩, ⟨%Y, %hY, G⟩⟩ Hk
  simp only [Prog.bind_assoc, Prog.bind_lift, Prog.bind_op, Prog.bind_ret, Prog.pure_eq_ret]
  iapply (wp_loadR (defs := defs) 𝒱 (th d i) bd E) $$ H
  iintro H
  iapply (wp_storeR (defs := defs) 𝒱 (th d i) bd E) $$ H
  iintro H
  iapply (wp_loadR (defs := defs) 𝒱 (th d i) bd E) $$ G
  iintro G
  iapply (wp_storeR (defs := defs) 𝒱 (th d i) bd E) $$ G
  iintro G
  iapply Hk
  isplitl [H]
  · iexists _
    isplitr
    · ipureintro
      exact filled_step hX _ hn h
    · iexact H
  · iexists _
    isplitr
    · ipureintro
      exact filled_step hY _ hn h
    · iexact G

theorem wp_fill (cv : MV S4224 .f32) (ci : MV S4224 .i32) (k : BitVec 32 → TP F i α) :
    (iprop((∃ X, own (F := F) (th d i) cv X) ∗ (∃ Y, own (F := F) (th d i) ci Y)) : sProp 𝕄)
      ⊢ iprop((∀ r, (own (F := F) (th d i) cv (fun _ => negF) ∗ own (F := F) (th d i) ci (fun _ => 2147483647#32)) -∗ W (k r) Q) -∗ W (fillP cv ci >>= k) Q) := by
  unfold fillP
  iintro ⟨⟨%X, H⟩, ⟨%Y, G⟩⟩ Hk
  simp only [Prog.bind_assoc, Prog.bind_lift, Prog.bind_op, Prog.bind_ret, Prog.pure_eq_ret]
  sl_for (fun n (_ : BitVec 32) => iprop(fld (F := F) d i cv ci (128 * n))) $$ [H G]
  · intro n r
    iintro H
    delta wp_fill.sl.prog.body_1
    iapply (wp_fill1 (defs := defs) 𝒱 d i bd E cv ci (128 * n.val + 0) n 0#32 (k0_off3_inb n 0) (off3_val n 0#32 (by decide))) $$ H
    iintro H
    iapply (wp_fill1 (defs := defs) 𝒱 d i bd E cv ci (128 * n.val + 16) n 16#32 (k0_off3_inb n 1) (off3_val n 16#32 (by decide))) $$ H
    iintro H
    iapply (wp_fill1 (defs := defs) 𝒱 d i bd E cv ci (128 * n.val + 32) n 32#32 (k0_off3_inb n 2) (off3_val n 32#32 (by decide))) $$ H
    iintro H
    iapply (wp_fill1 (defs := defs) 𝒱 d i bd E cv ci (128 * n.val + 48) n 48#32 (k0_off3_inb n 3) (off3_val n 48#32 (by decide))) $$ H
    iintro H
    iapply (wp_fill1 (defs := defs) 𝒱 d i bd E cv ci (128 * n.val + 64) n 64#32 (k0_off3_inb n 4) (off3_val n 64#32 (by decide))) $$ H
    iintro H
    iapply (wp_fill1 (defs := defs) 𝒱 d i bd E cv ci (128 * n.val + 80) n 80#32 (k0_off3_inb n 5) (off3_val n 80#32 (by decide))) $$ H
    iintro H
    iapply (wp_fill1 (defs := defs) 𝒱 d i bd E cv ci (128 * n.val + 96) n 96#32 (k0_off3_inb n 6) (off3_val n 96#32 (by decide))) $$ H
    iintro H
    iapply (wp_fill1 (defs := defs) 𝒱 d i bd E cv ci (128 * n.val + 112) n 112#32 (k0_off3_inb n 7) (off3_val n 112#32 (by decide))) $$ H
    iintro H
    rw [wp_ret]
    imodintro
    iexact H
  · unfold fld
    isplitl [H]
    · iexists X
      isplitr
      · ipureintro; intro j hj; omega
      · iexact H
    · iexists Y
      isplitr
      · ipureintro; intro j hj; omega
      · iexact G
  iintro %r H
  delta wp_fill.sl.prog.cont_1
  unfold fld
  icases H with ⟨⟨%X', %hX, H⟩, ⟨%Y', %hY, G⟩⟩
  have e1 : X' = fun _ => negF := funext fun j => hX j (j 0).isLt
  have e2 : Y' = fun _ => 2147483647#32 := funext fun j => hY j (j 0).isLt
  subst e1 e2
  iapply Hk
  isplitl [H]
  · iexact H
  · iexact G

theorem wp_put (cv : MV S4224 .f32) (ci : MV S4224 .i32) (X : Vec F S100096 .f32) (t : FVec F S16 .f32) (n : Fin k0_t4_loop.trips) (s : PB F) (r : Fin 8)
    {cur : IVec S16 32} {x : FVec F S16 .f32} {m : IVec S16 1} {ix : IVec S16 32} (hc : cur = s.cur) (hx : x = pbX X n r) (hm : m = ge (pbX X n r) t)
    (hi : ix = addi s.ix (bc (BitVec.ofNat 32 (16 * r.val)))) (k : PUnit → TP F i α) :
    (iprop(own (F := F) (th d i) cv s.cv ∗ own (F := F) (th d i) ci s.ci) : sProp 𝕄)
      ⊢ iprop(((own (F := F) (th d i) cv (pbPut X t n s r).cv ∗ own (F := F) (th d i) ci (pbPut X t n s r).ci) -∗ W (k ⟨⟩) Q)
        -∗ W (putP cv ci cur x m ix >>= k) Q) := by
  subst hc hx hm hi
  unfold putP
  iintro ⟨H, G⟩ Hk
  simp only [Prog.bind_assoc, Prog.bind_lift, Prog.bind_op, Prog.bind_ret, Prog.pure_eq_ret]
  iapply (wp_chk (defs := defs) 𝒱 d i bd E (P := ckC _) ⟨dest_in _ _, dest_in _ _⟩)
  iapply (wp_scatterR (defs := defs) 𝒱 (th d i) bd E) $$ H
  iintro H
  iapply (wp_scatterR (defs := defs) 𝒱 (th d i) bd E) $$ G
  iintro G
  iapply Hk
  isplitl [H]
  · iexact H
  · iexact G

theorem wp_pb (rb : MV S100096 .f32) (cv : MV S4224 .f32) (ci : MV S4224 .i32) (X : Vec F S100096 .f32) (t : FVec F S16 .f32) (k : IVec S16 32 × IVec S16 32 → TP F i α) :
    (iprop(own (F := F) (th d i) rb X ∗ own (F := F) (th d i) cv (fun _ => negF) ∗ own (F := F) (th d i) ci (fun _ => 2147483647#32)) : sProp 𝕄)
      ⊢ iprop(((own (F := F) (th d i) rb X ∗ own (F := F) (th d i) cv (pbN X t k0_t4_loop.trips).cv ∗ own (F := F) (th d i) ci (pbN X t k0_t4_loop.trips).ci)
          -∗ W (k ((pbN X t k0_t4_loop.trips).cur, (pbN X t k0_t4_loop.trips).ix)) Q)
        -∗ W (pbP rb cv ci t >>= k) Q) := by
  unfold pbP
  iintro ⟨H, G⟩ Hk
  simp only [Prog.bind_assoc, Prog.bind_lift, Prog.bind_op, Prog.bind_ret, Prog.pure_eq_ret]
  sl_for (fun n (r : IVec S16 32 × IVec S16 32) => iprop(⌜r = ((pbN X t n).cur, (pbN X t n).ix)⌝ ∗ own (F := F) (th d i) rb X
    ∗ own (F := F) (th d i) cv (pbN X t n).cv ∗ own (F := F) (th d i) ci (pbN X t n).ci)) $$ [H G]
  · intro n r
    iintro ⟨%hr, H, G⟩
    subst hr
    delta wp_pb.sl.prog.body_1
    generalize hs : pbN X t n.val = s
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_loadR (defs := defs) 𝒱 (th d i) bd E) $$ H
    iintro H
    iapply (wp_put (defs := defs) 𝒱 d i bd E cv ci X t n s 0 rfl rfl rfl rfl) $$ G
    iintro G
    iapply (wp_put (defs := defs) 𝒱 d i bd E cv ci X t n (pbPut X t n s 0) 1 rfl rfl rfl rfl) $$ G
    iintro G
    iapply (wp_put (defs := defs) 𝒱 d i bd E cv ci X t n (pbPut X t n (pbPut X t n s 0) 1) 2 rfl rfl rfl rfl) $$ G
    iintro G
    iapply (wp_put (defs := defs) 𝒱 d i bd E cv ci X t n (pbPut X t n (pbPut X t n (pbPut X t n s 0) 1) 2) 3 rfl rfl rfl rfl) $$ G
    iintro G
    iapply (wp_put (defs := defs) 𝒱 d i bd E cv ci X t n (pbPut X t n (pbPut X t n (pbPut X t n (pbPut X t n s 0) 1) 2) 3) 4 rfl rfl rfl rfl) $$ G
    iintro G
    iapply (wp_put (defs := defs) 𝒱 d i bd E cv ci X t n (pbPut X t n (pbPut X t n (pbPut X t n (pbPut X t n (pbPut X t n s 0) 1) 2) 3) 4) 5 rfl rfl rfl rfl) $$ G
    iintro G
    iapply (wp_put (defs := defs) 𝒱 d i bd E cv ci X t n (pbPut X t n (pbPut X t n (pbPut X t n (pbPut X t n (pbPut X t n (pbPut X t n s 0) 1) 2) 3) 4) 5) 6 rfl rfl rfl rfl) $$ G
    iintro G
    iapply (wp_put (defs := defs) 𝒱 d i bd E cv ci X t n (pbPut X t n (pbPut X t n (pbPut X t n (pbPut X t n (pbPut X t n (pbPut X t n (pbPut X t n s 0) 1) 2) 3) 4) 5) 6) 7 rfl rfl rfl rfl) $$ G
    iintro G
    rw [wp_ret]
    imodintro
    have e : pbN X t (n.val + 1) = pbStep X t n s := by
      rw [← hs]; unfold pbN; rw [iterN_succ]
    rw [e]
    isplitr
    · ipureintro
      rfl
    · isplitl [H]
      · iexact H
      · iexact G
  · isplitr
    · ipureintro; rfl
    · isplitl [H]
      · iexact H
      · iexact G
  iintro %r ⟨%hr, H⟩
  delta wp_pb.sl.prog.cont_1
  have hr' : r = ((pbN X t k0_t4_loop.trips).cur, (pbN X t k0_t4_loop.trips).ix) := hr
  subst hr'
  iapply Hk
  iexact H

theorem wp_ldBlk (cv : MV S4224 .f32) (ci : MV S4224 .i32) (o : BitVec 32 → Fin 1 → Nat) (h : ∀ (r : Fin 4), ∀ a, o (BitVec.ofNat 32 (16 * r.val)) a + S16.size a ≤ S4224.size a)
    (X : Vec F S4224 .f32) (Y : IVec S4224 32) (k : Blk F → TP F i α) :
    (iprop(own (F := F) (th d i) cv X ∗ own (F := F) (th d i) ci Y) : sProp 𝕄)
      ⊢ iprop(((own (F := F) (th d i) cv X ∗ own (F := F) (th d i) ci Y) -∗ W (k (blkV X Y o h)) Q) -∗ W (ldBlkP cv ci o h >>= k) Q) := by
  unfold ldBlkP
  iintro ⟨H, G⟩ Hk
  simp only [Prog.bind_assoc, Prog.bind_lift, Prog.bind_op, Prog.bind_ret, Prog.pure_eq_ret]
  iapply (wp_loadR (defs := defs) 𝒱 (th d i) bd E) $$ H
  iintro H
  iapply (wp_loadR (defs := defs) 𝒱 (th d i) bd E) $$ H
  iintro H
  iapply (wp_loadR (defs := defs) 𝒱 (th d i) bd E) $$ H
  iintro H
  iapply (wp_loadR (defs := defs) 𝒱 (th d i) bd E) $$ H
  iintro H
  iapply (wp_loadR (defs := defs) 𝒱 (th d i) bd E) $$ G
  iintro G
  iapply (wp_loadR (defs := defs) 𝒱 (th d i) bd E) $$ G
  iintro G
  iapply (wp_loadR (defs := defs) 𝒱 (th d i) bd E) $$ G
  iintro G
  iapply (wp_loadR (defs := defs) 𝒱 (th d i) bd E) $$ G
  iintro G
  iapply Hk
  isplitl [H]
  · iexact H
  · iexact G

theorem iterN_none {σ : Type} {T : Nat} (h : T = 0) (f : Fin T → σ → σ) (x : σ) : iterN f x T = x := by
  subst h; rfl

theorem wp_blkLoop (tv : MV S16 .f32) (ti : MV S16 .i32) (cv : MV S4224 .f32) (ci : MV S4224 .i32) (lp : Scf.Loop 32) (ok : lp.OK)
    (o : Fin lp.trips → BitVec 32 → Fin 1 → Nat) (h : ∀ (j : Fin lp.trips) (r : Fin 4), ∀ a, o j (BitVec.ofNat 32 (16 * r.val)) a + S16.size a ≤ S4224.size a)
    (X : Vec F S4224 .f32) (Y : IVec S4224 32) (b : Blk F) (k : V8 F → TP F i α) :
    (iprop((own (F := F) (th d i) cv X ∗ own (F := F) (th d i) ci Y) ∗ scr (F := F) d i tv ti) : sProp 𝕄)
      ⊢ iprop((((own (F := F) (th d i) cv X ∗ own (F := F) (th d i) ci Y) ∗ scr (F := F) d i tv ti)
          -∗ W (k (ofBlk (iterN (fun j b => top64V b (sort64V (blkV X Y (o j) (h j)))) b lp.trips))) Q)
        -∗ W (Scf.Loop.for lp ok (ofBlk b) (fun j (a0, a1, a2, a3, b0, b1, b2, b3) =>
          stepP tv ti cv ci (o j) (h j) ⟨(a0, b0), (a1, b1), (a2, b2), (a3, b3)⟩) >>= k) Q) := by
  iintro ⟨H, G⟩ Hk
  sl_for (fun n (r : V8 F) => iprop(⌜r = ofBlk (iterN (fun j b => top64V b (sort64V (blkV X Y (o j) (h j)))) b n)⌝ ∗ (own (F := F) (th d i) cv X ∗ own (F := F) (th d i) ci Y) ∗ scr (F := F) d i tv ti)) $$ [H G]
  · intro n r
    iintro ⟨%hr, H, G⟩
    subst hr
    delta wp_blkLoop.sl.prog.body_1
    simp only [ofBlk, stepP, Prog.bind_assoc, Prog.bind_ret, Prog.pure_eq_ret]
    iapply (wp_ldBlk (defs := defs) 𝒱 d i bd E) $$ H
    iintro H
    iapply (wp_sort64 (defs := defs) 𝒱 d i bd E) $$ G
    iintro G
    iapply (wp_top64 (defs := defs) 𝒱 d i bd E) $$ G
    iintro G
    rw [wp_ret]
    imodintro
    isplitr
    · ipureintro
      have e := iterN_succ (fun j b => top64V b (sort64V (blkV X Y (o j) (h j)))) b n
      rw [e]
    · isplitl [H]
      · iexact H
      · iexact G
  · isplitr
    · ipureintro; rfl
    · isplitl [H]
      · iexact H
      · iexact G
  iintro %r ⟨%hr, H, G⟩
  delta wp_blkLoop.sl.prog.cont_1
  subst hr
  iapply Hk
  isplitl [H]
  · iexact H
  · iexact G

theorem wp_blks (tv : MV S16 .f32) (ti : MV S16 .i32) (cv : MV S4224 .f32) (ci : MV S4224 .i32) (cur : BitVec 32) (hc : k0_chk41 cur)
    (X : Vec F S4224 .f32) (Y : IVec S4224 32) (k : Blk F → TP F i α) :
    (iprop((own (F := F) (th d i) cv X ∗ own (F := F) (th d i) ci Y) ∗ scr (F := F) d i tv ti) : sProp 𝕄)
      ⊢ iprop((((own (F := F) (th d i) cv X ∗ own (F := F) (th d i) ci Y) ∗ scr (F := F) d i tv ti) -∗ W (k (blkN X Y cur hc (k0_t17_loop cur).trips)) Q)
        -∗ W (blksP tv ti cv ci cur hc (sort64V (blkV X Y k0_off5 k0_off5_inb)) >>= k) Q) := by
  unfold blksP
  iintro H Hk
  simp only [Prog.bind_assoc]
  iapply (wp_blkLoop (defs := defs) 𝒱 d i bd E tv ti cv ci (k0_t17_loop cur) (k0_t17_ok cur hc) (k0_off6 cur) (k0_off6_inb cur hc) X Y) $$ H
  iintro H
  iapply (wp_blkLoop (defs := defs) 𝒱 d i bd E tv ti cv ci (k0_t34_loop cur) (k0_t34_ok cur hc) (k0_off7 cur) (k0_off7_inb cur hc) X Y) $$ H
  iintro H
  rw [iterN_none (t34_trips cur)]
  simp only [Prog.bind_ret, Prog.pure_eq_ret]
  iapply Hk
  iexact H

end Cert.Proof.Sc
-- ==== Proof.Sc.Wp3.lean ====
/- The tail of a row run: what it leaves. -/
module

public import proofs.«01_k».proof.Proof.Sc.Wp2

@[expose] public section

noncomputable section

namespace Cert.Proof.Sc

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Facts₀ Cert.KernelIdeal.Facts

section Vals

variable {F : FTy → Type} [FloatOps F]

theorem ix16_self (l : S16.Idx) : ix16 (l 0).val = l := by
  funext a
  have : a = 0 := Fin.eq_zero a
  subst this
  have : (l 0).val < 16 := (l 0).isLt
  apply Fin.ext
  change (l 0).val % 16 = _
  omega

theorem ix16_mod {m n : Nat} (h : m % 16 = n % 16) : ix16 m = ix16 n := by
  funext a
  exact Fin.ext h

theorem sb_eq (X : Vec F S64 .f32) (b : Blk F) :
    (Rect.unit (s := S64) ![48] S16.size inb_S64_S16_48).overlay ((Rect.unit (s := S64) ![32] S16.size inb_S64_S16_32).overlay
      ((Rect.unit (s := S64) ![16] S16.size inb_S64_S16_16).overlay ((Rect.unit (s := S64) ![0] S16.size inb_S64_S16_0).overlay X b.a.1) b.b.1) b.c.1) b.d.1 = sbV b := by
  funext j
  have hj : (j 0).val < 64 := (j 0).isLt
  have e3 := overlay16 (N := 64) ![48] inb_S64_S16_48 ((Rect.unit (s := S64) ![32] S16.size inb_S64_S16_32).overlay
      ((Rect.unit (s := S64) ![16] S16.size inb_S64_S16_16).overlay ((Rect.unit (s := S64) ![0] S16.size inb_S64_S16_0).overlay X b.a.1) b.b.1) b.c.1) b.d.1 j
  have e2 := overlay16 (N := 64) ![32] inb_S64_S16_32 ((Rect.unit (s := S64) ![16] S16.size inb_S64_S16_16).overlay ((Rect.unit (s := S64) ![0] S16.size inb_S64_S16_0).overlay X b.a.1) b.b.1) b.c.1 j
  have e1 := overlay16 (N := 64) ![16] inb_S64_S16_16 ((Rect.unit (s := S64) ![0] S16.size inb_S64_S16_0).overlay X b.a.1) b.b.1 j
  have e0 := overlay16 (N := 64) ![0] inb_S64_S16_0 X b.a.1 j
  refine e3.trans ?_
  unfold sbV
  change (if 48 ≤ (j 0).val ∧ (j 0).val < 48 + 16 then b.d.1 (ix16 ((j 0).val - 48)) else _) = _
  by_cases h3 : 48 ≤ (j 0).val
  · rw [if_pos (by omega), if_neg (by omega), if_neg (by omega), if_neg (by omega), ix16_mod (m := (j 0).val - 48) (n := (j 0).val) (by omega)]
  rw [if_neg (by omega)]
  refine e2.trans ?_
  change (if 32 ≤ (j 0).val ∧ (j 0).val < 32 + 16 then b.c.1 (ix16 ((j 0).val - 32)) else _) = _
  by_cases h2 : 32 ≤ (j 0).val
  · rw [if_pos (by omega), if_neg (by omega), if_neg (by omega), if_pos (by omega), ix16_mod (m := (j 0).val - 32) (n := (j 0).val) (by omega)]
  rw [if_neg (by omega)]
  refine e1.trans ?_
  change (if 16 ≤ (j 0).val ∧ (j 0).val < 16 + 16 then b.b.1 (ix16 ((j 0).val - 16)) else _) = _
  by_cases h1 : 16 ≤ (j 0).val
  · rw [if_pos (by omega), if_neg (by omega), if_pos (by omega), ix16_mod (m := (j 0).val - 16) (n := (j 0).val) (by omega)]
  rw [if_neg (by omega)]
  refine e0.trans ?_
  change (if 0 ≤ (j 0).val ∧ (j 0).val < 0 + 16 then b.a.1 (ix16 ((j 0).val - 0)) else _) = _
  rw [if_pos (by omega), if_pos (by omega), ix16_mod (m := (j 0).val - 0) (n := (j 0).val) (by omega)]

theorem load_c {N : Nat} {e : EltTy} (X : Vec F ⟨1, ![N]⟩ e) (v : BitVec 32) (h : ∀ a x, ((![bc v] : Fin 1 → IVec S16 32) a x).toNat < (⟨1, ![N]⟩ : Shape).size a)
    (j : (⟨1, ![N]⟩ : Shape).Idx) (hj : (j 0).val = v.toNat) : loadIdx X ![bc v] h = fun _ => X j := by
  funext x
  change X _ = X _
  congr 1
  funext a
  have : a = 0 := Fin.eq_zero a
  subst this
  apply Fin.ext
  rw [hj]; rfl

theorem sbV_hi (b : Blk F) (j : S64.Idx) (h : 48 ≤ (j 0).val) : sbV b j = b.d.1 (ix16 (j 0).val) := by
  unfold sbV
  rw [if_neg (by omega), if_neg (by omega), if_neg (by omega)]

theorem sbV_lo (b : Blk F) (j : S64.Idx) (h : (j 0).val < 16) : sbV b j = b.a.1 (ix16 (j 0).val) := by
  unfold sbV
  rw [if_pos (by omega)]

theorem load_kth (b : Blk F) (h : ck64 (bc 49#32)) : loadIdx (sbV b) ![bc 49#32] h = fun _ => b.d.1 (ix16 1) := by
  rw [load_c (sbV b) 49#32 h (ix64 49) rfl]
  funext _
  exact (sbV_hi b (ix64 49) (by decide)).trans rfl

theorem load_mx (b : Blk F) (h : ck64 (bc 0#32)) : loadIdx (sbV b) ![bc 0#32] h = fun _ => b.a.1 (ix16 0) := by
  rw [load_c (sbV b) 0#32 h (ix64 0) rfl]
  funext _
  exact (sbV_lo b (ix64 0) (by decide)).trans rfl

theorem load_cut (b : Blk F) (h : ck64 (cIx (mV b))) : loadIdx (sbV b) ![cIx (mV b)] h = cutV b := by
  have hl := h 0 (ix16 0)
  refine (load_c (sbV b) _ h (ix64 (Scalar.minsi (Scalar.subi (mV b) 1#32) 63#32).toNat) ?_).trans rfl
  have hl' : (Scalar.minsi (Scalar.subi (mV b) 1#32) 63#32).toNat < 64 := hl
  exact Nat.mod_eq_of_lt hl'

theorem load_bnd (y : IVec S16 32) (X : IVec S96 32) (v : BitVec 32) (hv : v.toNat < 16) (h : ck96 (bc v)) :
    loadIdx (F := F) (e := .i32) ((Rect.unit (s := S96) ![0] S16.size inb_S96_S16_0).overlay X y) ![bc v] h = fun _ => y (ix16 v.toNat) := by
  obtain ⟨j, hj⟩ : ∃ j : (⟨1, ![96]⟩ : Shape).Idx, (j 0).val = v.toNat := ⟨fun a => ⟨v.toNat, by fin_cases a; exact Nat.lt_of_lt_of_le hv (by decide)⟩, rfl⟩
  refine (load_c (F := F) (e := .i32) (N := 96) _ v h j hj).trans ?_
  funext _
  refine (overlay16 (N := 96) ![0] inb_S96_S16_0 X y j).trans ?_
  rw [hj]
  change (if 0 ≤ v.toNat ∧ v.toNat < 0 + 16 then y (ix16 (v.toNat - 0)) else _) = _
  rw [if_pos (by omega)]; rfl

theorem load_ivI (v : IVec S16 32) (k : Nat) (hk : k < 16) (h : ∀ a x, ((![bc (Scf.iv 0#32 1#32 k)] : Fin 1 → IVec S16 32) a x).toNat < S16.size a) :
    loadIdx (F := F) (e := .i32) v ![bc (Scf.iv 0#32 1#32 k)] h = fun _ => v (ix16 k) := load_iv (F := F) (e := .i32) v k hk h

end Vals

variable {Ix : Type} [DecidableEq Ix]
variable {F : FTy → Type} [FloatOps F] {Name : Type} [DecidableEq Name]
variable {U : Type} [URA U] {Lvl : Type} [Preorder Lvl]
variable {defs : Defs nD τ sig (Elt F) Λ₀} (𝒱 : Variants) (d : Dev nD) (i : grid0.Coords) (bd : Option 𝒱.V) (E : Set Name)

local notation "𝕄" => MT nD τ sig Ix (Elt F) Name U Lvl
local notation "W" => wp frame (wpE defs 𝒱 (th d i) bd) E

variable {α : Type} {Q : α → sProp (MT nD τ sig Ix (Elt F) Name U Lvl)}

/-- A memref holding anything. -/
abbrev anyM {s : Shape} {e : EltTy} (m : MV s e) : sProp 𝕄 := iprop(∃ X, own (F := F) (th d i) m X)

theorem wp_st {s : Shape} {e : EltTy} (m : MV s e) (o n : Fin s.rank → Nat) (h : ∀ a, o a + n a ≤ s.size a) (w : (Rect.unit (s := s) o n h).shape.Idx → Elt F e)
    (hl : m.view.LoadsAt (Rect.unit (s := s) o n h).toLoadRect) (hs : (m.access (Rect.unit (s := s) o n h)).Stores Finset.univ) (X : s.Idx → Elt F e) (k : PUnit → TP F i α) :
    (own (F := F) (th d i) m X : sProp 𝕄)
      ⊢ iprop((own (F := F) (th d i) m ((Rect.unit (s := s) o n h).overlay X w) -∗ W (k ⟨⟩) Q) -∗ W (stP m o n h w hl hs >>= k) Q) := by
  unfold stP
  iintro H Hk
  simp only [Prog.bind_assoc, Prog.bind_lift, Prog.bind_op, Prog.bind_ret, Prog.pure_eq_ret]
  iapply (wp_loadR (defs := defs) 𝒱 (th d i) bd E) $$ H
  iintro H
  iapply (wp_storeR (defs := defs) 𝒱 (th d i) bd E) $$ H
  iexact Hk

theorem wp_spill (sb : MV S64 .f32) (b : Blk F) (k : FVec F S16 .f32 × FVec F S16 .f32 → TP F i α) :
    (anyM (F := F) d i sb : sProp 𝕄)
      ⊢ iprop((own (F := F) (th d i) sb (sbV b) -∗ W (k (fun _ => b.d.1 (ix16 1), fun _ => b.a.1 (ix16 0))) Q) -∗ W (spillP sb b >>= k) Q) := by
  unfold spillP
  iintro ⟨%X, H⟩ Hk
  simp only [Prog.bind_assoc, Prog.bind_lift, Prog.bind_op, Prog.bind_ret, Prog.pure_eq_ret]
  iapply (wp_st (defs := defs) 𝒱 d i bd E) $$ H
  iintro H
  iapply (wp_st (defs := defs) 𝒱 d i bd E) $$ H
  iintro H
  iapply (wp_st (defs := defs) 𝒱 d i bd E) $$ H
  iintro H
  iapply (wp_st (defs := defs) 𝒱 d i bd E) $$ H
  iintro H
  rw [sb_eq]
  iapply (wp_chk (defs := defs) 𝒱 d i bd E (P := ck64 _) (by decide))
  iapply (wp_gatherV (defs := defs) 𝒱 d i bd E (load_kth b _)) $$ H
  iintro H
  iapply (wp_chk (defs := defs) 𝒱 d i bd E (P := ck64 _) (by decide))
  iapply (wp_gatherV (defs := defs) 𝒱 d i bd E (load_mx b _)) $$ H
  iintro H
  iapply Hk
  iexact H

theorem wp_sortI (ti : MV S16 .i32) (v : IVec S16 32) (k : IVec S16 32 → TP F i α) :
    (anyM (F := F) d i ti : sProp 𝕄)
      ⊢ iprop((anyM (F := F) d i ti -∗ W (k (sortIV (F := F) v)) Q) -∗ W (sortIP ti v >>= k) Q) := by
  unfold sortIP
  iintro ⟨%Y, G⟩ Hk
  simp only [Prog.bind_assoc, Prog.bind_lift, Prog.bind_op, Prog.bind_ret, Prog.pure_eq_ret]
  iapply (wp_loadR (defs := defs) 𝒱 (th d i) bd E) $$ G
  iintro G
  iapply (wp_storeR (defs := defs) 𝒱 (th d i) bd E) $$ G
  iintro G
  rw [ov0]
  sl_for (fun n (r : IVec S16 32) => iprop(⌜r = rkI v n⌝ ∗ own (F := F) (th d i) ti v)) $$ [G]
  · intro n r
    iintro ⟨%hr, H⟩
    delta wp_sortI.sl.prog.body_1
    have hn : n.val < 16 := n.isLt
    rw [wp_assume_of _ _ _ _ (iv_in n.val hn)]
    iapply (wp_gatherV (defs := defs) 𝒱 d i bd E (load_ivI v n.val hn (iv_in n.val hn))) $$ H
    iintro H
    rw [wp_ret]
    imodintro
    isplitr
    · ipureintro
      rw [hr, iv01]; rfl
    · iexact H
  · isplitr
    · ipureintro; rfl
    · iexact G
  iintro %r ⟨%hr, G⟩
  have hr' : r = rkI v 16 := hr
  subst hr'
  delta wp_sortI.sl.prog.cont_1
  iapply (wp_chk (defs := defs) 𝒱 d i bd E (P := ck16 _) (rkI_in v))
  iapply (wp_scatterR (defs := defs) 𝒱 (th d i) bd E) $$ G
  iintro G
  iapply (wp_loadR (defs := defs) 𝒱 (th d i) bd E) $$ G
  iintro G
  rw [rd0]
  iapply Hk
  iexists _; iexact G

theorem wp_putE (eb : MV S96 .i32) (e : BitVec 32) (he : e.toNat ≤ 64) (m : IVec S16 1) (ix : IVec S16 32) (X : IVec S96 32) (k : PUnit → TP F i α) :
    (own (F := F) (th d i) eb X : sProp 𝕄)
      ⊢ iprop((own (F := F) (th d i) eb (storeIdx (F := F) (s := S96) (e := .i32) X ![destE e m] ix m false (destE_in e he m)) -∗ W (k ⟨⟩) Q) -∗ W (putEP eb e m ix >>= k) Q) := by
  unfold putEP
  iintro H Hk
  simp only [Prog.bind_assoc, Prog.bind_lift, Prog.bind_op, Prog.bind_ret, Prog.pure_eq_ret]
  iapply (wp_chk (defs := defs) 𝒱 d i bd E (P := ck96 _) (destE_in e he m))
  iapply (wp_scatterR (defs := defs) 𝒱 (th d i) bd E) $$ H
  iexact Hk

attribute [local irreducible] sortIV cnt16 csum scan storeIdx

theorem wp_bnd (ti : MV S16 .i32) (eb : MV S96 .i32) (b : Blk F) (c : FVec F S16 .f32) (m : BitVec 32) (hm : 1 ≤ m.toNat ∧ m.toNat ≤ 65) (X : IVec S96 32)
    (k : IVec S16 32 → TP F i α) :
    (iprop(own (F := F) (th d i) eb X ∗ anyM (F := F) d i ti) : sProp 𝕄)
      ⊢ iprop(((anyM (F := F) d i eb ∗ anyM (F := F) d i ti) -∗ W (k (bndV (F := F) X b c m)) Q) -∗ W (bndP ti eb b c m >>= k) Q) := by
  unfold bndP
  iintro ⟨H, G⟩ Hk
  simp only [Prog.bind_assoc, Prog.bind_lift, Prog.bind_op, Prog.bind_ret, Prog.pure_eq_ret]
  have h1 : (eAdd 0#32 (eqm c b.a.1)).toNat ≤ 16 := eAdd_le 0 (by decide) _ (by decide) _
  have h2 : (eAdd (eAdd 0#32 (eqm c b.a.1)) (eqm c b.b.1)).toNat ≤ 32 := eAdd_le 16 (by decide) _ h1 _
  have h3 : (eAdd (eAdd (eAdd 0#32 (eqm c b.a.1)) (eqm c b.b.1)) (eqm c b.c.1)).toNat ≤ 48 := eAdd_le 32 (by decide) _ h2 _
  iapply (wp_putE (defs := defs) 𝒱 d i bd E eb 0#32 (by decide) (eqm c b.a.1) b.a.2) $$ H
  iintro H
  iapply (wp_putE (defs := defs) 𝒱 d i bd E eb (eAdd 0#32 (eqm c b.a.1)) (by omega) (eqm c b.b.1) b.b.2) $$ H
  iintro H
  iapply (wp_putE (defs := defs) 𝒱 d i bd E eb (eAdd (eAdd 0#32 (eqm c b.a.1)) (eqm c b.b.1)) (by omega) (eqm c b.c.1) b.c.2) $$ H
  iintro H
  iapply (wp_putE (defs := defs) 𝒱 d i bd E eb (eAdd (eAdd (eAdd 0#32 (eqm c b.a.1)) (eqm c b.b.1)) (eqm c b.c.1)) (by omega) (eqm c b.d.1) b.d.2) $$ H
  iintro H
  iapply (wp_chk (defs := defs) 𝒱 d i bd E (P := k0_chk145 _ _ _ _) (chk145 _ _ _ _))
  iapply (wp_st (defs := defs) 𝒱 d i bd E) $$ H
  iintro H
  iapply (wp_loadR (defs := defs) 𝒱 (th d i) bd E) $$ H
  iintro H
  iapply (wp_sortI (defs := defs) 𝒱 d i bd E) $$ G
  iintro G
  iapply (wp_st (defs := defs) 𝒱 d i bd E) $$ H
  iintro H
  iapply (wp_chk (defs := defs) 𝒱 d i bd E (P := ck96 _) (j96_in _ (jOf_in b c m hm)))
  iapply (wp_gatherV (defs := defs) 𝒱 d i bd E (load_bnd _ _ _ (jOf_in b c m hm) (j96_in _ (jOf_in b c m hm)))) $$ H
  iintro H
  iapply Hk
  isplitl [H]
  · iexists _; iexact H
  · iexact G

/-- What a row's work uses besides the row. -/
def scrs (cv : MV S4224 .f32) (ci : MV S4224 .i32) (sb : MV S64 .f32) (eb : MV S96 .i32) (tv : MV S16 .f32) (ti : MV S16 .i32) : sProp 𝕄 :=
  iprop((anyM (F := F) d i cv ∗ anyM (F := F) d i ci) ∗ anyM (F := F) d i sb ∗ anyM (F := F) d i eb ∗ (anyM (F := F) d i tv ∗ anyM (F := F) d i ti))

/-- The bound of a row, from what the equals' scratch held. -/
def rowBnd (E0 : IVec S96 32) (X : Vec F S100096 .f32) : IVec S16 32 := bndV (F := F) E0 (bestV X) (cutV (bestV X)) (mV (bestV X))

theorem wp_core (rb : MV S100096 .f32) (cv : MV S4224 .f32) (ci : MV S4224 .i32) (sb : MV S64 .f32) (eb : MV S96 .i32) (of : MV S16 .f32) (oi : MV S16 .i32)
    (tv : MV S16 .f32) (ti : MV S16 .i32) (X : Vec F S100096 .f32) (k : PUnit → TP F i α) :
    (iprop(own (F := F) (th d i) rb X ∗ scrs (F := F) d i cv ci sb eb tv ti ∗ anyM (F := F) d i of ∗ anyM (F := F) d i oi) : sProp 𝕄)
      ⊢ iprop((∀ E0, (own (F := F) (th d i) rb X ∗ scrs (F := F) d i cv ci sb eb tv ti ∗ own (F := F) (th d i) of (cutV (bestV X)) ∗ own (F := F) (th d i) oi (rowBnd E0 X))
          -∗ W (k ⟨⟩) Q) -∗ W (coreP rb cv ci sb eb of oi tv ti >>= k) Q) := by
  unfold coreP scrs
  iintro ⟨R, ⟨C, S, ⟨%E0, B⟩, T⟩, ⟨%o0, O⟩, ⟨%o1, P⟩⟩ Hk
  simp only [Prog.bind_assoc]
  iapply (wp_pa (defs := defs) 𝒱 d i bd E) $$ R
  iintro R
  iapply (wp_fill (defs := defs) 𝒱 d i bd E) $$ C
  iintro %_ C
  icases C with ⟨C, D⟩
  ihave RC : iprop(own (F := F) (th d i) rb X ∗ own (F := F) (th d i) cv (fun _ => negF) ∗ own (F := F) (th d i) ci (fun _ => 2147483647#32)) $$ [R C D]
  · isplitl [R]
    · iexact R
    · isplitl [C]
      · iexact C
      · iexact D
  iapply (wp_pb (defs := defs) 𝒱 d i bd E) $$ RC
  iintro ⟨R, C⟩
  simp only [Prog.bind_assoc, Prog.bind_lift, Prog.bind_op, Prog.bind_ret, Prog.pure_eq_ret]
  have hle : (max16 (pbN X (thr (paN X k0_t2_loop.trips)) k0_t4_loop.trips).cur).toNat ≤ 4096 := by
    obtain ⟨n, hn, hle⟩ := pbN_small X (thr (paN X k0_t2_loop.trips)) k0_t4_loop.trips
    rw [hn, max16_bc]; exact hle
  iapply (wp_chk (defs := defs) 𝒱 d i bd E (P := k0_chk41 _) (chk41 _ hle))
  iapply (wp_ldBlk (defs := defs) 𝒱 d i bd E) $$ C
  iintro C
  ihave T : scr (F := F) d i tv ti $$ [T]
  · unfold scr
    iexact T
  iapply (wp_sort64 (defs := defs) 𝒱 d i bd E) $$ T
  iintro T
  ihave CT : iprop((own (F := F) (th d i) cv (pbN X (thr (paN X k0_t2_loop.trips)) k0_t4_loop.trips).cv ∗ own (F := F) (th d i) ci (pbN X (thr (paN X k0_t2_loop.trips)) k0_t4_loop.trips).ci)
    ∗ scr (F := F) d i tv ti) $$ [C T]
  · isplitl [C]
    · iexact C
    · iexact T
  iapply (wp_blks (defs := defs) 𝒱 d i bd E) $$ CT
  iintro ⟨⟨C, D⟩, T⟩
  have hb : blkN (pbN X (thr (paN X k0_t2_loop.trips)) k0_t4_loop.trips).cv (pbN X (thr (paN X k0_t2_loop.trips)) k0_t4_loop.trips).ci
    (max16 (pbN X (thr (paN X k0_t2_loop.trips)) k0_t4_loop.trips).cur) (chk41 _ hle) (k0_t17_loop (max16 (pbN X (thr (paN X k0_t2_loop.trips)) k0_t4_loop.trips).cur)).trips = bestV X := rfl
  rw [hb]
  generalize hbest : bestV X = b
  iapply (wp_spill (defs := defs) 𝒱 d i bd E) $$ S
  iintro S
  iapply (wp_chk (defs := defs) 𝒱 d i bd E (P := ck64 _) (cIx_in (mV b) (mth_pos _)))
  iapply (wp_gatherV (defs := defs) 𝒱 d i bd E (load_cut b _)) $$ S
  iintro S
  unfold scr
  icases T with ⟨T, U⟩
  ihave BU : iprop(own (F := F) (th d i) eb E0 ∗ anyM (F := F) d i ti) $$ [B U]
  · isplitl [B]
    · iexact B
    · iexact U
  iapply (wp_bnd (defs := defs) 𝒱 d i bd E ti eb b (cutV b) (mV b) (mth_pos _) E0) $$ BU
  iintro ⟨B, U⟩
  iapply (wp_st (defs := defs) 𝒱 d i bd E) $$ O
  iintro O
  iapply (wp_st (defs := defs) 𝒱 d i bd E) $$ P
  iintro P
  rw [ov0, ov0]
  iapply Hk $$ %E0
  isplitl [R]
  · iexact R
  isplitr [O P]
  · isplitl [C D]
    · isplitl [C]
      · iexists _; iexact C
      · iexists _; iexact D
    isplitl [S]
    · iexists _; iexact S
    isplitl [B]
    · iexact B
    isplitl [T]
    · iexact T
    · iexact U
  isplitl [O]
  · iexact O
  · unfold rowBnd
    rw [hbest]
    iexact P

end Cert.Proof.Sc
-- ==== Proof.Sc.Copy.lean ====
/- The transfers of a row: in from the logits, out to the two results. -/
module

public import proofs.«01_k».proof.Proof.Sc.Wp3

@[expose] public section

noncomputable section

namespace Cert.Proof.Sc

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Facts₀ Cert.KernelIdeal.Facts
open Idealize.ShloMosaic.SparseCore.Cfg (HIx)

variable {F : FTy → Type} [FloatOps F]
variable {U : Type} [URA U] [CountersIn U]
variable {defs : Defs nD τ sig (Elt F) Λ₀} (𝒱 : Variants) (d : Dev nD) (i : grid0.Coords) (bd : Option 𝒱.V)

local notation "𝕄" => MT nD τ sig (HIx 1) (Elt F) ℕ U ℕ
local notation "W" => wp frame (wpE defs 𝒱 (th d i) bd) Set.univ

variable {α : Type} {Q : α → sProp (MT nD τ sig (HIx 1) (Elt F) ℕ U ℕ)}

/-- A transfer within the subcore's reach, waited for at once. -/
theorem wp_copy {sp sp' : Space} {s : Shape} {e : EltTy} (src : Memref sig .scVector sp s e) (dst : Memref sig .scVector sp' s e) (sem : DmaSem sig)
    (h1 : src.view.WordExact) (h2 : dst.view.WordExact) (h3 : DmaTarget.Typed (nD := nD) (τ := τ) (p := (th d i).2) sp (.dma sem) (.here dst)) (h4 : src.view.WordExact) (h5 : dst.view.WordExact)
    (hN : 0 < dst.view.amount (.dma sem)) (hC : dst.view.dmaCredit = dst.view.amount (.dma sem)) (q : PosShare TreeShare) (X Y : s.Idx → Elt F e)
    (O : CellTallies nD τ sig (HIx 1)) (V : Waits sig (HIx 1)) (k : PUnit → TP F i α) :
    (iprop(owns (th d i) src q X ∗ own (F := F) (th d i) dst Y ∗ semVal (th d i, SemLoc.dma sem) 0 ∗ owes (th d i) O V ∗ MayWait (th d i) (.dma sem) none O) : sProp 𝕄)
      ⊢ iprop(((owns (th d i) src q X ∗ own (F := F) (th d i) dst X ∗ semVal (th d i, SemLoc.dma sem) 0 ∗ owes (th d i) O (insert (SemLoc.dma sem, none) V)) -∗ W (k ⟨⟩) Q)
        -∗ W (.op (.enqueueDmaAs src (.here dst) .same (.dma sem) h1 h2 h3) fun _ => .op (.waitDma2 sem src dst h4 h5) k) Q) := by
  unfold own owns
  iintro ⟨⟨%fs, %hs, S⟩, ⟨%fd, %_, D⟩, V, HO, M⟩ Hk
  iapply (Transfers.wp_dmaLocal countersEmb 𝒱 (th d i) bd (none : HIx 1) (dst.view.amount (.dma sem)) rfl hN (Finset.Subset.refl _)) $$ [S D V]
  · isplitl [S]
    · iexact S
    isplitl [D]
    · iexact D
    · iexact V
  iintro Hf
  iapply (Transfers.wp_waitLocalO countersEmb 𝒱 (th d i) bd (none : HIx 1) hC) $$ [Hf HO M]
  · isplitl [Hf]
    · iexact Hf
    isplitl [HO]
    · iexact HO
    · iexact M
  iintro ⟨⟨D, S⟩, V, HO⟩
  iapply Hk
  isplitl [S]
  · iexists fs
    isplitr
    · ipureintro; exact hs
    · iexact S
  isplitl [D]
  · iexists _
    isplitr
    swap
    · iexact D
    · ipureintro
      rw [View.read_write_univ]
      exact hs
  isplitl [V]
  · iexact V
  · iexact HO

/-- The words of the scratch a row covers, the others kept. -/
def padV (X : Vec F S100096 .f32) (R : Vec F S100000 .f32) : Vec F S100096 .f32 :=
  (Rect.unit (s := S100096) ![0] S100000.size inb_S100096_S100000_0).overlay X R

theorem wp_inP (xs : MH S64x100000 .f32) (rb : MV S100096 .f32) (d0 : DmaSems sig S_) (k : Fin k0_t1_loop.trips) (q : PosShare TreeShare)
    (R : Vec F S100000 .f32) (X : Vec F S100096 .f32) (O : CellTallies nD τ sig (HIx 1)) (V : Waits sig (HIx 1)) (κ : PUnit → TP F i α) :
    (iprop(owns (th d i) (rowM i k xs) q R ∗ own (F := F) (th d i) rb X ∗ semVal (th d i, SemLoc.dma d0.sem) 0 ∗ owes (th d i) O V ∗ MayWait (th d i) (.dma d0.sem) none O) : sProp 𝕄)
      ⊢ iprop(((owns (th d i) (rowM i k xs) q R ∗ own (F := F) (th d i) rb (padV X R) ∗ semVal (th d i, SemLoc.dma d0.sem) 0 ∗ owes (th d i) O (insert (SemLoc.dma d0.sem, none) V)) -∗ W (κ ⟨⟩) Q)
        -∗ W (inP xs rb d0 k >>= κ) Q) := by
  unfold inP
  iintro ⟨S, B, V, HO, M⟩ Hk
  simp only [Prog.bind_assoc, Prog.bind_lift, Prog.bind_op, Prog.bind_ret, Prog.pure_eq_ret]
  ihave B := (owns_slice_split (c := th d i) (m := rb) (q := fullShare) (r := Rect.unit (s := S100096) ![0] S100000.size inb_S100096_S100000_0) (hr := fun _ => rfl) X) $$ B
  icases B with ⟨B, %f, %hf, Br⟩
  iapply (wp_copy (defs := defs) 𝒱 d i bd (rowM i k xs) (bufM rb) d0.sem _ _ _ _ _ (View.amount_pos _ _ (show 0 < S100000.numel by decide)) rfl q R _ O) $$ [S B V HO M]
  · isplitl [S]
    · iexact S
    isplitl [B]
    · iexact B
    isplitl [V]
    · iexact V
    isplitl [HO]
    · iexact HO
    · iexact M
  iintro ⟨S, B, V, HO⟩
  iapply Hk
  isplitl [S]
  · iexact S
  isplitr [V HO]
  · unfold padV
    ihave J := (owns_slice_join (c := th d i) (m := rb) (q := fullShare) (r := Rect.unit (s := S100096) ![0] S100000.size inb_S100096_S100000_0) (hr := fun _ => rfl) R f) $$ [B Br]
    · isplitl [B]
      · iexact B
      · iexact Br
    rw [hf]
    iexact J
  isplitl [V]
  · iexact V
  · iexact HO

theorem wp_outP {e : EltTy} (b : MV S16 e) (hb : b.IsWhole) (o : MH S64x16 e) (he : EltTy.bits e = 32) (d1 : DmaSems sig S_) (k : Fin k0_t1_loop.trips)
    (X Y : Vec F S16 e) (O : CellTallies nD τ sig (HIx 1)) (V : Waits sig (HIx 1)) (κ : PUnit → TP F i α) :
    (iprop(own (F := F) (th d i) b X ∗ own (F := F) (th d i) (outM i k o) Y ∗ semVal (th d i, SemLoc.dma d1.sem) 0 ∗ owes (th d i) O V ∗ MayWait (th d i) (.dma d1.sem) none O) : sProp 𝕄)
      ⊢ iprop(((own (F := F) (th d i) b X ∗ own (F := F) (th d i) (outM i k o) X ∗ semVal (th d i, SemLoc.dma d1.sem) 0 ∗ owes (th d i) O (insert (SemLoc.dma d1.sem, none) V)) -∗ W (κ ⟨⟩) Q)
        -∗ W (outP b hb o he d1 k >>= κ) Q) := by
  unfold outP
  iintro H Hk
  simp only [Prog.bind_assoc, Prog.bind_lift, Prog.bind_op, Prog.bind_ret, Prog.pure_eq_ret]
  iapply (wp_copy (defs := defs) 𝒱 d i bd b (outM i k o) d1.sem _ _ _ _ _ (View.amount_pos _ _ (show 0 < S16.numel by decide)) rfl fullShare X Y O V) $$ H
  iexact Hk

end Cert.Proof.Sc
-- ==== Proof.Sc.Row.lean ====
/- A row on a subcore, and the two of them. -/
module

public import proofs.«01_k».proof.Proof.Sc.Copy

@[expose] public section

noncomputable section

namespace Cert.Proof.Sc

open Idealize.ShloMosaic
open Idealize.SL
open Idealize.SL.BI (sProp)
open scoped Idealize.SL.BI
open Idealize.SL.BI Idealize.SL.BI.BIBase Idealize.SL.BI.Laws Idealize.SL.Sem Idealize.SL.ProofMode
open Idealize.SL.RA
open Cert.KernelIdeal Cert.KernelIdeal.Facts₀ Cert.KernelIdeal.Facts
open Idealize.ShloMosaic.SparseCore.Cfg (HIx)
open Idealize.ShloMosaic.Tactic

section Vals

variable {F : FTy → Type} [FloatOps F]

/-- The words past the row are −∞. -/
def Tail (X : Vec F S100096 .f32) : Prop := ∀ j, 100000 ≤ (j 0).val → X j = negF

theorem mem_buf (j : S100096.Idx) : j ∈ (Rect.unit (s := S100096) ![0] S100000.size inb_S100096_S100000_0).set ↔ (j 0).val < 100000 := by
  rw [Rect.mem_set_unit]
  constructor
  · intro h
    have h0 : (0 : Nat) ≤ (j 0).val ∧ (j 0).val < 0 + 100000 := h 0
    omega
  · intro h a
    have : a = 0 := Fin.eq_zero a
    subst this
    exact ⟨Nat.zero_le _, show (j 0).val < 0 + 100000 by omega⟩

/-- The padded row. -/
def rowX (R : Vec F S100000 .f32) : Vec F S100096 .f32 := padV (fun _ => negF) R

theorem padV_tail {X : Vec F S100096 .f32} (h : Tail X) (R : Vec F S100000 .f32) : padV X R = rowX R := by
  funext j
  unfold rowX padV
  by_cases hj : j ∈ (Rect.unit (s := S100096) ![0] S100000.size inb_S100096_S100000_0).set
  · rw [← Rect.map_emb_univ] at hj
    obtain ⟨i, _, rfl⟩ := Finset.mem_map.mp hj
    rw [Rect.overlay_emb, Rect.overlay_emb]
  · rw [Rect.overlay_of_not_mem _ _ _ hj, Rect.overlay_of_not_mem _ _ _ hj]
    rw [mem_buf] at hj
    exact h j (by omega)

theorem tail_rowX (R : Vec F S100000 .f32) : Tail (rowX R) := by
  intro j hj
  unfold rowX padV
  rw [Rect.overlay_of_not_mem]
  rw [mem_buf]; omega

theorem tail_pad (X : Vec F S100096 .f32) :
    Tail ((Rect.unit (s := S100096) ![100080] S16.size inb_S100096_S16_100080).overlay ((Rect.unit (s := S100096) ![100064] S16.size inb_S100096_S16_100064).overlay
      ((Rect.unit (s := S100096) ![100048] S16.size inb_S100096_S16_100048).overlay ((Rect.unit (s := S100096) ![100032] S16.size inb_S100096_S16_100032).overlay
      ((Rect.unit (s := S100096) ![100016] S16.size inb_S100096_S16_100016).overlay ((Rect.unit (s := S100096) ![100000] S16.size inb_S100096_S16_100000).overlay X (negs (F := F))) negs) negs) negs) negs) negs) := by
  intro j hj
  have hlt : (j 0).val < 100096 := (j 0).isLt
  refine (overlay16 (N := 100096) ![100080] _ _ _ j).trans ?_
  change (if 100080 ≤ (j 0).val ∧ (j 0).val < 100080 + 16 then (negF : F .f32) else _) = _
  split; · rfl
  refine (overlay16 (N := 100096) ![100064] _ _ _ j).trans ?_
  change (if 100064 ≤ (j 0).val ∧ (j 0).val < 100064 + 16 then (negF : F .f32) else _) = _
  split; · rfl
  refine (overlay16 (N := 100096) ![100048] _ _ _ j).trans ?_
  change (if 100048 ≤ (j 0).val ∧ (j 0).val < 100048 + 16 then (negF : F .f32) else _) = _
  split; · rfl
  refine (overlay16 (N := 100096) ![100032] _ _ _ j).trans ?_
  change (if 100032 ≤ (j 0).val ∧ (j 0).val < 100032 + 16 then (negF : F .f32) else _) = _
  split; · rfl
  refine (overlay16 (N := 100096) ![100016] _ _ _ j).trans ?_
  change (if 100016 ≤ (j 0).val ∧ (j 0).val < 100016 + 16 then (negF : F .f32) else _) = _
  split; · rfl
  refine (overlay16 (N := 100096) ![100000] _ _ _ j).trans ?_
  change (if 100000 ≤ (j 0).val ∧ (j 0).val < 100000 + 16 then (negF : F .f32) else _) = _
  split; · rfl
  omega

end Vals

variable {F : FTy → Type} [FloatOps F]
variable {U : Type} [URA U] [CountersIn U]
variable {defs : Defs nD τ sig (Elt F) Λ₀} (𝒱 : Variants) (d : Dev nD) (i : grid0.Coords) (bd : Option 𝒱.V)

local notation "𝕄" => MT nD τ sig (HIx 1) (Elt F) ℕ U ℕ
local notation "W" => wp frame (wpE defs 𝒱 (th d i) bd) Set.univ

variable {α : Type} {Q : α → sProp (MT nD τ sig (HIx 1) (Elt F) ℕ U ℕ)}

theorem wp_padP (rb : MV S100096 .f32) (k : PUnit → TP F i α) :
    (anyM (F := F) d i rb : sProp 𝕄)
      ⊢ iprop(((∃ X, ⌜Tail X⌝ ∗ own (F := F) (th d i) rb X) -∗ W (k ⟨⟩) Q) -∗ W (padP rb >>= k) Q) := by
  unfold padP
  iintro ⟨%X, H⟩ Hk
  simp only [Prog.bind_assoc]
  iapply (wp_st (defs := defs) 𝒱 d i bd Set.univ) $$ H
  iintro H
  iapply (wp_st (defs := defs) 𝒱 d i bd Set.univ) $$ H
  iintro H
  iapply (wp_st (defs := defs) 𝒱 d i bd Set.univ) $$ H
  iintro H
  iapply (wp_st (defs := defs) 𝒱 d i bd Set.univ) $$ H
  iintro H
  iapply (wp_st (defs := defs) 𝒱 d i bd Set.univ) $$ H
  iintro H
  iapply (wp_st (defs := defs) 𝒱 d i bd Set.univ) $$ H
  iintro H
  iapply Hk
  iexists _
  isplitr
  swap
  · iexact H
  · ipureintro
    exact tail_pad X

/-- A row before it is done. -/
def rAny (xs : MH S64x100000 .f32) (oc : MH S64x16 .f32) (ob : MH S64x16 .i32) (R : Vec F S100000 .f32) (k : Fin k0_t1_loop.trips) : sProp 𝕄 :=
  iprop(own (F := F) (th d i) (rowM i k xs) R ∗ (∃ Y, own (F := F) (th d i) (outM i k oc) Y) ∗ (∃ Y, own (F := F) (th d i) (outM i k ob) Y))

/-- A row once it is done. -/
def rDone (xs : MH S64x100000 .f32) (oc : MH S64x16 .f32) (ob : MH S64x16 .i32) (R : Vec F S100000 .f32) (k : Fin k0_t1_loop.trips) : sProp 𝕄 :=
  iprop(own (F := F) (th d i) (rowM i k xs) R ∗ own (F := F) (th d i) (outM i k oc) (cutV (bestV (rowX R)))
    ∗ (∃ E0, own (F := F) (th d i) (outM i k ob) (rowBnd E0 (rowX R))))

/-- What a row leaves as it found it. -/
def rKeep (rb : MV S100096 .f32) (cv : MV S4224 .f32) (ci : MV S4224 .i32) (sb : MV S64 .f32)
    (eb : MV S96 .i32) (of : MV S16 .f32) (oi : MV S16 .i32) (tv : MV S16 .f32) (ti : MV S16 .i32) (d0 d1 d2 : DmaSems sig S_)
    (O : CellTallies nD τ sig (HIx 1)) (V : Waits sig (HIx 1)) : sProp 𝕄 :=
  iprop((∃ X, ⌜Tail X⌝ ∗ own (F := F) (th d i) rb X) ∗ scrs (F := F) d i cv ci sb eb tv ti ∗ anyM (F := F) d i of ∗ anyM (F := F) d i oi
    ∗ semVal (th d i, SemLoc.dma d0.sem) 0 ∗ semVal (th d i, SemLoc.dma d1.sem) 0 ∗ semVal (th d i, SemLoc.dma d2.sem) 0
    ∗ (∃ V', ⌜∀ p ∈ V', p ∈ V ∨ p.2 = none⌝ ∗ owes (th d i) O V'))

theorem wp_rowP (xs : MH S64x100000 .f32) (oc : MH S64x16 .f32) (ob : MH S64x16 .i32) (rb : MV S100096 .f32) (cv : MV S4224 .f32) (ci : MV S4224 .i32) (sb : MV S64 .f32)
    (eb : MV S96 .i32) (of : MV S16 .f32) (hof : of.IsWhole) (oi : MV S16 .i32) (hoi : oi.IsWhole) (tv : MV S16 .f32) (ti : MV S16 .i32) (d0 d1 d2 : DmaSems sig S_)
    (O : CellTallies nD τ sig (HIx 1)) (V : Waits sig (HIx 1)) (R : Vec F S100000 .f32) (k : Fin k0_t1_loop.trips) (κ : BitVec 32 → TP F i α) :
    (iprop(rAny d i xs oc ob R k ∗ rKeep d i rb cv ci sb eb of oi tv ti d0 d1 d2 O V ∗ Transfers.MayWaits (th d i) none O) : sProp 𝕄)
      ⊢ iprop(((rDone d i xs oc ob R k ∗ rKeep d i rb cv ci sb eb of oi tv ti d0 d1 d2 O V) -∗ W (κ 0#32) Q)
        -∗ W (rowP xs oc ob rb cv ci sb eb of hof oi hoi tv ti d0 d1 d2 k >>= κ) Q) := by
  unfold rowP rAny rKeep rDone
  iintro ⟨⟨X, ⟨%Y1, C⟩, ⟨%Y2, B⟩⟩, ⟨⟨%T, %hT, R⟩, S, OF, OI, V0, V1, V2, ⟨%V', %hV, HO⟩⟩, #M⟩ Hk
  simp only [Prog.bind_assoc]
  iapply (wp_inP (defs := defs) 𝒱 d i bd) $$ [X R V0 HO]
  · isplitl [X]
    · iexact X
    isplitl [R]
    · iexact R
    isplitl [V0]
    · iexact V0
    isplitl [HO]
    · iexact HO
    · iapply (Transfers.MayWaits.elim (SemLoc.dma d0.sem)) $$ M
  iintro ⟨X, R, V0, HO⟩
  rw [padV_tail hT]
  iapply (wp_core (defs := defs) 𝒱 d i bd Set.univ) $$ [R S OF OI]
  · isplitl [R]
    · iexact R
    isplitl [S]
    · iexact S
    isplitl [OF]
    · iexact OF
    · iexact OI
  iintro %E0 ⟨R, S, OF, OI⟩
  iapply (wp_outP (defs := defs) 𝒱 d i bd of hof oc rfl d1 k) $$ [OF C V1 HO]
  · isplitl [OF]
    · iexact OF
    isplitl [C]
    · iexact C
    isplitl [V1]
    · iexact V1
    isplitl [HO]
    · iexact HO
    · iapply (Transfers.MayWaits.elim (SemLoc.dma d1.sem)) $$ M
  iintro ⟨OF, C, V1, HO⟩
  iapply (wp_outP (defs := defs) 𝒱 d i bd oi hoi ob rfl d2 k) $$ [OI B V2 HO]
  · isplitl [OI]
    · iexact OI
    isplitl [B]
    · iexact B
    isplitl [V2]
    · iexact V2
    isplitl [HO]
    · iexact HO
    · iapply (Transfers.MayWaits.elim (SemLoc.dma d2.sem)) $$ M
  iintro ⟨OI, B, V2, HO⟩
  simp only [Prog.bind_ret, Prog.pure_eq_ret]
  iapply Hk
  isplitl [X C B]
  · isplitl [X]
    · iexact X
    isplitl [C]
    · iexact C
    · iexists E0
      iexact B
  isplitl [R]
  · iexists _
    isplitr
    swap
    · iexact R
    · ipureintro
      exact tail_rowX _
  isplitl [S]
  · iexact S
  isplitl [OF]
  · iexists _
    iexact OF
  isplitl [OI]
  · iexists _
    iexact OI
  isplitl [V0]
  · iexact V0
  isplitl [V1]
  · iexact V1
  isplitl [V2]
  · iexact V2
  iexists _
  isplitr
  swap
  · iexact HO
  · ipureintro
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hV p hp

/-- The first `n` rows done, the others not. -/
def rows (xs : MH S64x100000 .f32) (oc : MH S64x16 .f32) (ob : MH S64x16 .i32) (R : Fin k0_t1_loop.trips → Vec F S100000 .f32) (n : Nat) : sProp 𝕄 :=
  bigSep Finset.univ fun k : Fin k0_t1_loop.trips => if k.val < n then rDone d i xs oc ob (R k) k else rAny d i xs oc ob (R k) k

theorem rows_take (xs : MH S64x100000 .f32) (oc : MH S64x16 .f32) (ob : MH S64x16 .i32) (R : Fin k0_t1_loop.trips → Vec F S100000 .f32) (n : Fin k0_t1_loop.trips) :
    (rows d i xs oc ob R n.val : sProp 𝕄) ⊢ iprop(rAny d i xs oc ob (R n) n ∗ (rDone d i xs oc ob (R n) n -∗ rows d i xs oc ob R (n.val + 1))) := by
  unfold rows
  rw [SparseCore.bigSep_erase' (Finset.mem_univ n), SparseCore.bigSep_erase' (Φ := fun k : Fin k0_t1_loop.trips => if k.val < n.val + 1 then rDone d i xs oc ob (R k) k else rAny d i xs oc ob (R k) k) (Finset.mem_univ n),
    if_neg (Nat.lt_irrefl _), if_pos (Nat.lt_succ_self _),
    bigSep_congr (s := Finset.univ.erase n) (Φ := fun k : Fin k0_t1_loop.trips => if k.val < n.val + 1 then rDone (F := F) (U := U) d i xs oc ob (R k) k else rAny d i xs oc ob (R k) k)
      (Ψ := fun k : Fin k0_t1_loop.trips => if k.val < n.val then rDone d i xs oc ob (R k) k else rAny d i xs oc ob (R k) k) (fun k hk => by
        have hne : k ≠ n := Finset.ne_of_mem_erase hk
        have : k.val ≠ n.val := fun e => hne (Fin.ext e)
        by_cases h : k.val < n.val
        · rw [if_pos h, if_pos (by omega)]
        · rw [if_neg h, if_neg (by omega)])]
  iintro ⟨A, B⟩
  isplitl [A]
  · iexact A
  iintro C
  isplitl [C]
  · iexact C
  · iexact B

theorem wp_bodyP (xs : MH S64x100000 .f32) (oc : MH S64x16 .f32) (ob : MH S64x16 .i32) (rb : MV S100096 .f32) (cv : MV S4224 .f32) (ci : MV S4224 .i32) (sb : MV S64 .f32)
    (eb : MV S96 .i32) (of : MV S16 .f32) (hof : of.IsWhole) (oi : MV S16 .i32) (hoi : oi.IsWhole) (tv : MV S16 .f32) (ti : MV S16 .i32) (d0 d1 d2 : DmaSems sig S_)
    (O : CellTallies nD τ sig (HIx 1)) (V : Waits sig (HIx 1)) (R : Fin k0_t1_loop.trips → Vec F S100000 .f32) (Q : PUnit → sProp (MT nD τ sig (HIx 1) (Elt F) ℕ U ℕ)) :
    (iprop(rows d i xs oc ob R 0 ∗ anyM (F := F) d i rb ∗ scrs (F := F) d i cv ci sb eb tv ti ∗ anyM (F := F) d i of ∗ anyM (F := F) d i oi
        ∗ semVal (th d i, SemLoc.dma d0.sem) 0 ∗ semVal (th d i, SemLoc.dma d1.sem) 0 ∗ semVal (th d i, SemLoc.dma d2.sem) 0 ∗ owes (th d i) O V
        ∗ Transfers.MayWaits (th d i) none O) : sProp 𝕄)
      ⊢ iprop(((rows d i xs oc ob R k0_t1_loop.trips ∗ rKeep d i rb cv ci sb eb of oi tv ti d0 d1 d2 O V) -∗ Q ⟨⟩)
        -∗ W (bodyP xs oc ob rb cv ci sb eb of hof oi hoi tv ti d0 d1 d2) Q) := by
  unfold bodyP
  iintro ⟨RR, RB, S, OF, OI, V0, V1, V2, HO, #M⟩ Hk
  iapply (wp_padP (defs := defs) 𝒱 d i bd) $$ RB
  iintro RB
  sl_for (fun n (r : BitVec 32) => iprop(Transfers.MayWaits (th d i) none O ∗ rows d i xs oc ob R n ∗ rKeep d i rb cv ci sb eb of oi tv ti d0 d1 d2 O V)) $$ [RR RB S OF OI V0 V1 V2 HO]
  · intro n r
    iintro ⟨#M, H, K⟩
    ihave H := (rows_take (F := F) (U := U) d i xs oc ob R n) $$ H
    icases H with ⟨A, B⟩
    delta wp_bodyP.sl.prog.body_1
    rw [← Prog.bind_pure (rowP xs oc ob rb cv ci sb eb of hof oi hoi tv ti d0 d1 d2 n)]
    iapply (wp_rowP (defs := defs) 𝒱 d i bd) $$ [A K]
    · isplitl [A]
      · iexact A
      isplitl [K]
      · iexact K
      · iexact M
    iintro ⟨A, K⟩
    simp only [Prog.pure_eq_ret]
    rw [wp_ret]
    imodintro
    isplitr
    · iexact M
    isplitl [A B]
    · iapply B
      iexact A
    · iexact K
  · isplitr
    · iexact M
    isplitl [RR]
    · iexact RR
    unfold rKeep
    isplitl [RB]
    · iexact RB
    isplitl [S]
    · iexact S
    isplitl [OF]
    · iexact OF
    isplitl [OI]
    · iexact OI
    isplitl [V0]
    · iexact V0
    isplitl [V1]
    · iexact V1
    isplitl [V2]
    · iexact V2
    iexists V
    isplitr
    · ipureintro
      exact fun p hp => .inl hp
    · iexact HO
  iintro %r ⟨-, H⟩
  delta wp_bodyP.sl.prog.cont_1
  simp only [Prog.pure_eq_ret]
  rw [wp_ret]
  imodintro
  iapply Hk
  iexact H

end Cert.Proof.Sc
-- ==== Proof.Sc.EqBlk.lean ====
/- The printed blocks of a row and the named ones. -/
module

public import proofs.«01_k».proof.Proof.Sc.Struct

@[expose] public section

noncomputable section

namespace Cert.Proof.Sc

open Idealize.ShloMosaic Idealize.SL.Sem
open Cert.KernelIdeal Cert.KernelIdeal.Facts₀ Cert.KernelIdeal.Facts

variable {F : FTy → Type} [FloatOps F] {i : grid0.Coords}
set_option maxHeartbeats 0

/-- The rest of the first block's sort and the loop over the others. -/
def part35S (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v86 : BitVec 32) (k0_hw41 : k0_chk41 v86) (v104 : BitVec 32) (v283 : Vec F S16 .f32) (v284 : Vec F S16 .i32) (v293 : Vec F S16 .f32) (v294 : Vec F S16 .i32) (v296 : Vec F S16 .f32) (v297 : Vec F S16 .i32) (v298 : Vec F S16 .f32) (v299 : Vec F S16 .i32) (v302 : IVec S16 32) (v303 : IVec S16 32) (c0_i32_154 : BitVec 32) (c16_i32_155 : BitVec 32) :
    Prog (TpuEff nD τ sig (Elt F) Λ₀ (.scVector ((i 0).castLE hcore0) ((i 1).castLE hsub0))) (Σ' (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32), Vec F S16 .i32) := do
  let v304 : BitVec 32 := Scalar.addi c0_i32_154 c16_i32_155
  let c1_i32_156 : BitVec 32 := 1#32
  let v305 : IVec S16 32 ← Scf.Loop.for k0_t15_loop k0_t15_ok v303 fun k0_t15 arg17 => do
    let arg16 : BitVec 32 := Scf.iv c0_i32_154 c1_i32_156 k0_t15
    have v1397 : IVec S16 32 := broadcast S16 arg16
    have k0_hw37 : k0_chk37 v1397 := (← Prog.lift (TpuEff.assume (k0_chk37 v1397) (k0_chk37.dec v1397))).down
    let v1398 : Vec F S16 .f32 ← SparseCore.vectorLoadIdx arg12 ![v1397] (k0_idx55_inb v1397 k0_hw37) (View.loads_vmem h_S16)
    have v1399 : IVec S16 1 := cmpf .ogt v1398 v296
    have v1400 : IVec S16 1 := cmpf .oeq v1398 v296
    have v1401 : IVec S16 32 := broadcast S16 arg16
    have v1402 : IVec S16 1 := cmpi .slt v1401 v302
    have v1403 : IVec S16 1 := andi v1400 v1402
    have v1404 : IVec S16 1 := ori v1399 v1403
    have v1405 : IVec S16 32 := extui 32 v1404 natLt_1_32
    have v1406 : IVec S16 32 := addi arg17 v1405
    pure v1406
  let c16_i32_157 : BitVec 32 := 16#32
  let c15_i32_158 : BitVec 32 := 15#32
  have v306 : IVec S16 32 := broadcast S16 c15_i32_158
  have v307 : IVec S16 32 := minsi v305 v306
  have k0_hw38 : k0_chk38 v307 := (← Prog.lift (TpuEff.assume (k0_chk38 v307) (k0_chk38.dec v307))).down
  SparseCore.vectorStoreIdx arg12 ![v307] v296 (fun _ => 1#1) false (k0_idx56_inb v307 k0_hw38) (View.stores_vmem_bits_univ h_S16 rfl)
  SparseCore.vectorStoreIdx arg13 ![v307] v297 (fun _ => 1#1) false (k0_idx57_inb v307 k0_hw38) (View.stores_vmem_bits_univ h_S16 rfl)
  let c0_159 : Index := 0#32
  let v308 : Vec F S16 .f32 ← Prog.lift (.load arg12 (Rect.unit (s := S16) ![0] S16.size inb_S16_S16_0).toLoadRect (View.loadsAt_vmem h_S16))
  let c0_160 : Index := 0#32
  let v309 : Vec F S16 .i32 ← Prog.lift (.load arg13 (Rect.unit (s := S16) ![0] S16.size inb_S16_S16_0).toLoadRect (View.loadsAt_vmem h_S16))
  let c0_161 : Index := 0#32
  let v310 : Vec F S16 .f32 ← Prog.lift (.load arg12 (Rect.unit (s := S16) ![0] S16.size inb_S16_S16_0).toLoadRect (View.loadsAt_vmem h_S16))
  Prog.lift (.store arg12 (Rect.unit (s := S16) ![0] S16.size inb_S16_S16_0) v298 Finset.univ (View.stores_vmem_bits_univ h_S16 rfl) (.inl rfl))
  let c0_162 : Index := 0#32
  let v311 : Vec F S16 .i32 ← Prog.lift (.load arg13 (Rect.unit (s := S16) ![0] S16.size inb_S16_S16_0).toLoadRect (View.loadsAt_vmem h_S16))
  Prog.lift (.store arg13 (Rect.unit (s := S16) ![0] S16.size inb_S16_S16_0) v299 Finset.univ (View.stores_vmem_bits_univ h_S16 rfl) (.inl rfl))
  have v312 : IVec S16 32 := iota .scVector S16 32 [0] iota_S16_d0_w32_scVector
  let c0_i32_163 : BitVec 32 := 0#32
  have v313 : IVec S16 32 := broadcast S16 c0_i32_163
  let c0_i32_164 : BitVec 32 := 0#32
  let c16_i32_165 : BitVec 32 := 16#32
  let v314 : BitVec 32 := Scalar.addi c0_i32_164 c16_i32_165
  let c1_i32_166 : BitVec 32 := 1#32
  let v315 : IVec S16 32 ← Scf.Loop.for k0_t16_loop k0_t16_ok v313 fun k0_t16 arg17 => do
    let arg16 : BitVec 32 := Scf.iv c0_i32_164 c1_i32_166 k0_t16
    have v1397 : IVec S16 32 := broadcast S16 arg16
    have k0_hw39 : k0_chk39 v1397 := (← Prog.lift (TpuEff.assume (k0_chk39 v1397) (k0_chk39.dec v1397))).down
    let v1398 : Vec F S16 .f32 ← SparseCore.vectorLoadIdx arg12 ![v1397] (k0_idx58_inb v1397 k0_hw39) (View.loads_vmem h_S16)
    have v1399 : IVec S16 1 := cmpf .ogt v1398 v298
    have v1400 : IVec S16 1 := cmpf .oeq v1398 v298
    have v1401 : IVec S16 32 := broadcast S16 arg16
    have v1402 : IVec S16 1 := cmpi .slt v1401 v312
    have v1403 : IVec S16 1 := andi v1400 v1402
    have v1404 : IVec S16 1 := ori v1399 v1403
    have v1405 : IVec S16 32 := extui 32 v1404 natLt_1_32
    have v1406 : IVec S16 32 := addi arg17 v1405
    pure v1406
  let c16_i32_167 : BitVec 32 := 16#32
  let c15_i32_168 : BitVec 32 := 15#32
  have v316 : IVec S16 32 := broadcast S16 c15_i32_168
  have v317 : IVec S16 32 := minsi v315 v316
  have k0_hw40 : k0_chk40 v317 := (← Prog.lift (TpuEff.assume (k0_chk40 v317) (k0_chk40.dec v317))).down
  SparseCore.vectorStoreIdx arg12 ![v317] v298 (fun _ => 1#1) false (k0_idx59_inb v317 k0_hw40) (View.stores_vmem_bits_univ h_S16 rfl)
  SparseCore.vectorStoreIdx arg13 ![v317] v299 (fun _ => 1#1) false (k0_idx60_inb v317 k0_hw40) (View.stores_vmem_bits_univ h_S16 rfl)
  let c0_169 : Index := 0#32
  let v318 : Vec F S16 .f32 ← Prog.lift (.load arg12 (Rect.unit (s := S16) ![0] S16.size inb_S16_S16_0).toLoadRect (View.loadsAt_vmem h_S16))
  let c0_170 : Index := 0#32
  let v319 : Vec F S16 .i32 ← Prog.lift (.load arg13 (Rect.unit (s := S16) ![0] S16.size inb_S16_S16_0).toLoadRect (View.loadsAt_vmem h_S16))
  let c1_i32_171 : BitVec 32 := 1#32
  let v320 : BitVec 32 := Scalar.subi v104 c1_i32_171
  let v321 : BitVec 32 := Scalar.addi c1_i32_171 v320
  let c1_i32_172 : BitVec 32 := 1#32
  let v322 : BitVec 32 := Scalar.divsi v320 c1_i32_172
  let v323 : BitVec 32 := Scalar.muli v322 c1_i32_172
  let v324 : BitVec 32 := Scalar.addi c1_i32_171 v323
  let c1_i32_173 : BitVec 32 := 1#32
  let (v325_0, v325_1, v325_2, v325_3, v325_4, v325_5, v325_6, v325_7) ← Scf.Loop.for (k0_t17_loop v86) (k0_t17_ok v86 k0_hw41) (v283, v293, v308, v318, v284, v294, v309, v319) fun k0_t17 (arg17, arg18, arg19, arg20, arg21, arg22, arg23, arg24) =>
    stepP arg12 arg13 arg6 arg7 (k0_off6 v86 k0_t17) (k0_off6_inb v86 k0_hw41 k0_t17) ⟨(arg17, arg21), (arg18, arg22), (arg19, arg23), (arg20, arg24)⟩
  let c1_i32_174 : BitVec 32 := 1#32
  let (v326_0, v326_1, v326_2, v326_3, v326_4, v326_5, v326_6, v326_7) ← Scf.Loop.for (k0_t34_loop v86) (k0_t34_ok v86 k0_hw41) (v325_0, v325_1, v325_2, v325_3, v325_4, v325_5, v325_6, v325_7) fun k0_t34 (arg17, arg18, arg19, arg20, arg21, arg22, arg23, arg24) =>
    stepP arg12 arg13 arg6 arg7 (k0_off7 v86 k0_t34) (k0_off7_inb v86 k0_hw41 k0_t34) ⟨(arg17, arg21), (arg18, arg22), (arg19, arg23), (arg20, arg24)⟩
  let c0_175 : Index := 0#32
  let v327 : Vec F S16 .f32 ← Prog.lift (.load arg8 (Rect.unit (s := S64) ![0] S16.size inb_S64_S16_0).toLoadRect (View.loadsAt_vmem h_S16))
  Prog.lift (.store arg8 (Rect.unit (s := S64) ![0] S16.size inb_S64_S16_0) v326_0 Finset.univ (View.stores_vmem_bits_univ h_S16 rfl) (.inl rfl))
  let c16 : Index := 16#32
  let v328 : Vec F S16 .f32 ← Prog.lift (.load arg8 (Rect.unit (s := S64) ![16] S16.size inb_S64_S16_16).toLoadRect (View.loadsAt_vmem h_S16))
  Prog.lift (.store arg8 (Rect.unit (s := S64) ![16] S16.size inb_S64_S16_16) v326_1 Finset.univ (View.stores_vmem_bits_univ h_S16 rfl) (.inl rfl))
  let c32 : Index := 32#32
  let v329 : Vec F S16 .f32 ← Prog.lift (.load arg8 (Rect.unit (s := S64) ![32] S16.size inb_S64_S16_32).toLoadRect (View.loadsAt_vmem h_S16))
  Prog.lift (.store arg8 (Rect.unit (s := S64) ![32] S16.size inb_S64_S16_32) v326_2 Finset.univ (View.stores_vmem_bits_univ h_S16 rfl) (.inl rfl))
  let c48 : Index := 48#32
  pure ⟨v326_0, v326_1, v326_2, v326_3, v326_4, v326_5, v326_6, v326_7⟩

theorem part35_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v86 : BitVec 32) (k0_hw41 : k0_chk41 v86) (v104 : BitVec 32) (v283 : Vec F S16 .f32) (v284 : Vec F S16 .i32) (v293 : Vec F S16 .f32) (v294 : Vec F S16 .i32) (v296 : Vec F S16 .f32) (v297 : Vec F S16 .i32) (v298 : Vec F S16 .f32) (v299 : Vec F S16 .i32) (v302 : IVec S16 32) (v303 : IVec S16 32) (c0_i32_154 : BitVec 32) (c16_i32_155 : BitVec 32) :
    k0_part35 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v86 k0_hw41 v104 v283 v284 v293 v294 v296 v297 v298 v299 v302 v303 c0_i32_154 c16_i32_155 = part35S i arg2 harg2 arg3 harg3 arg4 harg4 arg5 harg5 arg6 harg6 arg7 harg7 arg8 harg8 arg9 harg9 arg10 harg10 arg11 harg11 arg12 harg12 arg13 harg13 v1397_r0 v1397_r1 v1397_r2 v86 k0_hw41 v104 v283 v284 v293 v294 v296 v297 v298 v299 v302 v303 c0_i32_154 c16_i32_155 := by
  delta k0_part35 part35S k0_part6 k0_part7 k0_part8 k0_part9 k0_part10 k0_part11 k0_part12 k0_part13 k0_part14 k0_part15 k0_part16 k0_part17 k0_part18 k0_part19 k0_part20 k0_part21 k0_part22 k0_part23 k0_part24 k0_part25
  delta stepP ldBlkP sort64P top64P m32P m16P bm32P sortP revP SparseCore.vectorLoadIdx SparseCore.vectorStoreIdx
  simp (maxSteps := 10000000) only [↓Prog.bind_assoc, ↓Prog.bind_op, ↓Prog.bind_lift, ↓Prog.bind_ret, ↓Prog.pure_eq_ret]
  rfl

end Cert.Proof.Sc
-- ==== Proof.Sc.EqSeg.lean ====
/- A printed row in three pieces. -/
module

public import proofs.«01_k».proof.Proof.Sc.EqBlk

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

/-- To the best pairs. -/
def rowA (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    Prog (TpuEff nD τ sig (Elt F) Λ₀ (.scVector ((i 0).castLE hcore0) ((i 1).castLE hsub0))) (Σ' (_ : Vec F S16 .f32) (_ : Vec F S16 .f32) (_ : Vec F S16 .f32) (_ : Vec F S16 .f32) (_ : Vec F S16 .i32) (_ : Vec F S16 .i32) (_ : Vec F S16 .i32), Vec F S16 .i32) := do
  let ⟨v26, v28, v30, v32, v34, v36, v38, v40, v42, v43⟩ : Σ' (v26 : FVec F S16 .f32) (v28 : F .f32) (v30 : F .f32) (v32 : F .f32) (v34 : F .f32) (v36 : F .f32) (v38 : F .f32) (v40 : F .f32) (v42 : F .f32), FVec F S1 .f32 ← k0_part26 i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1
  let ⟨v86, k0_hw41, v87, c64_i32, v88⟩ : Σ' (v86 : BitVec 32) (k0_hw41 : k0_chk41 v86) (v87 : BitVec 32) (c64_i32 : BitVec 32), BitVec 32 ← k0_part27 i arg2 harg2 arg3 harg3 arg4 harg4 arg5 harg5 arg6 harg6 arg7 harg7 arg8 harg8 arg9 harg9 arg10 harg10 arg11 harg11 arg12 harg12 arg13 harg13 v1397_r0 v1397_r1 v1397_r2 v26 v28 v30 v32 v34 v36 v38 v40 v42 v43
  let ⟨v104, v108, v111, v114, v117, v120, v123, v126, v129⟩ : Σ' (v104 : BitVec 32) (v108 : Vec F S16 .f32) (v111 : Vec F S16 .f32) (v114 : Vec F S16 .f32) (v117 : Vec F S16 .f32) (v120 : Vec F S16 .i32) (v123 : Vec F S16 .i32) (v126 : Vec F S16 .i32), Vec F S16 .i32 ← k0_part28 i arg2 harg2 arg3 harg3 arg4 harg4 arg5 harg5 arg6 harg6 arg7 harg7 arg8 harg8 arg9 harg9 arg10 harg10 arg11 harg11 arg12 harg12 arg13 harg13 v1397_r0 v1397_r1 v1397_r2 v87 c64_i32 v88
  let ⟨v138, v139, v148, v149, v152, v153, c0_i32_58, c1_i32_60⟩ : Σ' (v138 : Vec F S16 .f32) (v139 : Vec F S16 .i32) (v148 : Vec F S16 .f32) (v149 : Vec F S16 .i32) (v152 : IVec S16 32) (v153 : IVec S16 32) (c0_i32_58 : BitVec 32), BitVec 32 ← k0_part29 i arg2 harg2 arg3 harg3 arg4 harg4 arg5 harg5 arg6 harg6 arg7 harg7 arg8 harg8 arg9 harg9 arg10 harg10 arg11 harg11 arg12 harg12 arg13 harg13 v1397_r0 v1397_r1 v1397_r2 v108 v111 v114 v120 v123 v126
  let ⟨v158, v159, v168, v169, v181, v182, v183, v184⟩ : Σ' (v158 : Vec F S16 .f32) (v159 : Vec F S16 .i32) (v168 : Vec F S16 .f32) (v169 : Vec F S16 .i32) (v181 : Vec F S16 .f32) (v182 : Vec F S16 .i32) (v183 : Vec F S16 .f32), Vec F S16 .i32 ← k0_part30 i arg2 harg2 arg3 harg3 arg4 harg4 arg5 harg5 arg6 harg6 arg7 harg7 arg8 harg8 arg9 harg9 arg10 harg10 arg11 harg11 arg12 harg12 arg13 harg13 v1397_r0 v1397_r1 v1397_r2 v114 v117 v126 v129 v138 v139 v148 v149 v152 v153 c0_i32_58 c1_i32_60
  let ⟨v193, v194, v203, v204, v209⟩ : Σ' (v193 : Vec F S16 .f32) (v194 : Vec F S16 .i32) (v203 : Vec F S16 .f32) (v204 : Vec F S16 .i32), Vec F S16 .f32 ← k0_part31 i arg2 harg2 arg3 harg3 arg4 harg4 arg5 harg5 arg6 harg6 arg7 harg7 arg8 harg8 arg9 harg9 arg10 harg10 arg11 harg11 arg12 harg12 arg13 harg13 v1397_r0 v1397_r1 v1397_r2 v168 v181 v182 v183 v184
  let ⟨v228, v229⟩ : Σ' (v228 : Vec F S16 .f32), Vec F S16 .i32 ← k0_part32 i arg2 harg2 arg3 harg3 arg4 harg4 arg5 harg5 arg6 harg6 arg7 harg7 arg8 harg8 arg9 harg9 arg10 harg10 arg11 harg11 arg12 harg12 arg13 harg13 v1397_r0 v1397_r1 v1397_r2 v158 v159 v169 v209
  let ⟨v263, v264, v268, v269, v271, v272, v273, v274⟩ : Σ' (v263 : Vec F S16 .f32) (v264 : Vec F S16 .i32) (v268 : Vec F S16 .f32) (v269 : Vec F S16 .i32) (v271 : Vec F S16 .f32) (v272 : Vec F S16 .i32) (v273 : Vec F S16 .f32), Vec F S16 .i32 ← k0_part33 i arg2 harg2 arg3 harg3 arg4 harg4 arg5 harg5 arg6 harg6 arg7 harg7 arg8 harg8 arg9 harg9 arg10 harg10 arg11 harg11 arg12 harg12 arg13 harg13 v1397_r0 v1397_r1 v1397_r2 v193 v194 v203 v204 v228 v229
  let ⟨v283, v284, v293, v294, v296, v297, v298, v299, v302, v303, c0_i32_154, c16_i32_155⟩ : Σ' (v283 : Vec F S16 .f32) (v284 : Vec F S16 .i32) (v293 : Vec F S16 .f32) (v294 : Vec F S16 .i32) (v296 : Vec F S16 .f32) (v297 : Vec F S16 .i32) (v298 : Vec F S16 .f32) (v299 : Vec F S16 .i32) (v302 : IVec S16 32) (v303 : IVec S16 32) (c0_i32_154 : BitVec 32), BitVec 32 ← k0_part34 i arg2 harg2 arg3 harg3 arg4 harg4 arg5 harg5 arg6 harg6 arg7 harg7 arg8 harg8 arg9 harg9 arg10 harg10 arg11 harg11 arg12 harg12 arg13 harg13 v1397_r0 v1397_r1 v1397_r2 v263 v264 v268 v269 v271 v272 v273 v274
  let ⟨v326_0, v326_1, v326_2, v326_3, v326_4, v326_5, v326_6, v326_7⟩ : Σ' (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32), Vec F S16 .i32 ← k0_part35 i arg2 harg2 arg3 harg3 arg4 harg4 arg5 harg5 arg6 harg6 arg7 harg7 arg8 harg8 arg9 harg9 arg10 harg10 arg11 harg11 arg12 harg12 arg13 harg13 v1397_r0 v1397_r1 v1397_r2 v86 k0_hw41 v104 v283 v284 v293 v294 v296 v297 v298 v299 v302 v303 c0_i32_154 c16_i32_155
  pure ⟨v326_0, v326_1, v326_2, v326_3, v326_4, v326_5, v326_6, v326_7⟩

/-- The number of values kept. -/
def rowB (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32) (v326_7 : Vec F S16 .i32) :
    Prog (TpuEff nD τ sig (Elt F) Λ₀ (.scVector ((i 0).castLE hcore0) ((i 1).castLE hsub0))) (BitVec 32) := do
  let ⟨v339, v344, v349, v354, v356, v358, v360, v362, v364, v366, v368, v370, v372, v374, v376, v378, v380⟩ : Σ' (v339 : FVec F S16 .f32) (v344 : FVec F S16 .f32) (v349 : FVec F S16 .f32) (v354 : FVec F S16 .f32) (v356 : F .f32) (v358 : F .f32) (v360 : F .f32) (v362 : F .f32) (v364 : F .f32) (v366 : F .f32) (v368 : F .f32) (v370 : F .f32) (v372 : F .f32) (v374 : F .f32) (v376 : F .f32) (v378 : F .f32), F .f32 ← k0_part36 i arg2 harg2 arg3 harg3 arg4 harg4 arg5 harg5 arg6 harg6 arg7 harg7 arg8 harg8 arg9 harg9 arg10 harg10 arg11 harg11 arg12 harg12 arg13 harg13 v1397_r0 v1397_r1 v1397_r2 v326_0 v326_1 v326_2 v326_3
  let ⟨v401, v419, v421, v423, v425, v427, v429, v431, v433, v440⟩ : Σ' (v401 : F .f32) (v419 : F .f32) (v421 : F .f32) (v423 : F .f32) (v425 : F .f32) (v427 : F .f32) (v429 : F .f32) (v431 : F .f32) (v433 : F .f32), F .f32 ← k0_part37 i arg2 harg2 arg3 harg3 arg4 harg4 arg5 harg5 arg6 harg6 arg7 harg7 arg8 harg8 arg9 harg9 arg10 harg10 arg11 harg11 arg12 harg12 arg13 harg13 v1397_r0 v1397_r1 v1397_r2 v339 v344 v356 v358 v360 v362 v364 v366 v368 v370 v372 v374 v376 v378 v380
  let ⟨v497, v499, v500⟩ : Σ' (v497 : F .f32) (v499 : F .f32), FVec F S1 .f32 ← k0_part38 i arg2 harg2 arg3 harg3 arg4 harg4 arg5 harg5 arg6 harg6 arg7 harg7 arg8 harg8 arg9 harg9 arg10 harg10 arg11 harg11 arg12 harg12 arg13 harg13 v1397_r0 v1397_r1 v1397_r2 v349 v354 v401 v419 v421 v423 v425 v427 v429 v431 v433 v440
  let ⟨v547, v549, v551, v553, v555, v557, v559, v560⟩ : Σ' (v547 : FVec F S16 .f32) (v549 : FVec F S16 .f32) (v551 : FVec F S16 .f32) (v553 : FVec F S16 .f32) (v555 : F .f32) (v557 : F .f32) (v559 : F .f32), FVec F S1 .f32 ← k0_part39 i arg2 harg2 arg3 harg3 arg4 harg4 arg5 harg5 arg6 harg6 arg7 harg7 arg8 harg8 arg9 harg9 arg10 harg10 arg11 harg11 arg12 harg12 arg13 harg13 v1397_r0 v1397_r1 v1397_r2 v339 v344 v349 v354 v497 v499 v500
  let ⟨v600, v602, v604, v606, v608, v610, v612, v614, v616, v618, v620⟩ : Σ' (v600 : F .f32) (v602 : F .f32) (v604 : F .f32) (v606 : F .f32) (v608 : F .f32) (v610 : F .f32) (v612 : F .f32) (v614 : F .f32) (v616 : F .f32) (v618 : F .f32), F .f32 ← k0_part40 i arg2 harg2 arg3 harg3 arg4 harg4 arg5 harg5 arg6 harg6 arg7 harg7 arg8 harg8 arg9 harg9 arg10 harg10 arg11 harg11 arg12 harg12 arg13 harg13 v1397_r0 v1397_r1 v1397_r2 v547 v549 v555 v557 v559 v560
  let ⟨v647, v653, v655, v657, v659, v661, v663, v665, v667, v669, v671, v673, v675, v677, v679, v680⟩ : Σ' (v647 : F .f32) (v653 : F .f32) (v655 : F .f32) (v657 : F .f32) (v659 : F .f32) (v661 : F .f32) (v663 : F .f32) (v665 : F .f32) (v667 : F .f32) (v669 : F .f32) (v671 : F .f32) (v673 : F .f32) (v675 : F .f32) (v677 : F .f32) (v679 : F .f32), F .f32 ← k0_part41 i arg2 harg2 arg3 harg3 arg4 harg4 arg5 harg5 arg6 harg6 arg7 harg7 arg8 harg8 arg9 harg9 arg10 harg10 arg11 harg11 arg12 harg12 arg13 harg13 v1397_r0 v1397_r1 v1397_r2 v549 v551 v602 v604 v606 v608 v610 v612 v614 v616 v618 v620
  let ⟨v694, v726, v740⟩ : Σ' (v694 : F .f32) (v726 : F .f32), F .f32 ← k0_part42 i arg2 harg2 arg3 harg3 arg4 harg4 arg5 harg5 arg6 harg6 arg7 harg7 arg8 harg8 arg9 harg9 arg10 harg10 arg11 harg11 arg12 harg12 arg13 harg13 v1397_r0 v1397_r1 v1397_r2 v553 v653 v655 v657 v659 v661 v663 v665 v667 v669 v671 v673 v675 v677 v679 v680
  let ⟨v742, v749, v756, v763, v770, v777, v784, v786, v787⟩ : Σ' (v742 : IVec S16 32) (v749 : FVec F S16 .f32) (v756 : FVec F S16 .f32) (v763 : FVec F S16 .f32) (v770 : FVec F S16 .f32) (v777 : FVec F S16 .f32) (v784 : FVec F S16 .f32) (v786 : IVec S16 1), FVec F S1 .f32 ← k0_part43 i arg2 harg2 arg3 harg3 arg4 harg4 arg5 harg5 arg6 harg6 arg7 harg7 arg8 harg8 arg9 harg9 arg10 harg10 arg11 harg11 arg12 harg12 arg13 harg13 v1397_r0 v1397_r1 v1397_r2 v547 v726 v740
  let ⟨v791, v798, v805, v812, v819, v826, v833, c13_i32⟩ : Σ' (v791 : FVec F S16 .f32) (v798 : FVec F S16 .f32) (v805 : FVec F S16 .f32) (v812 : FVec F S16 .f32) (v819 : FVec F S16 .f32) (v826 : FVec F S16 .f32) (v833 : FVec F S16 .f32), BitVec 32 ← k0_part44 i arg2 harg2 arg3 harg3 arg4 harg4 arg5 harg5 arg6 harg6 arg7 harg7 arg8 harg8 arg9 harg9 arg10 harg10 arg11 harg11 arg12 harg12 arg13 harg13 v1397_r0 v1397_r1 v1397_r2 v547 v742 v786 v787
  let ⟨v869, v870, v877, v884⟩ : Σ' (v869 : FVec F S16 .f32) (v870 : IVec S16 32) (v877 : FVec F S16 .f32), FVec F S16 .f32 ← k0_part45 i arg2 harg2 arg3 harg3 arg4 harg4 arg5 harg5 arg6 harg6 arg7 harg7 arg8 harg8 arg9 harg9 arg10 harg10 arg11 harg11 arg12 harg12 arg13 harg13 v1397_r0 v1397_r1 v1397_r2 v547 v549 v742 v749 v756 v763 v770 v777 v784 v791 v798 v805 v812 v819 v826 v833 c13_i32
  let ⟨v891, v898, v905, v912, v919, v926, v928, v930, cst_218⟩ : Σ' (v891 : FVec F S16 .f32) (v898 : FVec F S16 .f32) (v905 : FVec F S16 .f32) (v912 : FVec F S16 .f32) (v919 : FVec F S16 .f32) (v926 : FVec F S16 .f32) (v928 : IVec S16 1) (v930 : F .f32), F .f32 ← k0_part46 i arg2 harg2 arg3 harg3 arg4 harg4 arg5 harg5 arg6 harg6 arg7 harg7 arg8 harg8 arg9 harg9 arg10 harg10 arg11 harg11 arg12 harg12 arg13 harg13 v1397_r0 v1397_r1 v1397_r2 v549 v870
  let ⟨v933, v940, v947, v954, v961, v968, v975, v977⟩ : Σ' (v933 : FVec F S16 .f32) (v940 : FVec F S16 .f32) (v947 : FVec F S16 .f32) (v954 : FVec F S16 .f32) (v961 : FVec F S16 .f32) (v968 : FVec F S16 .f32) (v975 : FVec F S16 .f32), IVec S16 1 ← k0_part47 i arg2 harg2 arg3 harg3 arg4 harg4 arg5 harg5 arg6 harg6 arg7 harg7 arg8 harg8 arg9 harg9 arg10 harg10 arg11 harg11 arg12 harg12 arg13 harg13 v1397_r0 v1397_r1 v1397_r2 v549 v870 v928 v930 cst_218
  let ⟨v999, v1000, v1007, v1014, v1021, v1028⟩ : Σ' (v999 : FVec F S16 .f32) (v1000 : IVec S16 32) (v1007 : FVec F S16 .f32) (v1014 : FVec F S16 .f32) (v1021 : FVec F S16 .f32), FVec F S16 .f32 ← k0_part48 i arg2 harg2 arg3 harg3 arg4 harg4 arg5 harg5 arg6 harg6 arg7 harg7 arg8 harg8 arg9 harg9 arg10 harg10 arg11 harg11 arg12 harg12 arg13 harg13 v1397_r0 v1397_r1 v1397_r2 v549 v551 v600 v877 v884 v891 v898 v905 v912 v919 v926 v933 v940 v947 v954 v961 v968 v975 v977
  let ⟨v1035, v1042, v1049, v1056, v1063, v1070, v1072, v1074, cst_254⟩ : Σ' (v1035 : FVec F S16 .f32) (v1042 : FVec F S16 .f32) (v1049 : FVec F S16 .f32) (v1056 : FVec F S16 .f32) (v1063 : FVec F S16 .f32) (v1070 : FVec F S16 .f32) (v1072 : IVec S16 1) (v1074 : F .f32), F .f32 ← k0_part49 i arg2 harg2 arg3 harg3 arg4 harg4 arg5 harg5 arg6 harg6 arg7 harg7 arg8 harg8 arg9 harg9 arg10 harg10 arg11 harg11 arg12 harg12 arg13 harg13 v1397_r0 v1397_r1 v1397_r2 v551 v1000
  let ⟨v1098, v1105, v1112, v1124⟩ : Σ' (v1098 : FVec F S16 .f32) (v1105 : FVec F S16 .f32) (v1112 : FVec F S16 .f32), FVec F S16 .f32 ← k0_part50 i arg2 harg2 arg3 harg3 arg4 harg4 arg5 harg5 arg6 harg6 arg7 harg7 arg8 harg8 arg9 harg9 arg10 harg10 arg11 harg11 arg12 harg12 arg13 harg13 v1397_r0 v1397_r1 v1397_r2 v551 v1000 v1007 v1014 v1021 v1028 v1035 v1042 v1049 v1056 v1063 v1070 v1072 v1074 cst_254
  let ⟨v1130, v1131, v1138, v1145, v1152, v1159, v1166, v1168, v1171, v1172⟩ : Σ' (v1130 : FVec F S16 .f32) (v1131 : IVec S16 32) (v1138 : FVec F S16 .f32) (v1145 : FVec F S16 .f32) (v1152 : FVec F S16 .f32) (v1159 : FVec F S16 .f32) (v1166 : FVec F S16 .f32) (v1168 : IVec S16 1) (v1171 : FVec F S16 .f32), FVec F S16 .f32 ← k0_part51 i arg2 harg2 arg3 harg3 arg4 harg4 arg5 harg5 arg6 harg6 arg7 harg7 arg8 harg8 arg9 harg9 arg10 harg10 arg11 harg11 arg12 harg12 arg13 harg13 v1397_r0 v1397_r1 v1397_r2 v553 v600 v647 v1098 v1105 v1112 v1124
  let ⟨v1173, v1180, v1187, v1194, v1201, v1208, v1215, v1217, v1219⟩ : Σ' (v1173 : FVec F S16 .f32) (v1180 : FVec F S16 .f32) (v1187 : FVec F S16 .f32) (v1194 : FVec F S16 .f32) (v1201 : FVec F S16 .f32) (v1208 : FVec F S16 .f32) (v1215 : FVec F S16 .f32) (v1217 : IVec S16 1), F .f32 ← k0_part52 i arg2 harg2 arg3 harg3 arg4 harg4 arg5 harg5 arg6 harg6 arg7 harg7 arg8 harg8 arg9 harg9 arg10 harg10 arg11 harg11 arg12 harg12 arg13 harg13 v1397_r0 v1397_r1 v1397_r2 v553 v1131 v1168 v1171 v1172
  let ⟨v1262, v1269⟩ : Σ' (v1262 : FVec F S16 .f32), BitVec 32 ← k0_part53 i arg2 harg2 arg3 harg3 arg4 harg4 arg5 harg5 arg6 harg6 arg7 harg7 arg8 harg8 arg9 harg9 arg10 harg10 arg11 harg11 arg12 harg12 arg13 harg13 v1397_r0 v1397_r1 v1397_r2 v553 v600 v647 v694 v869 v1131 v1138 v1145 v1152 v1159 v1166 v1173 v1180 v1187 v1194 v1201 v1208 v1215 v1217 v1219
  have cst_300 : F .f32 := Scalar.ofBits .f32 0x3F666666#32
  have v1270 : FVec F S16 .f32 := broadcast S16 cst_300
  have v1271 : IVec S16 1 := cmpf .ole v999 v1270
  have v1272 : IVec S16 32 := extui 32 v1271 natLt_1_32
  let true_301 : BitVec 1 := 1#1
  have v1273 : IVec S16 1 := broadcast S16 true_301
  have v1274 : IVec S16 32 := scan .sum v1272
  let v1275 : BitVec 32 := extractAt ![15] v1274 inpos_S16_p15
  let v1276 : BitVec 32 := Scalar.addi v1269 v1275
  have cst_302 : F .f32 := Scalar.ofBits .f32 0x3F666666#32
  have v1277 : FVec F S16 .f32 := broadcast S16 cst_302
  have v1278 : IVec S16 1 := cmpf .ole v1130 v1277
  have v1279 : IVec S16 32 := extui 32 v1278 natLt_1_32
  let true_303 : BitVec 1 := 1#1
  have v1280 : IVec S16 1 := broadcast S16 true_303
  have v1281 : IVec S16 32 := scan .sum v1279
  let v1282 : BitVec 32 := extractAt ![15] v1281 inpos_S16_p15
  let v1283 : BitVec 32 := Scalar.addi v1276 v1282
  have cst_304 : F .f32 := Scalar.ofBits .f32 0x3F666666#32
  have v1284 : FVec F S16 .f32 := broadcast S16 cst_304
  have v1285 : IVec S16 1 := cmpf .ole v1262 v1284
  have v1286 : IVec S16 32 := extui 32 v1285 natLt_1_32
  let true_305 : BitVec 1 := 1#1
  have v1287 : IVec S16 1 := broadcast S16 true_305
  have v1288 : IVec S16 32 := scan .sum v1286
  let v1289 : BitVec 32 := extractAt ![15] v1288 inpos_S16_p15
  let v1290 : BitVec 32 := Scalar.addi v1283 v1289
  let c1_i32_306 : BitVec 32 := 1#32
  let v1291 : BitVec 32 := Scalar.addi v1290 c1_i32_306
  pure v1291

/-- The last value kept, its bound, and the first result. -/
def rowC (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32) (v326_7 : Vec F S16 .i32) (v1291 : BitVec 32) :
    Prog (TpuEff nD τ sig (Elt F) Λ₀ (.scVector ((i 0).castLE hcore0) ((i 1).castLE hsub0))) PUnit := do
  let c1_i32_307 : BitVec 32 := 1#32
  let v1292 : BitVec 32 := Scalar.subi v1291 c1_i32_307
  let c63_i32_308 : BitVec 32 := 63#32
  let v1293 : BitVec 32 := Scalar.minsi v1292 c63_i32_308
  have v1294 : IVec S16 32 := broadcast S16 v1293
  have k0_hw140 : k0_chk140 v1294 := (← Prog.lift (TpuEff.assume (k0_chk140 v1294) (k0_chk140.dec v1294))).down
  let v1295 : Vec F S16 .f32 ← SparseCore.vectorLoadIdx arg8 ![v1294] (k0_idx191_inb v1294 k0_hw140) (View.loads_vmem h_S64)
  have v1296 : IVec S16 1 := cmpf .ogt v326_0 v1295
  have v1297 : IVec S16 32 := extui 32 v1296 natLt_1_32
  let true_309 : BitVec 1 := 1#1
  have v1298 : IVec S16 1 := broadcast S16 true_309
  have v1299 : IVec S16 32 := scan .sum v1297
  let v1300 : BitVec 32 := extractAt ![15] v1299 inpos_S16_p15
  let c0_i32_310 : BitVec 32 := 0#32
  let v1301 : BitVec 32 := Scalar.addi c0_i32_310 v1300
  have v1302 : IVec S16 1 := cmpf .ogt v326_1 v1295
  have v1303 : IVec S16 32 := extui 32 v1302 natLt_1_32
  let true_311 : BitVec 1 := 1#1
  have v1304 : IVec S16 1 := broadcast S16 true_311
  have v1305 : IVec S16 32 := scan .sum v1303
  let v1306 : BitVec 32 := extractAt ![15] v1305 inpos_S16_p15
  let v1307 : BitVec 32 := Scalar.addi v1301 v1306
  have v1308 : IVec S16 1 := cmpf .ogt v326_2 v1295
  have v1309 : IVec S16 32 := extui 32 v1308 natLt_1_32
  let true_312 : BitVec 1 := 1#1
  have v1310 : IVec S16 1 := broadcast S16 true_312
  have v1311 : IVec S16 32 := scan .sum v1309
  let v1312 : BitVec 32 := extractAt ![15] v1311 inpos_S16_p15
  let v1313 : BitVec 32 := Scalar.addi v1307 v1312
  have v1314 : IVec S16 1 := cmpf .ogt v326_3 v1295
  have v1315 : IVec S16 32 := extui 32 v1314 natLt_1_32
  let ⟨v1320, v1333, v1347, v1348, v1349, v1350, v1356, v1357⟩ : Σ' (v1320 : BitVec 32) (v1333 : BitVec 32) (v1347 : BitVec 32) (v1348 : BitVec 32) (v1349 : IVec S16 1) (v1350 : IVec S16 32) (v1356 : IVec S16 32), IVec S16 32 ← k0_part55 i arg2 harg2 arg3 harg3 arg4 harg4 arg5 harg5 arg6 harg6 arg7 harg7 arg8 harg8 arg9 harg9 arg10 harg10 arg11 harg11 arg12 harg12 arg13 harg13 v1397_r0 v1397_r1 v1397_r2 v326_0 v326_1 v326_2 v326_4 v326_5 v1291 v1295 v1313 v1315
  let v1390 : BitVec 32 ← k0_part56 i arg2 harg2 arg3 harg3 arg4 harg4 arg5 harg5 arg6 harg6 arg7 harg7 arg8 harg8 arg9 harg9 arg10 harg10 arg11 harg11 arg12 harg12 arg13 harg13 v1397_r0 v1397_r1 v1397_r2 v326_3 v326_6 v326_7 v1295 v1320 v1333 v1347 v1348 v1349 v1350 v1356 v1357
  let c1_i32_343 : BitVec 32 := 1#32
  let v1391 : BitVec 32 := Scalar.subi v1390 c1_i32_343
  let c0_i32_344 : BitVec 32 := 0#32
  let v1392 : BitVec 32 := Scalar.maxsi v1391 c0_i32_344
  have v1393 : IVec S16 32 := broadcast S16 v1392
  have k0_hw148 : k0_chk148 v1393 := (← Prog.lift (TpuEff.assume (k0_chk148 v1393) (k0_chk148.dec v1393))).down
  let v1394 : Vec F S16 .i32 ← SparseCore.vectorLoadIdx arg9 ![v1393] (k0_idx198_inb v1393 k0_hw148) (View.loads_vmem h_S96)
  let c0_345 : Index := 0#32
  let v1395 : Vec F S16 .f32 ← Prog.lift (.load arg10 (Rect.unit (s := S16) ![0] S16.size inb_S16_S16_0).toLoadRect (View.loadsAt_vmem h_S16))
  Prog.lift (.store arg10 (Rect.unit (s := S16) ![0] S16.size inb_S16_S16_0) v1295 Finset.univ (View.stores_vmem_bits_univ h_S16 rfl) (.inl rfl))
  let c0_346 : Index := 0#32
  let v1396 : Vec F S16 .i32 ← Prog.lift (.load arg11 (Rect.unit (s := S16) ![0] S16.size inb_S16_S16_0).toLoadRect (View.loadsAt_vmem h_S16))
  Prog.lift (.store arg11 (Rect.unit (s := S16) ![0] S16.size inb_S16_S16_0) v1394 Finset.univ (View.stores_vmem_bits_univ h_S16 rfl) (.inl rfl))
  let c0_i32_348_r1 : BitVec 32 := 0#32
  let v1398_r1 : Memref sig .scVector .hbm S1x16 .f32 := arg3.slice (Rect.unit (s := S64x16) (k0_off9 i k0_t1) S1x16.size (k0_off9_inb i k0_t1)) (fun _ => rfl)
  let v1399_r1 : Memref sig .scVector .hbm S16 .f32 := v1398_r1.squeeze S16 squeezes_S1x16_S16
  let c0_i32_349_r1 : BitVec 32 := 0#32
  let v1400_r1 : Memref sig .scVector .hbm S1x16 .f32 := arg3.slice (Rect.unit (s := S64x16) (k0_off9 i k0_t1) S1x16.size (k0_off9_inb i k0_t1)) (fun _ => rfl)
  let v1401_r1 : Memref sig .scVector .hbm S16 .f32 := v1400_r1.squeeze S16 squeezes_S1x16_S16
  Prog.lift (.enqueueDma arg10 (.here v1401_r1) (.dma v1397_r1.sem) harg10.wordExact ((View.wordExact_bits rfl).reshape _ _) ⟨Or.inl rfl, trivial⟩)
  let c0_i32_350_r1 : BitVec 32 := 0#32
  let v1402_r1 : Memref sig .scVector .hbm S1x16 .f32 := arg3.slice (Rect.unit (s := S64x16) (k0_off9 i k0_t1) S1x16.size (k0_off9_inb i k0_t1)) (fun _ => rfl)
  let v1403_r1 : Memref sig .scVector .hbm S16 .f32 := v1402_r1.squeeze S16 squeezes_S1x16_S16
  let c0_i32_351_r1 : BitVec 32 := 0#32
  let v1404_r1 : Memref sig .scVector .hbm S1x16 .f32 := arg3.slice (Rect.unit (s := S64x16) (k0_off9 i k0_t1) S1x16.size (k0_off9_inb i k0_t1)) (fun _ => rfl)
  let v1405_r1 : Memref sig .scVector .hbm S16 .f32 := v1404_r1.squeeze S16 squeezes_S1x16_S16
  Prog.lift (.waitDma2 v1397_r1.sem arg10 v1405_r1 harg10.wordExact ((View.wordExact_bits rfl).reshape _ _))
  let c0_i32_348_r2 : BitVec 32 := 0#32
  let v1398_r2 : Memref sig .scVector .hbm S1x16 .i32 := arg4.slice (Rect.unit (s := S64x16) (k0_off9 i k0_t1) S1x16.size (k0_off9_inb i k0_t1)) (fun _ => rfl)
  pure ⟨⟩

theorem part57_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    k0_part57 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 = (do
      let ⟨v326_0, v326_1, v326_2, v326_3, v326_4, v326_5, v326_6, v326_7⟩ ← rowA i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1
      let m ← rowB i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v326_0 v326_1 v326_2 v326_3 v326_4 v326_5 v326_6 v326_7
      rowC i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v326_0 v326_1 v326_2 v326_3 v326_4 v326_5 v326_6 v326_7 m) := by
  delta k0_part57 k0_part54 rowA rowB rowC
  simp only [Prog.bind_assoc, Prog.bind_ret, Prog.pure_eq_ret]

end Cert.Proof.Sc
-- ==== Proof.Sc.EqSegA.lean ====
/- A printed row's first piece, in three. -/
module

public import proofs.«01_k».proof.Proof.Sc.EqSeg

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

/-- To the first block of candidates. -/
def rowA1 (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    Prog (TpuEff nD τ sig (Elt F) Λ₀ (.scVector ((i 0).castLE hcore0) ((i 1).castLE hsub0))) (Σ' (v86 : BitVec 32) (_ : k0_chk41 v86) (_ : Vec F S16 .f32) (_ : Vec F S16 .f32) (_ : Vec F S16 .f32) (_ : Vec F S16 .f32) (_ : Vec F S16 .i32) (_ : Vec F S16 .i32) (_ : Vec F S16 .i32), Vec F S16 .i32) := do
  let ⟨v26, v28, v30, v32, v34, v36, v38, v40, v42, v43⟩ : Σ' (v26 : FVec F S16 .f32) (v28 : F .f32) (v30 : F .f32) (v32 : F .f32) (v34 : F .f32) (v36 : F .f32) (v38 : F .f32) (v40 : F .f32) (v42 : F .f32), FVec F S1 .f32 ← k0_part26 i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1
  let ⟨v86, k0_hw41, v87, c64_i32, v88⟩ : Σ' (v86 : BitVec 32) (k0_hw41 : k0_chk41 v86) (v87 : BitVec 32) (c64_i32 : BitVec 32), BitVec 32 ← k0_part27 i arg2 harg2 arg3 harg3 arg4 harg4 arg5 harg5 arg6 harg6 arg7 harg7 arg8 harg8 arg9 harg9 arg10 harg10 arg11 harg11 arg12 harg12 arg13 harg13 v1397_r0 v1397_r1 v1397_r2 v26 v28 v30 v32 v34 v36 v38 v40 v42 v43
  let c0_i32_23 : BitVec 32 := 0#32
  let v89 : BitVec 1 := Scalar.cmpi .sgt v87 c0_i32_23
  let v90 : BitVec 32 := Scalar.extui v89
  let c0_i32_24 : BitVec 32 := 0#32
  let v91 : BitVec 1 := Scalar.cmpi .slt v87 c0_i32_24
  let v92 : BitVec 32 := Scalar.extui v91
  let v93 : BitVec 32 := Scalar.subi v90 v92
  let c0_i32_25 : BitVec 32 := 0#32
  let v94 : BitVec 1 := Scalar.cmpi .sgt c64_i32 c0_i32_25
  let v95 : BitVec 32 := Scalar.extui v94
  let c0_i32_26 : BitVec 32 := 0#32
  let v96 : BitVec 1 := Scalar.cmpi .slt c64_i32 c0_i32_26
  let v97 : BitVec 32 := Scalar.extui v96
  let v98 : BitVec 32 := Scalar.subi v95 v97
  let v99 : BitVec 1 := Scalar.cmpi .ne v93 v98
  let v100 : BitVec 32 := Scalar.remsi v87 c64_i32
  let c0_i32_27 : BitVec 32 := 0#32
  let v101 : BitVec 1 := Scalar.cmpi .ne v100 c0_i32_27
  let v102 : BitVec 1 := Scalar.andi v99 v101
  let c1_i32_28 : BitVec 32 := 1#32
  let v103 : BitVec 32 := Scalar.subi v88 c1_i32_28
  let v104 : BitVec 32 := Scalar.select v102 v103 v88
  let c0_i32_29 : BitVec 32 := 0#32
  let c64_i32_30 : BitVec 32 := 64#32
  let v105 : BitVec 32 := Scalar.muli c0_i32_29 c64_i32_30
  let c0_i32_31 : BitVec 32 := 0#32
  let v106 : BitVec 32 := Scalar.addi v105 c0_i32_31
  let v107 : Index := Scalar.indexCast v106
  let v108 : Vec F S16 .f32 ← Prog.lift (.load arg6 (Rect.unit (s := S4224) (k0_off5 0#32) S16.size (k0_off5_inb 0)).toLoadRect (View.loadsAt_vmem h_S16))
  let c16_i32 : BitVec 32 := 16#32
  let v109 : BitVec 32 := Scalar.addi v105 c16_i32
  let v110 : Index := Scalar.indexCast v109
  let v111 : Vec F S16 .f32 ← Prog.lift (.load arg6 (Rect.unit (s := S4224) (k0_off5 16#32) S16.size (k0_off5_inb 1)).toLoadRect (View.loadsAt_vmem h_S16))
  let c32_i32_32 : BitVec 32 := 32#32
  let v112 : BitVec 32 := Scalar.addi v105 c32_i32_32
  let v113 : Index := Scalar.indexCast v112
  let v114 : Vec F S16 .f32 ← Prog.lift (.load arg6 (Rect.unit (s := S4224) (k0_off5 32#32) S16.size (k0_off5_inb 2)).toLoadRect (View.loadsAt_vmem h_S16))
  let c48_i32 : BitVec 32 := 48#32
  let v115 : BitVec 32 := Scalar.addi v105 c48_i32
  let v116 : Index := Scalar.indexCast v115
  let v117 : Vec F S16 .f32 ← Prog.lift (.load arg6 (Rect.unit (s := S4224) (k0_off5 48#32) S16.size (k0_off5_inb 3)).toLoadRect (View.loadsAt_vmem h_S16))
  let c0_i32_33 : BitVec 32 := 0#32
  let v118 : BitVec 32 := Scalar.addi v105 c0_i32_33
  let v119 : Index := Scalar.indexCast v118
  let v120 : Vec F S16 .i32 ← Prog.lift (.load arg7 (Rect.unit (s := S4224) (k0_off5 0#32) S16.size (k0_off5_inb 0)).toLoadRect (View.loadsAt_vmem h_S16))
  let c16_i32_34 : BitVec 32 := 16#32
  let v121 : BitVec 32 := Scalar.addi v105 c16_i32_34
  let v122 : Index := Scalar.indexCast v121
  let v123 : Vec F S16 .i32 ← Prog.lift (.load arg7 (Rect.unit (s := S4224) (k0_off5 16#32) S16.size (k0_off5_inb 1)).toLoadRect (View.loadsAt_vmem h_S16))
  let c32_i32_35 : BitVec 32 := 32#32
  let v124 : BitVec 32 := Scalar.addi v105 c32_i32_35
  let v125 : Index := Scalar.indexCast v124
  let v126 : Vec F S16 .i32 ← Prog.lift (.load arg7 (Rect.unit (s := S4224) (k0_off5 32#32) S16.size (k0_off5_inb 2)).toLoadRect (View.loadsAt_vmem h_S16))
  let c48_i32_36 : BitVec 32 := 48#32
  let v127 : BitVec 32 := Scalar.addi v105 c48_i32_36
  let v128 : Index := Scalar.indexCast v127
  let v129 : Vec F S16 .i32 ← Prog.lift (.load arg7 (Rect.unit (s := S4224) (k0_off5 48#32) S16.size (k0_off5_inb 3)).toLoadRect (View.loadsAt_vmem h_S16))
  let c0 : Index := 0#32
  pure ⟨v86, k0_hw41, v108, v111, v114, v117, v120, v123, v126, v129⟩

/-- The first block sorted. -/
def rowA2 (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v108 : Vec F S16 .f32) (v111 : Vec F S16 .f32) (v114 : Vec F S16 .f32) (v117 : Vec F S16 .f32) (v120 : Vec F S16 .i32) (v123 : Vec F S16 .i32) (v126 : Vec F S16 .i32) (v129 : Vec F S16 .i32) :
    Prog (TpuEff nD τ sig (Elt F) Λ₀ (.scVector ((i 0).castLE hcore0) ((i 1).castLE hsub0))) (Σ' (_ : Vec F S16 .f32) (_ : Vec F S16 .f32) (_ : Vec F S16 .f32) (_ : Vec F S16 .f32) (_ : Vec F S16 .i32) (_ : Vec F S16 .i32) (_ : Vec F S16 .i32), Vec F S16 .i32) := do
  let v130 : Vec F S16 .f32 ← Prog.lift (.load arg12 (Rect.unit (s := S16) ![0] S16.size inb_S16_S16_0).toLoadRect (View.loadsAt_vmem h_S16))
  Prog.lift (.store arg12 (Rect.unit (s := S16) ![0] S16.size inb_S16_S16_0) v108 Finset.univ (View.stores_vmem_bits_univ h_S16 rfl) (.inl rfl))
  let ⟨v138, v139, v148, v149, v152, v153, c0_i32_58, c1_i32_60⟩ : Σ' (v138 : Vec F S16 .f32) (v139 : Vec F S16 .i32) (v148 : Vec F S16 .f32) (v149 : Vec F S16 .i32) (v152 : IVec S16 32) (v153 : IVec S16 32) (c0_i32_58 : BitVec 32), BitVec 32 ← k0_part29 i arg2 harg2 arg3 harg3 arg4 harg4 arg5 harg5 arg6 harg6 arg7 harg7 arg8 harg8 arg9 harg9 arg10 harg10 arg11 harg11 arg12 harg12 arg13 harg13 v1397_r0 v1397_r1 v1397_r2 v108 v111 v114 v120 v123 v126
  let ⟨v158, v159, v168, v169, v181, v182, v183, v184⟩ : Σ' (v158 : Vec F S16 .f32) (v159 : Vec F S16 .i32) (v168 : Vec F S16 .f32) (v169 : Vec F S16 .i32) (v181 : Vec F S16 .f32) (v182 : Vec F S16 .i32) (v183 : Vec F S16 .f32), Vec F S16 .i32 ← k0_part30 i arg2 harg2 arg3 harg3 arg4 harg4 arg5 harg5 arg6 harg6 arg7 harg7 arg8 harg8 arg9 harg9 arg10 harg10 arg11 harg11 arg12 harg12 arg13 harg13 v1397_r0 v1397_r1 v1397_r2 v114 v117 v126 v129 v138 v139 v148 v149 v152 v153 c0_i32_58 c1_i32_60
  let ⟨v193, v194, v203, v204, v209⟩ : Σ' (v193 : Vec F S16 .f32) (v194 : Vec F S16 .i32) (v203 : Vec F S16 .f32) (v204 : Vec F S16 .i32), Vec F S16 .f32 ← k0_part31 i arg2 harg2 arg3 harg3 arg4 harg4 arg5 harg5 arg6 harg6 arg7 harg7 arg8 harg8 arg9 harg9 arg10 harg10 arg11 harg11 arg12 harg12 arg13 harg13 v1397_r0 v1397_r1 v1397_r2 v168 v181 v182 v183 v184
  let ⟨v228, v229⟩ : Σ' (v228 : Vec F S16 .f32), Vec F S16 .i32 ← k0_part32 i arg2 harg2 arg3 harg3 arg4 harg4 arg5 harg5 arg6 harg6 arg7 harg7 arg8 harg8 arg9 harg9 arg10 harg10 arg11 harg11 arg12 harg12 arg13 harg13 v1397_r0 v1397_r1 v1397_r2 v158 v159 v169 v209
  let ⟨v263, v264, v268, v269, v271, v272, v273, v274⟩ : Σ' (v263 : Vec F S16 .f32) (v264 : Vec F S16 .i32) (v268 : Vec F S16 .f32) (v269 : Vec F S16 .i32) (v271 : Vec F S16 .f32) (v272 : Vec F S16 .i32) (v273 : Vec F S16 .f32), Vec F S16 .i32 ← k0_part33 i arg2 harg2 arg3 harg3 arg4 harg4 arg5 harg5 arg6 harg6 arg7 harg7 arg8 harg8 arg9 harg9 arg10 harg10 arg11 harg11 arg12 harg12 arg13 harg13 v1397_r0 v1397_r1 v1397_r2 v193 v194 v203 v204 v228 v229
  let ⟨v283, v284, v293, v294, v296, v297, v298, v299, v302, v303, c0_i32_154, c16_i32_155⟩ : Σ' (v283 : Vec F S16 .f32) (v284 : Vec F S16 .i32) (v293 : Vec F S16 .f32) (v294 : Vec F S16 .i32) (v296 : Vec F S16 .f32) (v297 : Vec F S16 .i32) (v298 : Vec F S16 .f32) (v299 : Vec F S16 .i32) (v302 : IVec S16 32) (v303 : IVec S16 32) (c0_i32_154 : BitVec 32), BitVec 32 ← k0_part34 i arg2 harg2 arg3 harg3 arg4 harg4 arg5 harg5 arg6 harg6 arg7 harg7 arg8 harg8 arg9 harg9 arg10 harg10 arg11 harg11 arg12 harg12 arg13 harg13 v1397_r0 v1397_r1 v1397_r2 v263 v264 v268 v269 v271 v272 v273 v274
  let v304 : BitVec 32 := Scalar.addi c0_i32_154 c16_i32_155
  let c1_i32_156 : BitVec 32 := 1#32
  let v305 : IVec S16 32 ← Scf.Loop.for k0_t15_loop k0_t15_ok v303 fun k0_t15 arg17 => do
    let arg16 : BitVec 32 := Scf.iv c0_i32_154 c1_i32_156 k0_t15
    have v1397 : IVec S16 32 := broadcast S16 arg16
    have k0_hw37 : k0_chk37 v1397 := (← Prog.lift (TpuEff.assume (k0_chk37 v1397) (k0_chk37.dec v1397))).down
    let v1398 : Vec F S16 .f32 ← SparseCore.vectorLoadIdx arg12 ![v1397] (k0_idx55_inb v1397 k0_hw37) (View.loads_vmem h_S16)
    have v1399 : IVec S16 1 := cmpf .ogt v1398 v296
    have v1400 : IVec S16 1 := cmpf .oeq v1398 v296
    have v1401 : IVec S16 32 := broadcast S16 arg16
    have v1402 : IVec S16 1 := cmpi .slt v1401 v302
    have v1403 : IVec S16 1 := andi v1400 v1402
    have v1404 : IVec S16 1 := ori v1399 v1403
    have v1405 : IVec S16 32 := extui 32 v1404 natLt_1_32
    have v1406 : IVec S16 32 := addi arg17 v1405
    pure v1406
  let c16_i32_157 : BitVec 32 := 16#32
  let c15_i32_158 : BitVec 32 := 15#32
  have v306 : IVec S16 32 := broadcast S16 c15_i32_158
  have v307 : IVec S16 32 := minsi v305 v306
  have k0_hw38 : k0_chk38 v307 := (← Prog.lift (TpuEff.assume (k0_chk38 v307) (k0_chk38.dec v307))).down
  SparseCore.vectorStoreIdx arg12 ![v307] v296 (fun _ => 1#1) false (k0_idx56_inb v307 k0_hw38) (View.stores_vmem_bits_univ h_S16 rfl)
  SparseCore.vectorStoreIdx arg13 ![v307] v297 (fun _ => 1#1) false (k0_idx57_inb v307 k0_hw38) (View.stores_vmem_bits_univ h_S16 rfl)
  let c0_159 : Index := 0#32
  let v308 : Vec F S16 .f32 ← Prog.lift (.load arg12 (Rect.unit (s := S16) ![0] S16.size inb_S16_S16_0).toLoadRect (View.loadsAt_vmem h_S16))
  let c0_160 : Index := 0#32
  let v309 : Vec F S16 .i32 ← Prog.lift (.load arg13 (Rect.unit (s := S16) ![0] S16.size inb_S16_S16_0).toLoadRect (View.loadsAt_vmem h_S16))
  let c0_161 : Index := 0#32
  let v310 : Vec F S16 .f32 ← Prog.lift (.load arg12 (Rect.unit (s := S16) ![0] S16.size inb_S16_S16_0).toLoadRect (View.loadsAt_vmem h_S16))
  Prog.lift (.store arg12 (Rect.unit (s := S16) ![0] S16.size inb_S16_S16_0) v298 Finset.univ (View.stores_vmem_bits_univ h_S16 rfl) (.inl rfl))
  let c0_162 : Index := 0#32
  let v311 : Vec F S16 .i32 ← Prog.lift (.load arg13 (Rect.unit (s := S16) ![0] S16.size inb_S16_S16_0).toLoadRect (View.loadsAt_vmem h_S16))
  Prog.lift (.store arg13 (Rect.unit (s := S16) ![0] S16.size inb_S16_S16_0) v299 Finset.univ (View.stores_vmem_bits_univ h_S16 rfl) (.inl rfl))
  have v312 : IVec S16 32 := iota .scVector S16 32 [0] iota_S16_d0_w32_scVector
  let c0_i32_163 : BitVec 32 := 0#32
  have v313 : IVec S16 32 := broadcast S16 c0_i32_163
  let c0_i32_164 : BitVec 32 := 0#32
  let c16_i32_165 : BitVec 32 := 16#32
  let v314 : BitVec 32 := Scalar.addi c0_i32_164 c16_i32_165
  let c1_i32_166 : BitVec 32 := 1#32
  let v315 : IVec S16 32 ← Scf.Loop.for k0_t16_loop k0_t16_ok v313 fun k0_t16 arg17 => do
    let arg16 : BitVec 32 := Scf.iv c0_i32_164 c1_i32_166 k0_t16
    have v1397 : IVec S16 32 := broadcast S16 arg16
    have k0_hw39 : k0_chk39 v1397 := (← Prog.lift (TpuEff.assume (k0_chk39 v1397) (k0_chk39.dec v1397))).down
    let v1398 : Vec F S16 .f32 ← SparseCore.vectorLoadIdx arg12 ![v1397] (k0_idx58_inb v1397 k0_hw39) (View.loads_vmem h_S16)
    have v1399 : IVec S16 1 := cmpf .ogt v1398 v298
    have v1400 : IVec S16 1 := cmpf .oeq v1398 v298
    have v1401 : IVec S16 32 := broadcast S16 arg16
    have v1402 : IVec S16 1 := cmpi .slt v1401 v312
    have v1403 : IVec S16 1 := andi v1400 v1402
    have v1404 : IVec S16 1 := ori v1399 v1403
    have v1405 : IVec S16 32 := extui 32 v1404 natLt_1_32
    have v1406 : IVec S16 32 := addi arg17 v1405
    pure v1406
  let c16_i32_167 : BitVec 32 := 16#32
  let c15_i32_168 : BitVec 32 := 15#32
  have v316 : IVec S16 32 := broadcast S16 c15_i32_168
  have v317 : IVec S16 32 := minsi v315 v316
  have k0_hw40 : k0_chk40 v317 := (← Prog.lift (TpuEff.assume (k0_chk40 v317) (k0_chk40.dec v317))).down
  SparseCore.vectorStoreIdx arg12 ![v317] v298 (fun _ => 1#1) false (k0_idx59_inb v317 k0_hw40) (View.stores_vmem_bits_univ h_S16 rfl)
  SparseCore.vectorStoreIdx arg13 ![v317] v299 (fun _ => 1#1) false (k0_idx60_inb v317 k0_hw40) (View.stores_vmem_bits_univ h_S16 rfl)
  let c0_169 : Index := 0#32
  let v318 : Vec F S16 .f32 ← Prog.lift (.load arg12 (Rect.unit (s := S16) ![0] S16.size inb_S16_S16_0).toLoadRect (View.loadsAt_vmem h_S16))
  let c0_170 : Index := 0#32
  let v319 : Vec F S16 .i32 ← Prog.lift (.load arg13 (Rect.unit (s := S16) ![0] S16.size inb_S16_S16_0).toLoadRect (View.loadsAt_vmem h_S16))
  pure ⟨v283, v293, v308, v318, v284, v294, v309, v319⟩

/-- The other blocks taken in. -/
def rowA3 (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v86 : BitVec 32) (k0_hw41 : k0_chk41 v86) (v283 : Vec F S16 .f32) (v293 : Vec F S16 .f32) (v308 : Vec F S16 .f32) (v318 : Vec F S16 .f32) (v284 : Vec F S16 .i32) (v294 : Vec F S16 .i32) (v309 : Vec F S16 .i32) (v319 : Vec F S16 .i32) :
    Prog (TpuEff nD τ sig (Elt F) Λ₀ (.scVector ((i 0).castLE hcore0) ((i 1).castLE hsub0))) (Σ' (_ : Vec F S16 .f32) (_ : Vec F S16 .f32) (_ : Vec F S16 .f32) (_ : Vec F S16 .f32) (_ : Vec F S16 .i32) (_ : Vec F S16 .i32) (_ : Vec F S16 .i32), Vec F S16 .i32) := do
  let (v325_0, v325_1, v325_2, v325_3, v325_4, v325_5, v325_6, v325_7) ← Scf.Loop.for (k0_t17_loop v86) (k0_t17_ok v86 k0_hw41) (v283, v293, v308, v318, v284, v294, v309, v319) fun k0_t17 (arg17, arg18, arg19, arg20, arg21, arg22, arg23, arg24) =>
    stepP arg12 arg13 arg6 arg7 (k0_off6 v86 k0_t17) (k0_off6_inb v86 k0_hw41 k0_t17) ⟨(arg17, arg21), (arg18, arg22), (arg19, arg23), (arg20, arg24)⟩
  let c1_i32_174 : BitVec 32 := 1#32
  let (v326_0, v326_1, v326_2, v326_3, v326_4, v326_5, v326_6, v326_7) ← Scf.Loop.for (k0_t34_loop v86) (k0_t34_ok v86 k0_hw41) (v325_0, v325_1, v325_2, v325_3, v325_4, v325_5, v325_6, v325_7) fun k0_t34 (arg17, arg18, arg19, arg20, arg21, arg22, arg23, arg24) =>
    stepP arg12 arg13 arg6 arg7 (k0_off7 v86 k0_t34) (k0_off7_inb v86 k0_hw41 k0_t34) ⟨(arg17, arg21), (arg18, arg22), (arg19, arg23), (arg20, arg24)⟩
  let c0_175 : Index := 0#32
  let v327 : Vec F S16 .f32 ← Prog.lift (.load arg8 (Rect.unit (s := S64) ![0] S16.size inb_S64_S16_0).toLoadRect (View.loadsAt_vmem h_S16))
  Prog.lift (.store arg8 (Rect.unit (s := S64) ![0] S16.size inb_S64_S16_0) v326_0 Finset.univ (View.stores_vmem_bits_univ h_S16 rfl) (.inl rfl))
  let c16 : Index := 16#32
  let v328 : Vec F S16 .f32 ← Prog.lift (.load arg8 (Rect.unit (s := S64) ![16] S16.size inb_S64_S16_16).toLoadRect (View.loadsAt_vmem h_S16))
  Prog.lift (.store arg8 (Rect.unit (s := S64) ![16] S16.size inb_S64_S16_16) v326_1 Finset.univ (View.stores_vmem_bits_univ h_S16 rfl) (.inl rfl))
  let c32 : Index := 32#32
  let v329 : Vec F S16 .f32 ← Prog.lift (.load arg8 (Rect.unit (s := S64) ![32] S16.size inb_S64_S16_32).toLoadRect (View.loadsAt_vmem h_S16))
  Prog.lift (.store arg8 (Rect.unit (s := S64) ![32] S16.size inb_S64_S16_32) v326_2 Finset.univ (View.stores_vmem_bits_univ h_S16 rfl) (.inl rfl))
  let c48 : Index := 48#32
  pure ⟨v326_0, v326_1, v326_2, v326_3, v326_4, v326_5, v326_6, v326_7⟩

theorem rowA_split (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    rowA (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 = (do
      let ⟨v86, k0_hw41, v108, v111, v114, v117, v120, v123, v126, v129⟩ ← rowA1 i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1
      let ⟨v283, v293, v308, v318, v284, v294, v309, v319⟩ ← rowA2 i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v108 v111 v114 v117 v120 v123 v126 v129
      rowA3 i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v86 k0_hw41 v283 v293 v308 v318 v284 v294 v309 v319) := by
  delta rowA k0_part28 rowA1 rowA2 rowA3
  simp only [part35_eq]
  delta part35S
  simp only [Prog.bind_assoc, Prog.bind_ret, Prog.pure_eq_ret]

end Cert.Proof.Sc
-- ==== Proof.Sc.EqL.lean ====
/- The loops of a printed row's scan. -/
module

public import proofs.«01_k».proof.Proof.Sc.EqSegA

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

/-- The fill's trip. -/
def rowL3 (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (c0_i32_16 c1_i32_17 : BitVec 32) (k0_t3 : Fin k0_t3_loop.trips) (arg17 : BitVec 32) :
    Prog (TpuEff nD τ sig (Elt F) Λ₀ (.scVector ((i 0).castLE hcore0) ((i 1).castLE hsub0))) (BitVec 32) := do
  let ⟨v1397, cst_364⟩ : Σ' (v1397 : BitVec 32), F .f32 ← k0_part1 i arg2 harg2 arg3 harg3 arg4 harg4 arg5 harg5 arg6 harg6 arg7 harg7 arg8 harg8 arg9 harg9 arg10 harg10 arg11 harg11 arg12 harg12 arg13 harg13 v1397_r0 v1397_r1 v1397_r2 c0_i32_16 c1_i32_17 k0_t3
  have v1430 : FVec F S16 .f32 := broadcast S16 cst_364
  let c64_i32_365 : BitVec 32 := 64#32
  let v1431 : BitVec 32 := Scalar.addi v1397 c64_i32_365
  let v1432 : Index := Scalar.indexCast v1431
  let v1433 : Vec F S16 .f32 ← Prog.lift (.load arg6 (Rect.unit (s := S4224) (k0_off3 k0_t3 64#32) S16.size (k0_off3_inb k0_t3 4)).toLoadRect (View.loadsAt_vmem h_S16))
  Prog.lift (.store arg6 (Rect.unit (s := S4224) (k0_off3 k0_t3 64#32) S16.size (k0_off3_inb k0_t3 4)) v1430 Finset.univ (View.stores_vmem_bits_univ h_S16 rfl) (.inl rfl))
  let c2147483647_i32_366 : BitVec 32 := 2147483647#32
  have v1434 : IVec S16 32 := broadcast S16 c2147483647_i32_366
  let c64_i32_367 : BitVec 32 := 64#32
  let v1435 : BitVec 32 := Scalar.addi v1397 c64_i32_367
  let v1436 : Index := Scalar.indexCast v1435
  let v1437 : Vec F S16 .i32 ← Prog.lift (.load arg7 (Rect.unit (s := S4224) (k0_off3 k0_t3 64#32) S16.size (k0_off3_inb k0_t3 4)).toLoadRect (View.loadsAt_vmem h_S16))
  Prog.lift (.store arg7 (Rect.unit (s := S4224) (k0_off3 k0_t3 64#32) S16.size (k0_off3_inb k0_t3 4)) v1434 Finset.univ (View.stores_vmem_bits_univ h_S16 rfl) (.inl rfl))
  have cst_368 : F .f32 := Scalar.ofBits .f32 0xFF800000#32
  have v1438 : FVec F S16 .f32 := broadcast S16 cst_368
  let c80_i32 : BitVec 32 := 80#32
  let v1439 : BitVec 32 := Scalar.addi v1397 c80_i32
  let v1440 : Index := Scalar.indexCast v1439
  let v1441 : Vec F S16 .f32 ← Prog.lift (.load arg6 (Rect.unit (s := S4224) (k0_off3 k0_t3 80#32) S16.size (k0_off3_inb k0_t3 5)).toLoadRect (View.loadsAt_vmem h_S16))
  Prog.lift (.store arg6 (Rect.unit (s := S4224) (k0_off3 k0_t3 80#32) S16.size (k0_off3_inb k0_t3 5)) v1438 Finset.univ (View.stores_vmem_bits_univ h_S16 rfl) (.inl rfl))
  let c2147483647_i32_369 : BitVec 32 := 2147483647#32
  have v1442 : IVec S16 32 := broadcast S16 c2147483647_i32_369
  let c80_i32_370 : BitVec 32 := 80#32
  let v1443 : BitVec 32 := Scalar.addi v1397 c80_i32_370
  let v1444 : Index := Scalar.indexCast v1443
  let v1445 : Vec F S16 .i32 ← Prog.lift (.load arg7 (Rect.unit (s := S4224) (k0_off3 k0_t3 80#32) S16.size (k0_off3_inb k0_t3 5)).toLoadRect (View.loadsAt_vmem h_S16))
  Prog.lift (.store arg7 (Rect.unit (s := S4224) (k0_off3 k0_t3 80#32) S16.size (k0_off3_inb k0_t3 5)) v1442 Finset.univ (View.stores_vmem_bits_univ h_S16 rfl) (.inl rfl))
  have cst_371 : F .f32 := Scalar.ofBits .f32 0xFF800000#32
  have v1446 : FVec F S16 .f32 := broadcast S16 cst_371
  let c96_i32 : BitVec 32 := 96#32
  let v1447 : BitVec 32 := Scalar.addi v1397 c96_i32
  let v1448 : Index := Scalar.indexCast v1447
  let v1449 : Vec F S16 .f32 ← Prog.lift (.load arg6 (Rect.unit (s := S4224) (k0_off3 k0_t3 96#32) S16.size (k0_off3_inb k0_t3 6)).toLoadRect (View.loadsAt_vmem h_S16))
  Prog.lift (.store arg6 (Rect.unit (s := S4224) (k0_off3 k0_t3 96#32) S16.size (k0_off3_inb k0_t3 6)) v1446 Finset.univ (View.stores_vmem_bits_univ h_S16 rfl) (.inl rfl))
  let c2147483647_i32_372 : BitVec 32 := 2147483647#32
  have v1450 : IVec S16 32 := broadcast S16 c2147483647_i32_372
  let c96_i32_373 : BitVec 32 := 96#32
  let v1451 : BitVec 32 := Scalar.addi v1397 c96_i32_373
  let v1452 : Index := Scalar.indexCast v1451
  let v1453 : Vec F S16 .i32 ← Prog.lift (.load arg7 (Rect.unit (s := S4224) (k0_off3 k0_t3 96#32) S16.size (k0_off3_inb k0_t3 6)).toLoadRect (View.loadsAt_vmem h_S16))
  Prog.lift (.store arg7 (Rect.unit (s := S4224) (k0_off3 k0_t3 96#32) S16.size (k0_off3_inb k0_t3 6)) v1450 Finset.univ (View.stores_vmem_bits_univ h_S16 rfl) (.inl rfl))
  have cst_374 : F .f32 := Scalar.ofBits .f32 0xFF800000#32
  have v1454 : FVec F S16 .f32 := broadcast S16 cst_374
  let c112_i32 : BitVec 32 := 112#32
  let v1455 : BitVec 32 := Scalar.addi v1397 c112_i32
  let v1456 : Index := Scalar.indexCast v1455
  let v1457 : Vec F S16 .f32 ← Prog.lift (.load arg6 (Rect.unit (s := S4224) (k0_off3 k0_t3 112#32) S16.size (k0_off3_inb k0_t3 7)).toLoadRect (View.loadsAt_vmem h_S16))
  Prog.lift (.store arg6 (Rect.unit (s := S4224) (k0_off3 k0_t3 112#32) S16.size (k0_off3_inb k0_t3 7)) v1454 Finset.univ (View.stores_vmem_bits_univ h_S16 rfl) (.inl rfl))
  let c2147483647_i32_375 : BitVec 32 := 2147483647#32
  have v1458 : IVec S16 32 := broadcast S16 c2147483647_i32_375
  let c112_i32_376 : BitVec 32 := 112#32
  let v1459 : BitVec 32 := Scalar.addi v1397 c112_i32_376
  let v1460 : Index := Scalar.indexCast v1459
  let v1461 : Vec F S16 .i32 ← Prog.lift (.load arg7 (Rect.unit (s := S4224) (k0_off3 k0_t3 112#32) S16.size (k0_off3_inb k0_t3 7)).toLoadRect (View.loadsAt_vmem h_S16))
  Prog.lift (.store arg7 (Rect.unit (s := S4224) (k0_off3 k0_t3 112#32) S16.size (k0_off3_inb k0_t3 7)) v1458 Finset.univ (View.stores_vmem_bits_univ h_S16 rfl) (.inl rfl))
  let c0_i32_377 : BitVec 32 := 0#32
  pure c0_i32_377

/-- The scan's trip. -/
def rowL4 (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v74 : FVec F S16 .f32) (c0_i32_20 c1_i32_21 : BitVec 32) (k0_t4 : Fin k0_t4_loop.trips) (arg17 arg18 : IVec S16 32) :
    Prog (TpuEff nD τ sig (Elt F) Λ₀ (.scVector ((i 0).castLE hcore0) ((i 1).castLE hsub0))) (IVec S16 32 × IVec S16 32) := do
  let ⟨v1400, v1403, v1406, v1409, v1412, v1415, v1418, v1421, v1422, v1423, v1424, v1425, v1426, v1427, v1428, v1429, v1434, v1439, v1443⟩ : Σ' (v1400 : Vec F S16 .f32) (v1403 : Vec F S16 .f32) (v1406 : Vec F S16 .f32) (v1409 : Vec F S16 .f32) (v1412 : Vec F S16 .f32) (v1415 : Vec F S16 .f32) (v1418 : Vec F S16 .f32) (v1421 : Vec F S16 .f32) (v1422 : IVec S16 1) (v1423 : IVec S16 1) (v1424 : IVec S16 1) (v1425 : IVec S16 1) (v1426 : IVec S16 1) (v1427 : IVec S16 1) (v1428 : IVec S16 1) (v1429 : IVec S16 1) (v1434 : IVec S16 32) (v1439 : IVec S16 32), BitVec 32 ← k0_part2 i arg2 harg2 arg3 harg3 arg4 harg4 arg5 harg5 arg6 harg6 arg7 harg7 arg8 harg8 arg9 harg9 arg10 harg10 arg11 harg11 arg12 harg12 arg13 harg13 v1397_r0 v1397_r1 v1397_r2 v74 c0_i32_20 c1_i32_21 k0_t4
  let ⟨v1444, v1449, v1454, v1459, v1464, v1469, v1472, v1475, v1478, v1481, v1484, v1487, v1490, v1491⟩ : Σ' (v1444 : IVec S16 32) (v1449 : IVec S16 32) (v1454 : IVec S16 32) (v1459 : IVec S16 32) (v1464 : IVec S16 32) (v1469 : IVec S16 32) (v1472 : IVec S16 32) (v1475 : IVec S16 32) (v1478 : IVec S16 32) (v1481 : IVec S16 32) (v1484 : IVec S16 32) (v1487 : IVec S16 32) (v1490 : IVec S16 32), IVec S16 32 ← k0_part3 i arg2 harg2 arg3 harg3 arg4 harg4 arg5 harg5 arg6 harg6 arg7 harg7 arg8 harg8 arg9 harg9 arg10 harg10 arg11 harg11 arg12 harg12 arg13 harg13 v1397_r0 v1397_r1 v1397_r2 v1422 v1423 v1424 v1425 v1426 v1427 v1428 v1429 v1443
  let ⟨v1493, v1523, v1526, v1527⟩ : Σ' (v1493 : IVec S16 32) (v1523 : IVec S16 32) (v1526 : IVec S16 32), IVec S16 32 ← k0_part4 i arg2 harg2 arg3 harg3 arg4 harg4 arg5 harg5 arg6 harg6 arg7 harg7 arg8 harg8 arg9 harg9 arg10 harg10 arg11 harg11 arg12 harg12 arg13 harg13 v1397_r0 v1397_r1 v1397_r2 arg17 arg18 v1400 v1403 v1406 v1422 v1423 v1424 v1434 v1439 v1444 v1472 v1475 v1478 v1481 v1491
  let ⟨v1553, v1560, k0_hw7, v1562⟩ : Σ' (v1553 : IVec S16 32) (v1560 : IVec S16 32) (k0_hw7 : k0_chk7 v1560), IVec S16 32 ← k0_part5 i arg2 harg2 arg3 harg3 arg4 harg4 arg5 harg5 arg6 harg6 arg7 harg7 arg8 harg8 arg9 harg9 arg10 harg10 arg11 harg11 arg12 harg12 arg13 harg13 v1397_r0 v1397_r1 v1397_r2 arg18 v1409 v1412 v1415 v1418 v1425 v1426 v1427 v1428 v1449 v1454 v1459 v1484 v1487 v1490 v1523 v1526 v1527
  SparseCore.vectorStoreIdx arg7 ![v1560] v1562 v1428 false (k0_idx14_inb v1560 k0_hw7) (View.stores_vmem_bits_univ h_S4224 rfl)
  have v1563 : IVec S16 32 := addi v1553 v1464
  have v1564 : IVec S16 32 := addi v1563 v1493
  let c1_i32_396 : BitVec 32 := 1#32
  have v1565 : IVec S16 32 := broadcast S16 c1_i32_396
  have v1566 : IVec S16 32 := subi v1564 v1565
  let c4095_i32_397 : BitVec 32 := 4095#32
  have v1567 : IVec S16 32 := broadcast S16 c4095_i32_397
  have v1568 : IVec S16 32 := minsi v1566 v1567
  let c0_i32_398 : BitVec 32 := 0#32
  have v1569 : IVec S16 32 := broadcast S16 c0_i32_398
  have v1570 : IVec S16 32 := maxsi v1568 v1569
  have k0_hw8 : k0_chk8 v1570 := (← Prog.lift (TpuEff.assume (k0_chk8 v1570) (k0_chk8.dec v1570))).down
  SparseCore.vectorStoreIdx arg6 ![v1570] v1421 v1429 false (k0_idx15_inb v1570 k0_hw8) (View.stores_vmem_bits_univ h_S4224 rfl)
  let c112_i32_399 : BitVec 32 := 112#32
  have v1571 : IVec S16 32 := broadcast S16 c112_i32_399
  have v1572 : IVec S16 32 := addi arg18 v1571
  SparseCore.vectorStoreIdx arg7 ![v1570] v1572 v1429 false (k0_idx16_inb v1570 k0_hw8) (View.stores_vmem_bits_univ h_S4224 rfl)
  have v1573 : IVec S16 32 := addi v1563 v1469
  let c4096_i32 : BitVec 32 := 4096#32
  have v1574 : IVec S16 32 := broadcast S16 c4096_i32
  have v1575 : IVec S16 32 := minsi v1573 v1574
  let c128_i32_400 : BitVec 32 := 128#32
  have v1576 : IVec S16 32 := broadcast S16 c128_i32_400
  have v1577 : IVec S16 32 := addi arg18 v1576
  pure (v1575, v1577)

/-- The scan. -/
def part27S (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v26 : FVec F S16 .f32) (v28 : F .f32) (v30 : F .f32) (v32 : F .f32) (v34 : F .f32) (v36 : F .f32) (v38 : F .f32) (v40 : F .f32) (v42 : F .f32) (v43 : FVec F S1 .f32) :
    Prog (TpuEff nD τ sig (Elt F) Λ₀ (.scVector ((i 0).castLE hcore0) ((i 1).castLE hsub0))) (Σ' (v86 : BitVec 32) (k0_hw41 : k0_chk41 v86) (v87 : BitVec 32) (c64_i32 : BitVec 32), BitVec 32) := do
  have v44 : F .f32 := extractAt ![0] v43 inpos_S1_p0
  have v45 : FVec F S1 .f32 := extractStridedSlice S1 ![9] v26 slices_S16_o9_S1
  have v46 : F .f32 := extractAt ![0] v45 inpos_S1_p0
  have v47 : FVec F S1 .f32 := extractStridedSlice S1 ![10] v26 slices_S16_o10_S1
  have v48 : F .f32 := extractAt ![0] v47 inpos_S1_p0
  have v49 : FVec F S1 .f32 := extractStridedSlice S1 ![11] v26 slices_S16_o11_S1
  have v50 : F .f32 := extractAt ![0] v49 inpos_S1_p0
  have v51 : FVec F S1 .f32 := extractStridedSlice S1 ![12] v26 slices_S16_o12_S1
  have v52 : F .f32 := extractAt ![0] v51 inpos_S1_p0
  have v53 : FVec F S1 .f32 := extractStridedSlice S1 ![13] v26 slices_S16_o13_S1
  have v54 : F .f32 := extractAt ![0] v53 inpos_S1_p0
  have v55 : FVec F S1 .f32 := extractStridedSlice S1 ![14] v26 slices_S16_o14_S1
  have v56 : F .f32 := extractAt ![0] v55 inpos_S1_p0
  have v57 : FVec F S1 .f32 := extractStridedSlice S1 ![15] v26 slices_S16_o15_S1
  have v58 : F .f32 := extractAt ![0] v57 inpos_S1_p0
  have v59 : F .f32 := Scalar.minimumf v28 v30
  have v60 : F .f32 := Scalar.minimumf v59 v32
  have v61 : F .f32 := Scalar.minimumf v60 v34
  have v62 : F .f32 := Scalar.minimumf v61 v36
  have v63 : F .f32 := Scalar.minimumf v62 v38
  have v64 : F .f32 := Scalar.minimumf v63 v40
  have v65 : F .f32 := Scalar.minimumf v64 v42
  have v66 : F .f32 := Scalar.minimumf v65 v44
  have v67 : F .f32 := Scalar.minimumf v66 v46
  have v68 : F .f32 := Scalar.minimumf v67 v48
  have v69 : F .f32 := Scalar.minimumf v68 v50
  have v70 : F .f32 := Scalar.minimumf v69 v52
  have v71 : F .f32 := Scalar.minimumf v70 v54
  have v72 : F .f32 := Scalar.minimumf v71 v56
  have v73 : F .f32 := Scalar.minimumf v72 v58
  have v74 : FVec F S16 .f32 := broadcast S16 v73
  let c0_i32_15 : BitVec 32 := 0#32
  let c0_i32_16 : BitVec 32 := 0#32
  let c33_i32 : BitVec 32 := 33#32
  let v75 : BitVec 32 := Scalar.addi c0_i32_16 c33_i32
  let c1_i32_17 : BitVec 32 := 1#32
  let v76 : BitVec 32 ← Scf.Loop.for k0_t3_loop k0_t3_ok c0_i32_15 fun k0_t3 arg17 => rowL3 i arg2 harg2 arg3 harg3 arg4 harg4 arg5 harg5 arg6 harg6 arg7 harg7 arg8 harg8 arg9 harg9 arg10 harg10 arg11 harg11 arg12 harg12 arg13 harg13 v1397_r0 v1397_r1 v1397_r2 c0_i32_16 c1_i32_17 k0_t3 arg17
  let c33_i32_18 : BitVec 32 := 33#32
  let c0_i32_19 : BitVec 32 := 0#32
  have v77 : IVec S16 32 := broadcast S16 c0_i32_19
  have v78 : IVec S16 32 := iota .scVector S16 32 [0] iota_S16_d0_w32_scVector
  let c0_i32_20 : BitVec 32 := 0#32
  let c782_i32 : BitVec 32 := 782#32
  let v79 : BitVec 32 := Scalar.addi c0_i32_20 c782_i32
  let c1_i32_21 : BitVec 32 := 1#32
  let (v80_0, v80_1) ← Scf.Loop.for k0_t4_loop k0_t4_ok (v77, v78) fun k0_t4 (arg17, arg18) => rowL4 i arg2 harg2 arg3 harg3 arg4 harg4 arg5 harg5 arg6 harg6 arg7 harg7 arg8 harg8 arg9 harg9 arg10 harg10 arg11 harg11 arg12 harg12 arg13 harg13 v1397_r0 v1397_r1 v1397_r2 v74 c0_i32_20 c1_i32_21 k0_t4 arg17 arg18
  let c782_i32_22 : BitVec 32 := 782#32
  let v_true : BitVec 1 := 1#1
  have v81 : IVec S16 1 := broadcast S16 v_true
  let c_m2147483648_i32 : BitVec 32 := 2147483648#32
  have v82 : IVec S16 32 := broadcast S16 c_m2147483648_i32
  have v83 : IVec S16 32 := xori v80_0 v82
  have v84 : IVec S16 32 := scan .max v83
  have v85 : IVec S16 32 := xori v84 v82
  let v86 : BitVec 32 := extractAt ![15] v85 inpos_S16_p15
  have k0_hw41 : k0_chk41 v86 := (← Prog.lift (TpuEff.assume (k0_chk41 v86) (k0_chk41.dec v86))).down
  let c63_i32 : BitVec 32 := 63#32
  let v87 : BitVec 32 := Scalar.addi v86 c63_i32
  let c64_i32 : BitVec 32 := 64#32
  let v88 : BitVec 32 := Scalar.divsi v87 c64_i32
  pure ⟨v86, k0_hw41, v87, c64_i32, v88⟩

theorem part27_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v26 : FVec F S16 .f32) (v28 : F .f32) (v30 : F .f32) (v32 : F .f32) (v34 : F .f32) (v36 : F .f32) (v38 : F .f32) (v40 : F .f32) (v42 : F .f32) (v43 : FVec F S1 .f32) : k0_part27 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v26 v28 v30 v32 v34 v36 v38 v40 v42 v43 = part27S i arg2 harg2 arg3 harg3 arg4 harg4 arg5 harg5 arg6 harg6 arg7 harg7 arg8 harg8 arg9 harg9 arg10 harg10 arg11 harg11 arg12 harg12 arg13 harg13 v1397_r0 v1397_r1 v1397_r2 v26 v28 v30 v32 v34 v36 v38 v40 v42 v43 := by
  delta k0_part27 part27S rowL3 rowL4
  rfl

theorem rowL3_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (c0_i32_16 c1_i32_17 : BitVec 32) (k0_t3 : Fin k0_t3_loop.trips) (arg17 : BitVec 32) : rowL3 (F := F) i arg2 harg2 arg3 harg3 arg4 harg4 arg5 harg5 arg6 harg6 arg7 harg7 arg8 harg8 arg9 harg9 arg10 harg10 arg11 harg11 arg12 harg12 arg13 harg13 v1397_r0 v1397_r1 v1397_r2 c0_i32_16 c1_i32_17 k0_t3 arg17 = (do
      fill1P arg6 arg7 k0_t3 0#32 (k0_off3_inb k0_t3 0)
      fill1P arg6 arg7 k0_t3 16#32 (k0_off3_inb k0_t3 1)
      fill1P arg6 arg7 k0_t3 32#32 (k0_off3_inb k0_t3 2)
      fill1P arg6 arg7 k0_t3 48#32 (k0_off3_inb k0_t3 3)
      fill1P arg6 arg7 k0_t3 64#32 (k0_off3_inb k0_t3 4)
      fill1P arg6 arg7 k0_t3 80#32 (k0_off3_inb k0_t3 5)
      fill1P arg6 arg7 k0_t3 96#32 (k0_off3_inb k0_t3 6)
      fill1P arg6 arg7 k0_t3 112#32 (k0_off3_inb k0_t3 7)
      pure 0#32) := by
  delta rowL3 k0_part1 fill1P
  simp (maxSteps := 10000000) only [↓Prog.bind_assoc, ↓Prog.bind_op, ↓Prog.bind_lift, ↓Prog.bind_ret, ↓Prog.pure_eq_ret]
  rfl

theorem rowL4_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v74 : FVec F S16 .f32) (c0_i32_20 c1_i32_21 : BitVec 32) (k0_t4 : Fin k0_t4_loop.trips) (arg17 arg18 : IVec S16 32) : rowL4 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v74 c0_i32_20 c1_i32_21 k0_t4 arg17 arg18 = (do
      let x0 : Vec F S16 .f32 ← Prog.lift (.load arg5 (Rect.unit (s := S100096) (k0_off4 k0_t4 0#32) S16.size (k0_off4_inb k0_t4 0)).toLoadRect (View.loadsAt_vmem h_S16))
      let x1 : Vec F S16 .f32 ← Prog.lift (.load arg5 (Rect.unit (s := S100096) (k0_off4 k0_t4 16#32) S16.size (k0_off4_inb k0_t4 1)).toLoadRect (View.loadsAt_vmem h_S16))
      let x2 : Vec F S16 .f32 ← Prog.lift (.load arg5 (Rect.unit (s := S100096) (k0_off4 k0_t4 32#32) S16.size (k0_off4_inb k0_t4 2)).toLoadRect (View.loadsAt_vmem h_S16))
      let x3 : Vec F S16 .f32 ← Prog.lift (.load arg5 (Rect.unit (s := S100096) (k0_off4 k0_t4 48#32) S16.size (k0_off4_inb k0_t4 3)).toLoadRect (View.loadsAt_vmem h_S16))
      let x4 : Vec F S16 .f32 ← Prog.lift (.load arg5 (Rect.unit (s := S100096) (k0_off4 k0_t4 64#32) S16.size (k0_off4_inb k0_t4 4)).toLoadRect (View.loadsAt_vmem h_S16))
      let x5 : Vec F S16 .f32 ← Prog.lift (.load arg5 (Rect.unit (s := S100096) (k0_off4 k0_t4 80#32) S16.size (k0_off4_inb k0_t4 5)).toLoadRect (View.loadsAt_vmem h_S16))
      let x6 : Vec F S16 .f32 ← Prog.lift (.load arg5 (Rect.unit (s := S100096) (k0_off4 k0_t4 96#32) S16.size (k0_off4_inb k0_t4 6)).toLoadRect (View.loadsAt_vmem h_S16))
      let x7 : Vec F S16 .f32 ← Prog.lift (.load arg5 (Rect.unit (s := S100096) (k0_off4 k0_t4 112#32) S16.size (k0_off4_inb k0_t4 7)).toLoadRect (View.loadsAt_vmem h_S16))
      let p0 := arg17
      putP arg6 arg7 p0 x0 (ge x0 v74) (addi arg18 (bc 0#32))
      let p1 := adv p0 (ge x0 v74)
      putP arg6 arg7 p1 x1 (ge x1 v74) (addi arg18 (bc 16#32))
      let p2 := adv p1 (ge x1 v74)
      putP arg6 arg7 p2 x2 (ge x2 v74) (addi arg18 (bc 32#32))
      let p3 := adv p2 (ge x2 v74)
      putP arg6 arg7 p3 x3 (ge x3 v74) (addi arg18 (bc 48#32))
      let p4 := adv p3 (ge x3 v74)
      putP arg6 arg7 p4 x4 (ge x4 v74) (addi arg18 (bc 64#32))
      let p5 := adv p4 (ge x4 v74)
      putP arg6 arg7 p5 x5 (ge x5 v74) (addi arg18 (bc 80#32))
      let p6 := adv p5 (ge x5 v74)
      putP arg6 arg7 p6 x6 (ge x6 v74) (addi arg18 (bc 96#32))
      let p7 := adv p6 (ge x6 v74)
      putP arg6 arg7 p7 x7 (ge x7 v74) (addi arg18 (bc 112#32))
      let p8 := adv p7 (ge x7 v74)
      pure (minsi p8 (bc 4096#32), addi arg18 (bc 128#32))) := by
  delta rowL4 k0_part2 k0_part3 k0_part4 k0_part5
  delta putP SparseCore.vectorLoadIdx SparseCore.vectorStoreIdx
  rfl

end Cert.Proof.Sc
-- ==== Proof.Sc.EqA1.lean ====
/- A printed row up to its first block. -/
module

public import proofs.«01_k».proof.Proof.Sc.EqL

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowA1_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    rowA1 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 = (do
      inP arg2 arg5 v1397_r0 k0_t1
      let a ← paP arg5
      let _ ← fillP arg6 arg7
      let p ← pbP arg5 arg6 arg7 (thr a)
      have hc : k0_chk41 (max16 p.1) := (← Prog.lift (TpuEff.assume (k0_chk41 (max16 p.1)) (k0_chk41.dec (max16 p.1)))).down
      let b ← ldBlkP arg6 arg7 k0_off5 k0_off5_inb
      pure ⟨max16 p.1, hc, b.a.1, b.b.1, b.c.1, b.d.1, b.a.2, b.b.2, b.c.2, b.d.2⟩) := by
  delta rowA1 k0_part26
  simp only [part27_eq]
  delta part27S
  simp only [rowL3_eq, rowL4_eq]
  delta inP paP fillP pbP ldBlkP
  simp (maxSteps := 10000000) only [↓Prog.bind_assoc, ↓Prog.bind_op, ↓Prog.bind_lift, ↓Prog.bind_ret, ↓Prog.pure_eq_ret]
  rfl

end Cert.Proof.Sc
-- ==== Proof.Sc.EqA2.lean ====
/- A printed row's first block sorted. -/
module

public import proofs.«01_k».proof.Proof.Sc.EqSegA

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowA2_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v108 : Vec F S16 .f32) (v111 : Vec F S16 .f32) (v114 : Vec F S16 .f32) (v117 : Vec F S16 .f32) (v120 : Vec F S16 .i32) (v123 : Vec F S16 .i32) (v126 : Vec F S16 .i32) (v129 : Vec F S16 .i32) :
    rowA2 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v108 v111 v114 v117 v120 v123 v126 v129 = (do
      let s ← sort64P arg12 arg13 ⟨(v108, v120), (v111, v123), (v114, v126), (v117, v129)⟩
      pure ⟨s.a.1, s.b.1, s.c.1, s.d.1, s.a.2, s.b.2, s.c.2, s.d.2⟩) := by
  delta rowA2 k0_part29 k0_part30 k0_part31 k0_part32 k0_part33 k0_part34
  delta sort64P m32P m16P bm32P sortP revP SparseCore.vectorLoadIdx SparseCore.vectorStoreIdx
  simp (maxSteps := 10000000) only [↓Prog.bind_assoc, ↓Prog.bind_op, ↓Prog.bind_lift, ↓Prog.bind_ret, ↓Prog.pure_eq_ret]
  rfl

end Cert.Proof.Sc
-- ==== Proof.Sc.EqA3.lean ====
/- A printed row's other blocks. -/
module

public import proofs.«01_k».proof.Proof.Sc.EqSegA

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowA3_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v86 : BitVec 32) (k0_hw41 : k0_chk41 v86) (v283 : Vec F S16 .f32) (v293 : Vec F S16 .f32) (v308 : Vec F S16 .f32) (v318 : Vec F S16 .f32) (v284 : Vec F S16 .i32) (v294 : Vec F S16 .i32) (v309 : Vec F S16 .i32) (v319 : Vec F S16 .i32) :
    rowA3 (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v86 k0_hw41 v283 v293 v308 v318 v284 v294 v309 v319 = (do
      let s ← blksP arg12 arg13 arg6 arg7 v86 k0_hw41 ⟨(v283, v284), (v293, v294), (v308, v309), (v318, v319)⟩
      stP arg8 ![0] S16.size inb_S64_S16_0 s.a.1 (View.loadsAt_vmem h_S16) (View.stores_vmem_bits_univ h_S16 rfl)
      stP arg8 ![16] S16.size inb_S64_S16_16 s.b.1 (View.loadsAt_vmem h_S16) (View.stores_vmem_bits_univ h_S16 rfl)
      stP arg8 ![32] S16.size inb_S64_S16_32 s.c.1 (View.loadsAt_vmem h_S16) (View.stores_vmem_bits_univ h_S16 rfl)
      pure ⟨s.a.1, s.b.1, s.c.1, s.d.1, s.a.2, s.b.2, s.c.2, s.d.2⟩) := by
  delta rowA3 blksP stP
  simp (maxSteps := 10000000) only [↓Prog.bind_assoc, ↓Prog.bind_op, ↓Prog.bind_lift, ↓Prog.bind_ret, ↓Prog.pure_eq_ret]
  rfl

end Cert.Proof.Sc
-- ==== Proof.Sc.EqA.lean ====
/- A printed row's first piece. -/
module

public import proofs.«01_k».proof.Proof.Sc.EqA1
public import proofs.«01_k».proof.Proof.Sc.EqA2
public import proofs.«01_k».proof.Proof.Sc.EqA3

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowA_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) :
    rowA (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 = (do
      inP arg2 arg5 v1397_r0 k0_t1
      let a ← paP arg5
      let _ ← fillP arg6 arg7
      let p ← pbP arg5 arg6 arg7 (thr a)
      have hc : k0_chk41 (max16 p.1) := (← Prog.lift (TpuEff.assume (k0_chk41 (max16 p.1)) (k0_chk41.dec (max16 p.1)))).down
      let b0 ← ldBlkP arg6 arg7 k0_off5 k0_off5_inb
      let s0 ← sort64P arg12 arg13 b0
      let s ← blksP arg12 arg13 arg6 arg7 (max16 p.1) hc s0
      stP arg8 ![0] S16.size inb_S64_S16_0 s.a.1 (View.loadsAt_vmem h_S16) (View.stores_vmem_bits_univ h_S16 rfl)
      stP arg8 ![16] S16.size inb_S64_S16_16 s.b.1 (View.loadsAt_vmem h_S16) (View.stores_vmem_bits_univ h_S16 rfl)
      stP arg8 ![32] S16.size inb_S64_S16_32 s.c.1 (View.loadsAt_vmem h_S16) (View.stores_vmem_bits_univ h_S16 rfl)
      pure ⟨s.a.1, s.b.1, s.c.1, s.d.1, s.a.2, s.b.2, s.c.2, s.d.2⟩) := by
  rw [rowA_split, rowA1_eq]
  simp only [rowA2_eq, rowA3_eq, Prog.bind_assoc, Prog.bind_ret, Prog.pure_eq_ret]

end Cert.Proof.Sc
-- ==== Proof.Sc.EqB.lean ====
/- A printed row's second piece. -/
module

public import proofs.«01_k».proof.Proof.Sc.EqSeg

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowB_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32) (v326_7 : Vec F S16 .i32) :
    rowB (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v326_0 v326_1 v326_2 v326_3 v326_4 v326_5 v326_6 v326_7 = (do
      stP arg8 ![48] S16.size inb_S64_S16_48 v326_3 (View.loadsAt_vmem h_S16) (View.stores_vmem_bits_univ h_S16 rfl)
      have h : ck64 (bc 49#32) := (← Prog.lift (TpuEff.assume (ck64 (bc 49#32)) (ck64.dec (bc 49#32)))).down
      let kth : Vec F S16 .f32 ← SparseCore.vectorLoadIdx arg8 ![bc 49#32] h (View.loads_vmem h_S64)
      have h : ck64 (bc 0#32) := (← Prog.lift (TpuEff.assume (ck64 (bc 0#32)) (ck64.dec (bc 0#32)))).down
      let mx : Vec F S16 .f32 ← SparseCore.vectorLoadIdx arg8 ![bc 0#32] h (View.loads_vmem h_S64)
      pure (mOf kth mx ⟨(v326_0, v326_4), (v326_1, v326_5), (v326_2, v326_6), (v326_3, v326_7)⟩)) := by
  delta rowB k0_part36 k0_part37 k0_part38 k0_part39 k0_part40 k0_part41 k0_part42 k0_part43 k0_part44 k0_part45 k0_part46 k0_part47 k0_part48 k0_part49 k0_part50 k0_part51 k0_part52 k0_part53
  delta stP SparseCore.vectorLoadIdx SparseCore.vectorStoreIdx
  simp (maxSteps := 10000000) only [↓Prog.bind_assoc, ↓Prog.bind_op, ↓Prog.bind_lift, ↓Prog.bind_ret, ↓Prog.pure_eq_ret]
  delta mOf mth wts expk cntLe cumsum16 sum16 cnt16 ge
  rfl

end Cert.Proof.Sc
-- ==== Proof.Sc.EqC.lean ====
/- A printed row's last piece. -/
module

public import proofs.«01_k».proof.Proof.Sc.EqSeg

@[expose] public section

noncomputable section

namespace Cert.Proof.Sc

open Idealize.ShloMosaic Idealize.SL.Sem
open Cert.KernelIdeal Cert.KernelIdeal.Facts₀ Cert.KernelIdeal.Facts

variable {F : FTy → Type} [FloatOps F]
set_option maxHeartbeats 0

theorem rowC_eq (i : grid0.Coords) (arg2 : Memref sig .scVector .hbm S64x100000 .f32) (harg2 : arg2.IsWhole) (arg3 : Memref sig .scVector .hbm S64x16 .f32) (harg3 : arg3.IsWhole) (arg4 : Memref sig .scVector .hbm S64x16 .i32) (harg4 : arg4.IsWhole) (arg5 : Memref sig .scVector .vmem S100096 .f32) (harg5 : arg5.IsWhole) (arg6 : Memref sig .scVector .vmem S4224 .f32) (harg6 : arg6.IsWhole) (arg7 : Memref sig .scVector .vmem S4224 .i32) (harg7 : arg7.IsWhole) (arg8 : Memref sig .scVector .vmem S64 .f32) (harg8 : arg8.IsWhole) (arg9 : Memref sig .scVector .vmem S96 .i32) (harg9 : arg9.IsWhole) (arg10 : Memref sig .scVector .vmem S16 .f32) (harg10 : arg10.IsWhole) (arg11 : Memref sig .scVector .vmem S16 .i32) (harg11 : arg11.IsWhole) (arg12 : Memref sig .scVector .vmem S16 .f32) (harg12 : arg12.IsWhole) (arg13 : Memref sig .scVector .vmem S16 .i32) (harg13 : arg13.IsWhole) (v1397_r0 : DmaSems sig S_) (v1397_r1 : DmaSems sig S_) (v1397_r2 : DmaSems sig S_) (v1 : BitVec 32) (c0_i32_5 : BitVec 32) (c1_i32 : BitVec 32) (k0_t1 : Fin k0_t1_loop.trips) (v326_0 : Vec F S16 .f32) (v326_1 : Vec F S16 .f32) (v326_2 : Vec F S16 .f32) (v326_3 : Vec F S16 .f32) (v326_4 : Vec F S16 .i32) (v326_5 : Vec F S16 .i32) (v326_6 : Vec F S16 .i32) (v326_7 : Vec F S16 .i32) (m : BitVec 32) (hof : arg10.IsWhole) :
    rowC (F := F) i arg2 harg2 arg3 harg3 arg4 harg4 arg5 harg5 arg6 harg6 arg7 harg7 arg8 harg8 arg9 harg9 arg10 harg10 arg11 harg11 arg12 harg12 arg13 harg13 v1397_r0 v1397_r1 v1397_r2 v1 c0_i32_5 c1_i32 k0_t1 v326_0 v326_1 v326_2 v326_3 v326_4 v326_5 v326_6 v326_7 m = (do
      have h : ck64 (cIx m) := (← Prog.lift (TpuEff.assume (ck64 (cIx m)) (ck64.dec (cIx m)))).down
      let c : Vec F S16 .f32 ← SparseCore.vectorLoadIdx arg8 ![cIx m] h (View.loads_vmem h_S64)
      let y ← bndP arg13 arg9 ⟨(v326_0, v326_4), (v326_1, v326_5), (v326_2, v326_6), (v326_3, v326_7)⟩ c m
      stP arg10 ![0] S16.size inb_S16_S16_0 c (View.loadsAt_vmem h_S16) (View.stores_vmem_bits_univ h_S16 rfl)
      stP arg11 ![0] S16.size inb_S16_S16_0 y (View.loadsAt_vmem h_S16) (View.stores_vmem_bits_univ h_S16 rfl)
      outP arg10 hof arg3 rfl v1397_r1 k0_t1) := by
  delta rowC k0_part55 k0_part56
  delta outP bndP putEP sortIP stP SparseCore.vectorLoadIdx SparseCore.vectorStoreIdx
  simp (maxSteps := 10000000) only [↓Prog.bind_assoc, ↓Prog.bind_op, ↓Prog.bind_lift, ↓Prog.bind_ret, ↓Prog.pure_eq_ret]
  rfl

end Cert.Proof.Sc
-- ==== Proof.Sc.EqRow.lean ====
/- A printed row and the named ones. -/
module

public import proofs.«01_k».proof.Proof.Sc.EqA
public import proofs.«01_k».proof.Proof.Sc.EqB
public import proofs.«01_k».proof.Proof.Sc.EqC

@[expose] public section

noncomputable section

namespace Cert.Proof.Sc

open Idealize.ShloMosaic Idealize.SL.Sem
open Cert.KernelIdeal Cert.KernelIdeal.Facts₀ Cert.KernelIdeal.Facts

variable {F : FTy → Type} [FloatOps F] {i : grid0.Coords}
set_option maxHeartbeats 0

theorem row_eq (xs : MH S64x100000 .f32) (hxs : xs.IsWhole) (oc : MH S64x16 .f32) (hoc : oc.IsWhole) (ob : MH S64x16 .i32) (hob : ob.IsWhole) (rb : MV S100096 .f32) (hrb : rb.IsWhole) (cv : MV S4224 .f32) (hcv : cv.IsWhole) (ci : MV S4224 .i32) (hci : ci.IsWhole) (sb : MV S64 .f32) (hsb : sb.IsWhole) (eb : MV S96 .i32) (heb : eb.IsWhole) (of : MV S16 .f32) (hof : of.IsWhole) (oi : MV S16 .i32) (hoi : oi.IsWhole) (tv : MV S16 .f32) (htv : tv.IsWhole) (ti : MV S16 .i32) (hti : ti.IsWhole) (d0 d1 d2 : DmaSems sig S_) (v c0 c1 : BitVec 32) (k : Fin k0_t1_loop.trips) :
    k0_part57 (F := F) i xs hxs oc hoc ob hob rb hrb cv hcv ci hci sb hsb eb heb of hof oi hoi tv htv ti hti d0 d1 d2 v c0 c1 k
      = (do inP xs rb d0 k; coreP rb cv ci sb eb of oi tv ti; outP of hof oc rfl d1 k) := by
  rw [part57_eq, rowA_eq]
  simp only [rowB_eq, rowC_eq (hof := hof)]
  delta coreP spillP
  simp only [Prog.bind_assoc, Prog.bind_op, Prog.bind_lift, Prog.bind_ret, Prog.pure_eq_ret]

end Cert.Proof.Sc
-- ==== Proof.Sc.EqBody.lean ====
/- The printed program is the named one. -/
module

public import proofs.«01_k».proof.Proof.Sc.EqRow

@[expose] public section

noncomputable section

namespace Cert.Proof.Sc

open Idealize.ShloMosaic Idealize.SL.Sem
open Cert.KernelIdeal Cert.KernelIdeal.Facts₀ Cert.KernelIdeal.Facts

variable {F : FTy → Type} [FloatOps F] {i : grid0.Coords}
set_option maxHeartbeats 0

/-- The printed program. -/
theorem body_eq (xs : MH S64x100000 .f32) (hxs : xs.IsWhole) (oc : MH S64x16 .f32) (hoc : oc.IsWhole) (ob : MH S64x16 .i32) (hob : ob.IsWhole) (rb : MV S100096 .f32) (hrb : rb.IsWhole) (cv : MV S4224 .f32) (hcv : cv.IsWhole) (ci : MV S4224 .i32) (hci : ci.IsWhole) (sb : MV S64 .f32) (hsb : sb.IsWhole) (eb : MV S96 .i32) (heb : eb.IsWhole) (of : MV S16 .f32) (hof : of.IsWhole) (oi : MV S16 .i32) (hoi : oi.IsWhole) (tv : MV S16 .f32) (htv : tv.IsWhole) (ti : MV S16 .i32) (hti : ti.IsWhole) (d0 d1 d2 : DmaSems sig S_) :
    cc0__sc_body (F := F) i xs hxs oc hoc ob hob rb hrb cv hcv ci hci sb hsb eb heb of hof oi hoi tv htv ti hti d0 d1 d2
      = bodyP xs oc ob rb cv ci sb eb of hof oi hoi tv ti d0 d1 d2 := by
  simp only [cc0__sc_body, bodyP, padP, stP, rowP, row_eq, Prog.bind_assoc, Prog.bind_op, Prog.bind_lift, Prog.bind_ret, Prog.pure_eq_ret, outP]
  rfl

end Cert.Proof.Sc
-- ==== Proof.Sc.Tile.lean ====
/- What a SparseCore call takes and hands back, and its task on a subcore. -/
module

public import proofs.«01_k».proof.Proof.Sc.Row
public import proofs.«01_k».proof.Proof.Sc.EqBody
public import Idealize.ShloMosaic.Lib.SparseCore.Quiescent
public import Idealize.ShloMosaic.Lib.SparseCore.Ops
public import Idealize.ShloMosaic.Lib.SparseCore.Stream
public import Idealize.ShloMosaic.Lib.Pipeline.Kit
public import proofs.«01_k».proof.Proof.Gen.KernelIdeal.Launch

@[expose] public section

noncomputable section

namespace Cert.Proof.Sc

open Cert.KernelIdeal Cert.KernelIdeal.Facts₀ Cert.KernelIdeal.Facts
open Cert.KernelIdeal.Gen (k0_off1_eq k0_off9_eq)
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' cells, the pipeline's cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers and their rows -/

variable (m : (ℓ : Loc nD τ sig) → Buf (Elt F) ℓ) (ρ : Dev nD → PrngReg)

abbrev xLoc (d : Dev nD) : Loc nD τ sig := (SparseCore.T d).loc main_arg0
abbrev cLoc (d : Dev nD) : Loc nD τ sig := (SparseCore.T d).loc main_v0_0
abbrev bLoc (d : Dev nD) : Loc nD τ sig := (SparseCore.T d).loc main_v0_1

local notation "xV" => (Memref.whole Cert.KernelIdeal.main_arg0_scv : Memref Cert.KernelIdeal.sig Kind.scVector Space.hbm Cert.KernelIdeal.S64x100000 EltTy.f32)
local notation "oV" => (Memref.whole Cert.KernelIdeal.main_v0_0_scv : Memref Cert.KernelIdeal.sig Kind.scVector Space.hbm Cert.KernelIdeal.S64x16 EltTy.f32)
local notation "bV" => (Memref.whole Cert.KernelIdeal.main_v0_1_scv : Memref Cert.KernelIdeal.sig Kind.scVector Space.hbm Cert.KernelIdeal.S64x16 EltTy.i32)
local notation "s0" => (Memref.whole Cert.KernelIdeal.cc0_scratch0 : Memref Cert.KernelIdeal.sig Kind.scVector Space.vmem Cert.KernelIdeal.S100096 EltTy.f32)
local notation "s1" => (Memref.whole Cert.KernelIdeal.cc0_scratch1 : Memref Cert.KernelIdeal.sig Kind.scVector Space.vmem Cert.KernelIdeal.S4224 EltTy.f32)
local notation "s2" => (Memref.whole Cert.KernelIdeal.cc0_scratch2 : Memref Cert.KernelIdeal.sig Kind.scVector Space.vmem Cert.KernelIdeal.S4224 EltTy.i32)
local notation "s3" => (Memref.whole Cert.KernelIdeal.cc0_scratch3 : Memref Cert.KernelIdeal.sig Kind.scVector Space.vmem Cert.KernelIdeal.S64 EltTy.f32)
local notation "s4" => (Memref.whole Cert.KernelIdeal.cc0_scratch4 : Memref Cert.KernelIdeal.sig Kind.scVector Space.vmem Cert.KernelIdeal.S96 EltTy.i32)
local notation "s5" => (Memref.whole Cert.KernelIdeal.cc0_scratch5 : Memref Cert.KernelIdeal.sig Kind.scVector Space.vmem Cert.KernelIdeal.S16 EltTy.f32)
local notation "s6" => (Memref.whole Cert.KernelIdeal.cc0_scratch6 : Memref Cert.KernelIdeal.sig Kind.scVector Space.vmem Cert.KernelIdeal.S16 EltTy.i32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.vmem Cert.KernelIdeal.S16 EltTy.i32)

theorem xdiv : 64 ∣ S64x100000.size 0 := ⟨1, rfl⟩
theorem odiv : 64 ∣ S64x16.size 0 := ⟨1, rfl⟩
/-- Row `r` of the logits, and of a result. -/
abbrev xRow (r : Fin 64) : Rect S64x100000 := Rect.part (s := S64x100000) (a₀ := 0) xdiv r
abbrev oRow (r : Fin 64) : Rect S64x16 := Rect.part (s := S64x16) (a₀ := 0) odiv r
abbrev xRowS (r : Fin 64) : Finset S64x100000.Idx := (xRow r).set
abbrev oRowS (r : Fin 64) : Finset S64x16.Idx := (oRow r).set

/-- The row of trip `k` on subcore `s` of SparseCore `c`. -/
def rowN (c s k : ℕ) : Fin 64 := ⟨(2 * s + c + 32 * k) % 64, Nat.mod_lt _ (by decide)⟩

/-- The element of a result at row `r`, lane `l`. -/
def o2 (r : Fin 64) (l : Fin 16) : S64x16.Idx := fun | 0 => r | 1 => l
/-- The element of the logits at row `r`, place `j`. -/
def x2 (r : Fin 64) (j : Fin 100000) : S64x100000.Idx := fun | 0 => r | 1 => j

variable [FloatOps F]

/-- Row `r` of the logits. -/
def xR (d : Dev nD) (r : Fin 64) : Vec F S100000 .f32 := fun j => m (xLoc d) (x2 r (j 0))

/-- What the first result holds in row `r`. -/
def GC (d : Dev nD) (r : Fin 64) (f : Buf (Elt F) (cLoc d)) : Prop := ∀ l : Fin 16, f (o2 r l) = cutV (bestV (rowX (xR m d r))) (ix16 l.val)
/-- What the second result holds in row `r`. -/
def GB (d : Dev nD) (r : Fin 64) (f : Buf (Elt F) (bLoc d)) : Prop := ∃ E0, ∀ l : Fin 16, f (o2 r l) = rowBnd E0 (rowX (xR m d r)) (ix16 l.val)

/-- A row handed to a task. -/
def slotG (d : Dev nD) (r : Fin 64) : sProp 𝕄 :=
  iprop((xLoc d ↦[xRowS r]{fullShare} m (xLoc d)) ∗ (∃ f, cLoc d ↦[oRowS r]{fullShare} f) ∗ (∃ f, bLoc d ↦[oRowS r]{fullShare} f))
/-- A row handed back. -/
def slotD (d : Dev nD) (r : Fin 64) : sProp 𝕄 :=
  iprop((xLoc d ↦[xRowS r]{fullShare} m (xLoc d)) ∗ (∃ f, ⌜GC m d r f⌝ ∗ cLoc d ↦[oRowS r]{fullShare} f) ∗ (∃ f, ⌜GB m d r f⌝ ∗ bLoc d ↦[oRowS r]{fullShare} f))

/-- What a task is handed, and hands back. -/
def taskG (d : Dev nD) (c s : ℕ) : sProp 𝕄 := bigSep Finset.univ fun k : Fin k0_t1_loop.trips => slotG m d (rowN c s k.val)
def taskD (d : Dev nD) (c s : ℕ) : sProp 𝕄 := bigSep Finset.univ fun k : Fin k0_t1_loop.trips => slotD m d (rowN c s k.val)

/-- The one call takes its rows, and hands them back. -/
def P : (K (F := F)).Pay (nD := nD) (Val := Elt F) (Name := ℕ) (U := UU) where
  st := fun q d c => match q with | 0 => bigSep Finset.univ fun i : Fin ((K (F := F)).nSub 0) => taskG m d c.val i.val
  dn := fun q d c => match q with | 0 => bigSep Finset.univ fun i : Fin ((K (F := F)).nSub 0) => taskD m d c.val i.val
  go := fun q d c i => match q with | 0 => taskG m d c.val i.val
  td := fun q d c i => match q with | 0 => taskD m d c.val i.val
  x := fun _ _ => iprop(emp)

instance slotG_storable (d : Dev nD) (r : Fin 64) : BI.Storable (upEmb : UEmb _ 𝕄) (slotG m d r) := by
  unfold slotG; infer_instance
instance slotD_storable (d : Dev nD) (r : Fin 64) : BI.Storable (upEmb : UEmb _ 𝕄) (slotD m d r) := by
  unfold slotD; infer_instance
instance taskG_storable (d : Dev nD) (c s : ℕ) : BI.Storable (upEmb : UEmb _ 𝕄) (taskG m d c s) := by
  unfold taskG; infer_instance
instance taskD_storable (d : Dev nD) (c s : ℕ) : BI.Storable (upEmb : UEmb _ 𝕄) (taskD m d c s) := by
  unfold taskD; infer_instance

instance P_storable : (P (F := F) m).IsStorable where
  st q d c := match q with
    | 0 => (inferInstance : BI.Storable (upEmb : UEmb _ 𝕄) (bigSep Finset.univ fun i : Fin ((K (F := F)).nSub 0) => taskG m d c.val i.val))
  dn q d c := match q with
    | 0 => (inferInstance : BI.Storable (upEmb : UEmb _ 𝕄) (bigSep Finset.univ fun i : Fin ((K (F := F)).nSub 0) => taskD m d c.val i.val))
  go q d c i := match q with
    | 0 => (inferInstance : BI.Storable (upEmb : UEmb _ 𝕄) (taskG m d c.val i.val))
  td q d c i := match q with
    | 0 => (inferInstance : BI.Storable (upEmb : UEmb _ 𝕄) (taskD m d c.val i.val))

/-! ## The task -/

section Tile

variable (d : Dev nD) (L : grid0.Coords)

abbrev cV (L : grid0.Coords) : Fin τ.nSC := (L 0).castLE hcore0
abbrev jV (L : grid0.Coords) : Fin τ.nSub := (L 1).castLE hsub0

omit [FloatOps F] in
theorem row_lt (k : Fin k0_t1_loop.trips) : 2 * (L 1).val + (L 0).val + 32 * k.val < 64 := by
  have h0 : (L 0).val < 2 := (L 0).isLt
  have h1 : (L 1).val < 16 := (L 1).isLt
  have h2 : k.val < 2 := k.isLt
  omega

omit [FloatOps F] in
theorem rowN_val (k : Fin k0_t1_loop.trips) : (rowN (L 0).val (L 1).val k.val).val = 2 * (L 1).val + (L 0).val + 32 * k.val :=
  Nat.mod_eq_of_lt (row_lt L k)

omit [FloatOps F] in
theorem xrowK_eq (k : Fin k0_t1_loop.trips) :
    Rect.unit (s := S64x100000) (k0_off1 L k) S1x100000.size (k0_off1_inb L k) = xRow (rowN (L 0).val (L 1).val k.val) := by
  unfold xRow Rect.part Rect.block
  congr 1 <;> funext a
  · rw [k0_off1_eq]
    match a with
    | 0 => simp [Shape.partIx, Shape.partSize, rowN_val]
    | 1 => simp [Shape.partIx, Shape.partSize]
  · match a with
    | 0 => simp [Shape.partSize]
    | 1 => simp [Shape.partSize]
omit [FloatOps F] in
theorem orowK_eq (k : Fin k0_t1_loop.trips) :
    Rect.unit (s := S64x16) (k0_off9 L k) S1x16.size (k0_off9_inb L k) = oRow (rowN (L 0).val (L 1).val k.val) := by
  unfold oRow Rect.part Rect.block
  congr 1 <;> funext a
  · rw [k0_off9_eq]
    match a with
    | 0 => simp [Shape.partIx, Shape.partSize, rowN_val]
    | 1 => simp [Shape.partIx, Shape.partSize]
  · match a with
    | 0 => simp [Shape.partSize]
    | 1 => simp [Shape.partSize]

omit [FloatOps F] in
theorem set_rowM (k : Fin k0_t1_loop.trips) : (rowM L k xV).view.set = xRowS (rowN (L 0).val (L 1).val k.val) := by
  show (((xV).view.slice (Rect.unit (s := S64x100000) (k0_off1 L k) S1x100000.size (k0_off1_inb L k))).reshape S100000 squeezes_S1x100000_S100000.numel_eq).set = _
  rw [View.set_reshape]
  exact (View.set_slice _ _).trans (Finset.map_refl.trans (congrArg (fun r : Rect S64x100000 => r.set) (xrowK_eq L k)))
omit [FloatOps F] in
theorem set_outC (k : Fin k0_t1_loop.trips) : (outM L k oV).view.set = oRowS (rowN (L 0).val (L 1).val k.val) := by
  show (((oV).view.slice (Rect.unit (s := S64x16) (k0_off9 L k) S1x16.size (k0_off9_inb L k))).reshape S16 squeezes_S1x16_S16.numel_eq).set = _
  rw [View.set_reshape]
  exact (View.set_slice _ _).trans (Finset.map_refl.trans (congrArg (fun r : Rect S64x16 => r.set) (orowK_eq L k)))
omit [FloatOps F] in
theorem set_outB (k : Fin k0_t1_loop.trips) : (outM L k bV).view.set = oRowS (rowN (L 0).val (L 1).val k.val) := by
  show (((bV).view.slice (Rect.unit (s := S64x16) (k0_off9 L k) S1x16.size (k0_off9_inb L k))).reshape S16 squeezes_S1x16_S16.numel_eq).set = _
  rw [View.set_reshape]
  exact (View.set_slice _ _).trans (Finset.map_refl.trans (congrArg (fun r : Rect S64x16 => r.set) (orowK_eq L k)))

omit [FloatOps F] in
theorem emb_rowM (k : Fin k0_t1_loop.trips) (j : S100000.Idx) : (rowM L k xV).view.emb j = x2 (rowN (L 0).val (L 1).val k.val) (j 0) := by
  show (Rect.unit (s := S64x100000) (k0_off1 L k) S1x100000.size (k0_off1_inb L k)).emb (Shape.reshapeEquiv squeezes_S1x100000_S100000.numel_eq j) = _
  rw [show Shape.reshapeEquiv squeezes_S1x100000_S100000.numel_eq j = _ from Shape.reshapeEquiv_cons_one (n := 1) (d := ![100000]) squeezes_S1x100000_S100000.numel_eq j]
  funext a
  apply Fin.ext
  match a with
  | 0 =>
    show k0_off1 L k 0 + 1 * 0 = (rowN (L 0).val (L 1).val k.val).val
    rw [k0_off1_eq, rowN_val]; rfl
  | 1 =>
    show k0_off1 L k 1 + 1 * (j 0).val = (j 0).val
    rw [k0_off1_eq]
    show 0 + 1 * (j 0).val = (j 0).val
    omega
omit [FloatOps F] in
theorem emb_outM (k : Fin k0_t1_loop.trips) (l : S16.Idx) :
    (Rect.unit (s := S64x16) (k0_off9 L k) S1x16.size (k0_off9_inb L k)).emb (Shape.reshapeEquiv squeezes_S1x16_S16.numel_eq l) = o2 (rowN (L 0).val (L 1).val k.val) (l 0) := by
  rw [show Shape.reshapeEquiv squeezes_S1x16_S16.numel_eq l = _ from Shape.reshapeEquiv_cons_one (n := 1) (d := ![16]) squeezes_S1x16_S16.numel_eq l]
  funext a
  apply Fin.ext
  match a with
  | 0 =>
    show k0_off9 L k 0 + 1 * 0 = (rowN (L 0).val (L 1).val k.val).val
    rw [k0_off9_eq, rowN_val]; rfl
  | 1 =>
    show k0_off9 L k 1 + 1 * (l 0).val = (l 0).val
    rw [k0_off9_eq]
    show 0 + 1 * (l 0).val = (l 0).val
    omega

/-! ### Rows as the task names them, and as it is handed them -/

theorem row_in (k : Fin k0_t1_loop.trips) :
    (xLoc d ↦[xRowS (rowN (L 0).val (L 1).val k.val)]{fullShare} m (xLoc d) : sProp 𝕄)
      ⊢ owns (th d L) (rowM L k xV) fullShare (xR m d (rowN (L 0).val (L 1).val k.val)) := by
  unfold owns
  iintro H
  iexists (m (xLoc d))
  isplitr
  · ipureintro
    funext j
    rw [View.read_apply, emb_rowM]
    rfl
  · rw [set_rowM]; iexact H

theorem row_out (k : Fin k0_t1_loop.trips) :
    (owns (th d L) (rowM L k xV) fullShare (xR m d (rowN (L 0).val (L 1).val k.val)) : sProp 𝕄)
      ⊢ xLoc d ↦[xRowS (rowN (L 0).val (L 1).val k.val)]{fullShare} m (xLoc d) := by
  unfold owns
  iintro ⟨%f, %hf, H⟩
  iapply (Entails.of_eq (pointsTo_congr (U := UU) (q := fullShare) (ℓ := xLoc d) (I := xRowS (rowN (L 0).val (L 1).val k.val)) (f := f) (g := m (xLoc d)) (fun i hi => by
    rw [← set_rowM, View.set, Finset.mem_map] at hi
    obtain ⟨j, -, rfl⟩ := hi
    have h := congrFun hf j
    rw [View.read_apply] at h
    rw [emb_rowM] at h ⊢
    exact h)))
  rw [set_rowM]; iexact H

theorem outC_in (k : Fin k0_t1_loop.trips) (f : Buf (Elt F) (cLoc d)) :
    (cLoc d ↦[oRowS (rowN (L 0).val (L 1).val k.val)]{fullShare} f : sProp 𝕄) ⊢ ∃ Y, owns (th d L) (outM L k oV) fullShare Y := by
  unfold owns
  iintro H
  iexists _, f
  isplitr
  · ipureintro; rfl
  · rw [set_outC]; iexact H
theorem outB_in (k : Fin k0_t1_loop.trips) (f : Buf (Elt F) (bLoc d)) :
    (bLoc d ↦[oRowS (rowN (L 0).val (L 1).val k.val)]{fullShare} f : sProp 𝕄) ⊢ ∃ Y, owns (th d L) (outM L k bV) fullShare Y := by
  unfold owns
  iintro H
  iexists _, f
  isplitr
  · ipureintro; rfl
  · rw [set_outB]; iexact H

omit [FloatOps F] in
theorem ix16_0 (l : Fin 16) : (ix16 l.val) 0 = l := Fin.ext (Nat.mod_eq_of_lt l.isLt)

theorem outC_out (k : Fin k0_t1_loop.trips) (Y : Vec F S16 .f32) :
    (owns (th d L) (outM L k oV) fullShare Y : sProp 𝕄)
      ⊢ ∃ f, ⌜∀ l : Fin 16, f (o2 (rowN (L 0).val (L 1).val k.val) l) = Y (ix16 l.val)⌝ ∗ cLoc d ↦[oRowS (rowN (L 0).val (L 1).val k.val)]{fullShare} f := by
  unfold owns
  iintro ⟨%f, %hf, H⟩
  iexists f
  isplitr
  · ipureintro
    intro l
    have h := congrFun hf (ix16 l.val)
    rw [View.read_apply, show (outM L k oV).view.emb (ix16 l.val) = _ from emb_outM L k (ix16 l.val), ix16_0] at h
    exact h
  · rw [set_outC]; iexact H
theorem outB_out (k : Fin k0_t1_loop.trips) (Y : Vec F S16 .i32) :
    (owns (th d L) (outM L k bV) fullShare Y : sProp 𝕄)
      ⊢ ∃ f, ⌜∀ l : Fin 16, f (o2 (rowN (L 0).val (L 1).val k.val) l) = Y (ix16 l.val)⌝ ∗ bLoc d ↦[oRowS (rowN (L 0).val (L 1).val k.val)]{fullShare} f := by
  unfold owns
  iintro ⟨%f, %hf, H⟩
  iexists f
  isplitr
  · ipureintro
    intro l
    have h := congrFun hf (ix16 l.val)
    rw [View.read_apply, show (outM L k bV).view.emb (ix16 l.val) = _ from emb_outM L k (ix16 l.val), ix16_0] at h
    exact h
  · rw [set_outB]; iexact H

/-- The rows of a task, as it names them. -/
abbrev RR (k : Fin k0_t1_loop.trips) : Vec F S100000 .f32 := xR m d (rowN (L 0).val (L 1).val k.val)

theorem slot_in (k : Fin k0_t1_loop.trips) : (slotG m d (rowN (L 0).val (L 1).val k.val) : sProp 𝕄) ⊢ rAny d L xV oV bV (RR m d L k) k := by
  unfold slotG rAny
  iintro ⟨HX, ⟨%f, HC⟩, ⟨%g, HB⟩⟩
  isplitl [HX]; · iapply (row_in m d L k) $$ HX
  isplitl [HC]; · iapply (outC_in d L k f) $$ HC
  iapply (outB_in d L k g) $$ HB

theorem task_in : (taskG m d (L 0).val (L 1).val : sProp 𝕄) ⊢ rows d L xV oV bV (RR m d L) 0 := by
  unfold taskG rows
  refine bigSep_mono fun k _ => ?_
  rw [if_neg (Nat.not_lt_zero _)]
  exact slot_in m d L k

theorem slot_out (k : Fin k0_t1_loop.trips) : (rDone d L xV oV bV (RR m d L k) k : sProp 𝕄) ⊢ slotD m d (rowN (L 0).val (L 1).val k.val) := by
  unfold slotD rDone
  iintro ⟨HX, HC, ⟨%E0, HB⟩⟩
  isplitl [HX]; · iapply (row_out m d L k) $$ HX
  isplitl [HC]
  · ihave HC' := (outC_out d L k _) $$ HC
    icases HC' with ⟨%f, %hf, HC⟩
    iexists f
    isplitr
    · ipureintro; exact hf
    · iexact HC
  · ihave HB' := (outB_out d L k _) $$ HB
    icases HB' with ⟨%f, %hf, HB⟩
    iexists f
    isplitr
    · ipureintro; exact ⟨E0, hf⟩
    · iexact HB

theorem task_out : (rows d L xV oV bV (RR m d L) k0_t1_loop.trips : sProp 𝕄) ⊢ taskD m d (L 0).val (L 1).val := by
  unfold taskD rows
  refine bigSep_mono fun k _ => ?_
  rw [if_pos k.isLt]
  exact slot_out m d L k

/-! ### The subcore's own buffers and cells -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  have hA : cAcell d (cV L) (jV L) ∈ ownCells (V d (cV L) (jV L)) := mem_ownCells.mpr ⟨rfl, (by decide : (SemLoc.dma cc0_scoped0.sem : SemLoc sig).isScoped .scVector = true)⟩
  have hB : cBcell d (cV L) (jV L) ∈ ownCells (V d (cV L) (jV L)) := mem_ownCells.mpr ⟨rfl, (by decide : (SemLoc.dma cc0_scoped1.sem : SemLoc sig).isScoped .scVector = true)⟩
  have hC : cCcell d (cV L) (jV L) ∈ ownCells (V d (cV L) (jV L)) := mem_ownCells.mpr ⟨rfl, (by decide : (SemLoc.dma cc0_scoped2.sem : SemLoc sig).isScoped .scVector = true)⟩
  have nBA : cBcell d (cV L) (jV L) ≠ cAcell d (cV L) (jV L) := fun e => absurd (congrArg Prod.snd e) (show (SemLoc.dma cc0_scoped1.sem : SemLoc sig) ≠ SemLoc.dma cc0_scoped0.sem by decide)
  have nCA : cCcell d (cV L) (jV L) ≠ cAcell d (cV L) (jV L) := fun e => absurd (congrArg Prod.snd e) (show (SemLoc.dma cc0_scoped2.sem : SemLoc sig) ≠ SemLoc.dma cc0_scoped0.sem by decide)
  have nCB : cCcell d (cV L) (jV L) ≠ cBcell d (cV L) (jV L) := fun e => absurd (congrArg Prod.snd e) (show (SemLoc.dma cc0_scoped2.sem : SemLoc sig) ≠ SemLoc.dma cc0_scoped1.sem by decide)
  rw [SparseCore.bigSep_erase' hA, SparseCore.bigSep_erase' (Finset.mem_erase.mpr ⟨nBA, hB⟩),
    SparseCore.bigSep_erase' (Finset.mem_erase.mpr ⟨nCB, Finset.mem_erase.mpr ⟨nCA, hC⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

omit [FloatOps F] in
theorem any_in0 : (iprop(∃ f, (V d (cV L) (jV L)).loc cc0_scratch0 ↦{fullShare} f) : sProp 𝕄) ⊢ anyM (F := F) d L s0 := by
  unfold anyM
  iintro ⟨%f, H⟩
  iexists f
  iapply (Entails.of_eq (owns_whole_eq (Val := Elt F) (U := UU) (th d L) cc0_scratch0 fullShare f).symm)
  iexists f
  isplitr
  · ipureintro; rfl
  · iexact H
omit [FloatOps F] in
theorem any_out0 : (anyM (F := F) d L s0 : sProp 𝕄) ⊢ iprop(∃ f, (V d (cV L) (jV L)).loc cc0_scratch0 ↦{fullShare} f) := by
  unfold anyM
  iintro ⟨%f, H⟩
  ihave H := (Entails.of_eq (owns_whole_eq (Val := Elt F) (U := UU) (th d L) cc0_scratch0 fullShare f)) $$ H
  icases H with ⟨%g, -, H⟩
  iexists g
  iexact H

omit [FloatOps F] in
theorem any_in1 : (iprop(∃ f, (V d (cV L) (jV L)).loc cc0_scratch1 ↦{fullShare} f) : sProp 𝕄) ⊢ anyM (F := F) d L s1 := by
  unfold anyM
  iintro ⟨%f, H⟩
  iexists f
  iapply (Entails.of_eq (owns_whole_eq (Val := Elt F) (U := UU) (th d L) cc0_scratch1 fullShare f).symm)
  iexists f
  isplitr
  · ipureintro; rfl
  · iexact H
omit [FloatOps F] in
theorem any_out1 : (anyM (F := F) d L s1 : sProp 𝕄) ⊢ iprop(∃ f, (V d (cV L) (jV L)).loc cc0_scratch1 ↦{fullShare} f) := by
  unfold anyM
  iintro ⟨%f, H⟩
  ihave H := (Entails.of_eq (owns_whole_eq (Val := Elt F) (U := UU) (th d L) cc0_scratch1 fullShare f)) $$ H
  icases H with ⟨%g, -, H⟩
  iexists g
  iexact H

omit [FloatOps F] in
theorem any_in2 : (iprop(∃ f, (V d (cV L) (jV L)).loc cc0_scratch2 ↦{fullShare} f) : sProp 𝕄) ⊢ anyM (F := F) d L s2 := by
  unfold anyM
  iintro ⟨%f, H⟩
  iexists f
  iapply (Entails.of_eq (owns_whole_eq (Val := Elt F) (U := UU) (th d L) cc0_scratch2 fullShare f).symm)
  iexists f
  isplitr
  · ipureintro; rfl
  · iexact H
omit [FloatOps F] in
theorem any_out2 : (anyM (F := F) d L s2 : sProp 𝕄) ⊢ iprop(∃ f, (V d (cV L) (jV L)).loc cc0_scratch2 ↦{fullShare} f) := by
  unfold anyM
  iintro ⟨%f, H⟩
  ihave H := (Entails.of_eq (owns_whole_eq (Val := Elt F) (U := UU) (th d L) cc0_scratch2 fullShare f)) $$ H
  icases H with ⟨%g, -, H⟩
  iexists g
  iexact H

omit [FloatOps F] in
theorem any_in3 : (iprop(∃ f, (V d (cV L) (jV L)).loc cc0_scratch3 ↦{fullShare} f) : sProp 𝕄) ⊢ anyM (F := F) d L s3 := by
  unfold anyM
  iintro ⟨%f, H⟩
  iexists f
  iapply (Entails.of_eq (owns_whole_eq (Val := Elt F) (U := UU) (th d L) cc0_scratch3 fullShare f).symm)
  iexists f
  isplitr
  · ipureintro; rfl
  · iexact H
omit [FloatOps F] in
theorem any_out3 : (anyM (F := F) d L s3 : sProp 𝕄) ⊢ iprop(∃ f, (V d (cV L) (jV L)).loc cc0_scratch3 ↦{fullShare} f) := by
  unfold anyM
  iintro ⟨%f, H⟩
  ihave H := (Entails.of_eq (owns_whole_eq (Val := Elt F) (U := UU) (th d L) cc0_scratch3 fullShare f)) $$ H
  icases H with ⟨%g, -, H⟩
  iexists g
  iexact H

omit [FloatOps F] in
theorem any_in4 : (iprop(∃ f, (V d (cV L) (jV L)).loc cc0_scratch4 ↦{fullShare} f) : sProp 𝕄) ⊢ anyM (F := F) d L s4 := by
  unfold anyM
  iintro ⟨%f, H⟩
  iexists f
  iapply (Entails.of_eq (owns_whole_eq (Val := Elt F) (U := UU) (th d L) cc0_scratch4 fullShare f).symm)
  iexists f
  isplitr
  · ipureintro; rfl
  · iexact H
omit [FloatOps F] in
theorem any_out4 : (anyM (F := F) d L s4 : sProp 𝕄) ⊢ iprop(∃ f, (V d (cV L) (jV L)).loc cc0_scratch4 ↦{fullShare} f) := by
  unfold anyM
  iintro ⟨%f, H⟩
  ihave H := (Entails.of_eq (owns_whole_eq (Val := Elt F) (U := UU) (th d L) cc0_scratch4 fullShare f)) $$ H
  icases H with ⟨%g, -, H⟩
  iexists g
  iexact H

omit [FloatOps F] in
theorem any_in5 : (iprop(∃ f, (V d (cV L) (jV L)).loc cc0_scratch5 ↦{fullShare} f) : sProp 𝕄) ⊢ anyM (F := F) d L s5 := by
  unfold anyM
  iintro ⟨%f, H⟩
  iexists f
  iapply (Entails.of_eq (owns_whole_eq (Val := Elt F) (U := UU) (th d L) cc0_scratch5 fullShare f).symm)
  iexists f
  isplitr
  · ipureintro; rfl
  · iexact H
omit [FloatOps F] in
theorem any_out5 : (anyM (F := F) d L s5 : sProp 𝕄) ⊢ iprop(∃ f, (V d (cV L) (jV L)).loc cc0_scratch5 ↦{fullShare} f) := by
  unfold anyM
  iintro ⟨%f, H⟩
  ihave H := (Entails.of_eq (owns_whole_eq (Val := Elt F) (U := UU) (th d L) cc0_scratch5 fullShare f)) $$ H
  icases H with ⟨%g, -, H⟩
  iexists g
  iexact H

omit [FloatOps F] in
theorem any_in6 : (iprop(∃ f, (V d (cV L) (jV L)).loc cc0_scratch6 ↦{fullShare} f) : sProp 𝕄) ⊢ anyM (F := F) d L s6 := by
  unfold anyM
  iintro ⟨%f, H⟩
  iexists f
  iapply (Entails.of_eq (owns_whole_eq (Val := Elt F) (U := UU) (th d L) cc0_scratch6 fullShare f).symm)
  iexists f
  isplitr
  · ipureintro; rfl
  · iexact H
omit [FloatOps F] in
theorem any_out6 : (anyM (F := F) d L s6 : sProp 𝕄) ⊢ iprop(∃ f, (V d (cV L) (jV L)).loc cc0_scratch6 ↦{fullShare} f) := by
  unfold anyM
  iintro ⟨%f, H⟩
  ihave H := (Entails.of_eq (owns_whole_eq (Val := Elt F) (U := UU) (th d L) cc0_scratch6 fullShare f)) $$ H
  icases H with ⟨%g, -, H⟩
  iexists g
  iexact H

omit [FloatOps F] in
theorem any_in7 : (iprop(∃ f, (V d (cV L) (jV L)).loc cc0_scratch7 ↦{fullShare} f) : sProp 𝕄) ⊢ anyM (F := F) d L s7 := by
  unfold anyM
  iintro ⟨%f, H⟩
  iexists f
  iapply (Entails.of_eq (owns_whole_eq (Val := Elt F) (U := UU) (th d L) cc0_scratch7 fullShare f).symm)
  iexists f
  isplitr
  · ipureintro; rfl
  · iexact H
omit [FloatOps F] in
theorem any_out7 : (anyM (F := F) d L s7 : sProp 𝕄) ⊢ iprop(∃ f, (V d (cV L) (jV L)).loc cc0_scratch7 ↦{fullShare} f) := by
  unfold anyM
  iintro ⟨%f, H⟩
  ihave H := (Entails.of_eq (owns_whole_eq (Val := Elt F) (U := UU) (th d L) cc0_scratch7 fullShare f)) $$ H
  icases H with ⟨%g, -, H⟩
  iexists g
  iexact H

omit [FloatOps F] in
theorem any_in8 : (iprop(∃ f, (V d (cV L) (jV L)).loc cc0_scratch8 ↦{fullShare} f) : sProp 𝕄) ⊢ anyM (F := F) d L s8 := by
  unfold anyM
  iintro ⟨%f, H⟩
  iexists f
  iapply (Entails.of_eq (owns_whole_eq (Val := Elt F) (U := UU) (th d L) cc0_scratch8 fullShare f).symm)
  iexists f
  isplitr
  · ipureintro; rfl
  · iexact H
omit [FloatOps F] in
theorem any_out8 : (anyM (F := F) d L s8 : sProp 𝕄) ⊢ iprop(∃ f, (V d (cV L) (jV L)).loc cc0_scratch8 ↦{fullShare} f) := by
  unfold anyM
  iintro ⟨%f, H⟩
  ihave H := (Entails.of_eq (owns_whole_eq (Val := Elt F) (U := UU) (th d L) cc0_scratch8 fullShare f)) $$ H
  icases H with ⟨%g, -, H⟩
  iexists g
  iexact H

/-! ### The task -/

theorem tile_body (hF : (K (F := F)).Facts) (O : CellTallies nD τ sig (HIx 1)) (W : Waits sig (HIx 1)) (hO : ∀ g, O g none = 0) :
    (iprop(levAts (K (F := F)).L (K (F := F)).lev ∗ emp ∗ taskG m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L xV (Memref.isWhole_whole _) oV (Memref.isWhole_whole _) bV (Memref.isWhole_whole _)
            s0 (Memref.isWhole_whole _) s1 (Memref.isWhole_whole _) s2 (Memref.isWhole_whole _) s3 (Memref.isWhole_whole _) s4 (Memref.isWhole_whole _)
            s5 (Memref.isWhole_whole _) s6 (Memref.isWhole_whole _) s7 (Memref.isWhole_whole _) s8 (Memref.isWhole_whole _) cc0_scoped0 cc0_scoped1 cc0_scoped2)
          fun _ => iprop(taskD m d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]
  rw [(K (F := F)).scopedBufs_V hF d (cV L) (jV L), SparseCore.Cfg.scopedSems0_V (Val := Elt F) d (cV L) (jV L), ownSems0_V, ownBufs_V]
  iintro ⟨#Hlv, -, HG, ⟨B0, B1, B2, B3, B4, B5, B6, B7, B8, Hbufs⟩, ⟨HsemA, HsemB, HsemC, Hsems⟩, HO⟩
  ihave Hmw := (show levAts (K (F := F)).L (K (F := F)).lev ⊢ Transfers.MayWaits (V d (cV L) (jV L)) none O from
    (K (F := F)).mayWaits_none (thr := V d (cV L) (jV L)) hO) $$ Hlv
  ihave HR := (task_in m d L) $$ HG
  iapply (wp_bodyP (defs := defs₀ (F := F)) 𝒱₀ d L none xV oV bV s0 s1 s2 s3 s4 s5 (Memref.isWhole_whole _) s6 (Memref.isWhole_whole _) s7 s8
    cc0_scoped0 cc0_scoped1 cc0_scoped2 O W (RR m d L)) $$ [HR B0 B1 B2 B3 B4 B5 B6 B7 B8 HsemA HsemB HsemC HO Hmw]
  · isplitl [HR]; · iexact HR
    isplitl [B0]; · iapply (any_in0 (F := F) d L) $$ B0
    isplitl [B1 B2 B3 B4 B7 B8]
    · unfold scrs
      isplitl [B1 B2]
      · isplitl [B1]; · iapply (any_in1 (F := F) d L) $$ B1
        iapply (any_in2 (F := F) d L) $$ B2
      isplitl [B3]; · iapply (any_in3 (F := F) d L) $$ B3
      isplitl [B4]; · iapply (any_in4 (F := F) d L) $$ B4
      isplitl [B7]; · iapply (any_in7 (F := F) d L) $$ B7
      iapply (any_in8 (F := F) d L) $$ B8
    isplitl [B5]; · iapply (any_in5 (F := F) d L) $$ B5
    isplitl [B6]; · iapply (any_in6 (F := F) d L) $$ B6
    isplitl [HsemA]; · iexact HsemA
    isplitl [HsemB]; · iexact HsemB
    isplitl [HsemC]; · iexact HsemC
    isplitl [HO]; · iexact HO
    iexact Hmw
  iintro ⟨HR, HK⟩
  unfold rKeep scrs
  icases HK with ⟨⟨%X0, -, B0⟩, ⟨⟨B1, B2⟩, B3, B4, B7, B8⟩, B5, B6, HsemA, HsemB, HsemC, HO⟩
  isplitl [HR]; · iapply (task_out m d L) $$ HR
  isplitl [B0 B1 B2 B3 B4 B5 B6 B7 B8 Hbufs]
  · isplitl [B0]; · iapply (any_out0 (F := F) d L); unfold anyM; iexists X0; iexact B0
    isplitl [B1]; · iapply (any_out1 (F := F) d L) $$ B1
    isplitl [B2]; · iapply (any_out2 (F := F) d L) $$ B2
    isplitl [B3]; · iapply (any_out3 (F := F) d L) $$ B3
    isplitl [B4]; · iapply (any_out4 (F := F) d L) $$ B4
    isplitl [B5]; · iapply (any_out5 (F := F) d L) $$ B5
    isplitl [B6]; · iapply (any_out6 (F := F) d L) $$ B6
    isplitl [B7]; · iapply (any_out7 (F := F) d L) $$ B7
    isplitl [B8]; · iapply (any_out8 (F := F) d L) $$ B8
    iexact Hbufs
  isplitl [HsemA HsemB HsemC Hsems]
  · isplitl [HsemA]; · iexact HsemA
    isplitl [HsemB]; · iexact HsemB
    isplitl [HsemC]; · iexact HsemC
    iexact Hsems
  iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) bV (Memref.isWhole_whole _)
            s0 (Memref.isWhole_whole _) s1 (Memref.isWhole_whole _) s2 (Memref.isWhole_whole _) s3 (Memref.isWhole_whole _) s4 (Memref.isWhole_whole _)
            s5 (Memref.isWhole_whole _) s6 (Memref.isWhole_whole _) s7 (Memref.isWhole_whole _) s8 (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task obligation of the launch theorem. -/
theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body m d (coordsV ⟨_, hci.1⟩ ⟨_, hci.2⟩) hF O W hO).trans (wp_mono frame _ _ fun _ => obl_post)

end Cert.Proof.Sc
-- ==== Proof.Sc.Tc.lean ====
/- The masking call on the TensorCore: its data, its body at a point, and what the result array ends holding. -/
module

public import proofs.«01_k».proof.Proof.Sc.Tile
public import proofs.«01_k».proof.Proof.Gen.KernelIdeal.Points
public import Idealize.ShloMosaic.Lib.Pipeline.Regions
public import Idealize.ShloMosaic.Lib.Pipeline.FrameBody

@[expose] public section

noncomputable section

namespace Cert.Proof.Sc

open Cert.KernelIdeal Cert.KernelIdeal.Facts₀ Cert.KernelIdeal.Facts
open Cert.KernelIdeal.Gen (bigSep_W1 fetch1_0 fetch1_1 fetch1_2 flush1_3 winFacts1 block_pos1 arr_whole1 stage_whole1 launch1 scopedRest1_eq fin_N1)
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## The mask, element by element -/

/-- The bit that keeps an element `x` of column `j`, its row's cut `c` and boundary `b`. -/
def keepBit (x c : F .f32) (b j : BitVec 32) : BitVec 1 :=
  IntOp.ori (FloatOps.cmpf .ogt x c) (IntOp.andi (FloatOps.cmpf .oeq x c) (IntOp.cmpi .sle j b))

/-- The masked array. -/
def maskAll (X : S64x100000.Idx → F .f32) (C : S64x16.Idx → F .f32) (B : S64x16.Idx → BitVec 32) : S64x100000.Idx → F .f32 :=
  fun y => if keepBit (X y) (C (o2 (y 0) 0)) (B (o2 (y 0) 0)) (BitVec.ofNat 32 (y 1).val) = 1#1 then X y else Scalar.ofBits .f32 0xFF800000#32

/-- The masked block at a point, from the whole staging contents. -/
def maskBlk (i : grid1.Coords) (C : S64x16.Idx → F .f32) (B : S64x16.Idx → BitVec 32) (X : S64x6400.Idx → F .f32) : S64x6400.Idx → F .f32 :=
  have v1 : FVec F S64x1 .f32 := shapeCast S64x1 (View.ld (Val := Elt F) (e' := .f32) C (Rect.unit (s := S64x16) ![0, 0] S64x1.size inb_S64x16_S64x1_0_0)) shapeCasts_S64x1_S64x1
  have v3 : IVec S64x1 32 := shapeCast S64x1 (View.ld (Val := Elt F) (e' := .i32) B (Rect.unit (s := S64x16) ![0, 0] S64x1.size inb_S64x16_S64x1_0_0)) shapeCasts_S64x1_S64x1
  have v8 : IVec S64x6400 32 := addi (iota .tc S64x6400 32 [1] iota_S64x6400_d1_w32) (broadcast S64x6400 (Scalar.muli (BitVec.ofNat 32 (i 0).val) 6400#32))
  have v9 : FVec F S64x6400 .f32 := broadcastTo S64x6400 v1 broadcasts_S64x1_S64x6400
  have v16 : IVec S64x6400 1 := ori (cmpf .ogt X v9) (andi (cmpf .oeq X v9) (cmpi .sle v8 (broadcastTo S64x6400 v3 broadcasts_S64x1_S64x6400)))
  select v16 X (broadcast S64x6400 (Scalar.ofBits .f32 0xFF800000#32))

theorem maskBlk_apply (i : grid1.Coords) (C : S64x16.Idx → F .f32) (B : S64x16.Idx → BitVec 32) (X : S64x6400.Idx → F .f32) (y : S64x6400.Idx) :
    maskBlk i C B X y = if keepBit (X y) (C (o2 (y 0) 0)) (B (o2 (y 0) 0)) (BitVec.ofNat 32 ((i 0).val * 6400 + (y 1).val)) = 1#1 then X y
      else Scalar.ofBits .f32 0xFF800000#32 := by
  unfold maskBlk; dsimp only [select, ori, andi, cmpf, cmpi]
  have e : ∀ {e' : EltTy} (Z : S64x16.Idx → Elt F e'),
      broadcastTo S64x6400 (shapeCast S64x1 (View.ld (Val := Elt F) (e' := e') Z (Rect.unit (s := S64x16) ![0, 0] S64x1.size inb_S64x16_S64x1_0_0)) shapeCasts_S64x1_S64x1) broadcasts_S64x1_S64x6400 y
        = Z (o2 (y 0) 0) := by
    intro e' Z
    unfold shapeCast broadcastTo
    simp only [Shape.reshapeEquiv_self]
    refine congrArg Z (funext fun a => ?_)
    fin_cases a <;> apply Fin.ext <;> simp [LoadRect.idx, Rect.toLoadRect, Rect.unit, o2]
  have ei := e (e' := .i32) B
  have ec := e (e' := .f32) C
  have hs : ∀ (a a' b b' j j' : _) (X0 : F .f32), a = a' → b = b' → j = j' →
      Scalar.select (IntOp.ori (FloatOps.cmpf CmpFPredicate.ogt X0 a) (IntOp.andi (FloatOps.cmpf CmpFPredicate.oeq X0 a) (IntOp.cmpi CmpIPredicate.sle j b)))
        X0 (FloatOps.ofBits FTy.f32 4286578688#32)
      = if keepBit X0 a' b' j' = 1#1 then X0 else FloatOps.ofBits FTy.f32 4286578688#32 := by
    rintro a _ b _ j _ X0 rfl rfl rfl; rfl
  refine hs _ _ _ _ _ _ _ ec ei ?_
  apply BitVec.eq_of_toNat_eq
  simp [addi, iota, broadcast, Scalar.muli, IntOp.addi, IntOp.muli]
  omega

/-! ## The call's data -/

variable (m : (ℓ : Loc nD τ sig) → Buf (Elt F) ℓ) (f : ∀ d : Dev nD, Buf (Elt F) (cLoc d)) (g : ∀ d : Dev nD, Buf (Elt F) (bLoc d))

abbrev vLoc (d : Dev nD) : Loc nD τ sig := (SparseCore.T d).loc main_v1

/-- What the result array ends holding. -/
def outAll (c : Dev nD) : S64x100000.Idx → F .f32 := maskAll (m (xLoc c)) (f c) (g c)

/-- The pairs a wait of this core may have recorded: those at a level below the next call's. -/
def tcRec (n : ℕ) (c : Dev nD) : Set (SemLoc sig × HIx 1) := {p | (K (F := F)).lev (SparseCore.T c, p.1) p.2 ≤ n}

def tdat (n : ℕ) (c : Dev nD) : Dat τ (Elt F) (HIx 1) ℕ UU ℕ cfg1 c where
  A w := match w with
    | ⟨0, _⟩ => f c
    | ⟨1, _⟩ => g c
    | ⟨2, _⟩ => m (xLoc c)
    | ⟨3, _⟩ => m (vLoc c)
  after w t := match w with
    | ⟨0, _⟩ => (win1_0.blk t).view.read (Elt F) (f c)
    | ⟨1, _⟩ => (win1_1.blk t).view.read (Elt F) (g c)
    | ⟨2, _⟩ => win1_2.fill (grid1.coords t) (fun _ => Scalar.ofBits .f32 0#32) ((win1_2.blk t).view.read (Elt F) (m (xLoc c)))
    | ⟨3, _⟩ => win1_3.fill (grid1.coords t) (fun _ => Scalar.ofBits .f32 0#32) ((win1_3.blk t).view.read (Elt F) (outAll m f g c))
  Φ _ := iprop(emp)
  q _ := fullShare
  owed _ := 0
  recorded _ := tcRec (F := F) n c

theorem before_0 (n : ℕ) (c : Dev nD) (t : Fin cfg1.N) (d) :
    (tdat m f g n c).before (0 : Fin 4) t d = (win1_0.blk t).view.read (Elt F) (f c) :=
  ((tdat m f g n c).before_in_eq_fetched (0 : Fin 4) rfl (fun _ => rfl) (fun _ _ _ => rfl) (fun _ => rfl) t d).trans rfl
theorem before_1 (n : ℕ) (c : Dev nD) (t : Fin cfg1.N) (d) :
    (tdat m f g n c).before (1 : Fin 4) t d = (win1_1.blk t).view.read (Elt F) (g c) :=
  ((tdat m f g n c).before_in_eq_fetched (1 : Fin 4) rfl (fun _ => rfl) (fun _ _ _ => rfl) (fun _ => rfl) t d).trans rfl
theorem before_2 (n : ℕ) (c : Dev nD) (t : Fin cfg1.N) (d) :
    (tdat m f g n c).before (2 : Fin 4) t d = win1_2.fill (grid1.coords t) d ((win1_2.blk t).view.read (Elt F) (m (xLoc c))) := by
  unfold Dat.before; rw [if_pos (fetch1_2 t)]; rfl
theorem before_3 (n : ℕ) (c : Dev nD) (t : Fin cfg1.N) (d) : (tdat m f g n c).before (3 : Fin 4) t d = d :=
  (tdat m f g n c).before_out_reset (3 : Fin 4) rfl t (by
    by_cases h : t.val = 0
    · exact .inl h
    · exact .inr ⟨h, flush1_3 _⟩) d

/-! ## The body at a point -/

theorem sound_body (c : Dev nD) (E : Set ℕ) (i : grid1.Coords) (s0 : Fin 1) (s1 : Fin 1) (s2 : Fin 2) (s3 : Fin 2)
    (X0 : S64x16.Idx → F .f32) (X1 : S64x16.Idx → BitVec 32) (X2 X3 : S64x6400.Idx → F .f32) (Q : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare (maskBlk i X0 X1 X2)) -∗ Q ⟨⟩))
      ⊢ wp frame (wpE (defs₀ (F := F)) 𝒱₀ c none) E
          (cc1__mask_body i (stage1_0 s0) (hstage1_0 s0) (stage1_1 s1) (hstage1_1 s1) (stage1_2 s2) (hstage1_2 s2) (stage1_3 s3) (hstage1_3 s3)) Q := by
  have hz : (![0, 0] : Fin 2 → Nat) = fun _ => 0 := funext fun a => by fin_cases a <;> rfl
  fin_cases s0 <;> fin_cases s1 <;> fin_cases s2 <;> fin_cases s3
  · have hr2 : (Memref.whole cc1_stg2_0 : Memref sig .tc _ _ _).view.readAt (Elt F) (Rect.unit (s := S64x6400) ![0, 0] S64x6400.size
        inb_S64x6400_S64x6400_0_0).toLoadRect = id := funext (Memref.readAt_unit_zero (Elt F) cc1_stg2_0 hz _)
    have hw3 : ∀ f w, (((Memref.whole cc1_stg3_0).access (Rect.unit (s := S64x6400) ![0, 0] S64x6400.size inb_S64x6400_S64x6400_0_0)) :
        View sig .tc _ _ _).write (Elt F) f w Finset.univ = w := Memref.write_access_unit_zero_univ (Elt F) cc1_stg3_0 hz _
    simp only [owns_whole_eq]; unfold cc1__mask_body
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists maskBlk i f0 f1 f2; isplitr; · ipureintro; rw [hf0, hf1, hf2]
      iexact H3
  · have hr2 : (Memref.whole cc1_stg2_0 : Memref sig .tc _ _ _).view.readAt (Elt F) (Rect.unit (s := S64x6400) ![0, 0] S64x6400.size
        inb_S64x6400_S64x6400_0_0).toLoadRect = id := funext (Memref.readAt_unit_zero (Elt F) cc1_stg2_0 hz _)
    have hw3 : ∀ f w, (((Memref.whole cc1_stg3_1).access (Rect.unit (s := S64x6400) ![0, 0] S64x6400.size inb_S64x6400_S64x6400_0_0)) :
        View sig .tc _ _ _).write (Elt F) f w Finset.univ = w := Memref.write_access_unit_zero_univ (Elt F) cc1_stg3_1 hz _
    simp only [owns_whole_eq]; unfold cc1__mask_body
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists maskBlk i f0 f1 f2; isplitr; · ipureintro; rw [hf0, hf1, hf2]
      iexact H3
  · have hr2 : (Memref.whole cc1_stg2_1 : Memref sig .tc _ _ _).view.readAt (Elt F) (Rect.unit (s := S64x6400) ![0, 0] S64x6400.size
        inb_S64x6400_S64x6400_0_0).toLoadRect = id := funext (Memref.readAt_unit_zero (Elt F) cc1_stg2_1 hz _)
    have hw3 : ∀ f w, (((Memref.whole cc1_stg3_0).access (Rect.unit (s := S64x6400) ![0, 0] S64x6400.size inb_S64x6400_S64x6400_0_0)) :
        View sig .tc _ _ _).write (Elt F) f w Finset.univ = w := Memref.write_access_unit_zero_univ (Elt F) cc1_stg3_0 hz _
    simp only [owns_whole_eq]; unfold cc1__mask_body
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists maskBlk i f0 f1 f2; isplitr; · ipureintro; rw [hf0, hf1, hf2]
      iexact H3
  · have hr2 : (Memref.whole cc1_stg2_1 : Memref sig .tc _ _ _).view.readAt (Elt F) (Rect.unit (s := S64x6400) ![0, 0] S64x6400.size
        inb_S64x6400_S64x6400_0_0).toLoadRect = id := funext (Memref.readAt_unit_zero (Elt F) cc1_stg2_1 hz _)
    have hw3 : ∀ f w, (((Memref.whole cc1_stg3_1).access (Rect.unit (s := S64x6400) ![0, 0] S64x6400.size inb_S64x6400_S64x6400_0_0)) :
        View sig .tc _ _ _).write (Elt F) f w Finset.univ = w := Memref.write_access_unit_zero_univ (Elt F) cc1_stg3_1 hz _
    simp only [owns_whole_eq]; unfold cc1__mask_body
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists maskBlk i f0 f1 f2; isplitr; · ipureintro; rw [hf0, hf1, hf2]
      iexact H3

theorem coord_val (t : Fin cfg1.N) : (grid1.coords t 0).val = t.val := by
  rcases fin_N1 t with rfl | rfl | rfl | rfl | rfl | rfl | rfl | rfl | rfl | rfl | rfl | rfl | rfl | rfl | rfl | rfl <;> decide +kernel

/-- Where element `j` of the result's block at point `t` lies in the array. -/
def gIdx (t : Fin cfg1.N) (j : (win1_3.xblock (grid1.coords t)).Idx) : S64x100000.Idx := (win1_3.blk t).view.emb j

theorem idx3_1 (t : Fin cfg1.N) : win1_3.index t 1 = t.val := by
  rcases fin_N1 t with rfl | rfl | rfl | rfl | rfl | rfl | rfl | rfl | rfl | rfl | rfl | rfl | rfl | rfl | rfl | rfl <;> decide +kernel

theorem gIdx_0 (t : Fin cfg1.N) (j : (win1_3.xblock (grid1.coords t)).Idx) : (gIdx t j 0).val = (j 0).val := by
  show 0 * 64 + 1 * (j 0).val = (j 0).val
  omega
theorem gIdx_1 (t : Fin cfg1.N) (j : (win1_3.xblock (grid1.coords t)).Idx) : (gIdx t j 1).val = t.val * 6400 + (j 1).val := by
  show win1_3.index t 1 * 6400 + 1 * (j 1).val = _
  rw [idx3_1]; omega

theorem read_0 (F0 : S64x16.Idx → F .f32) (t : Fin cfg1.N) : (win1_0.blk t).view.read (Elt F) F0 = F0 := by
  funext j
  refine congrArg F0 (funext fun a => ?_)
  fin_cases a <;> apply Fin.ext
  · show 0 * 64 + 1 * (j 0).val = (j 0).val; omega
  · show 0 * 16 + 1 * (j 1).val = (j 1).val; omega
theorem read_1 (F0 : S64x16.Idx → BitVec 32) (t : Fin cfg1.N) : (win1_1.blk t).view.read (Elt F) F0 = F0 := by
  funext j
  refine congrArg F0 (funext fun a => ?_)
  fin_cases a <;> apply Fin.ext
  · show 0 * 64 + 1 * (j 0).val = (j 0).val; omega
  · show 0 * 16 + 1 * (j 1).val = (j 1).val; omega

theorem cut_mask (C : S64x16.Idx → F .f32) (B : S64x16.Idx → BitVec 32) (X : S64x100000.Idx → F .f32) (t : Fin cfg1.N) (d2) :
    win1_3.cut (grid1.coords t) (maskBlk (grid1.coords t) ((win1_0.blk t).view.read (Elt F) C) ((win1_1.blk t).view.read (Elt F) B)
        (win1_2.fill (grid1.coords t) d2 ((win1_2.blk t).view.read (Elt F) X)))
      = (win1_3.blk t).view.read (Elt F) (maskAll X C B) := by
  rw [read_0, read_1]
  funext j
  have h1 : win1_2.fill (grid1.coords t) d2 ((win1_2.blk t).view.read (Elt F) X) (win1_3.xinj (grid1.coords t) j) = X (gIdx t j) :=
    win1_2.fill_xinj (grid1.coords t) d2 ((win1_2.blk t).view.read (Elt F) X) j
  refine (maskBlk_apply _ _ _ _ _).trans ?_
  show _ = maskAll X C B (gIdx t j)
  rw [h1]
  unfold maskAll
  have h0 : gIdx t j 0 = (win1_3.xinj (grid1.coords t) j) 0 := Fin.ext (gIdx_0 t j)
  have h2 : (gIdx t j 1).val = (grid1.coords t 0).val * 6400 + ((win1_3.xinj (grid1.coords t) j) 1).val := (gIdx_1 t j).trans (by rw [coord_val])
  rw [h0, h2]

theorem sound_body' (c : Dev nD) (E : Set ℕ) (i : grid1.Coords) (s0 : Fin 1) (s1 : Fin 1) (s2 : Fin 2) (s3 : Fin 2)
    (X0 : S64x16.Idx → F .f32) (X1 : S64x16.Idx → BitVec 32) (X2 X3 M : S64x6400.Idx → F .f32) (hM : M = maskBlk i X0 X1 X2) (Q : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare M) -∗ Q ⟨⟩))
      ⊢ wp frame (wpE (defs₀ (F := F)) 𝒱₀ c none) E
          (cc1__mask_body i (stage1_0 s0) (hstage1_0 s0) (stage1_1 s1) (hstage1_1 s1) (stage1_2 s2) (hstage1_2 s2) (stage1_3 s3) (hstage1_3 s3)) Q := by
  subst hM
  exact sound_body c E i s0 s1 s2 s3 X0 X1 X2 X3 Q

theorem cut_after3 (n : ℕ) (c : Dev nD) (t : Fin cfg1.N) :
    win1_3.cut (grid1.coords t) ((tdat m f g n c).after (3 : Fin 4) t) = (win1_3.blk t).view.read (Elt F) (outAll m f g c) :=
  win1_3.cut_fill (grid1.coords t) (fun _ => Scalar.ofBits .f32 0#32) ((win1_3.blk t).view.read (Elt F) (outAll m f g c))

theorem fill_after3 (n : ℕ) (c : Dev nD) (t : Fin cfg1.N) (M : S64x6400.Idx → F .f32)
    (h : win1_3.cut (grid1.coords t) M = (win1_3.blk t).view.read (Elt F) (outAll m f g c)) :
    win1_3.fill (grid1.coords t) M (win1_3.cut (grid1.coords t) ((tdat m f g n c).after (3 : Fin 4) t)) = M := by
  rw [cut_after3, ← h]; exact win1_3.fill_cut _ _

theorem body_obligation (n : ℕ) (c : Dev nD) : BodyObligationLoose (tdat m f g n c) (defs₀ (F := F)) 𝒱₀ none Set.univ := fun t => by
  rw [bigSep_W1, bigSep_W1]
  simp only
  rw [show (tdat m f g n c).Φ t.succ = (tdat m f g n c).Φ t.castSucc from rfl,
    show (tdat m f g n c).owesAt none t.succ = (tdat m f g n c).owesAt none t.castSucc from rfl]
  iintro ⟨HΦ, Ho, ⟨%d0, H0⟩, ⟨%d1, H1⟩, ⟨%d2, H2⟩, ⟨%d3, H3⟩⟩
  rw [before_0 m f g n c t d0, before_1 m f g n c t d1, before_2 m f g n c t d2, before_3 m f g n c t d3]
  obtain ⟨M, hM⟩ : ∃ M : S64x6400.Idx → F .f32, M = maskBlk (grid1.coords t) ((win1_0.blk t).view.read (Elt F) (f c)) ((win1_1.blk t).view.read (Elt F) (g c))
    (win1_2.fill (grid1.coords t) d2 ((win1_2.blk t).view.read (Elt F) (m (xLoc c)))) := ⟨_, rfl⟩
  have hcut : win1_3.cut (grid1.coords t) M = (win1_3.blk t).view.read (Elt F) (outAll m f g c) := by
    rw [hM]; unfold outAll; exact cut_mask (f c) (g c) (m (xLoc c)) t d2
  iapply (sound_body' (F := F) c Set.univ (grid1.coords t) (cfg1.slots t 0) (cfg1.slots t 1) (cfg1.slots t 2) (cfg1.slots t 3)
    ((win1_0.blk t).view.read (Elt F) (f c)) ((win1_1.blk t).view.read (Elt F) (g c))
    (win1_2.fill (grid1.coords t) d2 ((win1_2.blk t).view.read (Elt F) (m (xLoc c)))) d3 M hM _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]; · iexact H0
  isplitl [H1]; · iexact H1
  isplitl [H2]
  · iexists d2
    change _ ⊢ owns (c : Thread nD τ) (stage1_2 (cfg1.slots t 2)) fullShare (win1_2.fill (grid1.coords t) d2 (win1_2.cut (grid1.coords t)
      (win1_2.fill (grid1.coords t) (fun _ => Scalar.ofBits .f32 0#32) ((win1_2.blk t).view.read (Elt F) (m (xLoc c))))))
    rw [win1_2.cut_fill]; try iexact H2
  · iexists M
    have e := fill_after3 m f g n c t M hcut
    iapply (Entails.of_eq (congrArg (fun Y => (owns (c : Thread nD τ) (stage1_3 (cfg1.slots t 3)) fullShare Y : sProp 𝕄)) e.symm))
    iexact H3

/-! ## The result array at the end -/

theorem mem_blk (t : Fin cfg1.N) (i : S64x100000.Idx) :
    i ∈ (win1_3.blk t).view.setOn Finset.univ ↔ t.val * 6400 ≤ (i 1 : Nat) ∧ (i 1 : Nat) < t.val * 6400 + win1_3.xsize (grid1.coords t) 1 := by
  rw [View.setOn_univ]
  show i ∈ ((View.whole main_v1).slice (win1_3.rect t)).set ↔ _
  rw [View.set_slice_whole, Rect.mem_set_unit]
  have h1 : (i 0 : Nat) < 64 := (i 0).isLt
  have e1 : win1_3.index t 1 = t.val := idx3_1 t
  refine ⟨fun h => ?_, fun h a => ?_⟩
  · have := h 1
    change win1_3.index t 1 * 6400 ≤ (i 1 : Nat) ∧ (i 1 : Nat) < win1_3.index t 1 * 6400 + win1_3.xsize (grid1.coords t) 1 at this
    rwa [e1] at this
  match a with
  | ⟨0, _⟩ =>
    change 0 * 64 ≤ (i 0 : Nat) ∧ (i 0 : Nat) < 0 * 64 + 64
    omega
  | ⟨1, _⟩ =>
    change win1_3.index t 1 * 6400 ≤ (i 1 : Nat) ∧ (i 1 : Nat) < win1_3.index t 1 * 6400 + win1_3.xsize (grid1.coords t) 1
    rw [e1]; exact h

theorem xsize_val (t : Fin cfg1.N) : win1_3.xsize (grid1.coords t) 1 = if t.val = 15 then 4000 else 6400 := by
  rcases fin_N1 t with rfl | rfl | rfl | rfl | rfl | rfl | rfl | rfl | rfl | rfl | rfl | rfl | rfl | rfl | rfl | rfl <;> decide +kernel

theorem below_step (v k x : ℕ) (hv : v < 100000) (h : v < (k + 1) * 6400) (hx : x = if k = 15 then 4000 else 6400)
    (hn : ¬ (k * 6400 ≤ v ∧ v < k * 6400 + x)) : v < k * 6400 := by
  refine Nat.lt_of_not_le fun hc => hn ⟨hc, ?_⟩
  rw [hx]
  rw [Nat.add_mul] at h
  by_cases hk : k = 15
  · subst hk; rw [if_pos rfl]; exact hv
  · rw [if_neg hk]; rw [Nat.one_mul] at h; exact h

/-- After the points below `k`, the columns below `6400 * k` are the mask's. -/
theorem arrAt_below (n : ℕ) (c : Dev nD) (k : ℕ) (hk : k ≤ cfg1.N) (i : S64x100000.Idx) (hi : (i 1 : Nat) < k * 6400) :
    (tdat m f g n c).arrAt (3 : Fin 4) k i = outAll m f g c i := by
  induction k with
  | zero => omega
  | succ k ih =>
    have hk' : k < cfg1.N := hk
    have e := (tdat m f g n c).arrAt_succ (3 : Fin 4) ⟨k, hk'⟩
    rw [if_pos (flush1_3 _)] at e
    have e2 : (tdat m f g n c).flushed (3 : Fin 4) ⟨k, hk'⟩ = (win1_3.blk ⟨k, hk'⟩).view.read (Elt F) (outAll m f g c) :=
      cut_after3 m f g n c ⟨k, hk'⟩
    rw [e2] at e
    refine (congrFun e i).trans ?_
    have e3 := (win1_3.blk ⟨k, hk'⟩).view.write_read_eq_piecewise (Val := Elt F) ((tdat m f g n c).arrAt (3 : Fin 4) k) (outAll m f g c) Finset.univ
    refine (congrFun e3 i).trans ?_
    unfold Finset.piecewise
    split
    · rfl
    · next hm =>
      refine ih hk'.le ?_
      exact below_step _ k _ (i 1).isLt hi (xsize_val ⟨k, hk'⟩) (fun h => hm ((mem_blk ⟨k, hk'⟩ i).mpr h))

theorem arrAt_3 (n : ℕ) (c : Dev nD) : (tdat m f g n c).arrAt (3 : Fin 4) cfg1.N = outAll m f g c := by
  funext i
  have hN : cfg1.N = 16 := Cert.KernelIdeal.Gen.N_1
  have hi : (i 1 : Nat) < 100000 := (i 1).isLt
  have key : ∀ k, k = cfg1.N → (tdat m f g n c).arrAt (3 : Fin 4) k i = outAll m f g c i := fun k hk =>
    arrAt_below m f g n c k (le_of_eq hk) i (by rw [hk, hN]; omega)
  exact key _ rfl

/-! ## The call as a region of the whole program -/

abbrev adm : (p : Fin 1) → (pcfgs (F := F) p).Adm := fun p => (cfgs p).toPCfg_adm
def pdats (n : ℕ) : (p : Fin 1) → (c : Dev nD) → Dat τ (Elt F) (HIx 1) ℕ UU ℕ (Pipeline.pin (pcfgs (F := F)) adm p) c :=
  fun _ => tdat m f g n

/-- The four arrays, the result's at `w`, and what the core owes. -/
def tcSide (n : ℕ) (c : Dev nD) (w : Buf (Elt F) (vLoc c)) : sProp 𝕄 :=
  iprop(((cLoc c) ↦{fullShare} f c) ∗ ((bLoc c) ↦{fullShare} g c) ∗ ((xLoc c) ↦{fullShare} m (xLoc c)) ∗ ((vLoc c) ↦{fullShare} w)
    ∗ ∃ W, ⌜(K (F := F)).WBelow (SparseCore.T c) W n⌝ ∗ owes (c : Thread nD τ) (0 : CellTallies nD τ sig (HIx 1)) W)

theorem arrs (n : ℕ) (c : Dev nD) (Y : (w : Fin 4) → Buf (Elt F) (((spec1 w).arr.view.loc (c.tc : Thread nD τ)))) :
    (tdat m f g n c).arrays Y = (iprop(((cLoc c) ↦{fullShare} Y 0) ∗ ((bLoc c) ↦{fullShare} Y 1) ∗ ((xLoc c) ↦{fullShare} Y 2) ∗ ((vLoc c) ↦{fullShare} Y 3)) : sProp 𝕄) :=
  (Pipeline.arrays_eq cfgs (fun _ => tdat m f g n) (0 : Fin 1) c arr_whole1 ((tdat m f g n c).share_full fun _ => rfl) Y).trans (bigSep_W1 _)

set_option backward.isDefEq.respectTransparency.types false in
def reg (n : ℕ) : Pipeline.RegionSeg (pcfgs (F := F)) adm (pdats m f g n) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := body_obligation m f g n c
  hwaits := Pipeline.hwaits_of_owed_zero _ _ _ _ (K (F := F)).L (K (F := F)).lev 0 fun _ _ => rfl
  pre c := tcSide m f g n c (m (vLoc c))
  post c := tcSide m f g n c (outAll m f g c)
  X _ := BI.emp
  Y _ := BI.emp
  Z _ := BI.emp
  hentry c := by
    rw [Pipeline.ownSems0_none]
    have hsplit := arrs m f g n c ((tdat m f g n c).arrAt · 0)
    unfold tcSide
    iintro ⟨⟨Hc, Hb, Hx, Hv, HO⟩, -, -⟩
    imodintro
    isplitl [Hc Hb Hx Hv]
    · iapply (Entails.of_eq hsplit.symm)
      isplitl [Hc]; · iexact Hc
      isplitl [Hb]; · iexact Hb
      isplitl [Hx]; · iexact Hx
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr <;> iempintro
  hin c := by
    rw [show (pdats m f g n 0 c).Φ 0 = BI.emp from rfl]
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr <;> iempintro
  hexit c := by
    have hjoin : (pdats m f g n 0 c).arrays ((pdats m f g n 0 c).arrAt · (Pipeline.pin (pcfgs (F := F)) adm 0).N) = _ := arrs m f g n c ((tdat m f g n c).arrAt · cfg1.N)
    unfold tcSide
    iintro ⟨Ha, HO, -, -⟩
    imodintro
    ihave Ha' := (Entails.of_eq hjoin) $$ Ha
    rw [show (tdat m f g n c).arrAt (0 : Fin 4) cfg1.N = f c from (tdat m f g n c).arrAt_in (0 : Fin 4) rfl _,
      show (tdat m f g n c).arrAt (1 : Fin 4) cfg1.N = g c from (tdat m f g n c).arrAt_in (1 : Fin 4) rfl _,
      show (tdat m f g n c).arrAt (2 : Fin 4) cfg1.N = m (xLoc c) from (tdat m f g n c).arrAt_in (2 : Fin 4) rfl _,
      arrAt_3]
    icases Ha' with ⟨Hc, Hb, Hx, Hv⟩
    isplitl [Hc]; · iexact Hc
    isplitl [Hb]; · iexact Hb
    isplitl [Hx]; · iexact Hx
    isplitl [Hv]; · iexact Hv
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.Sc

end
-- ==== Proof.Sc.Launch.lean ====
/- The whole program's run: the arrays cut into rows, the two calls of the main function, and what memory ends holding. -/
module

public import proofs.«01_k».proof.Proof.Sc.Tc

@[expose] public section

noncomputable section

namespace Cert.Proof.Sc

open Cert.KernelIdeal Cert.KernelIdeal.Facts₀ Cert.KernelIdeal.Facts
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The rows of the arrays, dealt to the tasks -/

/-- The tasks' rows are the sixty-four rows. -/
def rowE : (Fin 2 × Fin 16) × Fin 2 ≃ Fin 64 where
  toFun p := rowN p.1.1.val p.1.2.val p.2.val
  invFun r := ((⟨r.val % 2, by omega⟩, ⟨r.val % 32 / 2, by omega⟩), ⟨r.val / 32, by omega⟩)
  left_inv := by decide +kernel
  right_inv := by decide +kernel

theorem trips2 : k0_t1_loop.trips = 2 := by decide +kernel

/-- A separating conjunction over the rows is one over the cores, the subcores and the trips. -/
theorem bigSep_tasks (Φ : Fin 64 → sProp 𝕄) :
    bigSep Finset.univ (fun c : Fin ((K (F := F)).nCore 0) => bigSep Finset.univ fun i : Fin ((K (F := F)).nSub 0) =>
        bigSep Finset.univ fun k : Fin k0_t1_loop.trips => Φ (rowN c.val i.val k.val))
      = bigSep Finset.univ Φ := by
  have h3 : ∀ (c : Fin 2) (i : Fin 16), (bigSep Finset.univ fun k : Fin k0_t1_loop.trips => Φ (rowN c.val i.val k.val))
      = bigSep Finset.univ fun k : Fin 2 => Φ (rowN c.val i.val k.val) := by
    intro c i
    rw [trips2]
  show bigSep Finset.univ (fun c : Fin 2 => bigSep Finset.univ fun i : Fin 16 => bigSep Finset.univ fun k : Fin k0_t1_loop.trips => Φ (rowN c.val i.val k.val)) = _
  simp only [h3]
  have hmap : (Finset.univ : Finset (Fin 64)) = Finset.univ.map rowE.toEmbedding := (Finset.map_univ_equiv rowE).symm
  rw [hmap, BI.bigSep_map, bigSep_univ_prod, bigSep_univ_prod]
  rfl

theorem xRows_disj : ∀ r ∈ (Finset.univ : Finset (Fin 64)), ∀ r' ∈ (Finset.univ : Finset (Fin 64)), r ≠ r' → Disjoint (xRowS r) (xRowS r') :=
  fun _ _ _ _ h => Rect.part_disjoint xdiv h
theorem oRows_disj : ∀ r ∈ (Finset.univ : Finset (Fin 64)), ∀ r' ∈ (Finset.univ : Finset (Fin 64)), r ≠ r' → Disjoint (oRowS r) (oRowS r') :=
  fun _ _ _ _ h => Rect.part_disjoint odiv h

theorem o2_mem (r : Fin 64) (l : Fin 16) : o2 r l ∈ oRowS r := by
  refine Rect.mem_set_unit.mpr fun a => ?_
  match a with
  | 0 => simp [Shape.partIx, Shape.partSize, o2]
  | 1 => simp [Shape.partIx, Shape.partSize, o2]

theorem x_rows (d : Dev nD) : (bigSep Finset.univ fun r : Fin 64 => xLoc d ↦[xRowS r]{fullShare} m (xLoc d)) = (xLoc d ↦{fullShare} m (xLoc d) : sProp 𝕄) :=
  (pointsTo_biUnion Finset.univ (ℓ := xLoc d) xRowS xRows_disj).symm.trans (by rw [Rect.biUnion_part xdiv])
theorem c_rows (d : Dev nD) (f : Buf (Elt F) (cLoc d)) : (bigSep Finset.univ fun r : Fin 64 => cLoc d ↦[oRowS r]{fullShare} f) = (cLoc d ↦{fullShare} f : sProp 𝕄) :=
  (pointsTo_biUnion Finset.univ (ℓ := cLoc d) oRowS oRows_disj).symm.trans (by rw [Rect.biUnion_part odiv])
theorem b_rows (d : Dev nD) (f : Buf (Elt F) (bLoc d)) : (bigSep Finset.univ fun r : Fin 64 => bLoc d ↦[oRowS r]{fullShare} f) = (bLoc d ↦{fullShare} f : sProp 𝕄) :=
  (pointsTo_biUnion Finset.univ (ℓ := bLoc d) oRowS oRows_disj).symm.trans (by rw [Rect.biUnion_part odiv])

theorem c_any (d : Dev nD) (f : Buf (Elt F) (cLoc d)) (r : Fin 64) :
    (cLoc d ↦[oRowS r]{fullShare} f : sProp 𝕄) ⊢ ∃ f, cLoc d ↦[oRowS r]{fullShare} f := by
  iintro H; iexists f; iexact H
theorem b_any (d : Dev nD) (f : Buf (Elt F) (bLoc d)) (r : Fin 64) :
    (bLoc d ↦[oRowS r]{fullShare} f : sProp 𝕄) ⊢ ∃ f, bLoc d ↦[oRowS r]{fullShare} f := by
  iintro H; iexists f; iexact H

/-- The three arrays, dealt by rows. -/
theorem deal (d : Dev nD) :
    iprop((xLoc d ↦{fullShare} m (xLoc d)) ∗ (cLoc d ↦{fullShare} m (cLoc d)) ∗ (bLoc d ↦{fullShare} m (bLoc d)))
      ⊢ (bigSep Finset.univ fun r : Fin 64 => slotG m d r : sProp 𝕄) := by
  unfold slotG
  rw [bigSep_sep', bigSep_sep', x_rows, ← c_rows, ← b_rows]
  have hc : (bigSep Finset.univ fun r : Fin 64 => iprop(cLoc d ↦[oRowS r]{fullShare} m (cLoc d)) : sProp 𝕄)
      ⊢ bigSep Finset.univ fun r : Fin 64 => iprop(∃ f, cLoc d ↦[oRowS r]{fullShare} f) :=
    BI.bigSep_mono fun r _ => c_any (F := F) d (m (cLoc d)) r
  have hb : (bigSep Finset.univ fun r : Fin 64 => iprop(bLoc d ↦[oRowS r]{fullShare} m (bLoc d)) : sProp 𝕄)
      ⊢ bigSep Finset.univ fun r : Fin 64 => iprop(∃ f, bLoc d ↦[oRowS r]{fullShare} f) :=
    BI.bigSep_mono fun r _ => b_any (F := F) d (m (bLoc d)) r
  iintro ⟨Hx, Hc, Hb⟩
  isplitl [Hx]; · iexact Hx
  isplitl [Hc]
  · iapply hc; iexact Hc
  · iapply hb; iexact Hb

theorem bigSep_pureL {I : Type} [DecidableEq I] (S : Finset I) (p : I → Prop) (Φ : I → sProp 𝕄) :
    bigSep S (fun i => iprop(⌜p i⌝ ∗ Φ i)) ⊢ iprop(⌜∀ i ∈ S, p i⌝ ∗ bigSep S Φ) := by
  induction S using Finset.induction_on with
  | empty =>
    rw [bigSep_empty, bigSep_empty]; iintro -
    isplitr; · ipureintro; exact fun i hi => absurd hi (Finset.notMem_empty i)
    iempintro
  | insert a s ha ih =>
    rw [BI.bigSep_insert ha, BI.bigSep_insert ha]
    show iprop((⌜p a⌝ ∗ Φ a) ∗ bigSep s fun i => iprop(⌜p i⌝ ∗ Φ i)) ⊢ iprop(⌜∀ i ∈ insert a s, p i⌝ ∗ Φ a ∗ bigSep s Φ)
    iintro ⟨⟨%hp, Ha⟩, Hs⟩
    ihave Hs' := ih $$ Hs
    icases Hs' with ⟨%hs, Hs⟩
    isplitr
    · ipureintro
      intro i hi
      rcases Finset.mem_insert.mp hi with rfl | hi
      · exact hp
      · exact hs i hi
    isplitl [Ha]; · iexact Ha
    iexact Hs

/-- The rows of the first result joined. -/
theorem c_join (d : Dev nD) :
    (bigSep Finset.univ fun r : Fin 64 => iprop(∃ f, ⌜GC m d r f⌝ ∗ cLoc d ↦[oRowS r]{fullShare} f))
      ⊢ (iprop(∃ f, ⌜∀ r, GC m d r f⌝ ∗ cLoc d ↦{fullShare} f) : sProp 𝕄) := by
  iintro H
  ihave H1 := (bigSep_exists_pi (Y := fun _ : Fin 64 => Buf (Elt F) (cLoc d)) Finset.univ fun r f => iprop(⌜GC m d r f⌝ ∗ cLoc d ↦[oRowS r]{fullShare} f)) $$ H
  icases H1 with ⟨%y, H1⟩
  ihave H2 := (bigSep_pureL Finset.univ (fun r => GC m d r (y r)) fun r => iprop(cLoc d ↦[oRowS r]{fullShare} y r)) $$ H1
  icases H2 with ⟨%hy, H2⟩
  ihave H3 := (pointsTo_biUnion_join Finset.univ oRowS y (y 0) oRows_disj) $$ H2
  icases H3 with ⟨%g, %hg, H3⟩
  iexists g
  isplitr
  · ipureintro
    intro r l
    rw [hg r (Finset.mem_univ r) _ (o2_mem r l)]
    exact hy r (Finset.mem_univ r) l
  rw [Rect.biUnion_part odiv]
  iexact H3

/-- The rows of the second result joined. -/
theorem b_join (d : Dev nD) :
    (bigSep Finset.univ fun r : Fin 64 => iprop(∃ f, ⌜GB m d r f⌝ ∗ bLoc d ↦[oRowS r]{fullShare} f))
      ⊢ (iprop(∃ f, ⌜∀ r, GB m d r f⌝ ∗ bLoc d ↦{fullShare} f) : sProp 𝕄) := by
  iintro H
  ihave H1 := (bigSep_exists_pi (Y := fun _ : Fin 64 => Buf (Elt F) (bLoc d)) Finset.univ fun r f => iprop(⌜GB m d r f⌝ ∗ bLoc d ↦[oRowS r]{fullShare} f)) $$ H
  icases H1 with ⟨%y, H1⟩
  ihave H2 := (bigSep_pureL Finset.univ (fun r => GB m d r (y r)) fun r => iprop(bLoc d ↦[oRowS r]{fullShare} y r)) $$ H1
  icases H2 with ⟨%hy, H2⟩
  ihave H3 := (pointsTo_biUnion_join Finset.univ oRowS y (y 0) oRows_disj) $$ H2
  icases H3 with ⟨%g, %hg, H3⟩
  iexists g
  isplitr
  · ipureintro
    intro r
    obtain ⟨E0, hE⟩ := hy r (Finset.mem_univ r)
    refine ⟨E0, fun l => ?_⟩
    rw [hg r (Finset.mem_univ r) _ (o2_mem r l)]
    exact hE l
  rw [Rect.biUnion_part odiv]
  iexact H3

/-- What the tasks hand back, as the three arrays. -/
theorem gather (d : Dev nD) :
    (bigSep Finset.univ fun r : Fin 64 => slotD m d r)
      ⊢ (iprop((xLoc d ↦{fullShare} m (xLoc d)) ∗ (∃ f, ⌜∀ r, GC m d r f⌝ ∗ cLoc d ↦{fullShare} f) ∗ (∃ g, ⌜∀ r, GB m d r g⌝ ∗ bLoc d ↦{fullShare} g)) : sProp 𝕄) := by
  unfold slotD
  rw [bigSep_sep', bigSep_sep', x_rows]
  iintro ⟨Hx, Hc, Hb⟩
  isplitl [Hx]; · iexact Hx
  isplitl [Hc]
  · iapply (c_join m d); iexact Hc
  · iapply (b_join m d); iexact Hb

theorem vecSplit : (K (F := F)).VecSplit' (P m) 0 := by
  intro d c
  show (bigSep Finset.univ fun i : Fin ((K (F := F)).nSub 0) => taskG m d c.val i.val) ⊢ |={Set.univ}=> iprop(
      (bigSep Finset.univ fun i : Fin ((K (F := F)).nSub 0) => taskG m d c.val i.val)
      ∗ ((bigSep Finset.univ fun i : Fin ((K (F := F)).nSub 0) => taskD m d c.val i.val)
          -∗ (bigSep Finset.univ fun i : Fin ((K (F := F)).nSub 0) => taskD m d c.val i.val)))
  iintro H; imodintro
  isplitl [H]; · iexact H
  iintro H; iexact H

/-! ## The launch's ghost state -/

abbrev pins : (p : Fin 1) → Pipeline.Cfg sig Λ₀ := Pipeline.pin (pcfgs (F := F)) adm

def uP : UP := initOf (Pipeline.cells (nD := nD) (τ := τ) (pins (F := F)) Cert.KernelIdeal.Gen.cellOf_inj) (Pipeline.launchToks (nD := nD) (τ := τ) (pins (F := F)) Cert.KernelIdeal.Gen.cellOf_inj)
def u₀ : UU := (initOf (K (F := F)).hsCells (K (F := F)).hsToks, (uP (F := F), (1 : Counters)))

def G (d : Dev nD) : sProp 𝕄 := iprop(Pipeline.cellsGhost (pins (F := F)) EP 0 d ∗ Pipeline.toksInit (pins (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP (F := F), (1 : Counters)))) $$ Hu
  icases H with ⟨HH, HR⟩
  ihave HR' := (own_pair_emb embR (uP (F := F)) (1 : Counters)) $$ HR
  icases HR' with ⟨HP, -⟩
  have hfund : (BI.own (((Emb.inl : Emb UP (UP × Counters)).trans embR) (uP (F := F))) : sProp 𝕄) ⊢ _ := Pipeline.fund_ghost (pins (F := F)) EP Cert.KernelIdeal.Gen.cellOf_inj
  imod hfund $$ HP with ⟨Hc, Ht⟩
  imodintro
  isplitl [HH]; · iexact HH
  isplitl [Hc Ht]
  · unfold G
    rw [bigSep_sep']
    isplitl [Hc]
    · iapply (Entails.of_eq (bigSep_congr fun (d : Dev nD) _ => bigSep_univ_of_subsingleton (Φ := fun p => Pipeline.cellsGhost (pins (F := F)) EP p d) (0 : Fin 1))); iexact Hc
    · iapply (Entails.of_eq (bigSep_congr fun (d : Dev nD) _ => bigSep_univ_of_subsingleton (Φ := fun p => Pipeline.toksInit (pins (F := F)) EP p d) (0 : Fin 1))); iexact Ht
  rw [show (bigSep Finset.univ fun thr : Thread nD τ => bigSep Finset.univ fun q : Fin 1 => (P (F := F) m).x q thr) = bigSep Finset.univ fun _ => (iprop(emp) : sProp 𝕄) from
    bigSep_congr fun _ _ => bigSep_univ_of_subsingleton (0 : Fin 1), bigSep_emp']
  iempintro

/-! ## The main function -/

theorem unscopedBufs_eq (d : Dev nD) (W : (b : Ref sig .tc) → Buf (Elt F) ((d.tc : Thread nD τ).loc b)) :
    (unscopedBufs d W : sProp 𝕄) = iprop((xLoc d ↦{fullShare} W main_arg0) ∗ (cLoc d ↦{fullShare} W main_v0_0) ∗ (bLoc d ↦{fullShare} W main_v0_1) ∗ vLoc d ↦{fullShare} W main_v1) := by
  unfold unscopedBufs
  rw [show (Finset.univ.filter fun b : Ref sig .tc => ¬ b.isScoped) = {main_arg0, main_v0_0, main_v0_1, main_v1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = (bigSep Finset.univ fun r : Fin 64 => slotG m d r) :=
  bigSep_tasks (slotG m d)
theorem dn0_eq (d : Dev nD) : (bigSep Finset.univ fun c : Fin ((K (F := F)).nCore 0) => (P m).dn 0 d c) = (bigSep Finset.univ fun r : Fin 64 => slotD m d r) :=
  bigSep_tasks (slotD m d)

/-- What the TensorCore ends with: the logits kept, the result the mask of them by the rows' cuts. -/
def FIN (d : Dev nD) : sProp 𝕄 :=
  iprop(∃ f g, ⌜∀ r, GC m d r f ∧ GB m d r g⌝ ∗ (xLoc d ↦{fullShare} m (xLoc d)) ∗ vLoc d ↦{fullShare} maskAll (m (xLoc d)) f g)

/-- What the core owes after the call: nothing. -/
theorem tcSt_end (d : Dev nD) : ((K (F := F)).tcSt EH d ((0 : Fin 1).val + 1) : sProp 𝕄)
    ⊢ ∃ n, (∃ W, ⌜(K (F := F)).WBelow (SparseCore.T d) W n⌝ ∗ owes (d : Thread nD τ) (0 : CellTallies nD τ sig (HIx 1)) W)
      ∗ ((∃ W, ⌜(K (F := F)).WBelow (SparseCore.T d) W n⌝ ∗ owes (d : Thread nD τ) (0 : CellTallies nD τ sig (HIx 1)) W) -∗ (K (F := F)).tcSt EH d ((0 : Fin 1).val + 1)) := by
  unfold SparseCore.Cfg.tcSt
  rw [(K (F := F)).Otc_end d (n := (0 : Fin 1).val + 1) (le_refl _)]
  iintro ⟨HO, H1, H2, H3, H4⟩
  iexists _
  isplitl [HO]; · iexact HO
  iintro HO
  isplitl [HO]; · iexact HO
  isplitl [H1]; · iexact H1
  isplitl [H2]; · iexact H2
  isplitl [H3]; · iexact H3
  iexact H4

/-- A device's contents as a family over the devices: there is one. -/
theorem dev_eq (d d' : Dev nD) : d' = d := Subsingleton.elim _ _
def famC (d : Dev nD) (f : Buf (Elt F) (cLoc d)) : ∀ d' : Dev nD, Buf (Elt F) (cLoc d') := fun d' => dev_eq d d' ▸ f
def famB (d : Dev nD) (g : Buf (Elt F) (bLoc d)) : ∀ d' : Dev nD, Buf (Elt F) (bLoc d') := fun d' => dev_eq d d' ▸ g
theorem famC_self (d : Dev nD) (f : Buf (Elt F) (cLoc d)) : famC d f d = f := rfl
theorem famB_self (d : Dev nD) (g : Buf (Elt F) (bLoc d)) : famB d g d = g := rfl

theorem tc_wp [∀ e, Nonempty (Elt F e)] (f : ∀ d : Dev nD, Buf (Elt F) (cLoc d)) (g : ∀ d : Dev nD, Buf (Elt F) (bLoc d)) (n : ℕ) (d : Dev nD) (Q : PUnit → sProp 𝕄) :
    iprop((iprop(boundary (d.tc : Thread nD τ) ∗ tcSide m f g n d (outAll m f g d)) -∗ Q ⟨⟩)
        ∗ boundary (d.tc : Thread nD τ) ∗ tcSide m f g n d (m (vLoc d)) ∗ levAts (K (F := F)).L (K (F := F)).lev ∗ G (F := F) d)
      ⊢ wp frame (wpE (D (F := F)) 𝒱 (SparseCore.T d) none) Set.univ (.op (.customCall (Pipeline.entry 0) ()) fun x => .ret x) Q := by
  have h := (reg m f g n).wp (pcfgs (F := F)) adm (pdats m f g n) none Cert.KernelIdeal.Gen.cellOf_inj EP defs₀ 𝒱₀ (K (F := F)).L (K (F := F)).lev d
    none (fun u hu => nomatch hu) (fun x => .ret x) Q
  rw [show (reg m f g n).pre d = tcSide m f g n d (m (vLoc d)) from rfl, show (reg m f g n).post d = tcSide m f g n d (outAll m f g d) from rfl] at h
  refine BIBase.Entails.trans ?_ h
  unfold G
  iintro ⟨Hk, Hb, Hs, Hl, Hc, Ht⟩
  isplitl [Hk]
  · iintro H
    rw [wp_ret]
    imodintro
    iapply Hk; iexact H
  isplitl [Hb]; · iexact Hb
  isplitl [Hs]; · iexact Hs
  isplitl [Hl]; · iexact Hl
  isplitl [Hc]; · iexact Hc
  iexact Ht

/-- The call, in its own labels. -/
def tcProg : Prog (TpuEff nD τ sig (Elt F) (ΛP (F := F)) .tc) PUnit := .op (.customCall (Pipeline.entry 0) ()) fun x => .ret x

theorem tcProg_lift : (Prog.lift (.customCall (SparseCore.inner (Pipeline.entry 0)) ()) :
    Prog (TpuEff nD τ sig (Elt F) (SparseCore.Sig (ΛP (F := F)) 1) .tc) PUnit) = SparseCore.liftProg (tcProg (F := F)) := rfl

theorem tc_main [∀ e, Nonempty (Elt F e)] (d : Dev nD) (f : Buf (Elt F) (cLoc d)) (g : Buf (Elt F) (bLoc d)) (n : ℕ) (Q : PUnit → sProp 𝕄) :
    iprop((iprop(boundary (d.tc : Thread nD τ) ∗ tcSide m (famC d f) (famB d g) n d (maskAll (m (xLoc d)) f g)) -∗ Q ⟨⟩)
        ∗ boundary (d.tc : Thread nD τ) ∗ tcSide m (famC d f) (famB d g) n d (m (vLoc d)) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  rw [tcProg_lift]
  have h := (K (F := F)).wp_liftProg (D (F := F)) 𝒱 (SparseCore.T d) Set.univ none (tcProg (F := F)) Q
  exact (tc_wp m (famC d f) (famB d g) n d Q).trans h

/-- The main function on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hc, Hbb, Hv⟩, Hts, -⟩, HG⟩
  iapply ((K (F := F)).wp_run (D (F := F)) 𝒱 (EH := EH) (P := P m) κ d 0) $$ [Hst Hx Hc Hbb Hv Hb Hts HG]
  isplitr; · iexact Hctx
  isplitl [Hst]; · iexact Hst
  isplitl [Hx Hc Hbb]
  · rw [st0_eq]
    iapply (deal m d)
    isplitl [Hx]; · iexact Hx
    isplitl [Hc]; · iexact Hc
    iexact Hbb
  iintro ⟨Hst, Hdn⟩
  ihave Hdn' := (Entails.of_eq (dn0_eq m d)) $$ Hdn
  ihave Hdn2 := (gather m d) $$ Hdn'
  icases Hdn2 with ⟨Hx, ⟨%f, %hf, Hc⟩, ⟨%g, %hg, Hbb⟩⟩
  ihave Hst' := (tcSt_end (F := F) d) $$ Hst
  icases Hst' with ⟨%n, HO, Hst⟩
  iapply (tc_main m d f g n)
  isplitl [Hst Hts]
  · iintro ⟨Hb, Hs⟩
    unfold tcSide
    icases Hs with ⟨Hc, Hbb, Hx, Hv, HO⟩
    imodintro
    isplitl [Hst HO]; · iapply Hst; iexact HO
    isplitl [Hx Hv]
    · unfold FIN
      iexists f; iexists g
      isplitr; · ipureintro; exact fun r => ⟨hf r, hg r⟩
      isplitl [Hx]; · iexact Hx
      iexact Hv
    isplitl [Hb] <;> iassumption
  isplitl [Hb]; · iexact Hb
  isplitl [Hc Hbb Hx Hv HO]
  · unfold tcSide
    rw [famC_self, famB_self]
    isplitl [Hc]; · iexact Hc
    isplitl [Hbb]; · iexact Hbb
    isplitl [Hx]; · iexact Hx
    isplitl [Hv]; · iexact Hv
    iexact HO
  isplitr
  · iapply ((K (F := F)).ctx_levAts κ); iexact Hctx
  iexact HG

/-- What the end memory holds: the logits unchanged, and the result the mask by some rows' cuts. -/
def fq (d : Dev nD) (s' : Phys nD τ sig (Elt F)) : Prop :=
  s'.mem.mem (xLoc d) = m (xLoc d) ∧ ∃ f g, (∀ r, GC m d r f ∧ GB m d r g) ∧ s'.mem.mem (vLoc d) = maskAll (m (xLoc d)) f g

set_option maxRecDepth 16384 in
theorem hfin (d : Dev nD) (s' : Phys nD τ sig (Elt F)) : iprop(FIN m d ∗ SI s') ⊢ (⌜fq m d s'⌝ : sProp 𝕄) := by
  unfold FIN
  iintro ⟨⟨%f, %g, %hfg, Hx, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := vLoc d) (I := Finset.univ) (q := fullShare) (f := maskAll (m (xLoc d)) f g)) $$ [HSI Hv]
  · isplitl [HSI] <;> iassumption
  icases H with %h2
  ipureintro
  exact ⟨funext fun i => h1 i (Finset.mem_univ i), f, g, hfg, funext fun i => h2 i (Finset.mem_univ i)⟩

/-! ## The run -/

def QC : PUnit × MemSt nD τ sig (Elt F) → Prop := fun r =>
  (∀ d : Dev nD, r.2.mem (xLoc d) = m (xLoc d) ∧ ∃ f g, (∀ r, GC m d r f ∧ GB m d r g) ∧ r.2.mem (vLoc d) = maskAll (m (xLoc d)) f g)
    ∧ r.2.sem = fun _ => 0

/-- Every fair execution of the program ends, with the logits unchanged, the mask in the result and every semaphore back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Sc

end
-- ==== Proof.Sc.Frames.lean ====
/- The three frames: what the runs say of the argument and of the semaphores. -/
module

public import proofs.«01_k».proof.Proof.Sc.Launch
public import proofs.«01_k».proof.Proof.Gen.Kernel
public import proofs.«01_k».proof.Proof.Gen.ReferenceIdeal.Run
public import proofs.«01_k».proof.Defs
public import Idealize.ShloMosaic.Lib.Quiescent

@[expose] public section

set_option maxRecDepth 65536

noncomputable section

namespace Cert.Proof.Sc

open Idealize.ShloMosaic
open Idealize.SL.Sem

theorem frame_ideal : Cert.quiescent_KernelIdeal := fun m ρ _ =>
  (θ_run Cert.KernelIdeal.defs _ _).mono (fun _ h => ⟨fun c => (h.1 c).1, h.2⟩) (run_main (F := Ideal) m ρ)

/-- The two printings' kernels are the same. -/
theorem defs₀_eq {F : FTy → Type} [FloatOps F] : Cert.Kernel.defs₀ (F := F) = Cert.KernelIdeal.defs₀ (F := F) := by
  funext pr ℓ a
  match pr, ℓ, a with
  | .scVector c s, ⟨0, _⟩, _ => rfl
  | .tc, ⟨1, _⟩, (t, s) => rfl
  | .tc, ⟨0, _⟩, _ => rfl
  | .scVector c s, ⟨1, _⟩, _ => rfl
  | .scScalar c, ⟨0, _⟩, _ => rfl
  | .scScalar c, ⟨1, _⟩, _ => rfl

theorem defs_eq {F : FTy → Type} [FloatOps F] : Cert.Kernel.defs (F := F) = Cert.KernelIdeal.defs (F := F) :=
  congrArg (fun D => (Cert.Kernel.sc (F := F)).defs (Pipeline.defs Cert.Kernel.pcfgs D)) (defs₀_eq (F := F))

theorem threads_eq {F : FTy → Type} [FloatOps F] : Cert.Kernel.threads (F := F) = Cert.KernelIdeal.threads (F := F) := rfl

theorem frame_kernel : Cert.quiescent_Kernel := by
  intro m ρ _
  rw [defs_eq, threads_eq]
  exact (θ_run Cert.KernelIdeal.defs _ _).mono (fun _ h => ⟨fun c => (h.1 c).1, h.2⟩) (run_main (F := Bits) m ρ)

theorem frame_ref : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Sc

end
-- ==== Proof.Sc.M1.lean ====
/- Order statistics, ranks and bitonic sequences of extended reals. -/
module

public import proofs.«01_k».proof.Proof.Sc.Vals2
public import Idealize.ShloMosaic.Lib.Routing.OpsSet
public import Idealize.ShloMosaic.PureOps.Ideal

@[expose] public section

noncomputable section

namespace Cert.Proof.Sc

open Idealize.ShloMosaic
open Cert.KernelIdeal Cert.KernelIdeal.Facts₀ Cert.KernelIdeal.Facts

/-! ## Lower sets -/

theorem lower_fin {n : Nat} (S : Finset (Fin n)) (h : ∀ i j, i ≤ j → j ∈ S → i ∈ S) (r : Fin n) : r ∈ S ↔ r.val < S.card := by
  constructor
  · intro hr
    have : Finset.Iic r ⊆ S := fun i hi => h i r (Finset.mem_Iic.mp hi) hr
    have := Finset.card_le_card this
    rw [Fin.card_Iic] at this
    omega
  · intro hr
    by_contra hn
    have : S ⊆ Finset.Iio r := fun i hi => by
      rw [Finset.mem_Iio]
      by_contra hle
      exact hn (h r i (not_lt.mp hle) hi)
    have := Finset.card_le_card this
    rw [Fin.card_Iio] at this
    omega

theorem lower_range {n : Nat} (p : Nat → Prop) [DecidablePred p] (h : ∀ i j, i ≤ j → j < n → p j → p i) (r : Nat) (hr : r < n) :
    p r ↔ r < ((Finset.range n).filter p).card := by
  constructor
  · intro hp
    have : Finset.range (r + 1) ⊆ (Finset.range n).filter p := fun i hi => by
      rw [Finset.mem_range] at hi
      exact Finset.mem_filter.mpr ⟨Finset.mem_range.mpr (by omega), h i r (by omega) hr hp⟩
    have := Finset.card_le_card this
    rw [Finset.card_range] at this
    omega
  · intro hc
    by_contra hn
    have : (Finset.range n).filter p ⊆ Finset.range r := fun i hi => by
      rw [Finset.mem_filter, Finset.mem_range] at hi
      rw [Finset.mem_range]
      by_contra hle
      exact hn (h r i (by omega) hi.1 hi.2)
    have := Finset.card_le_card this
    rw [Finset.card_range] at this
    omega

/-! ## Order statistics -/

/-- How many entries are at least `θ`. -/
def cntGe {n : Nat} (x : Fin n → EReal) (θ : EReal) : Nat := (Finset.univ.filter fun i => θ ≤ x i).card

/-- `d` lists the entries of `x` from the greatest down. -/
def Desc {n : Nat} (x : Fin n → EReal) (d : Nat → EReal) : Prop := ∀ r, r < n → ∀ θ, θ ≤ d r ↔ r < cntGe x θ

theorem Desc.anti {n : Nat} {x : Fin n → EReal} {d : Nat → EReal} (h : Desc x d) {r s : Nat} (hrs : r ≤ s) (hs : s < n) : d s ≤ d r :=
  (h r (by omega) _).mpr (lt_of_le_of_lt hrs ((h s hs _).mp le_rfl))

theorem cntGe_le {n : Nat} (x : Fin n → EReal) (θ : EReal) : cntGe x θ ≤ n := by
  have := Finset.card_filter_le (Finset.univ : Finset (Fin n)) (fun i => θ ≤ x i)
  rw [Finset.card_univ, Fintype.card_fin] at this
  exact this

theorem desc_of_perm {n : Nat} (x : Fin n → EReal) (σ : Fin n → Fin n) (hσ : Function.Injective σ) (h : ∀ i j, i ≤ j → x (σ j) ≤ x (σ i))
    (d : Nat → EReal) (hd : ∀ r : Fin n, d r.val = x (σ r)) : Desc x d := by
  intro r hr θ
  have hc : cntGe x θ = (Finset.univ.filter fun i => θ ≤ x (σ i)).card := by
    unfold cntGe
    rw [← Finset.card_image_of_injective (Finset.univ.filter fun i => θ ≤ x (σ i)) hσ]
    congr 1
    ext i
    simp only [Finset.mem_filter, Finset.mem_univ, true_and, Finset.mem_image]
    constructor
    · intro hi
      obtain ⟨k, rfl⟩ := (Finite.injective_iff_surjective.mp hσ) i
      exact ⟨k, hi, rfl⟩
    · rintro ⟨k, hk, rfl⟩; exact hk
  have := lower_fin (Finset.univ.filter fun i => θ ≤ x (σ i)) (fun i j hij hj => by
    rw [Finset.mem_filter] at hj ⊢
    exact ⟨Finset.mem_univ _, hj.2.trans (h i j hij)⟩) ⟨r, hr⟩
  rw [hc, ← this, Finset.mem_filter, hd ⟨r, hr⟩]
  simp

/-! ## Ranks -/

section rank
variable {n : Nat} {α : Type} [LinearOrder α]

/-- Entry `i` comes before entry `j`: it is greater, or equal and earlier. -/
def Bef (x : Fin n → α) (i j : Fin n) : Prop := x j < x i ∨ (x i = x j ∧ i < j)
instance (x : Fin n → α) (i j : Fin n) : Decidable (Bef x i j) := by unfold Bef; infer_instance

theorem Bef.trans {x : Fin n → α} {i j k : Fin n} (h : Bef x i j) (h' : Bef x j k) : Bef x i k := by
  unfold Bef at *
  rcases h with h | ⟨h, hi⟩ <;> rcases h' with h' | ⟨h', hj⟩
  · exact .inl (h'.trans h)
  · exact .inl (h' ▸ h)
  · exact .inl (h ▸ h')
  · exact .inr ⟨h.trans h', hi.trans hj⟩

theorem Bef.irrefl (x : Fin n → α) (i : Fin n) : ¬ Bef x i i := by
  unfold Bef; rintro (h | h)
  · exact lt_irrefl _ h
  · exact lt_irrefl _ h.2

theorem Bef.total (x : Fin n → α) {i j : Fin n} (h : i ≠ j) : Bef x i j ∨ Bef x j i := by
  unfold Bef
  rcases lt_trichotomy (x i) (x j) with hx | hx | hx
  · exact .inr (.inl hx)
  · rcases lt_or_gt_of_ne h with hl | hl
    · exact .inl (.inr ⟨hx, hl⟩)
    · exact .inr (.inr ⟨hx.symm, hl⟩)
  · exact .inl (.inl hx)

/-- The number of entries that come before. -/
def rankOf (x : Fin n → α) (l : Fin n) : Nat := (Finset.univ.filter fun m => Bef x m l).card

theorem rank_lt_of_bef {x : Fin n → α} {i j : Fin n} (h : Bef x i j) : rankOf x i < rankOf x j := by
  apply Finset.card_lt_card
  rw [Finset.ssubset_iff_of_subset]
  · exact ⟨i, by simp [h], by simp [Bef.irrefl]⟩
  · intro k hk
    simp only [Finset.mem_filter, Finset.mem_univ, true_and] at hk ⊢
    exact hk.trans h

theorem rank_lt (x : Fin n → α) (l : Fin n) : rankOf x l < n := by
  have : (Finset.univ.filter fun m => Bef x m l) ⊂ Finset.univ :=
    (Finset.ssubset_iff_of_subset (Finset.subset_univ _)).mpr ⟨l, Finset.mem_univ _, by simp [Bef.irrefl]⟩
  have := Finset.card_lt_card this
  rwa [Finset.card_univ, Fintype.card_fin] at this

theorem rank_inj (x : Fin n → α) {i j : Fin n} (h : rankOf x i = rankOf x j) : i = j := by
  by_contra hn
  rcases Bef.total x hn with hb | hb
  · have := rank_lt_of_bef hb; omega
  · have := rank_lt_of_bef hb; omega

/-- The ranks as a permutation. -/
def rankP (x : Fin n → α) : Equiv.Perm (Fin n) :=
  Equiv.ofBijective (fun l => ⟨rankOf x l, rank_lt x l⟩) (Finite.injective_iff_bijective.mp fun i j h => rank_inj x (Fin.mk.inj_iff.mp h))

theorem rankP_val (x : Fin n → α) (l : Fin n) : (rankP x l).val = rankOf x l := rfl

theorem rankP_anti (x : Fin n → α) {r s : Fin n} (h : r ≤ s) : x ((rankP x).symm s) ≤ x ((rankP x).symm r) := by
  by_contra hn
  have : Bef x ((rankP x).symm s) ((rankP x).symm r) := .inl (not_le.mp hn)
  have := rank_lt_of_bef this
  rw [← rankP_val, ← rankP_val, Equiv.apply_symm_apply, Equiv.apply_symm_apply] at this
  exact absurd h (not_le.mpr this)

theorem rank_of_sorted (x : Fin n → α) (σ : Fin n → Fin n) (hσ : Function.Injective σ) (h : ∀ i j, i < j → Bef x (σ i) (σ j)) (r : Fin n) :
    rankOf x (σ r) = r.val := by
  have : (Finset.univ.filter fun m => Bef x m (σ r)) = (Finset.Iio r).image σ := by
    ext m
    obtain ⟨k, rfl⟩ := (Finite.injective_iff_surjective.mp hσ) m
    simp only [Finset.mem_filter, Finset.mem_univ, true_and, Finset.mem_image, Finset.mem_Iio]
    constructor
    · intro hb
      refine ⟨k, ?_, rfl⟩
      by_contra hn
      rcases (not_lt.mp hn).lt_or_eq with hl | he
      · exact Bef.irrefl x _ (hb.trans (h r k hl))
      · subst he; exact Bef.irrefl x _ hb
    · rintro ⟨q, hq, hqk⟩
      rw [← hqk]; exact h q r hq
  unfold rankOf
  rw [this, Finset.card_image_of_injective _ hσ, Fin.card_Iio]

end rank

/-! ## Bitonic sequences -/

/-- No threshold separates four places in turn. -/
def Bit (n : Nat) (f : Nat → EReal) : Prop := ∀ θ i j k l, i < j → j < k → k < l → l < n →
  ¬ (θ ≤ f i ∧ f j < θ ∧ θ ≤ f k ∧ f l < θ) ∧ ¬ (f i < θ ∧ θ ≤ f j ∧ f k < θ ∧ θ ≤ f l)

theorem Bit.cross {n : Nat} {f : Nat → EReal} (h : Bit (2 * n) f) {k l : Nat} (hk : k < n) (hl : l < n) : min (f k) (f (k + n)) ≤ max (f l) (f (l + n)) := by
  by_contra hn
  rw [not_le, max_lt_iff, lt_min_iff, lt_min_iff] at hn
  obtain ⟨⟨h1, h2⟩, h3, h4⟩ := hn
  rcases lt_trichotomy k l with hkl | rfl | hkl
  · refine (h (min (f k) (f (k + n))) k l (k + n) (l + n) hkl (by omega) (by omega) (by omega)).1 ⟨min_le_left _ _, lt_min h1 h2, min_le_right _ _, lt_min h3 h4⟩
  · exact lt_irrefl _ h1
  · refine (h (min (f k) (f (k + n))) l k (l + n) (k + n) hkl (by omega) (by omega) (by omega)).2 ⟨lt_min h1 h2, min_le_left _ _, lt_min h3 h4, min_le_right _ _⟩

theorem Bit.hi {n : Nat} {f : Nat → EReal} (h : Bit (2 * n) f) : Bit n fun j => max (f j) (f (j + n)) := by
  intro θ i j k l hij hjk hkl hl
  have H := h θ
  constructor
  · rintro ⟨h1, h2, h3, h4⟩
    rw [le_max_iff] at h1 h3
    rw [max_lt_iff] at h2 h4
    rcases h1 with h1 | h1 <;> rcases h3 with h3 | h3
    · exact (H i j k l hij hjk hkl (by omega)).1 ⟨h1, h2.1, h3, h4.1⟩
    · exact (H i j (k + n) (l + n) hij (by omega) (by omega) (by omega)).1 ⟨h1, h2.1, h3, h4.2⟩
    · exact (H j k l (i + n) hjk hkl (by omega) (by omega)).2 ⟨h2.1, h3, h4.1, h1⟩
    · exact (H (i + n) (j + n) (k + n) (l + n) (by omega) (by omega) (by omega) (by omega)).1 ⟨h1, h2.2, h3, h4.2⟩
  · rintro ⟨h1, h2, h3, h4⟩
    rw [le_max_iff] at h2 h4
    rw [max_lt_iff] at h1 h3
    rcases h2 with h2 | h2 <;> rcases h4 with h4 | h4
    · exact (H i j k l hij hjk hkl (by omega)).2 ⟨h1.1, h2, h3.1, h4⟩
    · exact (H i j k (l + n) hij hjk (by omega) (by omega)).2 ⟨h1.1, h2, h3.1, h4⟩
    · exact (H k l (i + n) (j + n) hkl (by omega) (by omega) (by omega)).2 ⟨h3.1, h4, h1.2, h2⟩
    · exact (H (i + n) (j + n) (k + n) (l + n) (by omega) (by omega) (by omega) (by omega)).2 ⟨h1.2, h2, h3.2, h4⟩

theorem Bit.lo {n : Nat} {f : Nat → EReal} (h : Bit (2 * n) f) : Bit n fun j => min (f j) (f (j + n)) := by
  intro θ i j k l hij hjk hkl hl
  have H := h θ
  constructor
  · rintro ⟨h1, h2, h3, h4⟩
    rw [le_min_iff] at h1 h3
    rw [min_lt_iff] at h2 h4
    rcases h2 with h2 | h2 <;> rcases h4 with h4 | h4
    · exact (H i j k l hij hjk hkl (by omega)).1 ⟨h1.1, h2, h3.1, h4⟩
    · exact (H i j k (l + n) hij hjk (by omega) (by omega)).1 ⟨h1.1, h2, h3.1, h4⟩
    · exact (H k l (i + n) (j + n) hkl (by omega) (by omega) (by omega)).1 ⟨h3.1, h4, h1.2, h2⟩
    · exact (H (i + n) (j + n) (k + n) (l + n) (by omega) (by omega) (by omega) (by omega)).1 ⟨h1.2, h2, h3.2, h4⟩
  · rintro ⟨h1, h2, h3, h4⟩
    rw [le_min_iff] at h2 h4
    rw [min_lt_iff] at h1 h3
    rcases h1 with h1 | h1 <;> rcases h3 with h3 | h3
    · exact (H i j k l hij hjk hkl (by omega)).2 ⟨h1, h2.1, h3, h4.1⟩
    · exact (H i j (k + n) (l + n) hij (by omega) (by omega) (by omega)).2 ⟨h1, h2.1, h3, h4.2⟩
    · exact (H j k l (i + n) hjk hkl (by omega) (by omega)).1 ⟨h2.1, h3, h4.1, h1⟩
    · exact (H (i + n) (j + n) (k + n) (l + n) (by omega) (by omega) (by omega) (by omega)).2 ⟨h1, h2.2, h3, h4.2⟩

/-- The first `n` places descend. -/
def Dn (n : Nat) (f : Nat → EReal) : Prop := ∀ i j, i ≤ j → j < n → f j ≤ f i

theorem bit_max {n : Nat} {f g : Nat → EReal} (hf : Dn n f) (hg : Dn n g) : Bit n fun j => max (f j) (g (n - 1 - j)) := by
  intro θ i j k l hij hjk hkl hl
  constructor
  · rintro ⟨-, h2, h3, h4⟩
    rw [le_max_iff] at h3
    rw [max_lt_iff] at h2 h4
    rcases h3 with h3 | h3
    · exact absurd (h3.trans (hf j k (by omega) (by omega))) (not_le.mpr h2.1)
    · exact absurd (h3.trans (hg (n - 1 - l) (n - 1 - k) (by omega) (by omega))) (not_le.mpr h4.2)
  · rintro ⟨h1, h2, h3, -⟩
    rw [le_max_iff] at h2
    rw [max_lt_iff] at h1 h3
    rcases h2 with h2 | h2
    · exact absurd (h2.trans (hf i j (by omega) (by omega))) (not_le.mpr h1.1)
    · exact absurd (h2.trans (hg (n - 1 - k) (n - 1 - j) (by omega) (by omega))) (not_le.mpr h3.2)

theorem bit_min {n : Nat} {f g : Nat → EReal} (hf : Dn n f) (hg : Dn n g) : Bit n fun j => min (f j) (g (n - 1 - j)) := by
  intro θ i j k l hij hjk hkl hl
  constructor
  · rintro ⟨h1, h2, h3, -⟩
    rw [le_min_iff] at h1 h3
    rw [min_lt_iff] at h2
    rcases h2 with h2 | h2
    · exact absurd (h3.1.trans (hf j k (by omega) (by omega))) (not_le.mpr h2)
    · exact absurd (h1.2.trans (hg (n - 1 - j) (n - 1 - i) (by omega) (by omega))) (not_le.mpr h2)
  · rintro ⟨-, h2, h3, h4⟩
    rw [le_min_iff] at h2 h4
    rw [min_lt_iff] at h3
    rcases h3 with h3 | h3
    · exact absurd (h4.1.trans (hf k l (by omega) (by omega))) (not_le.mpr h3)
    · exact absurd (h2.2.trans (hg (n - 1 - k) (n - 1 - j) (by omega) (by omega))) (not_le.mpr h3)

theorem max_min_cross {n : Nat} {f g : Nat → EReal} (hf : Dn n f) (hg : Dn n g) {k l : Nat} (hk : k < n) (hl : l < n) :
    min (f k) (g (n - 1 - k)) ≤ max (f l) (g (n - 1 - l)) := by
  by_cases h : l ≤ k
  · exact (min_le_left _ _).trans ((hf l k h hk).trans (le_max_left _ _))
  · exact (min_le_right _ _).trans ((hg (n - 1 - l) (n - 1 - k) (by omega) (by omega)).trans (le_max_right _ _))

/-! ## Indexed stores -/

theorem storeIdx_at {F : FTy → Type} [FloatOps F] {e : EltTy} {N : Nat} (f : Vec F ⟨1, ![N]⟩ e) (ix : IVec S16 32) (v : Vec F S16 e) (m : IVec S16 1)
    (h : ∀ a x, ((![ix] : Fin 1 → IVec S16 32) a x).toNat < (⟨1, ![N]⟩ : Shape).size a) (j : (⟨1, ![N]⟩ : Shape).Idx) (w : Elt F e)
    (hw : ∀ k : Fin 16, m (ix16 k.val) = 1#1 → (ix (ix16 k.val)).toNat = (j 0).val → v (ix16 k.val) = w) :
    storeIdx (F := F) (s := ⟨1, ![N]⟩) (e := e) f ![ix] v m false h j
      = if ∃ k : Fin 16, m (ix16 k.val) = 1#1 ∧ (ix (ix16 k.val)).toNat = (j 0).val then w else f j := by
  unfold storeIdx
  refine (Idealize.ShloMosaic.Routing.foldl_set _ j (fun k : Fin (![16] 0) => decide (m (ix16 k.val) = 1#1 ∧ (ix (ix16 k.val)).toNat = (j 0).val)) w (fun r k => ?_) _ f).trans ?_
  · have e : (Shape.ofLane (d := ![16]) k : S16.Idx) = ix16 k.val := ofLane_ix k
    simp only [decide_eq_true_eq]
    rw [e]
    by_cases hm : m (ix16 k.val) = 1#1
    · rw [if_pos (show m (ix16 k.val) = 1 from hm)]
      by_cases hj : (ix (ix16 k.val)).toNat = (j 0).val
      · have hc : ∀ a, (j a).val = (idxAt (s := ⟨1, ![N]⟩) ![ix] h (ix16 k.val) a).val := by
          intro a
          have : a = 0 := Fin.eq_zero a
          subst this
          exact hj.symm
        rw [if_pos hc, if_neg (by decide), if_pos ⟨hm, hj⟩]
        exact hw k hm hj
      · rw [if_neg (fun hc : ∀ a, (j a).val = (idxAt (s := ⟨1, ![N]⟩) ![ix] h (ix16 k.val) a).val => hj (hc 0).symm), if_neg (fun hc => hj hc.2)]
    · rw [if_neg (show ¬ m (ix16 k.val) = 1 from hm), if_neg (fun hc => hm hc.1)]
  · congr 1
    simp only [List.any_eq_true, List.mem_finRange, true_and, decide_eq_true_eq]
    rfl

end Cert.Proof.Sc
-- ==== Proof.Sc.RA.lean ====
/- Sorted rows, running sums, row sums and maxima, and a take along each row, read at an index, for arrays of any extents. -/
module

public import proofs.«01_k».proof.Proof.Sc.M1
public import Idealize.ShloMosaic.Lib.SortFacts
public import Idealize.ShloMosaic.Lib.IdealHost
public import Idealize.ShloMosaic.Lib.Routing.OpsPair
public import Idealize.ShloMosaic.Lib.Routing.OpsSearch
public import Idealize.ShloMosaic.Lib.ReduceAll

@[expose] public section

noncomputable section

namespace Cert.Proof.Sc

open Idealize.ShloMosaic Idealize.ShloMosaic.Routing Idealize.ShloMosaic.ValueIdx

/-! ## The stable sort's order -/

theorem pair_insert {ι : Type} (P : ι → ι → Prop) (hP : ∀ a b c, P a b → P b c → P a c) (R : ι → ι → Bool) (a : ι) :
    ∀ l : List ι, l.Pairwise P → (∀ b ∈ l, if R b a = true then P b a else P a b) → (insertBefore R a l).Pairwise P
  | [], _, _ => List.pairwise_singleton _ _
  | b :: l, hl, h => by
    rw [List.pairwise_cons] at hl
    have hb := h b List.mem_cons_self
    unfold insertBefore
    split
    · rename_i hr
      rw [if_pos hr] at hb
      refine List.pairwise_cons.mpr ⟨fun c hc => ?_, pair_insert P hP R a l hl.2 (fun c hc => h c (List.mem_cons_of_mem _ hc))⟩
      rcases List.mem_cons.mp ((perm_insertBefore R a l).mem_iff.mp hc) with rfl | hc'
      · exact hb
      · exact hl.1 c hc'
    · rename_i hr
      rw [if_neg hr] at hb
      refine List.pairwise_cons.mpr ⟨fun c hc => ?_, List.pairwise_cons.mpr hl⟩
      rcases List.mem_cons.mp hc with rfl | hc'
      · exact hb
      · exact hP _ _ _ hb (hl.1 c hc')

theorem pair_stable {n : Nat} (x : Fin n → EReal) (R : Fin n → Fin n → Bool) (hR : ∀ k k', R k k' = true ↔ x k' < x k) :
    ∀ l : List (Fin n), l.Pairwise (· < ·) → (stableSort R l).Pairwise (Bef x)
  | [], _ => List.Pairwise.nil
  | a :: l, hl => by
    rw [List.pairwise_cons] at hl
    unfold stableSort
    refine pair_insert (Bef x) (fun _ _ _ h h' => Bef.trans h h') R a _ (pair_stable x R hR l hl.2) (fun b hb => ?_)
    have hab := hl.1 b ((perm_stableSort R l).mem_iff.mp hb)
    split
    · rename_i hr
      exact .inl ((hR b a).mp hr)
    · rename_i hr
      rw [hR] at hr
      rcases lt_or_eq_of_le (not_lt.mp hr) with h1 | h1
      · exact .inl h1
      · exact .inr ⟨h1.symm, hab⟩

theorem sorted_bef {n : Nat} (x : Fin n → EReal) (R : Fin n → Fin n → Bool) (hR : ∀ k k', R k k' = true ↔ x k' < x k) (i j : Fin n) (hij : i < j) :
    Bef x (sortedFrom R i) (sortedFrom R j) := by
  have hp : ∀ a b : Fin (sortPositions n R).length, a < b → Bef x ((sortPositions n R).get a) ((sortPositions n R).get b) :=
    List.pairwise_iff_get.mp (pair_stable x R hR (List.finRange n) (List.pairwise_lt_finRange n))
  unfold sortedFrom
  exact hp _ _ (by simp only [Fin.lt_def, Fin.val_cast]; exact hij)

theorem sorted_rank {n : Nat} (x : Fin n → EReal) (R : Fin n → Fin n → Bool) (hR : ∀ k k', R k k' = true ↔ x k' < x k) (r : Fin n) :
    rankOf x (sortedFrom R r) = r.val :=
  rank_of_sorted x _ (sortedFrom_injective R) (fun i j h => sorted_bef x R hR i j h) r

theorem sorted_desc {n : Nat} (x : Fin n → EReal) (R : Fin n → Fin n → Bool) (hR : ∀ k k', R k k' = true ↔ x k' < x k) (i j : Fin n) (hij : i ≤ j) :
    x (sortedFrom R j) ≤ x (sortedFrom R i) := by
  rcases lt_or_eq_of_le hij with h | rfl
  · rcases sorted_bef x R hR i j h with h' | ⟨h', -⟩
    · exact h'.le
    · exact h'.ge
  · exact le_rfl

/-- Row `r` of an array. -/
def rw2 {A N : Nat} (x : (shape2 A N).Idx → EReal) (r : Fin A) (k : Fin N) : EReal := x (ix2 r k)

/-- The place of row `r` that comes `k`-th from the greatest. -/
def src {n : Nat} (x : Fin n → EReal) (k : Fin n) : Fin n := sortedFrom (fun i j => decide (x j < x i)) k

theorem src_rank {n : Nat} (x : Fin n → EReal) (r : Fin n) : rankOf x (src x r) = r.val := sorted_rank x _ (fun _ _ => decide_eq_true_iff) r
theorem src_anti {n : Nat} (x : Fin n → EReal) (i j : Fin n) (h : i ≤ j) : x (src x j) ≤ x (src x i) := sorted_desc x _ (fun _ _ => decide_eq_true_iff) i j h
theorem src_inj {n : Nat} (x : Fin n → EReal) : Function.Injective (src x) := sortedFrom_injective _
theorem src_of_rank {n : Nat} (x : Fin n → EReal) (i r : Fin n) (h : rankOf x i = r.val) : src x r = i := rank_inj x ((src_rank x r).trans h.symm)

/-- A row's values from the greatest down. -/
def dsc {n : Nat} (x : Fin n → EReal) (k : Nat) : EReal := if h : k < n then x (src x ⟨k, h⟩) else ⊥

theorem dsc_desc {n : Nat} (x : Fin n → EReal) : Desc x (dsc x) :=
  desc_of_perm x (src x) (src_inj x) (src_anti x) (dsc x) (fun r => by unfold dsc; rw [dif_pos r.isLt])

theorem along_ix {A N : Nat} (h : 1 < (shape2 A N).rank) (r : Fin A) (k : Fin N) (k' : Fin ((shape2 A N).size ⟨1, h⟩)) : (ix2 r k : (shape2 A N).Idx).along ⟨1, h⟩ k' = ix2 (n0 := A) (n1 := N) r k' := by
  funext a
  unfold Shape.Idx.along
  match a with
  | ⟨0, _⟩ => exact Function.update_of_ne (by simp) _ _
  | ⟨1, _⟩ => exact Function.update_self _ _ _

theorem sort_ix {A N : Nat} {α β : Type} (cmp : α × β → α × β → BitVec 1) (x : (shape2 A N).Idx → α) (y : (shape2 A N).Idx → β) (z : Fin N → EReal) (r : Fin A) (k : Fin N)
    (hc : ∀ i j, cmp (x (ix2 r i), y (ix2 r i)) (x (ix2 r j), y (ix2 r j)) = BitVec.ofBool (decide (z j < z i))) :
    (Host.sort2 (shape2 A N) 1 cmp x y).1 (ix2 r k) = x (ix2 r (src z k)) ∧ (Host.sort2 (shape2 A N) 1 cmp x y).2 (ix2 r k) = y (ix2 r (src z k)) := by
  have e : sortedFrom (fun i j : Fin N => cmp (x (ix2 r i), y (ix2 r i)) (x (ix2 r j), y (ix2 r j)) == 1#1) k = src z k := by
    unfold src
    congr 1
    funext i j
    rw [hc]
    by_cases h : z j < z i <;> simp [h]
  unfold Host.sort2
  rw [dif_pos (show (1 : Nat) < 2 by decide)]
  simp only [along_ix]
  rw [← e]
  exact ⟨rfl, rfl⟩

theorem topK_ix {A N K : Nat} (hK : K ≤ N) (x : (shape2 A N).Idx → EReal) (h : (shape2 A N).Slices (fun _ => 0) (shape2 A K)) (r : Fin A) (k : Fin K) :
    (Host.topK (shape2 A K) 1 (FloatOps.cmpfTotal (F := Ideal) (φ := .f32) .gt) x h).1 (ix2 r k) = dsc (rw2 x r) k.val := by
  unfold dsc
  rw [dif_pos (show k.val < N by have := k.isLt; omega)]
  change (Host.sort2 (shape2 A N) 1 (fun l r => FloatOps.cmpfTotal (F := Ideal) (φ := .f32) .gt l.1 r.1) x (fun i => if hd : 1 < (shape2 A N).rank then iotaInDim (shape2 A N) 32 ⟨1, hd⟩ i else 0#32)).1 _ = _
  have e : (fun a => ⟨0 + ((ix2 r k : (shape2 A K).Idx) (a.cast h.1.symm)).val, Nat.lt_of_lt_of_le (Nat.add_lt_add_left ((ix2 r k : (shape2 A K).Idx) _).isLt _) (h.2 a)⟩ : (shape2 A N).Idx) = ix2 r ⟨k.val, by have := k.isLt; omega⟩ := by
    funext a
    apply Fin.ext
    match a with
    | ⟨0, _⟩ => exact Nat.zero_add _
    | ⟨1, _⟩ => exact Nat.zero_add _
  refine (congrArg _ e).trans ?_
  exact (sort_ix _ x _ (rw2 x r) r _ (fun i j => rfl)).1

/-! ## Sums along rows -/

theorem foldl_add_sum {n : Nat} (g : Fin n → EReal) (v : EReal) : (List.finRange n).foldl (fun r k => r + g k) v = v + ∑ k, g k := by
  have : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [this, ← Fin.sum_univ_def]

theorem sum_window_row (f : Nat → EReal) (M j : Nat) (hj : j ≤ M) : (∑ n ∈ Finset.range (M + 1), if M ≤ j + n then f (j + n - M) else 0) = ∑ i ∈ Finset.range (j + 1), f i := by
  rw [← Finset.sum_filter]
  refine Finset.sum_bij (fun n _ => j + n - M) (fun n hn => ?_) (fun a ha b hb hab => ?_) (fun i hi => ?_) (fun n hn => rfl)
  · rw [Finset.mem_filter, Finset.mem_range] at hn; rw [Finset.mem_range]; omega
  · rw [Finset.mem_filter, Finset.mem_range] at ha hb; omega
  · rw [Finset.mem_range] at hi
    exact ⟨M - j + i, by rw [Finset.mem_filter, Finset.mem_range]; omega, by omega⟩

/-- The running sums along each row. -/
theorem cums_ix {A N M : Nat} (hN : M + 1 = N) (x : (shape2 A N).Idx → EReal) (f : Nat → EReal) (init : shape0.Idx → EReal) (hinit : init ix0 = 0)
    (h : (shape2 A N).ReduceWindows (![1, N] : Fin 2 → Nat) ![1, 1] ![0, M] ![0, 0] (shape2 A N)) (hu : 0 < shape0.numel) (r : Fin A) (j : Fin N)
    (hx : ∀ i : Fin N, x (ix2 r i) = f i.val) :
    Host.reduceWindowAdd (F := Ideal) (φ := .f32) ![1, N] ![1, 1] ![0, M] ![0, 0] x init h hu (ix2 r j) = ∑ i ∈ Finset.range (j.val + 1), f i := by
  subst hN
  have hv : init (Shape.Idx.first hu) = 0 := (congrArg init (eq_ix0 _)).trans hinit
  have hj := j.isLt
  change Host.reduceWindow (· + ·) ![1, M + 1] ![1, 1] ![0, M] ![0, 0] x init h hu (ix2 r j) = _
  unfold Host.reduceWindow
  rw [hv]
  refine (foldl_add_sum _ _).trans ?_
  rw [zero_add]
  refine Eq.trans ?_ (sum_window_row f M j.val (by omega))
  rw [← Fin.sum_univ_eq_sum_range (fun n => if M ≤ j.val + n then f (j.val + n - M) else 0) (M + 1)]
  refine Fintype.sum_equiv (finCongr (numel2 (M + 1))) _ _ (fun n => ?_)
  have hw0 : ((shape2 1 (M + 1)).rowMajor.symm n 0).val = 0 := by rw [symm2]; rfl
  have hw : ((shape2 1 (M + 1)).rowMajor.symm n 1).val = n.val := by rw [symm2]; rfl
  have hn : n.val < M + 1 := (n.cast (numel2 _)).isLt
  change _ = if M ≤ j.val + n.val then f (j.val + n.val - M) else 0
  dsimp only
  split
  · next hin =>
    have h1 := hin 1
    change M ≤ j.val * 1 + ((shape2 1 (M + 1)).rowMajor.symm n 1).val ∧ j.val * 1 + ((shape2 1 (M + 1)).rowMajor.symm n 1).val - M < M + 1 at h1
    rw [hw] at h1
    rw [if_pos (by omega)]
    refine (congrArg x (funext fun a => Fin.ext ?_)).trans (hx ⟨j.val + n.val - M, by omega⟩)
    match a with
    | ⟨0, _⟩ =>
      show r.val * 1 + ((shape2 1 (M + 1)).rowMajor.symm n 0).val - 0 = r.val
      rw [hw0]; omega
    | ⟨1, _⟩ =>
      show j.val * 1 + ((shape2 1 (M + 1)).rowMajor.symm n 1).val - M = j.val + n.val - M
      rw [hw, Nat.mul_one]
  · next hin =>
    rw [if_neg fun hle => hin fun a => by
      match a with
      | ⟨0, _⟩ =>
        show 0 ≤ r.val * 1 + ((shape2 1 (M + 1)).rowMajor.symm n 0).val ∧ r.val * 1 + ((shape2 1 (M + 1)).rowMajor.symm n 0).val - 0 < A
        rw [hw0]
        have := r.isLt
        omega
      | ⟨1, _⟩ =>
        show M ≤ j.val * 1 + ((shape2 1 (M + 1)).rowMajor.symm n 1).val ∧ j.val * 1 + ((shape2 1 (M + 1)).rowMajor.symm n 1).val - M < M + 1
        rw [hw]
        omega]

theorem red1 (A N : Nat) : (shape2 A N).Reduces [1] (shape1 A) := ⟨rfl, Nat.one_pos, fun b => by
  have : b = 0 := Fin.eq_zero b
  subst this
  rfl⟩

theorem lift_ix {A N : Nat} (h : (shape2 A N).Reduces [1] (shape1 A)) (r : Fin A) (k : Fin N) : h.lift (ix1 r) k = ix2 r k := by
  funext a
  apply Fin.ext
  match a with
  | ⟨0, _⟩ => rfl
  | ⟨1, _⟩ => rfl

theorem rsum_ix {A N : Nat} (x : (shape2 A N).Idx → EReal) (f : Nat → EReal) (init : shape0.Idx → EReal) (hinit : init ix0 = 0) (h : (shape2 A N).ReducesTo [1] (shape1 A))
    (hu : 0 < shape0.numel) (r : Fin A) (hx : ∀ i : Fin N, x (ix2 r i) = f i.val) :
    Host.reduceAdd (F := Ideal) (φ := .f32) x init h hu (ix1 r) = ∑ i ∈ Finset.range N, f i := by
  rw [hostReduceAdd_apply, Ideal.hostReduceAdd_single h (red1 A N), (congrArg init (eq_ix0 _)).trans hinit, zero_add, ← Fin.sum_univ_eq_sum_range]
  refine Finset.sum_congr rfl (fun k _ => ?_)
  exact (congrArg x (lift_ix (red1 A N) r k)).trans (hx k)

theorem rmax_ix {A N : Nat} (x : (shape2 A N).Idx → EReal) (init : shape0.Idx → EReal) (h : (shape2 A N).ReducesTo [1] (shape1 A)) (hu : 0 < shape0.numel) (r : Fin A)
    (hinit : init ix0 = ⊥) (k0 : Fin N) (hx : ∀ i : Fin N, x (ix2 r i) ≤ x (ix2 r k0)) :
    Host.reduce (FloatOps.maximumf (F := Ideal) (φ := .f32)) x init h hu (ix1 r) = x (ix2 r k0) := by
  change Host.reduce (max : EReal → EReal → EReal) x init h hu (ix1 r) = _
  rw [Host.reduce_eq_fold_single _ x init h (red1 A N) hu (ix1 r), (congrArg init (eq_ix0 _)).trans hinit]
  apply le_antisymm
  · rw [Finset.fold_max_le]
    refine ⟨bot_le, fun k _ => ?_⟩
    exact (congrArg x (lift_ix (red1 A N) r k)).le.trans (hx k)
  · rw [Finset.le_fold_max]
    refine .inr ⟨k0, Finset.mem_univ _, ?_⟩
    exact (congrArg x (lift_ix (red1 A N) r k0)).ge

/-! ## A take along each row -/

theorem take_row {α : Type} {A N : Nat} (d : GatherDims (shape2 A N) (shape3 A N 1) (shape2 A N)) (hoff : d.offsetDims = [])
    (hcoll : d.collapsedSliceDims = [1]) (hob : d.operandBatchingDims = [0]) (hsb : d.startIndicesBatchingDims = [0])
    (hsim : d.startIndexMap = [1]) (hivd : d.indexVectorDim = 2) (x : (shape2 A N).Idx → α) (idx : IVec (shape3 A N 1) 32)
    (r : Fin A) (k : Fin N) (b : Fin N) (hb : idx (ix3 r k (0 : Fin 1)) = BitVec.ofNat 32 b.val) (hN : N < 2 ^ 31) :
    Host.gather d x idx (ix2 r k) = x (ix2 r b) := by
  have hk : d.siKept = [0, 1] := by
    show (List.finRange 3).filter (fun x => decide (x.val ≠ d.indexVectorDim)) = _
    rw [hivd]
    rfl
  have hbd : d.batchDims = [0, 1] := by
    show (shape2 A N).kept d.offsetDims = _
    rw [hoff]
    rfl
  have hco : ∀ (q : Fin 3) (hq : q ∈ d.siKept) (m : Fin 2), q.val = m.val → (d.siCoord (ix2 r k) q hq).val = ((ix2 r k : (shape2 A N).Idx) m).val := by
    intro q hq m hm
    unfold GatherDims.siCoord
    simp only [Fin.val_cast]
    have e : ∀ (l : List (Fin 2)) (n : ℕ) (h : n < l.length), l = [0, 1] → n = m.val → l[n]'h = m := by
      intro l n h hl hn
      subst hl
      subst hn
      match m with
      | ⟨0, _⟩ => rfl
      | ⟨1, _⟩ => rfl
    have en : d.siKept.idxOf q = m.val := by
      rw [hk]
      match m, q with
      | ⟨0, _⟩, ⟨0, _⟩ => rfl
      | ⟨1, _⟩, ⟨1, _⟩ => rfl
      | ⟨0, _⟩, ⟨1, _⟩ => exact absurd hm (by simp)
      | ⟨0, _⟩, ⟨2, _⟩ => exact absurd hm (by simp)
      | ⟨1, _⟩, ⟨0, _⟩ => exact absurd hm (by simp)
      | ⟨1, _⟩, ⟨2, _⟩ => exact absurd hm (by simp)
    have ee := e d.batchDims (d.siKept.idxOf q) (by rw [hbd, en]; exact m.isLt) hbd en
    exact congrArg (fun z : Fin 2 => ((ix2 r k : (shape2 A N).Idx) z).val) ee
  unfold Host.gather
  refine congrArg x (funext fun a => Fin.ext ?_)
  have hks : ∀ a : Fin 2, a ∉ d.sKept := fun a h => by
    have h' := (d.mem_sKept a).1 h
    rw [hcoll, hob] at h'
    match a with
    | ⟨0, _⟩ => exact h'.2 (List.mem_singleton.2 rfl)
    | ⟨1, _⟩ => exact h'.1 (List.mem_singleton.2 rfl)
  match a with
  | ⟨0, _⟩ =>
    have hm : (0 : Fin 2) ∈ d.operandBatchingDims := by rw [hob]; exact List.mem_singleton.2 rfl
    show d.start (ix2 r k) idx 0 + d.batchCoord (ix2 r k) 0 + d.offCoord (ix2 r k) 0 = r.val
    rw [d.offCoord_eq_zero _ _ (hks 0), d.start_batching _ _ _ hm]
    unfold GatherDims.batchCoord
    rw [dif_pos hm]
    simp only [Nat.add_zero, Nat.zero_add]
    refine hco _ _ (0 : Fin 2) ?_
    have e : ∀ (l : List (Fin 3)) (n : ℕ) (h : n < l.length), l = [0] → (l[n]'h).val = 0 := by
      intro l n h hl
      subst hl
      have : n = 0 := by simpa using h
      subst this
      rfl
    exact e _ _ _ hsb
  | ⟨1, _⟩ =>
    have hnb : (1 : Fin 2) ∉ d.operandBatchingDims := by rw [hob]; exact fun h => absurd (List.mem_singleton.1 h) (by simp)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 r k) idx 1 + d.batchCoord (ix2 r k) 1 + d.offCoord (ix2 r k) 1 = b.val
    rw [d.offCoord_eq_zero _ _ (hks 1), d.batchCoord_eq_zero _ _ hnb]
    simp only [Nat.add_zero]
    unfold GatherDims.start
    rw [dif_pos hm]
    have hsi : d.siIdx (ix2 r k) ⟨d.startIndexMap.idxOf 1, List.idxOf_lt_length_iff.2 hm⟩ = ix3 r k (0 : Fin 1) := by
      funext q
      apply Fin.ext
      match q with
      | ⟨0, _⟩ =>
        unfold GatherDims.siIdx
        rw [dif_neg (by rw [hivd]; simp)]
        exact hco _ _ (0 : Fin 2) rfl
      | ⟨1, _⟩ =>
        unfold GatherDims.siIdx
        rw [dif_neg (by rw [hivd]; simp)]
        exact hco _ _ (1 : Fin 2) rfl
      | ⟨2, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (N - 1) = b.val
    omega

end Cert.Proof.Sc
-- ==== Proof.Sc.M2.lean ====
/- The sorts and merges of pairs over the extended reals: they permute, and order by the values. -/
module

public import proofs.«01_k».proof.Proof.Sc.M1

@[expose] public section

noncomputable section

namespace Cert.Proof.Sc

open Idealize.ShloMosaic
open Cert.KernelIdeal Cert.KernelIdeal.Facts₀ Cert.KernelIdeal.Facts

/-! ## Vectors as values and as collections of pairs -/

/-- Value `n` (mod 16) of a vector of pairs. -/
def vv (p : VI Ideal) (n : Nat) : EReal := p.1 (ix16 n)
/-- The pairs of a vector. -/
def VM (p : VI Ideal) : Multiset (EReal × BitVec 32) := ∑ l : Fin 16, {((p.1 (ix16 l.val) : EReal), p.2 (ix16 l.val))}

theorem ix_mod16 (n : Nat) : ix16 (n % 16) = ix16 n := by
  funext a; apply Fin.ext; change n % 16 % 16 = n % 16; omega

theorem vv_mod (p : VI Ideal) (n : Nat) : vv p (n % 16) = vv p n := by unfold vv; rw [ix_mod16]

theorem ix_val16 (n : Nat) (h : n < 16) : (ix16 n 0).val = n := by change n % 16 = n; omega

theorem ix_surj16 (i : S16.Idx) : i = ix16 (i 0).val := by
  funext a
  have : a = 0 := Fin.eq_zero a
  subst this
  apply Fin.ext
  have h : (i 0).val < 16 := (i 0).isLt
  change (i 0).val = (i 0).val % 16
  omega

theorem mem_VM {p : VI Ideal} {q : EReal × BitVec 32} : q ∈ VM p ↔ ∃ l : Fin 16, q = (p.1 (ix16 l.val), p.2 (ix16 l.val)) := by
  unfold VM
  rw [Multiset.mem_sum]
  simp only [Finset.mem_univ, true_and, Multiset.mem_singleton]

theorem card_fin_range (n : Nat) (P : Nat → Prop) [DecidablePred P] : (Finset.univ.filter fun i : Fin n => P i.val).card = ((Finset.range n).filter P).card := by
  rw [Finset.card_filter, Finset.card_filter]
  exact Fin.sum_univ_eq_sum_range (fun i => if P i then 1 else 0) n

/-! ## The counted ranks -/

theorem lanes_ix (l : Nat) (h : l < 16) : lanes (ix16 l) = BitVec.ofNat 32 l := by
  change BitVec.ofNat 32 (0 * 16 + l % 16) = _
  congr 1; omega

theorem slt_small {a b : Nat} (ha : a < 2 ^ 31) (hb : b < 2 ^ 31) : (BitVec.ofNat 32 a).slt (BitVec.ofNat 32 b) = decide (a < b) := by
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat]
  congr 1
  apply propext
  omega

theorem bits3 : ∀ a b c : Bool, ((BitVec.ofBool a ||| (BitVec.ofBool b &&& BitVec.ofBool c)).setWidth 32).toNat = if a = true ∨ (b = true ∧ c = true) then 1 else 0 := by decide

theorem before_val (c : EReal) (v : FVec Ideal S16 .f32) (n l : Nat) (hn : n < 16) (hl : l < 16) :
    (before (F := Ideal) (fun _ => c) v (BitVec.ofNat 32 n) (ix16 l)).toNat = if (v (ix16 l) < c ∨ (c = v (ix16 l) ∧ n < l)) then 1 else 0 := by
  change ((BitVec.ofBool (decide (v (ix16 l) < c)) ||| (BitVec.ofBool (decide (c = v (ix16 l))) &&& BitVec.ofBool ((BitVec.ofNat 32 n).slt (lanes (ix16 l))))).setWidth 32).toNat = _
  rw [bits3, lanes_ix l hl, slt_small (by omega) (by omega)]
  simp only [decide_eq_true_eq]

theorem rkN_val (v : FVec Ideal S16 .f32) (l : Nat) (hl : l < 16) : ∀ n, n ≤ 16 →
    (rkN v n (ix16 l)).toNat = ((Finset.range n).filter fun j => v (ix16 l) < v (ix16 j) ∨ (v (ix16 j) = v (ix16 l) ∧ j < l)).card
  | 0, _ => by simp [rkN, bc, broadcast]
  | n + 1, hn => by
    have ih := rkN_val v l hl n (by omega)
    have hle := rkN_le v n (by omega) (ix16 l)
    have hb := before_val (v (ix16 n)) v n l (by omega) hl
    change (rkN v n (ix16 l) + before (fun _ => v (ix16 n)) v (BitVec.ofNat 32 n) (ix16 l)).toNat = _
    rw [Finset.range_add_one, Finset.filter_insert, BitVec.toNat_add, hb, ih]
    rw [ih] at hle
    split
    · rw [Finset.card_insert_of_notMem (by simp)]; omega
    · omega

theorem rk_rank (v : FVec Ideal S16 .f32) (l : Fin 16) : (minsi (rkN v 16) (bc 15#32) (ix16 l.val)).toNat = rankOf (fun k : Fin 16 => (v (ix16 k.val) : EReal)) l := by
  have h := rkN_val v l.val l.isLt 16 le_rfl
  have e : rankOf (fun k : Fin 16 => (v (ix16 k.val) : EReal)) l = (rkN v 16 (ix16 l.val)).toNat := by
    rw [h]
    exact card_fin_range 16 (fun j => v (ix16 l.val) < v (ix16 j) ∨ (v (ix16 j) = v (ix16 l.val) ∧ j < l.val))
  have hlt := rank_lt (fun k : Fin 16 => (v (ix16 k.val) : EReal)) l
  change (IntOp.minsi (rkN v 16 (ix16 l.val)) 15#32).toNat = _
  rw [minsi_nat _ _ (by omega) (by decide)]
  have : (15#32).toNat = 15 := rfl
  omega

theorem sort_store {F : FTy → Type} [FloatOps F] {e : EltTy} (f v : Vec F S16 e) (ix : IVec S16 32) (π : Equiv.Perm (Fin 16)) (hix : ∀ k : Fin 16, (ix (ix16 k.val)).toNat = (π k).val)
    (h : ∀ a x, ((![ix] : Fin 1 → IVec S16 32) a x).toNat < S16.size a) (r : Fin 16) :
    storeIdx (F := F) (s := S16) (e := e) f ![ix] v (fun _ => 1#1) false h (ix16 r.val) = v (ix16 (π.symm r).val) := by
  have hr : ∀ k : Fin 16, (ix (ix16 k.val)).toNat = (ix16 r.val 0).val → k = π.symm r := by
    intro k hk
    rw [hix, ix_val16 _ r.isLt] at hk
    rw [← Fin.ext hk, Equiv.symm_apply_apply]
  have := storeIdx_at (F := F) (N := 16) f ix v (fun _ => 1#1) h (ix16 r.val) (v (ix16 (π.symm r).val)) (fun k _ hk => by rw [hr k hk])
  refine this.trans (if_pos ⟨π.symm r, rfl, ?_⟩)
  rw [hix, Equiv.apply_symm_apply, ix_val16 _ r.isLt]

/-- The permutation of a sort. -/
def sPerm (p : VI Ideal) : Equiv.Perm (Fin 16) := rankP (fun k : Fin 16 => vv p k.val)

theorem sortV_fst (p : VI Ideal) (r : Fin 16) : (sortV p).1 (ix16 r.val) = p.1 (ix16 ((sPerm p).symm r).val) :=
  sort_store (F := Ideal) (e := .f32) p.1 p.1 (minsi (rkN p.1 16) (bc 15#32)) (sPerm p) (fun k => (rk_rank p.1 k).trans (rankP_val _ k).symm) (rk_in p.1) r
theorem sortV_snd (p : VI Ideal) (r : Fin 16) : (sortV p).2 (ix16 r.val) = p.2 (ix16 ((sPerm p).symm r).val) :=
  sort_store (F := Ideal) (e := .i32) p.2 p.2 (minsi (rkN p.1 16) (bc 15#32)) (sPerm p) (fun k => (rk_rank p.1 k).trans (rankP_val _ k).symm) (rk_in p.1) r

theorem VM_sort (p : VI Ideal) : VM (sortV p) = VM p := by
  unfold VM
  simp only [sortV_fst, sortV_snd]
  exact Equiv.sum_comp (sPerm p).symm (fun l : Fin 16 => ({((p.1 (ix16 l.val) : EReal), p.2 (ix16 l.val))} : Multiset (EReal × BitVec 32)))

theorem dn_sort (p : VI Ideal) : Dn 16 (vv (sortV p)) := by
  intro i j hij hj
  have h := rankP_anti (fun k : Fin 16 => vv p k.val) (r := ⟨i, by omega⟩) (s := ⟨j, hj⟩) hij
  have h1 := sortV_fst p ⟨i, by omega⟩
  have h2 := sortV_fst p ⟨j, hj⟩
  unfold vv at h ⊢
  rw [h1, h2]
  exact h

theorem sort_ex (p : VI Ideal) (k : Nat) : ∃ l, l < 16 ∧ vv (sortV p) k = vv p l := by
  refine ⟨((sPerm p).symm ⟨k % 16, Nat.mod_lt _ (by decide)⟩).val, Fin.isLt _, ?_⟩
  rw [← vv_mod]
  exact sortV_fst p ⟨k % 16, Nat.mod_lt _ (by decide)⟩

theorem VM_rev (p : VI Ideal) : VM (revB p) = VM p := by
  unfold VM
  have e : ∀ l : Fin 16, (ix16 (15 - (ix16 l.val 0).val)) = ix16 (Fin.rev l).val := by
    intro l; rw [ix_val16 _ l.isLt, Fin.val_rev]; congr 1; omega
  have : ∀ l : Fin 16, ((((revB p).1 (ix16 l.val) : EReal), (revB p).2 (ix16 l.val))) = ((p.1 (ix16 (Fin.rev l).val) : EReal), p.2 (ix16 (Fin.rev l).val)) := by
    intro l
    rw [← e l]
    rfl
  simp only [this]
  exact Equiv.sum_comp Fin.revPerm (fun l : Fin 16 => ({((p.1 (ix16 l.val) : EReal), p.2 (ix16 l.val))} : Multiset (EReal × BitVec 32)))

theorem vv_rev (p : VI Ideal) (n : Nat) : vv (revB p) n = vv p (15 - n % 16) := rfl

theorem ge_val (a b : FVec Ideal S16 .f32) (i : S16.Idx) : ge a b i = BitVec.ofBool (decide (b i ≤ a i)) := rfl

theorem ofBool_one (b : Bool) : BitVec.ofBool b = 1#1 ↔ b = true := by cases b <;> decide

theorem hi_fst (a b : VI Ideal) (i : S16.Idx) : (hiP a b).1 i = max (a.1 i : EReal) (b.1 i) := by
  change Scalar.select (ge a.1 b.1 i) (a.1 i) (b.1 i) = _
  unfold Scalar.select
  rw [ge_val]
  by_cases h : (b.1 i : EReal) ≤ a.1 i
  · rw [max_eq_left h]; simp [h]
  · rw [max_eq_right (le_of_lt (not_le.mp h))]; simp [h]
theorem lo_fst (a b : VI Ideal) (i : S16.Idx) : (loP a b).1 i = min (a.1 i : EReal) (b.1 i) := by
  change Scalar.select (ge a.1 b.1 i) (b.1 i) (a.1 i) = _
  unfold Scalar.select
  rw [ge_val]
  by_cases h : (b.1 i : EReal) ≤ a.1 i
  · rw [min_eq_right h]; simp [h]
  · rw [min_eq_left (le_of_lt (not_le.mp h))]; simp [h]

theorem vv_hi (a b : VI Ideal) (n : Nat) : vv (hiP a b) n = max (vv a n) (vv b n) := hi_fst a b _
theorem vv_lo (a b : VI Ideal) (n : Nat) : vv (loP a b) n = min (vv a n) (vv b n) := lo_fst a b _

theorem VM_hilo (a b : VI Ideal) : VM (hiP a b) + VM (loP a b) = VM a + VM b := by
  unfold VM
  rw [← Finset.sum_add_distrib, ← Finset.sum_add_distrib]
  refine Finset.sum_congr rfl fun l _ => ?_
  have h : ∀ i : S16.Idx, ((((hiP a b).1 i : EReal), (hiP a b).2 i) = ((a.1 i : EReal), a.2 i) ∧ (((loP a b).1 i : EReal), (loP a b).2 i) = ((b.1 i : EReal), b.2 i)) ∨
      ((((hiP a b).1 i : EReal), (hiP a b).2 i) = ((b.1 i : EReal), b.2 i) ∧ (((loP a b).1 i : EReal), (loP a b).2 i) = ((a.1 i : EReal), a.2 i)) := by
    intro i
    by_cases h : (b.1 i : EReal) ≤ a.1 i
    · left
      constructor
      · change (Scalar.select (ge a.1 b.1 i) (a.1 i) (b.1 i), Scalar.select (ge a.1 b.1 i) (a.2 i) (b.2 i)) = _
        unfold Scalar.select; rw [ge_val]; simp [h]
      · change (Scalar.select (ge a.1 b.1 i) (b.1 i) (a.1 i), Scalar.select (ge a.1 b.1 i) (b.2 i) (a.2 i)) = _
        unfold Scalar.select; rw [ge_val]; simp [h]
    · right
      constructor
      · change (Scalar.select (ge a.1 b.1 i) (a.1 i) (b.1 i), Scalar.select (ge a.1 b.1 i) (a.2 i) (b.2 i)) = _
        unfold Scalar.select; rw [ge_val]; simp [h]
      · change (Scalar.select (ge a.1 b.1 i) (b.1 i) (a.1 i), Scalar.select (ge a.1 b.1 i) (b.2 i) (a.2 i)) = _
        unfold Scalar.select; rw [ge_val]; simp [h]
  rcases h (ix16 l.val) with ⟨h1, h2⟩ | ⟨h1, h2⟩
  · rw [h1, h2]
  · rw [h1, h2, add_comm]

/-! ## Two vectors, four vectors -/

def v2 (p : VI Ideal × VI Ideal) (n : Nat) : EReal := if n < 16 then vv p.1 n else vv p.2 n
def v4 (b : Blk Ideal) (n : Nat) : EReal := if n < 16 then vv b.a n else if n < 32 then vv b.b n else if n < 48 then vv b.c n else vv b.d n
/-- The pairs of a block. -/
def BM (b : Blk Ideal) : Multiset (EReal × BitVec 32) := VM b.a + VM b.b + VM b.c + VM b.d

theorem dn_pair {a b : VI Ideal} (ha : Dn 16 (vv a)) (hb : Dn 16 (vv b)) (h : ∀ k l, k < 16 → l < 16 → vv b k ≤ vv a l) : Dn 32 (v2 (a, b)) := by
  intro i j hij hj
  unfold v2
  by_cases h1 : i < 16 <;> by_cases h2 : j < 16
  · rw [if_pos h1, if_pos h2]; exact ha i j hij h2
  · rw [if_pos h1, if_neg h2, ← vv_mod b]; exact h _ _ (Nat.mod_lt _ (by decide)) h1
  · omega
  · rw [if_neg h1, if_neg h2, ← vv_mod b j, ← vv_mod b i]; exact hb _ _ (by omega) (by omega)

theorem dn_block {b : Blk Ideal} (h1 : Dn 32 (v2 (b.a, b.b))) (h2 : Dn 32 (v2 (b.c, b.d)))
    (h : ∀ k l, k < 32 → l < 32 → v2 (b.c, b.d) k ≤ v2 (b.a, b.b) l) : Dn 64 (v4 b) := by
  have e1 : ∀ n, n < 32 → v4 b n = v2 (b.a, b.b) n := by
    intro n hn; unfold v4 v2; by_cases h : n < 16
    · rw [if_pos h, if_pos h]
    · rw [if_neg h, if_neg h, if_pos hn]
  have e2 : ∀ n, 32 ≤ n → v4 b n = v2 (b.c, b.d) (n - 32) := by
    intro n hn; unfold v4 v2; by_cases h : n < 48
    · rw [if_neg (by omega), if_neg (by omega), if_pos h, if_pos (by omega), ← vv_mod, ← vv_mod _ (n - 32)]; congr 1; omega
    · rw [if_neg (by omega), if_neg (by omega), if_neg h, if_neg (by omega), ← vv_mod, ← vv_mod _ (n - 32)]; congr 1; omega
  intro i j hij hj
  by_cases c1 : i < 32 <;> by_cases c2 : j < 32
  · rw [e1 _ c1, e1 _ c2]; exact h1 i j hij c2
  · rw [e1 _ c1, e2 _ (by omega)]; exact h _ _ (by omega) c1
  · omega
  · rw [e2 _ (by omega), e2 _ (by omega)]; exact h2 _ _ (by omega) (by omega)

theorem bm32_dn {a b : VI Ideal} (h : Bit 32 (v2 (a, b))) : Dn 32 (v2 (bm32V a b)) := by
  refine dn_pair (dn_sort _) (dn_sort _) fun k l _ _ => ?_
  obtain ⟨k', hk', e1⟩ := sort_ex (loP a b) k
  obtain ⟨l', hl', e2⟩ := sort_ex (hiP a b) l
  rw [e1, e2, vv_hi, vv_lo]
  have := Bit.cross (n := 16) h hk' hl'
  unfold v2 at this
  rw [if_pos hk', if_pos hl', if_neg (by omega), if_neg (by omega)] at this
  rw [← vv_mod _ (k' + 16), ← vv_mod _ (l' + 16), show (k' + 16) % 16 = k' by omega, show (l' + 16) % 16 = l' by omega] at this
  exact this

theorem bm32_VM (a b : VI Ideal) : VM (bm32V a b).1 + VM (bm32V a b).2 = VM a + VM b := by
  unfold bm32V
  rw [VM_sort, VM_sort, VM_hilo]

theorem bm32_ex (a b : VI Ideal) (k : Nat) (hk : k < 32) : ∃ l, l < 32 ∧ v2 (bm32V a b) k = v2 (a, b) l := by
  have key : ∀ m, m < 16 → (vv (hiP a b) m = vv a m ∨ vv (hiP a b) m = vv b m) ∧ (vv (loP a b) m = vv a m ∨ vv (loP a b) m = vv b m) := by
    intro m _
    rw [vv_hi, vv_lo]
    exact ⟨max_choice _ _, min_choice _ _⟩
  have fin : ∀ m, m < 16 → ∀ z, (z = vv a m ∨ z = vv b m) → ∃ l, l < 32 ∧ z = v2 (a, b) l := by
    rintro m hm z (rfl | rfl)
    · exact ⟨m, by omega, by unfold v2; rw [if_pos hm]⟩
    · exact ⟨m + 16, by omega, by unfold v2; rw [if_neg (by omega), ← vv_mod b (m + 16)]; congr 1; omega⟩
  unfold bm32V
  by_cases h : k < 16
  · obtain ⟨m, hm, e⟩ := sort_ex (hiP a b) k
    rw [show v2 (sortV (hiP a b), sortV (loP a b)) k = vv (sortV (hiP a b)) k by unfold v2; rw [if_pos h], e]
    exact fin m hm _ (key m hm).1
  · obtain ⟨m, hm, e⟩ := sort_ex (loP a b) k
    rw [show v2 (sortV (hiP a b), sortV (loP a b)) k = vv (sortV (loP a b)) k by unfold v2; rw [if_neg h], e]
    exact fin m hm _ (key m hm).2

theorem m16_dn {a b : VI Ideal} (ha : Dn 16 (vv a)) (hb : Dn 16 (vv b)) : Dn 32 (v2 (m16V a b)) := by
  refine bm32_dn ?_
  have e1 : ∀ n, n < 16 → v2 (a, revB b) n = vv a n := fun n h => by unfold v2; rw [if_pos h]
  have e2 : ∀ n, 16 ≤ n → n < 32 → v2 (a, revB b) n = vv b (31 - n) := fun n h h' => by
    unfold v2; rw [if_neg (by omega)]; change vv (revB b) n = _; rw [vv_rev]; congr 1; omega
  intro θ i j k l hij hjk hkl hl
  constructor
  · rintro ⟨h1, h2, h3, h4⟩
    by_cases c : k < 16
    · rw [e1 _ c] at h3; rw [e1 _ (by omega)] at h2
      exact absurd (h3.trans (ha j k (by omega) c)) (not_le.mpr h2)
    · rw [e2 _ (by omega) (by omega)] at h3 h4
      exact absurd (h3.trans (hb (31 - l) (31 - k) (by omega) (by omega))) (not_le.mpr h4)
  · rintro ⟨h1, h2, h3, h4⟩
    by_cases c : j < 16
    · rw [e1 _ c] at h2; rw [e1 _ (by omega)] at h1
      exact absurd (h2.trans (ha i j (by omega) c)) (not_le.mpr h1)
    · rw [e2 _ (by omega) (by omega)] at h2 h3
      exact absurd (h2.trans (hb (31 - k) (31 - j) (by omega) (by omega))) (not_le.mpr h3)

theorem m16_VM (a b : VI Ideal) : VM (m16V a b).1 + VM (m16V a b).2 = VM a + VM b := by
  unfold m16V
  rw [bm32_VM, VM_rev]

theorem m32_hi (a b : VI Ideal × VI Ideal) (n : Nat) (hn : n < 32) :
    v2 (hiP a.1 (revB b.2), hiP a.2 (revB b.1)) n = max (v2 a n) (v2 b (32 - 1 - n)) := by
  unfold v2
  by_cases h : n < 16
  · rw [if_pos h, if_pos h, if_neg (by omega), vv_hi, vv_rev, ← vv_mod b.2 (32 - 1 - n)]
    congr 2; omega
  · rw [if_neg h, if_neg h, if_pos (by omega), vv_hi, vv_rev]
    congr 2; omega

theorem m32_lo (a b : VI Ideal × VI Ideal) (n : Nat) (hn : n < 32) :
    v2 (loP a.1 (revB b.2), loP a.2 (revB b.1)) n = min (v2 a n) (v2 b (32 - 1 - n)) := by
  unfold v2
  by_cases h : n < 16
  · rw [if_pos h, if_pos h, if_neg (by omega), vv_lo, vv_rev, ← vv_mod b.2 (32 - 1 - n)]
    congr 2; omega
  · rw [if_neg h, if_neg h, if_pos (by omega), vv_lo, vv_rev]
    congr 2; omega

theorem Bit.congr {n : Nat} {f g : Nat → EReal} (h : Bit n f) (e : ∀ k, k < n → g k = f k) : Bit n g := by
  intro θ i j k l hij hjk hkl hl
  rw [e i (by omega), e j (by omega), e k (by omega), e l hl]
  exact h θ i j k l hij hjk hkl hl

theorem m32_dn {a b : VI Ideal × VI Ideal} (ha : Dn 32 (v2 a)) (hb : Dn 32 (v2 b)) : Dn 64 (v4 (m32V a b)) := by
  refine dn_block (bm32_dn ((bit_max ha hb).congr fun k hk => m32_hi a b k hk)) (bm32_dn ((bit_min ha hb).congr fun k hk => m32_lo a b k hk)) fun k l hk hl => ?_
  obtain ⟨k', hk', e1⟩ := bm32_ex (loP a.1 (revB b.2)) (loP a.2 (revB b.1)) k hk
  obtain ⟨l', hl', e2⟩ := bm32_ex (hiP a.1 (revB b.2)) (hiP a.2 (revB b.1)) l hl
  change v2 (bm32V (loP a.1 (revB b.2)) (loP a.2 (revB b.1))) k ≤ v2 (bm32V (hiP a.1 (revB b.2)) (hiP a.2 (revB b.1))) l
  rw [e1, e2, m32_hi _ _ _ hl', m32_lo _ _ _ hk']
  exact max_min_cross ha hb hk' hl'

theorem m32_BM (a b : VI Ideal × VI Ideal) : BM (m32V a b) = VM a.1 + VM a.2 + (VM b.1 + VM b.2) := by
  change VM (bm32V (hiP a.1 (revB b.2)) (hiP a.2 (revB b.1))).1 + VM (bm32V (hiP a.1 (revB b.2)) (hiP a.2 (revB b.1))).2
    + VM (bm32V (loP a.1 (revB b.2)) (loP a.2 (revB b.1))).1 + VM (bm32V (loP a.1 (revB b.2)) (loP a.2 (revB b.1))).2 = _
  rw [add_assoc, bm32_VM, bm32_VM]
  have h1 := VM_hilo a.1 (revB b.2)
  have h2 := VM_hilo a.2 (revB b.1)
  rw [VM_rev] at h1 h2
  calc VM (hiP a.1 (revB b.2)) + VM (hiP a.2 (revB b.1)) + (VM (loP a.1 (revB b.2)) + VM (loP a.2 (revB b.1)))
      = (VM (hiP a.1 (revB b.2)) + VM (loP a.1 (revB b.2))) + (VM (hiP a.2 (revB b.1)) + VM (loP a.2 (revB b.1))) := by abel
    _ = _ := by rw [h1, h2]; abel

theorem sort64_dn (b : Blk Ideal) : Dn 64 (v4 (sort64V b)) :=
  m32_dn (m16_dn (dn_sort _) (dn_sort _)) (m16_dn (dn_sort _) (dn_sort _))

theorem sort64_BM (b : Blk Ideal) : BM (sort64V b) = BM b := by
  unfold sort64V BM
  rw [← BM, m32_BM, m16_VM, m16_VM, VM_sort, VM_sort, VM_sort, VM_sort]
  abel

/-! ## The best of two sorted blocks -/

/-- The greater of each place of one block and the mirrored place of another. -/
def hi4 (s b : Blk Ideal) : Blk Ideal := ⟨hiP s.a (revB b.d), hiP s.b (revB b.c), hiP s.c (revB b.b), hiP s.d (revB b.a)⟩
def lo4 (s b : Blk Ideal) : Blk Ideal := ⟨loP s.a (revB b.d), loP s.b (revB b.c), loP s.c (revB b.b), loP s.d (revB b.a)⟩

theorem v4_hi (s b : Blk Ideal) (n : Nat) (hn : n < 64) : v4 (hi4 s b) n = max (v4 s n) (v4 b (64 - 1 - n)) := by
  unfold v4 hi4
  by_cases h1 : n < 16
  · rw [if_pos h1, if_pos h1, if_neg (by omega), if_neg (by omega), if_neg (by omega), vv_hi, vv_rev, ← vv_mod b.d (64 - 1 - n)]
    congr 2; omega
  rw [if_neg h1, if_neg h1]
  by_cases h2 : n < 32
  · rw [if_pos h2, if_pos h2, if_neg (by omega), if_neg (by omega), if_pos (by omega), vv_hi, vv_rev, ← vv_mod b.c (64 - 1 - n)]
    congr 2; omega
  rw [if_neg h2, if_neg h2]
  by_cases h3 : n < 48
  · rw [if_pos h3, if_pos h3, if_neg (by omega), if_pos (by omega), vv_hi, vv_rev, ← vv_mod b.b (64 - 1 - n)]
    congr 2; omega
  rw [if_neg h3, if_neg h3, if_pos (by omega), vv_hi, vv_rev]
  congr 2; omega

theorem v4_lo (s b : Blk Ideal) (n : Nat) (hn : n < 64) : v4 (lo4 s b) n = min (v4 s n) (v4 b (64 - 1 - n)) := by
  unfold v4 lo4
  by_cases h1 : n < 16
  · rw [if_pos h1, if_pos h1, if_neg (by omega), if_neg (by omega), if_neg (by omega), vv_lo, vv_rev, ← vv_mod b.d (64 - 1 - n)]
    congr 2; omega
  rw [if_neg h1, if_neg h1]
  by_cases h2 : n < 32
  · rw [if_pos h2, if_pos h2, if_neg (by omega), if_neg (by omega), if_pos (by omega), vv_lo, vv_rev, ← vv_mod b.c (64 - 1 - n)]
    congr 2; omega
  rw [if_neg h2, if_neg h2]
  by_cases h3 : n < 48
  · rw [if_pos h3, if_pos h3, if_neg (by omega), if_pos (by omega), vv_lo, vv_rev, ← vv_mod b.b (64 - 1 - n)]
    congr 2; omega
  rw [if_neg h3, if_neg h3, if_pos (by omega), vv_lo, vv_rev]
  congr 2; omega

theorem v2_hi4 (h : Blk Ideal) (n : Nat) (hn : n < 32) : v2 (hiP h.a h.c, hiP h.b h.d) n = max (v4 h n) (v4 h (n + 32)) := by
  unfold v2 v4
  by_cases h1 : n < 16
  · rw [if_pos h1, if_pos h1, if_neg (by omega), if_neg (by omega), if_pos (by omega), vv_hi, ← vv_mod h.c (n + 32), ← vv_mod h.c n]
    congr 2; omega
  · rw [if_neg h1, if_neg h1, if_pos hn, if_neg (by omega), if_neg (by omega), if_neg (by omega), vv_hi, ← vv_mod h.d (n + 32), ← vv_mod h.d n]
    congr 2; omega
theorem v2_lo4 (h : Blk Ideal) (n : Nat) (hn : n < 32) : v2 (loP h.a h.c, loP h.b h.d) n = min (v4 h n) (v4 h (n + 32)) := by
  unfold v2 v4
  by_cases h1 : n < 16
  · rw [if_pos h1, if_pos h1, if_neg (by omega), if_neg (by omega), if_pos (by omega), vv_lo, ← vv_mod h.c (n + 32), ← vv_mod h.c n]
    congr 2; omega
  · rw [if_neg h1, if_neg h1, if_pos hn, if_neg (by omega), if_neg (by omega), if_neg (by omega), vv_lo, ← vv_mod h.d (n + 32), ← vv_mod h.d n]
    congr 2; omega

/-- The second half of a best-of-two. -/
def fin4 (h : Blk Ideal) : Blk Ideal :=
  ⟨(bm32V (hiP h.a h.c) (hiP h.b h.d)).1, (bm32V (hiP h.a h.c) (hiP h.b h.d)).2, (bm32V (loP h.a h.c) (loP h.b h.d)).1, (bm32V (loP h.a h.c) (loP h.b h.d)).2⟩

theorem top64_eq (s b : Blk Ideal) : top64V s b = fin4 (hi4 s b) := rfl

theorem fin4_dn {h : Blk Ideal} (hb : Bit 64 (v4 h)) : Dn 64 (v4 (fin4 h)) := by
  refine dn_block (bm32_dn ((Bit.hi (n := 32) hb).congr fun k hk => v2_hi4 h k hk)) (bm32_dn ((Bit.lo (n := 32) hb).congr fun k hk => v2_lo4 h k hk)) fun k l hk hl => ?_
  obtain ⟨k', hk', e1⟩ := bm32_ex (loP h.a h.c) (loP h.b h.d) k hk
  obtain ⟨l', hl', e2⟩ := bm32_ex (hiP h.a h.c) (hiP h.b h.d) l hl
  change v2 (bm32V (loP h.a h.c) (loP h.b h.d)) k ≤ v2 (bm32V (hiP h.a h.c) (hiP h.b h.d)) l
  rw [e1, e2, v2_hi4 _ _ hl', v2_lo4 _ _ hk']
  exact Bit.cross (n := 32) hb hk' hl'

theorem fin4_BM (h : Blk Ideal) : BM (fin4 h) = BM h := by
  change VM (bm32V (hiP h.a h.c) (hiP h.b h.d)).1 + VM (bm32V (hiP h.a h.c) (hiP h.b h.d)).2 + VM (bm32V (loP h.a h.c) (loP h.b h.d)).1 + VM (bm32V (loP h.a h.c) (loP h.b h.d)).2 = _
  rw [add_assoc, bm32_VM, bm32_VM]
  have h1 := VM_hilo h.a h.c
  have h2 := VM_hilo h.b h.d
  calc VM (hiP h.a h.c) + VM (hiP h.b h.d) + (VM (loP h.a h.c) + VM (loP h.b h.d))
      = (VM (hiP h.a h.c) + VM (loP h.a h.c)) + (VM (hiP h.b h.d) + VM (loP h.b h.d)) := by abel
    _ = _ := by rw [h1, h2]; unfold BM; abel

theorem top64_dn {s b : Blk Ideal} (hs : Dn 64 (v4 s)) (hb : Dn 64 (v4 b)) : Dn 64 (v4 (top64V s b)) := by
  rw [top64_eq]
  exact fin4_dn ((bit_max hs hb).congr fun k hk => v4_hi s b k hk)

theorem mem_BM {b : Blk Ideal} {q : EReal × BitVec 32} (h : q ∈ BM b) : ∃ n, n < 64 ∧ q.1 = v4 b n := by
  unfold BM at h
  rw [Multiset.mem_add, Multiset.mem_add, Multiset.mem_add, mem_VM, mem_VM, mem_VM, mem_VM] at h
  have e : ∀ (p : VI Ideal) (l : Fin 16) (m : Nat), (p.1 (ix16 l.val) : EReal) = vv p (l.val + 16 * m) := fun p l m => by
    rw [← vv_mod, show (l.val + 16 * m) % 16 = l.val by omega]; rfl
  rcases h with ((⟨l, rfl⟩ | ⟨l, rfl⟩) | ⟨l, rfl⟩) | ⟨l, rfl⟩
  · exact ⟨l.val, by omega, by unfold v4; rw [if_pos l.isLt]; rfl⟩
  · exact ⟨l.val + 16 * 1, by omega, by unfold v4; rw [if_neg (by omega), if_pos (by omega)]; exact e _ _ _⟩
  · exact ⟨l.val + 16 * 2, by omega, by unfold v4; rw [if_neg (by omega), if_neg (by omega), if_pos (by omega)]; exact e _ _ _⟩
  · exact ⟨l.val + 16 * 3, by omega, by unfold v4; rw [if_neg (by omega), if_neg (by omega), if_neg (by omega)]; exact e _ _ _⟩

theorem top64_BM {s b : Blk Ideal} (hs : Dn 64 (v4 s)) (hb : Dn 64 (v4 b)) :
    ∃ N, BM s + BM b = BM (top64V s b) + N ∧ ∀ p ∈ N, ∀ q ∈ BM (top64V s b), p.1 ≤ q.1 := by
  refine ⟨BM (lo4 s b), ?_, ?_⟩
  · rw [top64_eq, fin4_BM]
    have h1 := VM_hilo s.a (revB b.d)
    have h2 := VM_hilo s.b (revB b.c)
    have h3 := VM_hilo s.c (revB b.b)
    have h4 := VM_hilo s.d (revB b.a)
    rw [VM_rev] at h1 h2 h3 h4
    symm
    calc BM (hi4 s b) + BM (lo4 s b) = (VM (hiP s.a (revB b.d)) + VM (loP s.a (revB b.d))) + (VM (hiP s.b (revB b.c)) + VM (loP s.b (revB b.c)))
        + (VM (hiP s.c (revB b.b)) + VM (loP s.c (revB b.b))) + (VM (hiP s.d (revB b.a)) + VM (loP s.d (revB b.a))) := by unfold BM hi4 lo4; abel
      _ = _ := by rw [h1, h2, h3, h4]; unfold BM; abel
  · intro p hp q hq
    rw [top64_eq, fin4_BM] at hq
    obtain ⟨k, hk, e1⟩ := mem_BM hp
    obtain ⟨l, hl, e2⟩ := mem_BM hq
    rw [e1, e2, v4_lo _ _ _ hk, v4_hi _ _ _ hl]
    exact max_min_cross hs hb hk hl

end Cert.Proof.Sc
-- ==== Proof.Sc.M3.lean ====
/- The candidates of a row: those at least the least column maximum, in order. -/
module

public import proofs.«01_k».proof.Proof.Sc.M2

@[expose] public section

noncomputable section

namespace Cert.Proof.Sc

open Idealize.ShloMosaic
open Cert.KernelIdeal Cert.KernelIdeal.Facts₀ Cert.KernelIdeal.Facts

/-! ## Reading -/

def iX (n : Nat) : S100096.Idx := fun a => ⟨n % 100096, by fin_cases a; exact Nat.mod_lt _ (by decide)⟩
def iC (n : Nat) : S4224.Idx := fun a => ⟨n % 4224, by fin_cases a; exact Nat.mod_lt _ (by decide)⟩
theorem iC_val (n : Nat) (h : n < 4224) : (iC n 0).val = n := by change n % 4224 = n; omega
/-- Word `n` of a padded row. -/
def xat (X : Vec Ideal S100096 .f32) (n : Nat) : EReal := X (iX n)

theorem rd_X {α : Type} (X : S100096.Idx → α) (o : Fin 1 → Nat) (h : ∀ a, o a + S16.size a ≤ S100096.size a) (l : Nat) (hl : l < 16) :
    rd X o S16.size h (ix16 l) = X (iX (o 0 + l)) := by
  have h0 : o 0 + 16 ≤ 100096 := h 0
  unfold rd
  congr 1
  funext a
  have : a = 0 := Fin.eq_zero a
  subst this
  apply Fin.ext
  change o 0 + 1 * (l % 16) = (o 0 + l) % 100096
  omega

theorem rd_C {α : Type} (X : S4224.Idx → α) (o : Fin 1 → Nat) (h : ∀ a, o a + S16.size a ≤ S4224.size a) (l : Nat) (hl : l < 16) :
    rd X o S16.size h (ix16 l) = X (iC (o 0 + l)) := by
  have h0 : o 0 + 16 ≤ 4224 := h 0
  unfold rd
  congr 1
  funext a
  have : a = 0 := Fin.eq_zero a
  subst this
  apply Fin.ext
  change o 0 + 1 * (l % 16) = (o 0 + l) % 4224
  omega

theorem t2_trips : k0_t2_loop.trips = 1564 := by decide
theorem t4_trips : k0_t4_loop.trips = 782 := by decide

theorem off2_val (k : Fin k0_t2_loop.trips) (b : BitVec 32) (hb : b.toNat < 64) : k0_off2 k b 0 = 64 * k.val + b.toNat := by
  have hk : k.val < 1564 := lt_of_lt_of_eq k.isLt t2_trips
  change ((0#32 + BitVec.ofNat 32 k.val * 1#32) * 64#32 + b).toNat = _
  simp only [BitVec.toNat_add, BitVec.toNat_mul, BitVec.toNat_ofNat]
  omega

theorem off4_val (k : Fin k0_t4_loop.trips) (b : BitVec 32) (hb : b.toNat < 128) : k0_off4 k b 0 = 128 * k.val + b.toNat := by
  have hk : k.val < 782 := lt_of_lt_of_eq k.isLt t4_trips
  change ((0#32 + BitVec.ofNat 32 k.val * 1#32) * 128#32 + b).toNat = _
  simp only [BitVec.toNat_add, BitVec.toNat_mul, BitVec.toNat_ofNat]
  omega

/-! ## The threshold -/

theorem neg_bot : (Scalar.ofBits (F := Ideal) .f32 0xFF800000#32 : EReal) = ⊥ := by
  change Idealize.ShloMosaic.Ideal.ofBits .f32 0xFF800000#32 = ⊥
  rfl

theorem paN_le (X : Vec Ideal S100096 .f32) (θ : EReal) (l : Nat) (hl : l < 16) : ∀ n, n ≤ 1564 →
    (θ ≤ (paN X n).1 (ix16 l) ↔ θ ≤ ⊥ ∨ ∃ k, k < n ∧ θ ≤ xat X (64 * k + l)) ∧
    (θ ≤ (paN X n).2.1 (ix16 l) ↔ θ ≤ ⊥ ∨ ∃ k, k < n ∧ θ ≤ xat X (64 * k + 16 + l)) ∧
    (θ ≤ (paN X n).2.2.1 (ix16 l) ↔ θ ≤ ⊥ ∨ ∃ k, k < n ∧ θ ≤ xat X (64 * k + 32 + l)) ∧
    (θ ≤ (paN X n).2.2.2 (ix16 l) ↔ θ ≤ ⊥ ∨ ∃ k, k < n ∧ θ ≤ xat X (64 * k + 48 + l))
  | 0, _ => by
    have e : negs (F := Ideal) (ix16 l) = (⊥ : EReal) := neg_bot
    have h : θ ≤ negs (F := Ideal) (ix16 l) ↔ θ ≤ ⊥ := by rw [e]
    change (θ ≤ negs (F := Ideal) (ix16 l) ↔ _) ∧ (θ ≤ negs (F := Ideal) (ix16 l) ↔ _) ∧ (θ ≤ negs (F := Ideal) (ix16 l) ↔ _) ∧ (θ ≤ negs (F := Ideal) (ix16 l) ↔ _)
    rw [h]
    simp
  | n + 1, hn => by
    have ih := paN_le X θ l hl n (by omega)
    have hn' : n < k0_t2_loop.trips := by rw [t2_trips]; omega
    have e : paN X (n + 1) = paStep X ⟨n, hn'⟩ (paN X n) := iterN_succ (paStep X) _ ⟨n, hn'⟩
    have step : ∀ (a r : EReal) (c : Nat), (θ ≤ a ↔ θ ≤ ⊥ ∨ ∃ k, k < n ∧ θ ≤ xat X (64 * k + c + l)) → r = xat X (64 * n + c + l) →
        (θ ≤ max a r ↔ θ ≤ ⊥ ∨ ∃ k, k < n + 1 ∧ θ ≤ xat X (64 * k + c + l)) := by
      intro a r c ha hr
      rw [le_max_iff, ha, hr]
      constructor
      · rintro ((h | ⟨k, hk, h⟩) | h)
        · exact .inl h
        · exact .inr ⟨k, by omega, h⟩
        · exact .inr ⟨n, by omega, h⟩
      · rintro (h | ⟨k, hk, h⟩)
        · exact .inl (.inl h)
        · by_cases hkn : k = n
          · subst hkn; exact .inr h
          · exact .inl (.inr ⟨k, by omega, h⟩)
    rw [e]
    have r : ∀ (b : BitVec 32) (h : ∀ a, k0_off2 ⟨n, hn'⟩ b a + S16.size a ≤ S100096.size a), b.toNat < 64 →
        (rd X (k0_off2 ⟨n, hn'⟩ b) S16.size h (ix16 l) : EReal) = xat X (64 * n + b.toNat + l) := by
      intro b h hb
      rw [rd_X _ _ _ _ hl, off2_val _ _ hb]; rfl
    refine ⟨?_, ?_, ?_, ?_⟩
    · exact step _ _ 0 ih.1 (r 0#32 _ (by decide))
    · exact step _ _ 16 ih.2.1 (r 16#32 _ (by decide))
    · exact step _ _ 32 ih.2.2.1 (r 32#32 _ (by decide))
    · exact step _ _ 48 ih.2.2.2 (r 48#32 _ (by decide))

theorem lane_val (v : FVec Ideal S16 .f32) (j : Fin 16) (h : S16.Slices ![j.val] S1) : lane j h v = v (ix16 j.val) := by
  unfold lane extractAt extractStridedSlice
  congr 1
  funext a
  have : a = 0 := Fin.eq_zero a
  subst this
  apply Fin.ext
  change j.val + 0 = j.val % 16
  omega

theorem le_min16 (v : FVec Ideal S16 .f32) (θ : EReal) : θ ≤ min16 v ↔ ∀ l, l < 16 → θ ≤ v (ix16 l) := by
  unfold min16
  simp only [lane_val]
  change θ ≤ min (min (min (min (min (min (min (min (min (min (min (min (min (min (min (v (ix16 0) : EReal) (v (ix16 1))) (v (ix16 2))) (v (ix16 3))) (v (ix16 4))) (v (ix16 5))) (v (ix16 6))) (v (ix16 7)))
    (v (ix16 8))) (v (ix16 9))) (v (ix16 10))) (v (ix16 11))) (v (ix16 12))) (v (ix16 13))) (v (ix16 14))) (v (ix16 15)) ↔ _
  simp only [le_min_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ l hl
    match l, hl with
    | 0, _ => exact h0
    | 1, _ => exact h1
    | 2, _ => exact h2
    | 3, _ => exact h3
    | 4, _ => exact h4
    | 5, _ => exact h5
    | 6, _ => exact h6
    | 7, _ => exact h7
    | 8, _ => exact h8
    | 9, _ => exact h9
    | 10, _ => exact h10
    | 11, _ => exact h11
    | 12, _ => exact h12
    | 13, _ => exact h13
    | 14, _ => exact h14
    | 15, _ => exact h15
    | n + 16, h => omega
  · intro h
    exact ⟨⟨⟨⟨⟨⟨⟨⟨⟨⟨⟨⟨⟨⟨⟨h 0 (by decide), h 1 (by decide)⟩, h 2 (by decide)⟩, h 3 (by decide)⟩, h 4 (by decide)⟩, h 5 (by decide)⟩, h 6 (by decide)⟩, h 7 (by decide)⟩,
      h 8 (by decide)⟩, h 9 (by decide)⟩, h 10 (by decide)⟩, h 11 (by decide)⟩, h 12 (by decide)⟩, h 13 (by decide)⟩, h 14 (by decide)⟩, h 15 (by decide)⟩

/-- The threshold of a padded row. -/
def thX (X : Vec Ideal S100096 .f32) : EReal := thr (paN X k0_t2_loop.trips) (ix16 0)

theorem thr_thX (X : Vec Ideal S100096 .f32) : thr (paN X k0_t2_loop.trips) = fun _ => thX X := rfl

theorem le_thX (X : Vec Ideal S100096 .f32) (θ : EReal) : θ ≤ thX X ↔ θ ≤ ⊥ ∨ ∀ c, c < 64 → ∃ k, k < 1564 ∧ θ ≤ xat X (64 * k + c) := by
  have h : θ ≤ thX X ↔ ∀ l, l < 16 → (θ ≤ (paN X 1564).1 (ix16 l) ∧ θ ≤ (paN X 1564).2.1 (ix16 l)) ∧ (θ ≤ (paN X 1564).2.2.1 (ix16 l) ∧ θ ≤ (paN X 1564).2.2.2 (ix16 l)) := by
    rw [← t2_trips]
    refine (le_min16 _ θ).trans ?_
    refine forall_congr' fun l => forall_congr' fun _ => ?_
    generalize paN X k0_t2_loop.trips = p
    change θ ≤ min (min (p.1 (ix16 l) : EReal) (p.2.1 (ix16 l))) (min (p.2.2.1 (ix16 l)) (p.2.2.2 (ix16 l))) ↔ _
    simp only [le_min_iff]
  rw [h]
  by_cases hb : θ ≤ ⊥
  · refine ⟨fun _ => .inl hb, fun _ l hl => ?_⟩
    obtain ⟨h1, h2, h3, h4⟩ := paN_le X θ l hl 1564 le_rfl
    exact ⟨⟨h1.mpr (.inl hb), h2.mpr (.inl hb)⟩, h3.mpr (.inl hb), h4.mpr (.inl hb)⟩
  · constructor
    · refine fun h => .inr fun c hc => ?_
      obtain ⟨h1, h2, h3, h4⟩ := paN_le X θ (c % 16) (Nat.mod_lt _ (by decide)) 1564 le_rfl
      have hh := h (c % 16) (Nat.mod_lt _ (by decide))
      by_cases c1 : c < 16
      · obtain ⟨k, hk, hx⟩ := (h1.mp hh.1.1).resolve_left hb
        exact ⟨k, hk, by rw [show 64 * k + c = 64 * k + c % 16 by omega]; exact hx⟩
      by_cases c2 : c < 32
      · obtain ⟨k, hk, hx⟩ := (h2.mp hh.1.2).resolve_left hb
        exact ⟨k, hk, by rw [show 64 * k + c = 64 * k + 16 + c % 16 by omega]; exact hx⟩
      by_cases c3 : c < 48
      · obtain ⟨k, hk, hx⟩ := (h3.mp hh.2.1).resolve_left hb
        exact ⟨k, hk, by rw [show 64 * k + c = 64 * k + 32 + c % 16 by omega]; exact hx⟩
      · obtain ⟨k, hk, hx⟩ := (h4.mp hh.2.2).resolve_left hb
        exact ⟨k, hk, by rw [show 64 * k + c = 64 * k + 48 + c % 16 by omega]; exact hx⟩
    · rintro (h | h) l hl
      · exact absurd h hb
      obtain ⟨h1, h2, h3, h4⟩ := paN_le X θ l hl 1564 le_rfl
      refine ⟨⟨h1.mpr (.inr ?_), h2.mpr (.inr ?_)⟩, h3.mpr (.inr ?_), h4.mpr (.inr ?_)⟩
      · exact h l (by omega)
      · obtain ⟨k, hk, hx⟩ := h (16 + l) (by omega); exact ⟨k, hk, by rw [add_assoc]; exact hx⟩
      · obtain ⟨k, hk, hx⟩ := h (32 + l) (by omega); exact ⟨k, hk, by rw [add_assoc]; exact hx⟩
      · obtain ⟨k, hk, hx⟩ := h (48 + l) (by omega); exact ⟨k, hk, by rw [add_assoc]; exact hx⟩

/-! ## The candidates -/

/-- How many of the first `N` words reach `t`. -/
def cntC (X : Vec Ideal S100096 .f32) (t : EReal) (N : Nat) : Nat := ((Finset.range N).filter fun n => t ≤ xat X n).card

theorem cntC_succ (X : Vec Ideal S100096 .f32) (t : EReal) (N : Nat) : cntC X t (N + 1) = cntC X t N + if t ≤ xat X N then 1 else 0 := by
  unfold cntC
  rw [Finset.range_add_one, Finset.filter_insert]
  split
  · rw [Finset.card_insert_of_notMem (by simp)]
  · omega

theorem cntC_mono (X : Vec Ideal S100096 .f32) (t : EReal) {a b : Nat} (h : a ≤ b) : cntC X t a ≤ cntC X t b := by
  unfold cntC
  exact Finset.card_le_card (Finset.filter_subset_filter _ (Finset.range_mono h))

theorem cntC_lt (X : Vec Ideal S100096 .f32) (t : EReal) {a b : Nat} (h : a < b) (ha : t ≤ xat X a) : cntC X t a < cntC X t b := by
  have := cntC_mono X t (show a + 1 ≤ b from h)
  rw [cntC_succ, if_pos ha] at this
  omega

theorem cntC_ex (X : Vec Ideal S100096 .f32) (t : EReal) : ∀ N p, p < cntC X t N → ∃ n, n < N ∧ t ≤ xat X n ∧ cntC X t n = p
  | 0, p, h => by simp [cntC] at h
  | N + 1, p, h => by
    rw [cntC_succ] at h
    by_cases hp : p < cntC X t N
    · obtain ⟨n, h1, h2⟩ := cntC_ex X t N p hp
      exact ⟨n, by omega, h2⟩
    · split at h
      · rename_i ht; exact ⟨N, by omega, ht, by omega⟩
      · omega

theorem cntC_add (X : Vec Ideal S100096 .f32) (t : EReal) (N : Nat) : ∀ l, cntC X t (N + l) = cntC X t N + ((Finset.range l).filter fun j => t ≤ xat X (N + j)).card
  | 0 => by simp
  | l + 1 => by
    rw [← add_assoc, cntC_succ, cntC_add X t N l, Finset.range_add_one, Finset.filter_insert]
    split
    · rw [Finset.card_insert_of_notMem (by simp)]; omega
    · omega

/-- The first `N` words' candidates are in place. -/
structure PBI (X : Vec Ideal S100096 .f32) (t : EReal) (N : Nat) (s : PB Ideal) : Prop where
  cur : s.cur = bc (BitVec.ofNat 32 (cntC X t N))
  inn : ∀ n, n < N → t ≤ xat X n → s.cv (iC (cntC X t n)) = xat X n ∧ s.ci (iC (cntC X t n)) = BitVec.ofNat 32 n
  out : ∀ p, cntC X t N ≤ p → p < 4224 → s.cv (iC p) = (⊥ : EReal) ∧ s.ci (iC p) = 2147483647#32

theorem one_iff (a b : FVec Ideal S16 .f32) (i : S16.Idx) : ge a b i = 1#1 ↔ (b i : EReal) ≤ a i := by
  rw [ge_val, ofBool_one, decide_eq_true_eq]

theorem putV_inv {X : Vec Ideal S100096 .f32} {t : EReal} {N : Nat} {s : PB Ideal} (h : PBI X t N s) (x : FVec Ideal S16 .f32) (b : BitVec 32)
    (hx : ∀ l, l < 16 → (x (ix16 l) : EReal) = xat X (N + l)) (hi : ∀ l, l < 16 → s.ix (ix16 l) + b = BitVec.ofNat 32 (N + l)) (hc : cntC X t (N + 16) ≤ 4096) :
    PBI X t (N + 16) (putV s x (ge x (fun _ => t)) b) := by
  have hm : ∀ l, l < 16 → (ge x (fun _ => t) (ix16 l) = 1#1 ↔ t ≤ xat X (N + l)) := fun l hl => by rw [one_iff, hx l hl]
  have hcs : ∀ l, l < 16 → (csum (ge x (fun _ => t)) (ix16 l)).toNat = cntC X t (N + (l + 1)) - cntC X t N := by
    intro l hl
    rw [csum_eq, ix_val16 l hl, cs_nat _ l hl, cntC_add]
    rw [Nat.add_sub_cancel_left]
    congr 1
    refine Finset.filter_congr fun j hj => ?_
    rw [Finset.mem_range] at hj
    exact hm j (by omega)
  have hd : ∀ l, l < 16 → t ≤ xat X (N + l) → (dest s.cur (ge x (fun _ => t)) (ix16 l)).toNat = cntC X t (N + l) := by
    intro l hl ht
    have h1 := hcs l hl
    have h2 := cntC_succ X t (N + l)
    rw [if_pos ht] at h2
    have h3 := cntC_mono X t (show N ≤ N + l by omega)
    have h4 := cntC_mono X t (show N + l + 1 ≤ N + 16 by omega)
    rw [← add_assoc] at h1
    rw [h.cur]
    change (IntOp.maxsi (IntOp.minsi (BitVec.ofNat 32 (cntC X t N) + csum (ge x (fun _ => t)) (ix16 l) - 1#32) 4095#32) 0#32).toNat = _
    generalize csum (ge x (fun _ => t)) (ix16 l) = c at h1
    have e : (BitVec.ofNat 32 (cntC X t N) + c - 1#32).toNat = cntC X t (N + l) := by
      rw [BitVec.toNat_sub, BitVec.toNat_add, BitVec.toNat_ofNat, BitVec.toNat_ofNat]; omega
    have e1 : (4095#32).toNat = 4095 := rfl
    have e0 : (0#32).toNat = 0 := rfl
    have e2 : (IntOp.minsi (BitVec.ofNat 32 (cntC X t N) + c - 1#32) 4095#32).toNat = cntC X t (N + l) := by
      rw [minsi_nat _ _ (by omega) (by decide), e, e1]; omega
    rw [maxsi_nat _ _ (by omega) (by decide), e2, e0]; omega
  have hput : ∀ {e : EltTy} (f : Vec Ideal S4224 e) (v : Vec Ideal S16 e) (p : Nat), p < 4224 →
      (∀ l, l < 16 → t ≤ xat X (N + l) → cntC X t (N + l) ≠ p) →
      storeIdx (F := Ideal) (s := S4224) (e := e) f ![dest s.cur (ge x (fun _ => t))] v (ge x (fun _ => t)) false (dest_in s.cur _) (iC p) = f (iC p) := by
    intro e f v p hp hne
    have hno : ∀ k : Fin 16, ge x (fun _ => t) (ix16 k.val) = 1#1 → ¬ (dest s.cur (ge x (fun _ => t)) (ix16 k.val)).toNat = (iC p 0).val := by
      intro k hk heq
      have ht := (hm k.val k.isLt).mp hk
      rw [hd k.val k.isLt ht, iC_val p hp] at heq
      exact hne k.val k.isLt ht heq
    refine (storeIdx_at (F := Ideal) (N := 4224) f _ v _ (dest_in s.cur _) (iC p) (f (iC p)) (fun k hk heq => absurd heq (hno k hk))).trans ?_
    exact ite_self _
  have hput' : ∀ {e : EltTy} (f : Vec Ideal S4224 e) (v : Vec Ideal S16 e) (l : Nat), l < 16 → t ≤ xat X (N + l) →
      storeIdx (F := Ideal) (s := S4224) (e := e) f ![dest s.cur (ge x (fun _ => t))] v (ge x (fun _ => t)) false (dest_in s.cur _) (iC (cntC X t (N + l))) = v (ix16 l) := by
    intro e f v l hl ht
    have h4 := cntC_lt X t (show N + l < N + 16 by omega) ht
    have hval := iC_val (cntC X t (N + l)) (by omega)
    refine (storeIdx_at (F := Ideal) (N := 4224) f _ v _ (dest_in s.cur _) (iC (cntC X t (N + l))) (v (ix16 l)) (fun k hk heq => ?_)).trans ?_
    · have htk := (hm k.val k.isLt).mp hk
      rw [hd k.val k.isLt htk, hval] at heq
      have : k.val = l := by
        rcases lt_trichotomy k.val l with h' | h' | h'
        · have := cntC_lt X t (show N + k.val < N + l by omega) htk; omega
        · exact h'
        · have := cntC_lt X t (show N + l < N + k.val by omega) ht; omega
      rw [this]
    · exact if_pos ⟨⟨l, hl⟩, (hm l hl).mpr ht, by rw [hd l hl ht, hval]⟩
  constructor
  · change adv s.cur _ = _
    have h15 := hcs 15 (by decide)
    rw [csum_eq, ix_val16 15 (by decide), ← cnt16_eq] at h15
    replace h15 : (cnt16 (ge x (fun _ => t))).toNat = cntC X t (N + 16) - cntC X t N := h15
    have h3 := cntC_mono X t (show N ≤ N + 16 by omega)
    unfold adv
    rw [h.cur]
    generalize cnt16 (ge x (fun _ => t)) = c at h15
    funext l
    change BitVec.ofNat 32 (cntC X t N) + c = BitVec.ofNat 32 (cntC X t (N + 16))
    apply BitVec.eq_of_toNat_eq
    rw [BitVec.toNat_add, BitVec.toNat_ofNat, BitVec.toNat_ofNat, h15]
    omega
  · intro n hn ht
    have hlt := cntC_lt X t hn ht
    by_cases hN : n < N
    · have hlt' := cntC_lt X t hN ht
      have hne : ∀ l, l < 16 → t ≤ xat X (N + l) → cntC X t (N + l) ≠ cntC X t n := fun l _ _ => by
        have := cntC_mono X t (show N ≤ N + l by omega); omega
      have h0 := h.inn n hN ht
      exact ⟨(hput (e := .f32) _ _ _ (by omega) hne).trans h0.1, (hput (e := .i32) _ _ _ (by omega) hne).trans h0.2⟩
    · obtain ⟨l, rfl⟩ : ∃ l, n = N + l := ⟨n - N, by omega⟩
      have hl : l < 16 := by omega
      exact ⟨(hput' (e := .f32) _ _ l hl ht).trans (hx l hl), (hput' (e := .i32) _ _ l hl ht).trans (hi l hl)⟩
  · intro p hp hp'
    have hne : ∀ l, l < 16 → t ≤ xat X (N + l) → cntC X t (N + l) ≠ p := fun l hl ht => by
      have := cntC_lt X t (show N + l < N + 16 by omega) ht; omega
    have h3 := cntC_mono X t (show N ≤ N + 16 by omega)
    have h0 := h.out p (by omega) hp'
    exact ⟨(hput (e := .f32) _ _ _ hp' hne).trans h0.1, (hput (e := .i32) _ _ _ hp' hne).trans h0.2⟩

theorem pbPut_inv {X : Vec Ideal S100096 .f32} {t : EReal} (k : Fin k0_t4_loop.trips) {s : PB Ideal} (r : Fin 8) (h : PBI X t (128 * k.val + 16 * r.val) s)
    (hi : ∀ l, l < 16 → s.ix (ix16 l) = BitVec.ofNat 32 (128 * k.val + l)) (hc : cntC X t 100096 ≤ 4096) :
    PBI X t (128 * k.val + 16 * (r.val + 1)) (pbPut X (fun _ => t) k s r) ∧ (pbPut X (fun _ => t) k s r).ix = s.ix := by
  have hk : k.val < 782 := lt_of_lt_of_eq k.isLt t4_trips
  have hr : (BitVec.ofNat 32 (16 * r.val)).toNat = 16 * r.val := by rw [BitVec.toNat_ofNat]; omega
  refine ⟨?_, rfl⟩
  have := putV_inv h (pbX X k r) (BitVec.ofNat 32 (16 * r.val)) (fun l hl => ?_) (fun l hl => ?_) (le_trans (cntC_mono X t (by omega)) hc)
  · rw [show 128 * k.val + 16 * (r.val + 1) = 128 * k.val + 16 * r.val + 16 by omega]
    exact this
  · unfold pbX
    rw [rd_X _ _ _ _ hl, off4_val _ _ (by omega), hr]; rfl
  · rw [hi l hl]
    apply BitVec.eq_of_toNat_eq
    rw [BitVec.toNat_add, BitVec.toNat_ofNat, BitVec.toNat_ofNat, BitVec.toNat_ofNat]; omega

theorem pbStep_inv {X : Vec Ideal S100096 .f32} {t : EReal} (k : Fin k0_t4_loop.trips) {s : PB Ideal} (h : PBI X t (128 * k.val) s)
    (hi : ∀ l, l < 16 → s.ix (ix16 l) = BitVec.ofNat 32 (128 * k.val + l)) (hc : cntC X t 100096 ≤ 4096) :
    PBI X t (128 * (k.val + 1)) (pbStep X (fun _ => t) k s) ∧ ∀ l, l < 16 → (pbStep X (fun _ => t) k s).ix (ix16 l) = BitVec.ofNat 32 (128 * (k.val + 1) + l) := by
  have hk : k.val < 782 := lt_of_lt_of_eq k.isLt t4_trips
  obtain ⟨h0, i0⟩ := pbPut_inv k 0 h hi hc
  obtain ⟨h1, i1⟩ := pbPut_inv k 1 h0 (by rw [i0]; exact hi) hc
  obtain ⟨h2, i2⟩ := pbPut_inv k 2 h1 (by rw [i1, i0]; exact hi) hc
  obtain ⟨h3, i3⟩ := pbPut_inv k 3 h2 (by rw [i2, i1, i0]; exact hi) hc
  obtain ⟨h4, i4⟩ := pbPut_inv k 4 h3 (by rw [i3, i2, i1, i0]; exact hi) hc
  obtain ⟨h5, i5⟩ := pbPut_inv k 5 h4 (by rw [i4, i3, i2, i1, i0]; exact hi) hc
  obtain ⟨h6, i6⟩ := pbPut_inv k 6 h5 (by rw [i5, i4, i3, i2, i1, i0]; exact hi) hc
  obtain ⟨h7, i7⟩ := pbPut_inv k 7 h6 (by rw [i6, i5, i4, i3, i2, i1, i0]; exact hi) hc
  replace h7 : PBI X t (128 * (k.val + 1)) _ := h7
  have hle := le_trans (cntC_mono X t (show 128 * (k.val + 1) ≤ 100096 by omega)) hc
  unfold pbStep
  constructor
  · refine ⟨?_, h7.inn, h7.out⟩
    change minsi _ (bc 4096#32) = _
    rw [h7.cur]
    funext l
    change IntOp.minsi (BitVec.ofNat 32 (cntC X t (128 * (k.val + 1)))) 4096#32 = BitVec.ofNat 32 (cntC X t (128 * (k.val + 1)))
    have e : (BitVec.ofNat 32 (cntC X t (128 * (k.val + 1)))).toNat = cntC X t (128 * (k.val + 1)) := by rw [BitVec.toNat_ofNat]; omega
    apply BitVec.eq_of_toNat_eq
    rw [minsi_nat _ _ (by omega) (by decide), e]
    have : (4096#32).toNat = 4096 := rfl
    omega
  · intro l hl
    change (pbPut X (fun _ => t) k _ 7).ix (ix16 l) + 128#32 = _
    rw [i7, i6, i5, i4, i3, i2, i1, i0, hi l hl]
    apply BitVec.eq_of_toNat_eq
    rw [BitVec.toNat_add, BitVec.toNat_ofNat, BitVec.toNat_ofNat, BitVec.toNat_ofNat]; omega

theorem pbN_inv {X : Vec Ideal S100096 .f32} {t : EReal} (hc : cntC X t 100096 ≤ 4096) : ∀ n, n ≤ 782 →
    PBI X t (128 * n) (pbN X (fun _ => t) n) ∧ ∀ l, l < 16 → (pbN X (fun _ => t) n).ix (ix16 l) = BitVec.ofNat 32 (128 * n + l)
  | 0, _ => by
    refine ⟨⟨?_, fun n hn => by omega, fun p _ _ => ⟨neg_bot, rfl⟩⟩, fun l hl => ?_⟩
    · have : cntC X t (128 * 0) = 0 := by simp [cntC]
      rw [this]; rfl
    · change lanes (ix16 l) = _
      rw [lanes_ix l hl]; congr 1; omega
  | n + 1, hn => by
    obtain ⟨h, hi⟩ := pbN_inv hc n (by omega)
    have hn' : n < k0_t4_loop.trips := by rw [t4_trips]; omega
    have e : pbN X (fun _ => t) (n + 1) = pbStep X (fun _ => t) ⟨n, hn'⟩ (pbN X (fun _ => t) n) := iterN_succ (pbStep X (fun _ => t)) _ ⟨n, hn'⟩
    rw [e]
    exact pbStep_inv ⟨n, hn'⟩ h hi hc

end Cert.Proof.Sc
-- ==== Proof.Sc.M4.lean ====
/- The best 64 candidates of a row, counted against the row itself. -/
module

public import proofs.«01_k».proof.Proof.Sc.M3
public import proofs.«01_k».proof.Proof.Sc.Row

@[expose] public section

noncomputable section

namespace Cert.Proof.Sc

open Idealize.ShloMosaic
open Cert.KernelIdeal Cert.KernelIdeal.Facts₀ Cert.KernelIdeal.Facts

abbrev PW := EReal × BitVec 32

theorem card_range_add (P : Nat → Prop) [DecidablePred P] (a : Nat) : ∀ b, ((Finset.range (a + b)).filter P).card = ((Finset.range a).filter P).card + ((Finset.range b).filter fun j => P (a + j)).card
  | 0 => by simp
  | b + 1 => by
    rw [← add_assoc, Finset.range_add_one, Finset.filter_insert, Finset.range_add_one (n := b), Finset.filter_insert]
    split
    · rw [Finset.card_insert_of_notMem (by simp), Finset.card_insert_of_notMem (by simp), card_range_add P a b]; omega
    · rw [card_range_add P a b]

theorem card_range_split (P : Nat → Prop) [DecidablePred P] (N a b : Nat) (h : N = a + b) : ((Finset.range N).filter P).card = ((Finset.range a).filter P).card + ((Finset.range b).filter fun j => P (a + j)).card := by
  subst h; exact card_range_add P a b

theorem countP_one (P : PW → Prop) [DecidablePred P] (q : PW) : Multiset.countP P {q} = if P q then 1 else 0 := by
  rw [← Multiset.cons_zero, Multiset.countP_cons, Multiset.countP_zero, zero_add]

theorem countP_VM (P : PW → Prop) [DecidablePred P] (p : VI Ideal) :
    Multiset.countP P (VM p) = ((Finset.range 16).filter fun l => P ((p.1 (ix16 l) : EReal), p.2 (ix16 l))).card := by
  rw [← card_fin_range, Finset.card_filter]
  unfold VM
  generalize (Finset.univ : Finset (Fin 16)) = s
  induction s using Finset.induction_on with
  | empty => simp
  | insert a s ha ih => rw [Finset.sum_insert ha, Finset.sum_insert ha, Multiset.countP_add, countP_one, ih]

theorem countP_blk (P : PW → Prop) [DecidablePred P] (cv : Vec Ideal S4224 .f32) (ci : IVec S4224 32) (o : BitVec 32 → Fin 1 → Nat)
    (h : ∀ (r : Fin 4), ∀ a, o (BitVec.ofNat 32 (16 * r.val)) a + S16.size a ≤ S4224.size a) (B : Nat) (ho : ∀ b : BitVec 32, b.toNat ≤ 64 → o b 0 = B + b.toNat) :
    Multiset.countP P (BM (blkV cv ci o h)) = ((Finset.range 64).filter fun p => P ((cv (iC (B + p)) : EReal), ci (iC (B + p)))).card := by
  have key : ∀ (b : BitVec 32) (hb : ∀ a, o b a + S16.size a ≤ S4224.size a), b.toNat ≤ 64 →
      Multiset.countP P (VM ((rd cv (o b) S16.size hb, rd ci (o b) S16.size hb) : VI Ideal)) = ((Finset.range 16).filter fun l => P ((cv (iC (B + (b.toNat + l))) : EReal), ci (iC (B + (b.toNat + l))))).card := by
    intro b hb hle
    rw [countP_VM]
    congr 1
    refine Finset.filter_congr fun l hl => ?_
    rw [Finset.mem_range] at hl
    change P ((rd cv (o b) S16.size hb (ix16 l) : EReal), rd ci (o b) S16.size hb (ix16 l)) ↔ _
    rw [rd_C cv (o b) hb l hl, rd_C ci (o b) hb l hl, ho b hle, add_assoc]
  unfold BM
  rw [Multiset.countP_add, Multiset.countP_add, Multiset.countP_add]
  have k0 := key 0#32 (h 0) (by decide)
  have k1 := key 16#32 (h 1) (by decide)
  have k2 := key 32#32 (h 2) (by decide)
  have k3 := key 48#32 (h 3) (by decide)
  change Multiset.countP P (VM (rd cv (o 0#32) S16.size (h 0), rd ci (o 0#32) S16.size (h 0))) + Multiset.countP P (VM (rd cv (o 16#32) S16.size (h 1), rd ci (o 16#32) S16.size (h 1)))
    + Multiset.countP P (VM (rd cv (o 32#32) S16.size (h 2), rd ci (o 32#32) S16.size (h 2))) + Multiset.countP P (VM (rd cv (o 48#32) S16.size (h 3), rd ci (o 48#32) S16.size (h 3))) = _
  rw [k0, k1, k2, k3]
  rw [show (64 : Nat) = 16 + 16 + 16 + 16 from rfl, card_range_add _ (16 + 16 + 16), card_range_add _ (16 + 16), card_range_add _ 16]
  have e0 : (0#32).toNat = 0 := rfl
  have e1 : (16#32).toNat = 16 := rfl
  have e2 : (32#32).toNat = 16 + 16 := rfl
  have e3 : (48#32).toNat = 16 + 16 + 16 := rfl
  rw [e0, e1, e2, e3]
  simp only [zero_add]

theorem countP_all {P : PW → Prop} [DecidablePred P] {M : Multiset PW} (h : ∀ q ∈ M, P q) : Multiset.countP P M = Multiset.card M :=
  Multiset.countP_eq_card.mpr h

theorem card_VM (p : VI Ideal) : Multiset.card (VM p) = 16 := by
  rw [← countP_all (P := fun _ => True) (fun _ _ => trivial), countP_VM]
  simp

theorem card_BM (b : Blk Ideal) : Multiset.card (BM b) = 64 := by
  unfold BM
  simp only [Multiset.card_add, card_VM]

/-- The best of two sorted blocks keeps everything that reaches `κ`, when there is room. -/
theorem top_count {s b : Blk Ideal} (hs : Dn 64 (v4 s)) (hb : Dn 64 (v4 b)) (κ : EReal)
    (hle : Multiset.countP (fun q : PW => κ ≤ q.1) (BM s) + Multiset.countP (fun q : PW => κ ≤ q.1) (BM b) ≤ 64) (P : PW → Prop) [DecidablePred P] (hP : ∀ q, P q → κ ≤ q.1) :
    Multiset.countP P (BM (top64V s b)) = Multiset.countP P (BM s) + Multiset.countP P (BM b) := by
  obtain ⟨N, hN, hd⟩ := top64_BM hs hb
  have h1 := congrArg (Multiset.countP P) hN
  rw [Multiset.countP_add, Multiset.countP_add] at h1
  have h0 : Multiset.countP P N = 0 := by
    rw [Multiset.countP_eq_zero]
    intro q hq hPq
    have h2 := congrArg (Multiset.countP (fun q : PW => κ ≤ q.1)) hN
    rw [Multiset.countP_add, Multiset.countP_add] at h2
    have h3 : Multiset.countP (fun q : PW => κ ≤ q.1) (BM (top64V s b)) = 64 := by
      rw [countP_all, card_BM]
      exact fun r hr => (hP q hPq).trans (hd q hq r hr)
    have h4 : 0 < Multiset.countP (fun q : PW => κ ≤ q.1) N := Multiset.countP_pos.mpr ⟨q, hq, hP q hPq⟩
    omega
  omega

theorem off5_val (b : BitVec 32) : k0_off5 b 0 = b.toNat := by
  change ((0#32 * 64#32 + b)).toNat = _
  simp

theorem blkN_count (cv : Vec Ideal S4224 .f32) (ci : IVec S4224 32) (cur : BitVec 32) (hcur : cur.toNat ≤ 4096) (hc : k0_chk41 cur) (κ : EReal)
    (h64 : ((Finset.range 4224).filter fun p => κ ≤ (cv (iC p) : EReal)).card ≤ 64) : ∀ n, n ≤ (k0_t17_loop cur).trips →
    Dn 64 (v4 (blkN cv ci cur hc n)) ∧ ∀ (P : PW → Prop) [DecidablePred P], (∀ q, P q → κ ≤ q.1) →
      Multiset.countP P (BM (blkN cv ci cur hc n)) = ((Finset.range (64 * (n + 1))).filter fun p => P ((cv (iC p) : EReal), ci (iC p))).card
  | 0, _ => by
    refine ⟨sort64_dn _, fun P _ hP => ?_⟩
    change Multiset.countP P (BM (sort64V (blkV cv ci k0_off5 k0_off5_inb))) = _
    rw [sort64_BM, countP_blk P cv ci k0_off5 k0_off5_inb 0 (fun b _ => by rw [off5_val, zero_add])]
    simp only [zero_add, mul_one]
  | n + 1, hn => by
    obtain ⟨hd, ih⟩ := blkN_count cv ci cur hcur hc κ h64 n (by omega)
    have ht := t17_trips cur hcur
    have e : blkN cv ci cur hc (n + 1) = top64V (blkN cv ci cur hc n) (sort64V (blkV cv ci (k0_off6 cur ⟨n, hn⟩) (k0_off6_inb cur hc ⟨n, hn⟩))) :=
      iterN_succ (fun k b => top64V b (sort64V (blkV cv ci (k0_off6 cur k) (k0_off6_inb cur hc k)))) _ ⟨n, hn⟩
    have hb := sort64_dn (blkV cv ci (k0_off6 cur ⟨n, hn⟩) (k0_off6_inb cur hc ⟨n, hn⟩))
    have hcb : ∀ (P : PW → Prop) [DecidablePred P], Multiset.countP P (BM (sort64V (blkV cv ci (k0_off6 cur ⟨n, hn⟩) (k0_off6_inb cur hc ⟨n, hn⟩))))
        = ((Finset.range 64).filter fun p => P ((cv (iC (64 * (n + 1) + p)) : EReal), ci (iC (64 * (n + 1) + p)))).card := by
      intro P _
      rw [sort64_BM, countP_blk P cv ci _ _ (64 * (n + 1)) (fun b hb => off6_val cur ⟨n, hn⟩ (show n < 64 by omega) b hb)]
    have hadd : ∀ (P : PW → Prop) [DecidablePred P], (∀ q, P q → κ ≤ q.1) → Multiset.countP P (BM (blkN cv ci cur hc n))
        + Multiset.countP P (BM (sort64V (blkV cv ci (k0_off6 cur ⟨n, hn⟩) (k0_off6_inb cur hc ⟨n, hn⟩))))
        = ((Finset.range (64 * (n + 1 + 1))).filter fun p => P ((cv (iC p) : EReal), ci (iC p))).card := by
      intro P _ hP
      rw [ih P hP, hcb P, show 64 * (n + 1 + 1) = 64 * (n + 1) + 64 by omega, card_range_add _ (64 * (n + 1)) 64]
    rw [e]
    refine ⟨top64_dn hd hb, fun P _ hP => ?_⟩
    rw [top_count hd hb κ ?_ P hP, hadd P hP]
    rw [hadd (fun q => κ ≤ q.1) (fun _ h => h)]
    exact (Finset.card_le_card (Finset.filter_subset_filter _ (Finset.range_mono (by omega)))).trans h64

/-- The candidates in place count as the row does. -/
theorem cand_count {X : Vec Ideal S100096 .f32} {t : EReal} {s : PB Ideal} (h : PBI X t 100096 s) (hc : cntC X t 100096 ≤ 4096) {κ : EReal} (hκ : t ≤ κ) (hb : ⊥ < κ)
    (M : Nat) (hM : cntC X t 100096 ≤ M) (hM' : M ≤ 4224) (P : PW → Prop) [DecidablePred P] (hP : ∀ q, P q → κ ≤ q.1) :
    ((Finset.range M).filter fun p => P ((s.cv (iC p) : EReal), s.ci (iC p))).card = ((Finset.range 100096).filter fun n => P (xat X n, BitVec.ofNat 32 n)).card := by
  symm
  refine Finset.card_bij (fun n _ => cntC X t n) (fun n hn => ?_) (fun n hn n' hn' he => ?_) (fun p hp => ?_)
  · rw [Finset.mem_filter, Finset.mem_range] at hn
    have ht : t ≤ xat X n := hκ.trans (hP _ hn.2)
    have := cntC_lt X t hn.1 ht
    obtain ⟨e1, e2⟩ := h.inn n hn.1 ht
    rw [Finset.mem_filter, Finset.mem_range, e1, e2]
    exact ⟨by omega, hn.2⟩
  · rw [Finset.mem_filter, Finset.mem_range] at hn hn'
    have ht : t ≤ xat X n := hκ.trans (hP _ hn.2)
    have ht' : t ≤ xat X n' := hκ.trans (hP _ hn'.2)
    rcases lt_trichotomy n n' with hl | hl | hl
    · have := cntC_lt X t hl ht; omega
    · exact hl
    · have := cntC_lt X t hl ht'; omega
  · rw [Finset.mem_filter, Finset.mem_range] at hp
    by_cases hlt : p < cntC X t 100096
    · obtain ⟨n, hn, ht, rfl⟩ := cntC_ex X t 100096 p hlt
      obtain ⟨e1, e2⟩ := h.inn n hn ht
      rw [e1, e2] at hp
      exact ⟨n, by rw [Finset.mem_filter, Finset.mem_range]; exact ⟨hn, hp.2⟩, rfl⟩
    · obtain ⟨e1, e2⟩ := h.out p (by omega) (by omega)
      have := hP _ hp.2
      simp only [e1] at this
      exact absurd this (not_le.mpr hb)

theorem best_count (X : Vec Ideal S100096 .f32) (hcap : cntC X (thX X) 100096 ≤ 4096) (κ : EReal) (hκ : thX X ≤ κ) (hb : ⊥ < κ) (h64 : cntC X κ 100096 ≤ 64) :
    Dn 64 (v4 (bestV X)) ∧ ∀ (P : PW → Prop) [DecidablePred P], (∀ q, P q → κ ≤ q.1) →
      Multiset.countP P (BM (bestV X)) = ((Finset.range 100096).filter fun n => P (xat X n, BitVec.ofNat 32 n)).card := by
  obtain ⟨hp, _⟩ := pbN_inv (X := X) (t := thX X) hcap 782 le_rfl
  replace hp : PBI X (thX X) 100096 (pbN X (thr (paN X k0_t2_loop.trips)) k0_t4_loop.trips) := by
    rw [thr_thX, t4_trips]; exact hp
  have hcur : (max16 (pbN X (thr (paN X k0_t2_loop.trips)) k0_t4_loop.trips).cur).toNat = cntC X (thX X) 100096 := by
    rw [hp.cur, max16_bc, BitVec.toNat_ofNat]; omega
  have hle : (max16 (pbN X (thr (paN X k0_t2_loop.trips)) k0_t4_loop.trips).cur).toNat ≤ 4096 := by omega
  have e : bestV X = blkN (pbN X (thr (paN X k0_t2_loop.trips)) k0_t4_loop.trips).cv (pbN X (thr (paN X k0_t2_loop.trips)) k0_t4_loop.trips).ci
      (max16 (pbN X (thr (paN X k0_t2_loop.trips)) k0_t4_loop.trips).cur) (chk41 _ hle) (k0_t17_loop (max16 (pbN X (thr (paN X k0_t2_loop.trips)) k0_t4_loop.trips).cur)).trips := rfl
  rw [e]
  have ht := t17_trips _ hle
  generalize pbN X (thr (paN X k0_t2_loop.trips)) k0_t4_loop.trips = s at hp hcur hle ht
  have h64' : ((Finset.range 4224).filter fun p => κ ≤ (s.cv (iC p) : EReal)).card ≤ 64 := by
    rw [cand_count hp hcap hκ hb 4224 (by omega) le_rfl (fun q => κ ≤ q.1) (fun _ h => h)]
    exact h64
  obtain ⟨hd, hcnt⟩ := blkN_count s.cv s.ci _ hle (chk41 _ hle) κ h64' _ le_rfl
  refine ⟨hd, fun P _ hP => ?_⟩
  rw [hcnt P hP]
  exact cand_count hp hcap hκ hb _ (by omega) (by omega) P hP

/-! ## Rows -/

def iR (n : Nat) : S100000.Idx := fun a => ⟨n % 100000, by fin_cases a; exact Nat.mod_lt _ (by decide)⟩
/-- A row's values. -/
def rx (R : Vec Ideal S100000 .f32) (i : Fin 100000) : EReal := R (iR i.val)

theorem xat_row (R : Vec Ideal S100000 .f32) (n : Nat) (h : n < 100000) : xat (rowX R) n = rx R ⟨n, h⟩ := by
  have e : iX n = (Rect.unit (s := S100096) ![0] S100000.size inb_S100096_S100000_0).emb (iR n) := by
    funext a
    have : a = 0 := Fin.eq_zero a
    subst this
    apply Fin.ext
    change n % 100096 = 0 + 1 * (n % 100000)
    omega
  unfold xat
  rw [e]
  unfold rowX padV rx
  rw [Rect.overlay_emb]

theorem xat_pad (R : Vec Ideal S100000 .f32) (n : Nat) (h : 100000 ≤ n) (h' : n < 100096) : xat (rowX R) n = ⊥ := by
  have hm : iX n ∉ (Rect.unit (s := S100096) ![0] S100000.size inb_S100096_S100000_0).set := by
    rw [mem_buf]
    change ¬ n % 100096 < 100000
    omega
  unfold xat rowX padV
  rw [Rect.overlay_of_not_mem _ _ _ hm]
  exact neg_bot

theorem row_card (R : Vec Ideal S100000 .f32) {κ : EReal} (hb : ⊥ < κ) (P : PW → Prop) [DecidablePred P] (hP : ∀ q, P q → κ ≤ q.1) :
    ((Finset.range 100096).filter fun n => P (xat (rowX R) n, BitVec.ofNat 32 n)).card = (Finset.univ.filter fun i : Fin 100000 => P (rx R i, BitVec.ofNat 32 i.val)).card := by
  have h0 : ((Finset.range 96).filter fun j => P (xat (rowX R) (100000 + j), BitVec.ofNat 32 (100000 + j))).card = 0 := by
    rw [Finset.card_eq_zero, Finset.filter_eq_empty_iff]
    intro j hj hp
    rw [Finset.mem_range] at hj
    rw [xat_pad R _ (by omega) (by omega)] at hp
    exact absurd (hP _ hp) (not_le.mpr hb)
  have h1 := card_range_split (fun n => P (xat (rowX R) n, BitVec.ofNat 32 n)) 100096 100000 96 (by omega)
  rw [h0, Nat.add_zero] at h1
  refine h1.trans ?_
  rw [← card_fin_range]
  refine congrArg Finset.card (Finset.filter_congr fun i _ => ?_)
  rw [xat_row R i.val i.isLt]

theorem cntC_row (R : Vec Ideal S100000 .f32) {κ : EReal} (hb : ⊥ < κ) : cntC (rowX R) κ 100096 = cntGe (rx R) κ :=
  by
  unfold cntC cntGe
  rw [← row_card R hb (fun q => κ ≤ q.1) (fun _ h => h)]

/-- The threshold is at most the 50th greatest. -/
theorem thX_le (R : Vec Ideal S100000 .f32) {d : Nat → EReal} (hd : Desc (rx R) d) : thX (rowX R) ≤ d 49 := by
  rw [hd 49 (by decide)]
  by_cases hb : thX (rowX R) ≤ ⊥
  · have : cntGe (rx R) (thX (rowX R)) = 100000 := by
      unfold cntGe
      rw [Finset.filter_true_of_mem (fun i _ => hb.trans bot_le), Finset.card_univ, Fintype.card_fin]
    omega
  · rw [← cntC_row R (not_le.mp hb)]
    have h := ((le_thX (rowX R) _).mp le_rfl).resolve_left hb
    choose f hf using h
    have : (Finset.univ : Finset (Fin 64)).card ≤ cntC (rowX R) (thX (rowX R)) 100096 := by
      unfold cntC
      refine Finset.card_le_card_of_injOn (fun c => 64 * f c.val c.isLt + c.val) (fun c _ => ?_) (fun c _ c' _ he => ?_)
      · have := hf c.val c.isLt
        rw [Finset.mem_coe, Finset.mem_filter, Finset.mem_range]
        have h1 := this.1
        have h2 := c.isLt
        exact ⟨show 64 * f c.val c.isLt + c.val < 100096 by omega, this.2⟩
      · apply Fin.ext
        change 64 * f c.val c.isLt + c.val = 64 * f c'.val c'.isLt + c'.val at he
        omega
    rw [Finset.card_univ, Fintype.card_fin] at this
    omega

/-- A row's best block, its place in the row, counted. -/
theorem row_best (R : Vec Ideal S100000 .f32) {d : Nat → EReal} (hd : Desc (rx R) d) (hcap : cntC (rowX R) (thX (rowX R)) 100096 ≤ 4096) (h64 : d 64 < d 49) :
    Dn 64 (v4 (bestV (rowX R))) ∧ ∀ (P : PW → Prop) [DecidablePred P], (∀ q, P q → d 49 ≤ q.1) →
      Multiset.countP P (BM (bestV (rowX R))) = (Finset.univ.filter fun i : Fin 100000 => P (rx R i, BitVec.ofNat 32 i.val)).card := by
  have hb : ⊥ < d 49 := lt_of_le_of_lt bot_le h64
  have hc : cntC (rowX R) (d 49) 100096 ≤ 64 := by
    rw [cntC_row R hb]
    by_contra hn
    exact absurd ((hd 64 (by decide) (d 49)).mpr (by omega)) (not_le.mpr h64)
  obtain ⟨h1, h2⟩ := best_count (rowX R) hcap (d 49) (thX_le R hd) hb hc
  exact ⟨h1, fun P _ hP => by rw [h2 P hP, row_card R hb P hP]⟩

end Cert.Proof.Sc
-- ==== Proof.Sc.M5.lean ====
/- The weights of a block's values and the number a row keeps. -/
module

public import proofs.«01_k».proof.Proof.Sc.M4

@[expose] public section

noncomputable section

namespace Cert.Proof.Sc

open Idealize.ShloMosaic
open Cert.KernelIdeal Cert.KernelIdeal.Facts₀ Cert.KernelIdeal.Facts

/-! ## Sums of lanes -/

theorem sum16_val (v : FVec Ideal S16 .f32) : (sum16 v : EReal) = ∑ j ∈ Finset.range 16, (v (ix16 j) : EReal) := by
  unfold sum16
  simp only [lane_val, Finset.sum_range_succ, Finset.sum_range_zero, zero_add]
  rfl

theorem sle_small {a b : Nat} (ha : a < 2 ^ 31) (hb : b < 2 ^ 31) : (BitVec.ofNat 32 a).sle (BitVec.ofNat 32 b) = decide (a ≤ b) := by
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat]
  congr 1
  apply propext
  omega

theorem zero_val : (Scalar.ofBits (F := Ideal) .f32 0x00000000#32 : EReal) = 0 := by
  change Idealize.ShloMosaic.Ideal.ofBits .f32 0x00000000#32 = 0
  simp [Idealize.ShloMosaic.Ideal.ofBits, Idealize.ShloMosaic.Ideal.ieee]

theorem from16_val (j : Fin 16) (h : S16.Slices ![j.val] S1) (v : FVec Ideal S16 .f32) (l : Nat) (hl : l < 16) :
    (from16 j h (BitVec.ofNat 32 j.val) v (ix16 l) : EReal) = if j.val ≤ l then v (ix16 j.val) else 0 := by
  unfold from16
  change Scalar.select (BitVec.ofBool ((BitVec.ofNat 32 j.val).sle (lanes (ix16 l)))) (lane j h v) (Scalar.ofBits .f32 0x00000000#32) = _
  rw [lanes_ix l hl, sle_small (by omega) (by omega), lane_val, zero_val]
  unfold Scalar.select
  by_cases hj : j.val ≤ l <;> simp [hj]

theorem cumsum16_val (v : FVec Ideal S16 .f32) (l : Nat) (hl : l < 16) : (cumsum16 v (ix16 l) : EReal) = ∑ j ∈ Finset.range (l + 1), (v (ix16 j) : EReal) := by
  have e : (cumsum16 v (ix16 l) : EReal) = ∑ j ∈ Finset.range 16, if j ≤ l then (v (ix16 j) : EReal) else 0 := by
    simp only [Finset.sum_range_succ, Finset.sum_range_zero, zero_add]
    exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (from16_val 0 slices_S16_o0_S1 v l hl) (from16_val 1 slices_S16_o1_S1 v l hl)) (from16_val 2 slices_S16_o2_S1 v l hl)) (from16_val 3 slices_S16_o3_S1 v l hl)) (from16_val 4 slices_S16_o4_S1 v l hl)) (from16_val 5 slices_S16_o5_S1 v l hl)) (from16_val 6 slices_S16_o6_S1 v l hl)) (from16_val 7 slices_S16_o7_S1 v l hl)) (from16_val 8 slices_S16_o8_S1 v l hl)) (from16_val 9 slices_S16_o9_S1 v l hl)) (from16_val 10 slices_S16_o10_S1 v l hl)) (from16_val 11 slices_S16_o11_S1 v l hl)) (from16_val 12 slices_S16_o12_S1 v l hl)) (from16_val 13 slices_S16_o13_S1 v l hl)) (from16_val 14 slices_S16_o14_S1 v l hl)) (from16_val 15 slices_S16_o15_S1 v l hl)
  rw [e, ← Finset.sum_filter]
  refine Finset.sum_congr ?_ fun _ _ => rfl
  ext j
  rw [Finset.mem_filter, Finset.mem_range, Finset.mem_range]
  omega

/-! ## The number kept -/

/-- The bound on the prefix sums. -/
def topT : EReal := Scalar.ofBits (F := Ideal) .f32 0x3F666666#32

/-- Value `n` of four vectors. -/
def w4 (q : Q4 Ideal) (n : Nat) : EReal := if n < 16 then q.1 (ix16 n) else if n < 32 then q.2.1 (ix16 n) else if n < 48 then q.2.2.1 (ix16 n) else q.2.2.2 (ix16 n)

theorem w4_a (q : Q4 Ideal) (l : Nat) (hl : l < 16) : w4 q l = q.1 (ix16 l) := by unfold w4; rw [if_pos hl]
theorem w4_b (q : Q4 Ideal) (l : Nat) (hl : l < 16) : w4 q (16 + l) = q.2.1 (ix16 l) := by
  unfold w4; rw [if_neg (by omega), if_pos (by omega), ← ix_mod16 (16 + l), show (16 + l) % 16 = l by omega]
theorem w4_c (q : Q4 Ideal) (l : Nat) (hl : l < 16) : w4 q (32 + l) = q.2.2.1 (ix16 l) := by
  unfold w4; rw [if_neg (by omega), if_neg (by omega), if_pos (by omega), ← ix_mod16 (32 + l), show (32 + l) % 16 = l by omega]
theorem w4_d (q : Q4 Ideal) (l : Nat) (hl : l < 16) : w4 q (48 + l) = q.2.2.2 (ix16 l) := by
  unfold w4; rw [if_neg (by omega), if_neg (by omega), if_neg (by omega), ← ix_mod16 (48 + l), show (48 + l) % 16 = l by omega]

theorem sum_shift (f g : Nat → EReal) (a b : Nat) (h : ∀ l, l < b → f (a + l) = g l) : ∑ j ∈ Finset.range (a + b), f j = (∑ j ∈ Finset.range a, f j) + ∑ j ∈ Finset.range b, g j := by
  rw [Finset.sum_range_add]
  congr 1
  refine Finset.sum_congr rfl fun l hl => ?_
  rw [Finset.mem_range] at hl
  exact h l hl

theorem sum_a (q : Q4 Ideal) : (sum16 q.1 : EReal) = ∑ j ∈ Finset.range 16, w4 q j := by
  rw [sum16_val]
  refine Finset.sum_congr rfl fun l hl => ?_
  rw [Finset.mem_range] at hl
  rw [w4_a q l hl]
theorem sum_b (q : Q4 Ideal) : (sum16 q.1 : EReal) + sum16 q.2.1 = ∑ j ∈ Finset.range 32, w4 q j := by
  rw [sum_a, sum16_val]
  exact (sum_shift (w4 q) _ 16 16 fun l hl => w4_b q l hl).symm
theorem sum_c (q : Q4 Ideal) : (sum16 q.1 : EReal) + sum16 q.2.1 + sum16 q.2.2.1 = ∑ j ∈ Finset.range 48, w4 q j := by
  rw [sum_b, sum16_val q.2.2.1]
  exact (sum_shift (w4 q) _ 32 16 fun l hl => w4_c q l hl).symm
theorem sum_d (q : Q4 Ideal) : (sum16 q.1 : EReal) + sum16 q.2.1 + sum16 q.2.2.1 + sum16 q.2.2.2 = ∑ j ∈ Finset.range 64, w4 q j := by
  rw [sum_c, sum16_val q.2.2.2]
  exact (sum_shift (w4 q) _ 48 16 fun l hl => w4_d q l hl).symm

theorem cntm_val (m : IVec S16 1) : (cnt16 m).toNat = ((Finset.range 16).filter fun l => m (ix16 l) = 1#1).card := by
  rw [cnt16_eq, cs_nat m 15 (by decide)]

theorem cntLe_val (v : FVec Ideal S16 .f32) : (cntLe v).toNat = ((Finset.range 16).filter fun l => (v (ix16 l) : EReal) ≤ topT).card := by
  unfold cntLe
  rw [cntm_val]
  refine congrArg Finset.card (Finset.filter_congr fun l _ => ?_)
  change BitVec.ofBool (decide ((v (ix16 l) : EReal) ≤ topT)) = 1#1 ↔ _
  rw [ofBool_one, decide_eq_true_eq]

theorem mth_val (q : Q4 Ideal) : (mth q).toNat = ((Finset.range 64).filter fun r => ∑ j ∈ Finset.range (r + 1), w4 q j ≤ topT).card + 1 := by
  have ha : ∀ l, l < 16 → (cumsum16 q.1 (ix16 l) : EReal) = ∑ j ∈ Finset.range (l + 1), w4 q j := fun l hl => by
    rw [cumsum16_val _ l hl]
    refine Finset.sum_congr rfl fun j hj => ?_
    rw [Finset.mem_range] at hj
    rw [w4_a q j (by omega)]
  have hb : ∀ l, l < 16 → (addf (cumsum16 q.2.1) (broadcast S16 (sum16 q.1)) (ix16 l) : EReal) = ∑ j ∈ Finset.range (16 + l + 1), w4 q j := fun l hl => by
    rw [add_assoc, sum_shift (w4 q) (fun j => q.2.1 (ix16 j)) 16 (l + 1) (fun j hj => w4_b q j (by omega)), ← sum_a, ← cumsum16_val _ l hl, add_comm]
    rfl
  have hc : ∀ l, l < 16 → (addf (cumsum16 q.2.2.1) (broadcast S16 (Scalar.addf (sum16 q.1) (sum16 q.2.1))) (ix16 l) : EReal) = ∑ j ∈ Finset.range (32 + l + 1), w4 q j := fun l hl => by
    rw [add_assoc, sum_shift (w4 q) (fun j => q.2.2.1 (ix16 j)) 32 (l + 1) (fun j hj => w4_c q j (by omega)), ← sum_b, ← cumsum16_val _ l hl, add_comm]
    rfl
  have hd : ∀ l, l < 16 → (addf (cumsum16 q.2.2.2) (broadcast S16 (Scalar.addf (Scalar.addf (sum16 q.1) (sum16 q.2.1)) (sum16 q.2.2.1))) (ix16 l) : EReal)
      = ∑ j ∈ Finset.range (48 + l + 1), w4 q j := fun l hl => by
    rw [add_assoc, sum_shift (w4 q) (fun j => q.2.2.2 (ix16 j)) 48 (l + 1) (fun j hj => w4_d q j (by omega)), ← sum_c, ← cumsum16_val _ l hl, add_comm]
    rfl
  have fc : ∀ (v : FVec Ideal S16 .f32) (B : Nat), (∀ l, l < 16 → (v (ix16 l) : EReal) = ∑ j ∈ Finset.range (B + l + 1), w4 q j) →
      (cntLe v).toNat = ((Finset.range 16).filter fun l => ∑ j ∈ Finset.range (B + l + 1), w4 q j ≤ topT).card := by
    intro v B h
    rw [cntLe_val]
    refine congrArg Finset.card (Finset.filter_congr fun l hl => ?_)
    rw [Finset.mem_range] at hl
    rw [h l hl]
  have h1 := fc (cumsum16 q.1) 0 (fun l hl => by rw [ha l hl, zero_add])
  have h2 := fc _ 16 hb
  have h3 := fc _ 32 hc
  have h4 := fc _ 48 hd
  have b1 := cnt16_le (cmpf .ole (cumsum16 q.1) (broadcast S16 (Scalar.ofBits .f32 0x3F666666#32)))
  have b2 := cnt16_le (cmpf .ole (addf (cumsum16 q.2.1) (broadcast S16 (sum16 q.1))) (broadcast S16 (Scalar.ofBits .f32 0x3F666666#32)))
  have b3 := cnt16_le (cmpf .ole (addf (cumsum16 q.2.2.1) (broadcast S16 (Scalar.addf (sum16 q.1) (sum16 q.2.1)))) (broadcast S16 (Scalar.ofBits .f32 0x3F666666#32)))
  have b4 := cnt16_le (cmpf .ole (addf (cumsum16 q.2.2.2) (broadcast S16 (Scalar.addf (Scalar.addf (sum16 q.1) (sum16 q.2.1)) (sum16 q.2.2.1)))) (broadcast S16 (Scalar.ofBits .f32 0x3F666666#32)))
  rw [card_range_split _ 64 48 16 (by omega), card_range_split _ 48 32 16 (by omega), card_range_split _ 32 16 16 (by omega)]
  simp only [zero_add] at h1
  rw [← h1, ← h2, ← h3, ← h4]
  unfold mth
  simp only []
  unfold cntLe
  generalize cnt16 (cmpf .ole (cumsum16 q.1) (broadcast S16 (Scalar.ofBits .f32 0x3F666666#32))) = x at b1
  generalize cnt16 (cmpf .ole (addf (cumsum16 q.2.1) _) _) = y at b2
  generalize cnt16 (cmpf .ole (addf (cumsum16 q.2.2.1) _) _) = z at b3
  generalize cnt16 (cmpf .ole (addf (cumsum16 q.2.2.2) _) _) = w at b4
  change (0#32 + x + y + z + w + 1#32).toNat = _
  simp only [BitVec.toNat_add, BitVec.toNat_ofNat]
  omega

/-- The exponentials of a block's values that reach `κ`. -/
def ew (b : Blk Ideal) (κ mx : EReal) (n : Nat) : EReal := if κ ≤ v4 b n then Ideal.exp (v4 b n - mx) else 0

theorem expk_val (κ mx : EReal) (v : FVec Ideal S16 .f32) (i : S16.Idx) : (expk (fun _ => κ) (fun _ => mx) v i : EReal) = if κ ≤ v i then Ideal.exp ((v i : EReal) - mx) else 0 := by
  unfold expk
  change Scalar.select (BitVec.ofBool (decide (κ ≤ v i))) (Ideal.exp ((v i : EReal) - mx)) (Scalar.ofBits (F := Ideal) .f32 0x00000000#32) = _
  rw [zero_val]
  unfold Scalar.select
  by_cases h : κ ≤ (v i : EReal) <;> simp [h]

theorem w4_exp (b : Blk Ideal) (κ mx : EReal) (n : Nat) :
    w4 (expk (fun _ => κ) (fun _ => mx) b.a.1, expk (fun _ => κ) (fun _ => mx) b.b.1, expk (fun _ => κ) (fun _ => mx) b.c.1, expk (fun _ => κ) (fun _ => mx) b.d.1) n = ew b κ mx n := by
  unfold w4 ew v4 vv
  simp only [expk_val]
  split
  · rfl
  split
  · rfl
  split <;> rfl

/-- The prefix sums of the weights. -/
def Cs (e : Nat → EReal) (M r : Nat) : EReal := ∑ j ∈ Finset.range (r + 1), Ideal.div (e j) (∑ k ∈ Finset.range M, e k)

theorem w4_wts (q : Q4 Ideal) (n : Nat) : w4 (wts q) n = Ideal.div (w4 q n) (∑ k ∈ Finset.range 64, w4 q k) := by
  rw [← sum_d]
  unfold w4 wts
  split
  · rfl
  split
  · rfl
  split <;> rfl

theorem mOf_val (b : Blk Ideal) (κ mx : EReal) :
    (mOf (fun _ => κ) (fun _ => mx) b).toNat = ((Finset.range 64).filter fun r => Cs (ew b κ mx) 64 r ≤ topT).card + 1 := by
  unfold mOf
  rw [mth_val]
  simp only [w4_wts, w4_exp]
  rfl

/-! ## The prefix sums as reals -/

theorem topT_lt : topT < 1 := by
  change Idealize.ShloMosaic.Ideal.ofBits .f32 0x3F666666#32 < 1
  have : Idealize.ShloMosaic.Ideal.ofBits .f32 0x3F666666#32 = (((15099494 : ℝ) * (2 : ℝ) ^ (-24 : Int) : ℝ) : EReal) := by
    simp [Idealize.ShloMosaic.Ideal.ofBits, Idealize.ShloMosaic.Ideal.ieee, -EReal.coe_mul]
  rw [this, ← EReal.coe_one, EReal.coe_lt_coe_iff]
  have h : (2 : ℝ) ^ (-24 : Int) = (16777216 : ℝ)⁻¹ := by
    rw [zpow_neg]; congr 1; exact_mod_cast (by decide : (2 : Nat) ^ 24 = 16777216)
  rw [h, ← div_eq_mul_inv, div_lt_one (by positivity)]
  exact_mod_cast (by decide : (15099494 : Nat) < 16777216)

theorem coe_sum (f : Nat → ℝ) (n : Nat) : ∑ j ∈ Finset.range n, (f j : EReal) = ((∑ j ∈ Finset.range n, f j : ℝ) : EReal) := by
  induction n with
  | zero => simp
  | succ n ih => rw [Finset.sum_range_succ, Finset.sum_range_succ, ih, EReal.coe_add]

theorem sum_far (f : Nat → ℝ) (L : Nat) (h : ∀ j, L ≤ j → f j = 0) (M : Nat) (hM : L ≤ M) : ∑ j ∈ Finset.range M, f j = ∑ j ∈ Finset.range L, f j := by
  obtain ⟨k, rfl⟩ : ∃ k, M = L + k := ⟨M - L, by omega⟩
  rw [Finset.sum_range_add, Finset.sum_eq_zero (s := Finset.range k), add_zero]
  exact fun j _ => h _ (by omega)

theorem Cs_val (f : Nat → ℝ) (M r : Nat) (hz : ∑ j ∈ Finset.range M, f j ≠ 0) :
    Cs (fun j => (f j : EReal)) M r = (((∑ j ∈ Finset.range (r + 1), f j) * (1 / ∑ j ∈ Finset.range M, f j) : ℝ) : EReal) := by
  unfold Cs
  rw [coe_sum]
  simp only [Ideal.div_coe hz, ← EReal.coe_mul]
  rw [coe_sum, Finset.sum_mul]

/-- The places whose prefix sum is at most the bound come first, and are fewer than the values. -/
theorem Cs_lower (f : Nat → ℝ) (L : Nat) (h0 : ∀ j, 0 ≤ f j) (hp : 0 < f 0) (hL : 1 ≤ L) (hL' : L ≤ 64) (hf : ∀ j, L ≤ j → f j = 0) :
    (∀ M, 64 ≤ M → ∀ r, r < 64 → (Cs (fun j => (f j : EReal)) M r ≤ topT ↔ r < ((Finset.range 64).filter fun r => Cs (fun j => (f j : EReal)) 64 r ≤ topT).card)) ∧
    ((Finset.range 64).filter fun r => Cs (fun j => (f j : EReal)) 64 r ≤ topT).card < L := by
  have hz : 0 < ∑ j ∈ Finset.range L, f j := by
    refine lt_of_lt_of_le hp (Finset.single_le_sum (f := f) (fun j _ => h0 j) (Finset.mem_range.mpr (by omega)))
  have hM : ∀ M, 64 ≤ M → ∀ r, Cs (fun j => (f j : EReal)) M r = (((∑ j ∈ Finset.range (r + 1), f j) * (1 / ∑ j ∈ Finset.range L, f j) : ℝ) : EReal) := by
    intro M h r
    have e := sum_far f L hf M (by omega)
    rw [Cs_val f M r (by rw [e]; exact hz.ne'), e]
  have mono : ∀ i j, i ≤ j → Cs (fun j => (f j : EReal)) 64 i ≤ Cs (fun j => (f j : EReal)) 64 j := by
    intro i j hij
    rw [hM 64 le_rfl, hM 64 le_rfl, EReal.coe_le_coe_iff]
    refine mul_le_mul_of_nonneg_right ?_ (by positivity)
    exact Finset.sum_le_sum_of_subset_of_nonneg (Finset.range_mono (by omega)) (fun j _ _ => h0 j)
  have low := lower_range (n := 64) (fun r => Cs (fun j => (f j : EReal)) 64 r ≤ topT) (fun i j hij _ h => (mono i j hij).trans h)
  refine ⟨fun M h r hr => ?_, ?_⟩
  · rw [hM M h, ← hM 64 le_rfl]
    exact low r hr
  · by_contra hn
    have h1 := (low (L - 1) (by omega)).mpr (by omega)
    rw [hM 64 le_rfl, show L - 1 + 1 = L by omega, mul_one_div_cancel hz.ne', EReal.coe_one] at h1
    exact absurd (lt_of_le_of_lt h1 topT_lt) (lt_irrefl _)

end Cert.Proof.Sc
-- ==== Proof.Sc.M6.lean ====
/- The bound on the equals' indices: the indices gathered, sorted, and the one at the wanted place. -/
module

public import proofs.«01_k».proof.Proof.Sc.M5

@[expose] public section

noncomputable section

namespace Cert.Proof.Sc

open Idealize.ShloMosaic
open Cert.KernelIdeal Cert.KernelIdeal.Facts₀ Cert.KernelIdeal.Facts

/-! ## Words sorted -/

theorem beforeI_val (c : BitVec 32) (v : IVec S16 32) (n l : Nat) (hn : n < 16) (hl : l < 16) :
    (beforeI (fun _ => c) v (BitVec.ofNat 32 n) (ix16 l)).toNat = if (c.toInt < (v (ix16 l)).toInt ∨ (c = v (ix16 l) ∧ n < l)) then 1 else 0 := by
  change ((BitVec.ofBool (c.slt (v (ix16 l))) ||| (BitVec.ofBool (decide (c = v (ix16 l))) &&& BitVec.ofBool ((BitVec.ofNat 32 n).slt (lanes (ix16 l))))).setWidth 32).toNat = _
  rw [bits3, lanes_ix l hl, slt_small (by omega) (by omega), BitVec.slt]
  simp only [decide_eq_true_eq]

theorem rkI_val (v : IVec S16 32) (l : Nat) (hl : l < 16) : ∀ n, n ≤ 16 →
    (rkI v n (ix16 l)).toNat = ((Finset.range n).filter fun j => (v (ix16 j)).toInt < (v (ix16 l)).toInt ∨ (v (ix16 j) = v (ix16 l) ∧ j < l)).card
  | 0, _ => by simp [rkI, bc, broadcast]
  | n + 1, hn => by
    have ih := rkI_val v l hl n (by omega)
    have hle := rkI_le v n (by omega) (ix16 l)
    have hb := beforeI_val (v (ix16 n)) v n l (by omega) hl
    change (rkI v n (ix16 l) + beforeI (fun _ => v (ix16 n)) v (BitVec.ofNat 32 n) (ix16 l)).toNat = _
    rw [Finset.range_add_one, Finset.filter_insert, BitVec.toNat_add, hb, ih]
    rw [ih] at hle
    split
    · rw [Finset.card_insert_of_notMem (by simp)]; omega
    · omega

/-- A word's place in the order the sort counts. -/
def nk (v : IVec S16 32) (k : Fin 16) : Int := -(v (ix16 k.val)).toInt

theorem rkI_rank (v : IVec S16 32) (l : Fin 16) : (minsi (rkI v 16) (bc 15#32) (ix16 l.val)).toNat = rankOf (nk v) l := by
  have h := rkI_val v l.val l.isLt 16 le_rfl
  have e : rankOf (nk v) l = (rkI v 16 (ix16 l.val)).toNat := by
    rw [h, ← card_fin_range]
    refine congrArg Finset.card (Finset.filter_congr fun j _ => ?_)
    unfold Bef nk
    constructor
    · rintro (hj | ⟨hj, hl⟩)
      · exact .inl (by omega)
      · exact .inr ⟨BitVec.toInt_inj.mp (by omega), hl⟩
    · rintro (hj | ⟨hj, hl⟩)
      · exact .inl (by omega)
      · exact .inr ⟨by rw [hj], hl⟩
  have hlt := rank_lt (nk v) l
  change (IntOp.minsi (rkI v 16 (ix16 l.val)) 15#32).toNat = _
  rw [minsi_nat _ _ (by omega) (by decide)]
  have : (15#32).toNat = 15 := rfl
  omega

theorem sortI_val (v : IVec S16 32) (r : Fin 16) : sortIV (F := Ideal) v (ix16 r.val) = v (ix16 ((rankP (nk v)).symm r).val) :=
  sort_store (F := Ideal) (e := .i32) v v (minsi (rkI v 16) (bc 15#32)) (rankP (nk v)) (fun k => (rkI_rank v k).trans (rankP_val _ k).symm) (rkI_in v) r

theorem sortI_lt (v : IVec S16 32) (θ : Int) (r : Nat) (hr : r < 16) :
    (sortIV (F := Ideal) v (ix16 r)).toInt < θ ↔ r < ((Finset.range 16).filter fun l => (v (ix16 l)).toInt < θ).card := by
  have hc : ((Finset.range 16).filter fun l => (v (ix16 l)).toInt < θ).card = ((Finset.range 16).filter fun l => (sortIV (F := Ideal) v (ix16 l)).toInt < θ).card := by
    rw [← card_fin_range 16 (fun l => (v (ix16 l)).toInt < θ), ← card_fin_range 16 (fun l => (sortIV (F := Ideal) v (ix16 l)).toInt < θ), Finset.card_filter, Finset.card_filter]
    simp only [sortI_val]
    exact (Equiv.sum_comp (rankP (nk v)).symm (fun l : Fin 16 => if (v (ix16 l.val)).toInt < θ then 1 else 0)).symm
  rw [hc]
  refine lower_range (n := 16) (fun l => (sortIV (F := Ideal) v (ix16 l)).toInt < θ) (fun i j hij hj h => ?_) r hr
  have h1 : -(v (ix16 ((rankP (nk v)).symm ⟨j, hj⟩).val)).toInt ≤ -(v (ix16 ((rankP (nk v)).symm ⟨i, by omega⟩).val)).toInt := rankP_anti (nk v) hij
  have e1 := sortI_val v ⟨i, by omega⟩
  have e2 := sortI_val v ⟨j, hj⟩
  simp only [] at e1 e2 h
  rw [e2] at h
  rw [e1]
  omega

/-! ## A block's places -/

/-- Index `n` of a block. -/
def i4 (b : Blk Ideal) (n : Nat) : BitVec 32 := if n < 16 then b.a.2 (ix16 n) else if n < 32 then b.b.2 (ix16 n) else if n < 48 then b.c.2 (ix16 n) else b.d.2 (ix16 n)

theorem v4_a (b : Blk Ideal) (l : Nat) (hl : l < 16) : v4 b (0 + l) = b.a.1 (ix16 l) ∧ i4 b (0 + l) = b.a.2 (ix16 l) := by
  rw [zero_add]; unfold v4 i4; rw [if_pos hl, if_pos hl]; exact ⟨rfl, rfl⟩
theorem v4_b (b : Blk Ideal) (l : Nat) (hl : l < 16) : v4 b (16 + l) = b.b.1 (ix16 l) ∧ i4 b (16 + l) = b.b.2 (ix16 l) := by
  unfold v4 i4 vv; rw [if_neg (by omega), if_pos (by omega), if_neg (by omega), if_pos (by omega), ← ix_mod16 (16 + l), show (16 + l) % 16 = l by omega]; exact ⟨rfl, rfl⟩
theorem v4_c (b : Blk Ideal) (l : Nat) (hl : l < 16) : v4 b (32 + l) = b.c.1 (ix16 l) ∧ i4 b (32 + l) = b.c.2 (ix16 l) := by
  unfold v4 i4 vv; rw [if_neg (by omega), if_neg (by omega), if_pos (by omega), if_neg (by omega), if_neg (by omega), if_pos (by omega), ← ix_mod16 (32 + l), show (32 + l) % 16 = l by omega]; exact ⟨rfl, rfl⟩
theorem v4_d (b : Blk Ideal) (l : Nat) (hl : l < 16) : v4 b (48 + l) = b.d.1 (ix16 l) ∧ i4 b (48 + l) = b.d.2 (ix16 l) := by
  unfold v4 i4 vv
  rw [if_neg (by omega), if_neg (by omega), if_neg (by omega), if_neg (by omega), if_neg (by omega), if_neg (by omega), ← ix_mod16 (48 + l), show (48 + l) % 16 = l by omega]; exact ⟨rfl, rfl⟩

/-- How many of the first `N` satisfy `P`. -/
def cn (P : Nat → Prop) [DecidablePred P] (N : Nat) : Nat := ((Finset.range N).filter P).card

theorem cn_succ (P : Nat → Prop) [DecidablePred P] (N : Nat) : cn P (N + 1) = cn P N + if P N then 1 else 0 := by
  unfold cn
  rw [Finset.range_add_one, Finset.filter_insert]
  split
  · rw [Finset.card_insert_of_notMem (by simp)]
  · omega
theorem cn_mono (P : Nat → Prop) [DecidablePred P] {a b : Nat} (h : a ≤ b) : cn P a ≤ cn P b :=
  Finset.card_le_card (Finset.filter_subset_filter _ (Finset.range_mono h))
theorem cn_lt (P : Nat → Prop) [DecidablePred P] {a b : Nat} (h : a < b) (ha : P a) : cn P a < cn P b := by
  have := cn_mono P (show a + 1 ≤ b from h)
  rw [cn_succ, if_pos ha] at this
  omega
theorem cn_ex (P : Nat → Prop) [DecidablePred P] : ∀ N p, p < cn P N → ∃ n, n < N ∧ P n ∧ cn P n = p
  | 0, p, h => by simp [cn] at h
  | N + 1, p, h => by
    rw [cn_succ] at h
    by_cases hp : p < cn P N
    · obtain ⟨n, h1, h2⟩ := cn_ex P N p hp
      exact ⟨n, by omega, h2⟩
    · split at h
      · rename_i ht; exact ⟨N, by omega, ht, by omega⟩
      · omega
theorem cn_le (P : Nat → Prop) [DecidablePred P] (N : Nat) : cn P N ≤ N := by
  have := Finset.card_filter_le (Finset.range N) P
  rwa [Finset.card_range] at this

theorem cn_blk (b : Blk Ideal) (P : PW → Prop) [DecidablePred P] : cn (fun r => P (v4 b r, i4 b r)) 64 = Multiset.countP P (BM b) := by
  unfold cn BM
  rw [card_range_split _ 64 48 16 (by omega), card_range_split _ 48 32 16 (by omega), card_range_split _ 32 16 16 (by omega)]
  rw [Multiset.countP_add, Multiset.countP_add, Multiset.countP_add, countP_VM, countP_VM, countP_VM, countP_VM]
  refine congrArg₂ (· + ·) (congrArg₂ (· + ·) (congrArg₂ (· + ·) ?_ ?_) ?_) ?_
  · refine congrArg Finset.card (Finset.filter_congr fun l hl => ?_)
    rw [Finset.mem_range] at hl
    have h := v4_a b l hl
    rw [zero_add] at h
    rw [h.1, h.2]
  · refine congrArg Finset.card (Finset.filter_congr fun l hl => ?_)
    rw [Finset.mem_range] at hl
    rw [(v4_b b l hl).1, (v4_b b l hl).2]
  · refine congrArg Finset.card (Finset.filter_congr fun l hl => ?_)
    rw [Finset.mem_range] at hl
    rw [(v4_c b l hl).1, (v4_c b l hl).2]
  · refine congrArg Finset.card (Finset.filter_congr fun l hl => ?_)
    rw [Finset.mem_range] at hl
    rw [(v4_d b l hl).1, (v4_d b l hl).2]

/-! ## The equals gathered -/

def iE (n : Nat) : S96.Idx := fun a => ⟨n % 96, by fin_cases a; exact Nat.mod_lt _ (by decide)⟩
theorem iE_val (n : Nat) (h : n < 96) : (iE n 0).val = n := by change n % 96 = n; omega

abbrev Eq4 (b : Blk Ideal) (c : EReal) (r : Nat) : Prop := v4 b r = c

/-- The first `N` places' equals are in place. -/
def EI (b : Blk Ideal) (c : EReal) (N : Nat) (E : IVec S96 32) : Prop := ∀ r, r < N → v4 b r = c → E (iE (cn (Eq4 b c) r)) = i4 b r

theorem putE_inv {b : Blk Ideal} {c : EReal} {N : Nat} {E : IVec S96 32} (h : EI b c N E) (p : VI Ideal) (e : BitVec 32) (he : e.toNat = cn (Eq4 b c) N) (hN : N ≤ 48)
    (hp : ∀ l, l < 16 → v4 b (N + l) = p.1 (ix16 l) ∧ i4 b (N + l) = p.2 (ix16 l)) (hd : ∀ a x, ((![destE e (eqm (F := Ideal) (fun _ => c) p.1)] : Fin 1 → IVec S16 32) a x).toNat < S96.size a) :
    EI b c (N + 16) (storeIdx (F := Ideal) (s := S96) (e := .i32) E ![destE e (eqm (F := Ideal) (fun _ => c) p.1)] p.2 (eqm (F := Ideal) (fun _ => c) p.1) false hd) ∧
    (eAdd e (eqm (F := Ideal) (fun _ => c) p.1)).toNat = cn (Eq4 b c) (N + 16) := by
  have hm : ∀ l, l < 16 → (eqm (F := Ideal) (fun _ => c) p.1 (ix16 l) = 1#1 ↔ v4 b (N + l) = c) := fun l hl => by
    change BitVec.ofBool (decide ((p.1 (ix16 l) : EReal) = c)) = 1#1 ↔ _
    rw [ofBool_one, decide_eq_true_eq, (hp l hl).1]
  have hadd : ∀ l, cn (Eq4 b c) (N + l) = cn (Eq4 b c) N + ((Finset.range l).filter fun j => v4 b (N + j) = c).card := fun l => card_range_add (Eq4 b c) N l
  have hcs : ∀ l, l < 16 → (csum (eqm (F := Ideal) (fun _ => c) p.1) (ix16 l)).toNat = cn (Eq4 b c) (N + (l + 1)) - cn (Eq4 b c) N := by
    intro l hl
    rw [csum_eq, ix_val16 l hl, cs_nat _ l hl, hadd, Nat.add_sub_cancel_left]
    refine congrArg Finset.card (Finset.filter_congr fun j hj => ?_)
    rw [Finset.mem_range] at hj
    exact hm j (by omega)
  have h64 : cn (Eq4 b c) (N + 16) ≤ 64 := (cn_le _ _).trans (by omega)
  have hdst : ∀ l, l < 16 → v4 b (N + l) = c → (destE e (eqm (F := Ideal) (fun _ => c) p.1) (ix16 l)).toNat = cn (Eq4 b c) (N + l) := by
    intro l hl ht
    have h1 := hcs l hl
    have h2 := cn_succ (Eq4 b c) (N + l)
    rw [if_pos ht] at h2
    have h3 := cn_mono (Eq4 b c) (show N ≤ N + l by omega)
    have h4 := cn_mono (Eq4 b c) (show N + l + 1 ≤ N + 16 by omega)
    rw [← add_assoc] at h1
    change (IntOp.maxsi (e + csum (eqm (F := Ideal) (fun _ => c) p.1) (ix16 l) - 1#32) 0#32).toNat = _
    generalize csum (eqm (F := Ideal) (fun _ => c) p.1) (ix16 l) = s at h1
    have e1 : (e + s - 1#32).toNat = cn (Eq4 b c) (N + l) := by
      rw [BitVec.toNat_sub, BitVec.toNat_add, BitVec.toNat_ofNat]; omega
    have e0 : (0#32).toNat = 0 := rfl
    rw [maxsi_nat _ _ (by omega) (by decide), e1, e0]; omega
  refine ⟨fun r hr hv => ?_, ?_⟩
  · have hlt := cn_lt (Eq4 b c) hr hv
    have hval := iE_val (cn (Eq4 b c) r) (by omega)
    by_cases hrN : r < N
    · have hlt' := cn_lt (Eq4 b c) hrN hv
      refine Eq.trans ?_ (h r hrN hv)
      refine (storeIdx_at (F := Ideal) (N := 96) (e := .i32) E _ p.2 _ hd (iE (cn (Eq4 b c) r)) (E (iE (cn (Eq4 b c) r))) (fun k hk heq => ?_)).trans ?_
      on_goal 2 => exact ite_self _
      exfalso
      have htk := (hm k.val k.isLt).mp hk
      rw [hdst k.val k.isLt htk, hval] at heq
      have := cn_mono (Eq4 b c) (show N ≤ N + k.val by omega)
      omega
    · obtain ⟨l, rfl⟩ : ∃ l, r = N + l := ⟨r - N, by omega⟩
      have hl : l < 16 := by omega
      refine (storeIdx_at (F := Ideal) (N := 96) (e := .i32) E _ p.2 _ hd (iE (cn (Eq4 b c) (N + l))) (p.2 (ix16 l)) (fun k hk heq => ?_)).trans ?_
      · have htk := (hm k.val k.isLt).mp hk
        rw [hdst k.val k.isLt htk, hval] at heq
        have : k.val = l := by
          rcases lt_trichotomy k.val l with h' | h' | h'
          · have := cn_lt (Eq4 b c) (show N + k.val < N + l by omega) htk; omega
          · exact h'
          · have := cn_lt (Eq4 b c) (show N + l < N + k.val by omega) hv; omega
        rw [this]
      · rw [if_pos ⟨⟨l, hl⟩, (hm l hl).mpr hv, by rw [hdst l hl hv, hval]⟩, (hp l hl).2]
  · have h15 := hcs 15 (by decide)
    rw [csum_eq, ix_val16 15 (by decide), ← cnt16_eq] at h15
    replace h15 : (cnt16 (eqm (F := Ideal) (fun _ => c) p.1)).toNat = cn (Eq4 b c) (N + 16) - cn (Eq4 b c) N := h15
    have h3 := cn_mono (Eq4 b c) (show N ≤ N + 16 by omega)
    change (e + cnt16 (eqm (F := Ideal) (fun _ => c) p.1)).toNat = _
    generalize cnt16 (eqm (F := Ideal) (fun _ => c) p.1) = s at h15
    rw [BitVec.toNat_add]; omega

theorem overlay_words (o : Fin 1 → Nat) (hin : ∀ a, o a + S16.size a ≤ S96.size a) (E : IVec S96 32) (q : Nat) (ho : o 0 = q) :
    (∀ n, n < q → n < 96 → (Rect.unit (s := S96) o S16.size hin).overlay E (bc 2147483647#32) (iE n) = E (iE n)) ∧
    (∀ p, q ≤ p → p < 16 → (Rect.unit (s := S96) o S16.size hin).overlay E (bc 2147483647#32) (iE p) = 2147483647#32) := by
  refine ⟨fun n hn hn' => ?_, fun p hp hp' => ?_⟩
  · rw [Rect.overlay_of_not_mem]
    rw [Rect.mem_set_unit]
    intro hh
    have h0 := (hh 0).1
    rw [iE_val _ hn', ho] at h0
    omega
  · have e : iE p = (Rect.unit (s := S96) o S16.size hin).emb (ix16 (p - q)) := by
      funext a
      have : a = 0 := Fin.eq_zero a
      subst this
      apply Fin.ext
      change p % 96 = o 0 + 1 * ((p - q) % 16)
      rw [ho]; omega
    rw [e, Rect.overlay_emb]
    rfl

theorem ebV_word (E0 : IVec S96 32) (b : Blk Ideal) (c : EReal) (hq : cn (Eq4 b c) 64 ≤ 16) :
    (∀ r, r < 64 → v4 b r = c → ebV (F := Ideal) E0 b (fun _ => c) (iE (cn (Eq4 b c) r)) = i4 b r) ∧
    (∀ p, cn (Eq4 b c) 64 ≤ p → p < 16 → ebV (F := Ideal) E0 b (fun _ => c) (iE p) = 2147483647#32) := by
  have z : (0#32).toNat = cn (Eq4 b c) 0 := by simp [cn]
  have i0 : EI b c 0 E0 := fun r hr => by omega
  have l1 : (eAdd 0#32 (eqm (F := Ideal) (fun _ => c) b.a.1)).toNat ≤ 16 := eAdd_le 0 (by decide) _ (by decide) _
  have l2 : (eAdd (eAdd 0#32 (eqm (F := Ideal) (fun _ => c) b.a.1)) (eqm (F := Ideal) (fun _ => c) b.b.1)).toNat ≤ 32 := eAdd_le 16 (by decide) _ l1 _
  have l3 : (eAdd (eAdd (eAdd 0#32 (eqm (F := Ideal) (fun _ => c) b.a.1)) (eqm (F := Ideal) (fun _ => c) b.b.1)) (eqm (F := Ideal) (fun _ => c) b.c.1)).toNat ≤ 48 := eAdd_le 32 (by decide) _ l2 _
  obtain ⟨i1, e1⟩ := putE_inv i0 b.a 0#32 z (by omega) (v4_a b) (destE_in _ (by decide) _)
  obtain ⟨i2, e2⟩ := putE_inv i1 b.b _ e1 (by omega) (v4_b b) (destE_in _ (by omega) _)
  obtain ⟨i3, e3⟩ := putE_inv i2 b.c _ e2 (by omega) (v4_c b) (destE_in _ (by omega) _)
  obtain ⟨i4', e4⟩ := putE_inv i3 b.d _ e3 (by omega) (v4_d b) (destE_in _ (by omega) _)
  have ho : k0_off8 (cnt16 (eqm (F := Ideal) (fun _ => c) b.a.1)) (cnt16 (eqm (F := Ideal) (fun _ => c) b.b.1)) (cnt16 (eqm (F := Ideal) (fun _ => c) b.c.1)) (cnt16 (eqm (F := Ideal) (fun _ => c) b.d.1)) 0
      = cn (Eq4 b c) 64 := e4
  unfold ebV
  simp only []
  generalize storeIdx (F := Ideal) (s := S96) (e := .i32) _ ![destE _ (eqm (F := Ideal) (fun _ => c) b.d.1)] b.d.2 _ false _ = E4 at i4'
  have hw := overlay_words _ (chk145 (eqm (F := Ideal) (fun _ => c) b.a.1) (eqm (F := Ideal) (fun _ => c) b.b.1) (eqm (F := Ideal) (fun _ => c) b.c.1) (eqm (F := Ideal) (fun _ => c) b.d.1)) E4 _ ho
  refine ⟨fun r hr hv => ?_, hw.2⟩
  have hlt := cn_lt (Eq4 b c) hr hv
  exact (hw.1 _ hlt (by omega)).trans (i4' r hr hv)

theorem eb_count (E0 : IVec S96 32) (b : Blk Ideal) (c : EReal) (hq : cn (Eq4 b c) 64 ≤ 16) (Q : BitVec 32 → Prop) [DecidablePred Q] (hQ : ¬ Q 2147483647#32) :
    ((Finset.range 16).filter fun l => Q (ebV (F := Ideal) E0 b (fun _ => c) (iE l))).card = cn (fun r => v4 b r = c ∧ Q (i4 b r)) 64 := by
  obtain ⟨h1, h2⟩ := ebV_word E0 b c hq
  symm
  refine Finset.card_bij (fun r _ => cn (Eq4 b c) r) (fun r hr => ?_) (fun r hr r' hr' he => ?_) (fun p hp => ?_)
  · rw [Finset.mem_filter, Finset.mem_range] at hr
    have := cn_lt (Eq4 b c) hr.1 hr.2.1
    rw [Finset.mem_filter, Finset.mem_range, h1 r hr.1 hr.2.1]
    exact ⟨by omega, hr.2.2⟩
  · rw [Finset.mem_filter, Finset.mem_range] at hr hr'
    rcases lt_trichotomy r r' with hl | hl | hl
    · have := cn_lt (Eq4 b c) hl hr.2.1; omega
    · exact hl
    · have := cn_lt (Eq4 b c) hl hr'.2.1; omega
  · rw [Finset.mem_filter, Finset.mem_range] at hp
    by_cases hlt : p < cn (Eq4 b c) 64
    · obtain ⟨r, hr, hv, rfl⟩ := cn_ex (Eq4 b c) 64 p hlt
      have hp2 := hp.2
      rw [h1 r hr hv] at hp2
      exact ⟨r, by rw [Finset.mem_filter, Finset.mem_range]; exact ⟨hr, hv, hp2⟩, rfl⟩
    · have hp2 := hp.2
      rw [h2 p (by omega) hp.1] at hp2
      exact absurd hp2 hQ

theorem rd_E {α : Type} (X : S96.Idx → α) (l : Nat) (hl : l < 16) : rd X ![0] S16.size inb_S96_S16_0 (ix16 l) = X (iE l) := by
  unfold rd
  congr 1
  funext a
  have : a = 0 := Fin.eq_zero a
  subst this
  apply Fin.ext
  change 0 + 1 * (l % 16) = l % 96
  omega

theorem cntGt_val (v : FVec Ideal S16 .f32) (c : EReal) : (cntGt v (fun _ => c)).toNat = ((Finset.range 16).filter fun l => c < (v (ix16 l) : EReal)).card := by
  unfold cntGt
  rw [cntm_val]
  refine congrArg Finset.card (Finset.filter_congr fun l _ => ?_)
  change BitVec.ofBool (decide (c < (v (ix16 l) : EReal))) = 1#1 ↔ _
  rw [ofBool_one, decide_eq_true_eq]

theorem nOf_val (b : Blk Ideal) (c : EReal) (m : BitVec 32) (hG : cn (fun r => c < v4 b r) 64 ≤ m.toNat) : (nOf b (fun _ => c) m).toNat = m.toNat - cn (fun r => c < v4 b r) 64 := by
  have hb := cn_le (fun r => c < v4 b r) 64
  have e : cn (fun r => c < v4 b r) 64 = (cntGt b.a.1 (fun _ => c)).toNat + (cntGt b.b.1 (fun _ => c)).toNat + (cntGt b.c.1 (fun _ => c)).toNat + (cntGt b.d.1 (fun _ => c)).toNat := by
    rw [cn_blk b (fun q => c < q.1)]
    unfold BM
    rw [Multiset.countP_add, Multiset.countP_add, Multiset.countP_add, countP_VM, countP_VM, countP_VM, countP_VM, cntGt_val, cntGt_val, cntGt_val, cntGt_val]
  rw [e] at hG hb ⊢
  unfold nOf
  generalize cntGt b.a.1 (fun _ => c) = x at *
  generalize cntGt b.b.1 (fun _ => c) = y at *
  generalize cntGt b.c.1 (fun _ => c) = z at *
  generalize cntGt b.d.1 (fun _ => c) = w at *
  change (m - (0#32 + x + y + z + w)).toNat = _
  have hs : (0#32 + x + y + z + w).toNat = x.toNat + y.toNat + z.toNat + w.toNat := by
    simp only [BitVec.toNat_add, BitVec.toNat_ofNat]; omega
  rw [BitVec.toNat_sub, hs]
  have := m.isLt
  omega

theorem jOf_val (n : BitVec 32) (h1 : 1 ≤ n.toNat) (h2 : n.toNat ≤ 16) : (jOf n).toNat = n.toNat - 1 := by
  change (IntOp.maxsi (IntOp.minsi n 16#32 - 1#32) 0#32).toNat = _
  have e16 : (16#32).toNat = 16 := rfl
  have e0 : (0#32).toNat = 0 := rfl
  have e1 : (IntOp.minsi n 16#32).toNat = n.toNat := by rw [minsi_nat _ _ (by omega) (by decide), e16]; omega
  have e2 : (IntOp.minsi n 16#32 - 1#32).toNat = n.toNat - 1 := by rw [BitVec.toNat_sub, e1, BitVec.toNat_ofNat]; omega
  rw [maxsi_nat _ _ (by omega) (by decide), e2, e0]; omega

theorem bnd_val (E0 : IVec S96 32) (b : Blk Ideal) (c : EReal) (m : BitVec 32) (hq : cn (Eq4 b c) 64 ≤ 16) (hG : cn (fun r => c < v4 b r) 64 < m.toNat)
    (hn : m.toNat - cn (fun r => c < v4 b r) 64 ≤ 16) (i : Nat) (hi : i < 100000) (l : S16.Idx) :
    (BitVec.ofNat 32 i).sle (bndV (F := Ideal) E0 b (fun _ => c) m l) = true ↔
      cn (fun r => v4 b r = c ∧ (i4 b r).toInt < (i : Int)) 64 < m.toNat - cn (fun r => c < v4 b r) 64 := by
  have himax : ¬ (2147483647#32).toInt < (i : Int) := by
    have : (2147483647#32).toInt = 2147483647 := by decide
    rw [this]; omega
  have hnv := nOf_val b c m (by omega)
  have hj := jOf_val (nOf b (fun _ => c) m) (by omega) (by omega)
  have hs := sortI_lt (rd (ebV (F := Ideal) E0 b (fun _ => c)) ![0] S16.size inb_S96_S16_0) (i : Int) (jOf (nOf b (fun _ => c) m)).toNat (by omega)
  have hc : ((Finset.range 16).filter fun l => (rd (ebV (F := Ideal) E0 b (fun _ => c)) ![0] S16.size inb_S96_S16_0 (ix16 l)).toInt < (i : Int)).card
      = cn (fun r => v4 b r = c ∧ (i4 b r).toInt < (i : Int)) 64 := by
    rw [← eb_count E0 b c hq (fun w => w.toInt < (i : Int)) himax]
    refine congrArg Finset.card (Finset.filter_congr fun l hl => ?_)
    rw [Finset.mem_range] at hl
    rw [rd_E _ l hl]
  rw [hc, hj, hnv] at hs
  have hw : bndV (F := Ideal) E0 b (fun _ => c) m l = sortIV (F := Ideal) (rd (ebV (F := Ideal) E0 b (fun _ => c)) ![0] S16.size inb_S96_S16_0) (ix16 (jOf (nOf b (fun _ => c) m)).toNat) := rfl
  rw [hw, hj, hnv]
  generalize sortIV (F := Ideal) (rd (ebV (F := Ideal) E0 b (fun _ => c)) ![0] S16.size inb_S96_S16_0) (ix16 (m.toNat - cn (fun r => c < v4 b r) 64 - 1)) = w at hs
  have ei : (BitVec.ofNat 32 i).toInt = (i : Int) := by
    rw [BitVec.toInt_eq_toNat_of_lt (by rw [BitVec.toNat_ofNat]; omega), BitVec.toNat_ofNat]; omega
  rw [BitVec.sle, decide_eq_true_eq, ei]
  omega

end Cert.Proof.Sc
-- ==== Proof.Sc.M7.lean ====
/- Which entries of a row the kernel keeps: those not below the fiftieth and of rank below the number of weights. -/
module

public import proofs.«01_k».proof.Proof.Sc.M6
public import proofs.«01_k».proof.Proof.Sc.Tc

@[expose] public section

noncomputable section

namespace Cert.Proof.Sc

open Idealize.ShloMosaic
open Cert.KernelIdeal Cert.KernelIdeal.Facts₀ Cert.KernelIdeal.Facts

/-- The weight at rank `r`, of `L` ranks. -/
def fK (d : Nat → EReal) (L r : Nat) : ℝ := if r < L then Real.exp ((d r).toReal - (d 0).toReal) else 0

/-- How many prefix sums stay within the bound. -/
def pK (d : Nat → EReal) (L : Nat) : Nat := ((Finset.range 64).filter fun r => Cs (fun j => (fK d L j : EReal)) 64 r ≤ topT).card

theorem fK_exp (d : Nat → EReal) (L r : Nat) (hr : r < L) (h1 : ⊥ < d r) (h2 : d r ≤ d 0) (h3 : d 0 < ⊤) : Ideal.exp (d r - d 0) = (fK d L r : EReal) := by
  unfold fK
  rw [if_pos hr]
  have a1 := EReal.coe_toReal (lt_of_le_of_lt h2 h3).ne h1.ne'
  have a2 := EReal.coe_toReal h3.ne (lt_of_lt_of_le h1 h2).ne'
  generalize (d r).toReal = a at *
  generalize (d 0).toReal = b at *
  rw [← a1, ← a2, ← EReal.coe_sub]
  exact Ideal.exp_coe _

/-- What is asked of a row's sorted values. -/
structure RowOk (x : Fin 100000 → EReal) (d : Nat → EReal) : Prop where
  desc : Desc x d
  top : d 0 < ⊤
  far : d 64 < d 49
  mul : ∀ r, r < 49 → d (r + 16) < d r

variable {x : Fin 100000 → EReal} {d : Nat → EReal}

theorem RowOk.bot (h : RowOk x d) : ⊥ < d 49 := lt_of_le_of_lt bot_le h.far
theorem RowOk.L_lo (h : RowOk x d) : 50 ≤ cntGe x (d 49) := (h.desc 49 (by omega) _).mp le_rfl
theorem RowOk.L_hi (h : RowOk x d) : cntGe x (d 49) ≤ 64 := by
  by_contra hn
  exact absurd ((h.desc 64 (by omega) _).mpr (by omega)) (not_le.mpr h.far)
theorem RowOk.lt_iff (h : RowOk x d) (r : Nat) (hr : r < 100000) : d 49 ≤ d r ↔ r < cntGe x (d 49) := h.desc r hr _

theorem RowOk.cs (h : RowOk x d) :
    (∀ M, 64 ≤ M → ∀ r, r < 64 → (Cs (fun j => (fK d (cntGe x (d 49)) j : EReal)) M r ≤ topT ↔ r < pK d (cntGe x (d 49)))) ∧ pK d (cntGe x (d 49)) < cntGe x (d 49) := by
  have h1 := h.L_lo
  refine Cs_lower (fK d (cntGe x (d 49))) _ (fun j => ?_) ?_ (by omega) h.L_hi (fun j hj => ?_)
  · unfold fK
    split
    · exact (Real.exp_pos _).le
    · exact le_rfl
  · unfold fK
    rw [if_pos (by omega)]
    exact Real.exp_pos _
  · unfold fK
    rw [if_neg (by omega)]

theorem sbV_v4 (b : Blk Ideal) (n : Nat) (hn : n < 64) : (sbV b (ix64 n) : EReal) = v4 b n := by
  have e : (ix64 n 0).val = n := by change n % 64 = n; omega
  unfold sbV v4 vv
  rw [e]

/-- What the block of the greatest carries. -/
structure BestOk (x : Fin 100000 → EReal) (d : Nat → EReal) (b : Blk Ideal) : Prop where
  dn : Dn 64 (v4 b)
  cnt : ∀ (P : PW → Prop) [DecidablePred P], (∀ q, P q → d 49 ≤ q.1) → cn (fun r => P (v4 b r, i4 b r)) 64 = (Finset.univ.filter fun i : Fin 100000 => P (x i, BitVec.ofNat 32 i.val)).card

variable {b : Blk Ideal}

theorem BestOk.ge (hb : BestOk x d b) (θ : EReal) (hθ : d 49 ≤ θ) (r : Nat) (hr : r < 64) : θ ≤ v4 b r ↔ r < cntGe x θ := by
  have h1 := hb.cnt (fun q => θ ≤ q.1) (fun q hq => hθ.trans hq)
  unfold cntGe
  rw [← h1]
  exact lower_range (fun r => θ ≤ v4 b r) (fun i j hij hj h => h.trans (hb.dn i j hij hj)) r hr

theorem BestOk.val (hb : BestOk x d b) (h : RowOk x d) (r : Nat) (hr : r < cntGe x (d 49)) : v4 b r = d r := by
  have hL := h.L_hi
  have h1 : d 49 ≤ d r := (h.lt_iff r (by omega)).mpr hr
  have h2 : d 49 ≤ v4 b r := (hb.ge _ le_rfl r (by omega)).mpr hr
  apply le_antisymm
  · exact (h.desc r (by omega) _).mpr ((hb.ge _ h2 r (by omega)).mp le_rfl)
  · exact (hb.ge _ h1 r (by omega)).mpr ((h.desc r (by omega) _).mp le_rfl)

theorem BestOk.m_val (hb : BestOk x d b) (h : RowOk x d) : (mV b).toNat = pK d (cntGe x (d 49)) + 1 := by
  have hL := h.L_lo
  have hL' := h.L_hi
  have e49 : (b.d.1 (ix16 1) : EReal) = d 49 := by
    rw [← (v4_d b 1 (by omega)).1]; exact hb.val h 49 (by omega)
  have e0 : (b.a.1 (ix16 0) : EReal) = d 0 := by
    rw [← (v4_a b 0 (by omega)).1]; exact hb.val h 0 (by omega)
  have hm : mV b = mOf (F := Ideal) (fun _ => d 49) (fun _ => d 0) b := by unfold mV; rw [e49, e0]
  rw [hm, mOf_val]
  have hf : ∀ j, j < 64 → ew b (d 49) (d 0) j = (fK d (cntGe x (d 49)) j : EReal) := by
    intro j hj
    unfold ew
    have hg := hb.ge (d 49) le_rfl j hj
    by_cases hlt : j < cntGe x (d 49)
    · rw [if_pos (hg.mpr hlt), hb.val h j hlt]
      exact fK_exp d _ j hlt (lt_of_lt_of_le h.bot ((h.lt_iff j (by omega)).mpr hlt)) (h.desc.anti (by omega) (by omega)) h.top
    · rw [if_neg (fun hh => hlt (hg.mp hh))]
      unfold fK
      rw [if_neg hlt]
      rfl
  unfold pK
  congr 2
  refine Finset.filter_congr fun r hr => ?_
  rw [Finset.mem_range] at hr
  have : Cs (ew b (d 49) (d 0)) 64 r = Cs (fun j => (fK d (cntGe x (d 49)) j : EReal)) 64 r := by
    unfold Cs
    rw [Finset.sum_congr rfl (fun k hk => hf k (Finset.mem_range.mp hk))]
    exact Finset.sum_congr rfl (fun j hj => by rw [hf j (by rw [Finset.mem_range] at hj; omega)])
  rw [this]

theorem keep_iff (y c : EReal) (B j : BitVec 32) : keepBit (F := Ideal) y c B j = 1#1 ↔ c < y ∨ (y = c ∧ j.sle B = true) := by
  change BitVec.ofBool (decide (c < y)) ||| (BitVec.ofBool (decide (y = c)) &&& BitVec.ofBool (j.sle B)) = 1#1 ↔ _
  by_cases h1 : c < y <;> by_cases h2 : y = c <;> cases hs : j.sle B <;> simp [h1, h2]

theorem rank_gt {n : Nat} (x : Fin n → EReal) (c : EReal) (i : Fin n) (hx : c < x i) : rankOf x i ≤ (Finset.univ.filter fun j : Fin n => c < x j).card := by
  refine Finset.card_le_card fun j hj => ?_
  simp only [Finset.mem_filter, Finset.mem_univ, true_and] at hj ⊢
  unfold Bef at *
  rcases hj with hj | ⟨hj, -⟩
  · exact hx.trans hj
  · rw [hj]; exact hx

theorem rank_eq {n : Nat} (x : Fin n → EReal) (c : EReal) (i : Fin n) (hx : c = x i) :
    rankOf x i = (Finset.univ.filter fun j : Fin n => c < x j).card + (Finset.univ.filter fun j : Fin n => x j = c ∧ j < i).card := by
  unfold rankOf
  rw [← Finset.card_union_of_disjoint]
  · congr 1
    ext j
    simp only [Finset.mem_filter, Finset.mem_univ, true_and, Finset.mem_union]
    unfold Bef
    rw [← hx]
  · rw [Finset.disjoint_left]
    intro r h1 h2
    simp only [Finset.mem_filter, Finset.mem_univ, true_and] at h1 h2
    exact absurd h2.1 h1.ne'

theorem rank_le {n : Nat} (x : Fin n → EReal) (c : EReal) (i : Fin n) (hx : x i < c) : cntGe x c ≤ rankOf x i := by
  unfold cntGe rankOf
  refine Finset.card_le_card fun j hj => ?_
  simp only [Finset.mem_filter, Finset.mem_univ, true_and] at hj ⊢
  unfold Bef at *
  exact .inl (lt_of_lt_of_le hx hj)

theorem BestOk.kept (hb : BestOk x d b) (h : RowOk x d) (E0 : IVec S96 32) (l l' : S16.Idx) (i : Fin 100000) :
    keepBit (F := Ideal) (x i) (cutV b l) (bndV (F := Ideal) E0 b (cutV b) (mV b) l') (BitVec.ofNat 32 i.val) = 1#1
      ↔ d 49 ≤ x i ∧ rankOf x i < pK d (cntGe x (d 49)) + 1 := by
  have hL := h.L_lo
  have hL' := h.L_hi
  have hm := hb.m_val h
  have hp := h.cs.2
  generalize pK d (cntGe x (d 49)) = p at *
  -- the cut
  have hcut : cutV b = fun _ => v4 b p := by
    funext l
    unfold cutV
    have e1 : (Scalar.subi (mV b) 1#32).toNat = p := by
      change (mV b - 1#32).toNat = p
      rw [BitVec.toNat_sub, hm, BitVec.toNat_ofNat]; omega
    have e2 : (Scalar.minsi (Scalar.subi (mV b) 1#32) 63#32).toNat = p := by
      change (IntOp.minsi (Scalar.subi (mV b) 1#32) 63#32).toNat = p
      have e63 : (63#32).toNat = 63 := rfl
      rw [minsi_nat _ _ (by omega) (by decide), e1, e63]; omega
    rw [e2]
    exact sbV_v4 b p (by omega)
  rw [hcut]
  have hc49 : d 49 ≤ v4 b p := (hb.ge _ le_rfl p (by omega)).mpr hp
  have hwd : ∀ r, r ≤ p → v4 b r = d r := fun r hr => hb.val h r (by omega)
  generalize hc : v4 b p = c at *
  -- the counts
  have hG := hb.cnt (fun q => c < q.1) (fun q hq => hc49.trans hq.le)
  have hE := hb.cnt (fun q => q.1 = c) (fun q hq => hq ▸ hc49)
  have hI := hb.cnt (fun q => q.1 = c ∧ q.2.toInt < (i.val : Int)) (fun q hq => hq.1 ▸ hc49)
  have hge := hb.cnt (fun q => c ≤ q.1) (fun q hq => hc49.trans hq)
  simp only [] at hG hE hI hge
  have hlow : ∀ r, r < 64 → (c < v4 b r ↔ r < cn (fun r => c < v4 b r) 64) := fun r hr =>
    lower_range (fun r => c < v4 b r) (fun i j hij hj hh => lt_of_lt_of_le hh (hb.dn i j hij hj)) r hr
  have hlow' : ∀ r, r < 64 → (c ≤ v4 b r ↔ r < cntGe x c) := fun r hr => hb.ge c hc49 r hr
  have hsum : cn (fun r => c ≤ v4 b r) 64 = cn (fun r => c < v4 b r) 64 + cn (Eq4 b c) 64 := by
    unfold cn
    rw [← Finset.card_union_of_disjoint]
    · congr 1
      ext r
      simp only [Finset.mem_filter, Finset.mem_union, Eq4]
      constructor
      · rintro ⟨a1, a2⟩
        rcases lt_or_eq_of_le a2 with hh | hh
        · exact .inl ⟨a1, hh⟩
        · exact .inr ⟨a1, hh.symm⟩
      · rintro (⟨a1, a2⟩ | ⟨a1, a2⟩)
        · exact ⟨a1, a2.le⟩
        · exact ⟨a1, a2.ge⟩
    · rw [Finset.disjoint_left]
      intro r h1 h2
      simp only [Finset.mem_filter, Eq4] at h1 h2
      exact absurd h2.2 h1.2.ne'
  have hgeq : cn (fun r => c ≤ v4 b r) 64 = cntGe x c := hge
  have hGp : cn (fun r => c < v4 b r) 64 ≤ p := by
    by_contra hn
    have := (hlow p (by omega)).mpr (by omega)
    rw [hc] at this
    exact absurd this (lt_irrefl _)
  have hpc : p < cntGe x c := (hlow' p (by omega)).mp hc.ge
  have h16 : cntGe x c ≤ cn (fun r => c < v4 b r) 64 + 16 := by
    by_cases hG48 : cn (fun r => c < v4 b r) 64 < 49
    · have h1 := h.mul _ hG48
      by_contra hn
      have h2 := (h.desc (cn (fun r => c < v4 b r) 64 + 16) (by omega) c).mpr (by omega)
      have h3 := lt_of_le_of_lt h2 h1
      rw [← hwd _ hGp] at h3
      have := (hlow _ (by omega)).mp h3
      omega
    · have : cntGe x c ≤ 64 := by
        by_contra hn
        have := (h.desc 64 (by omega) c).mpr (by omega)
        exact absurd (hc49.trans this) (not_le.mpr h.far)
      omega
  have hb1 := bnd_val E0 b c (mV b) (by omega) (by omega) (by omega) i.val i.isLt l'
  rw [keep_iff, hb1, hm, hI, hG]
  rw [hG] at hGp hsum
  have hlt : ∀ k : Fin 100000, ((BitVec.ofNat 32 k.val).toInt < (i.val : Int) ↔ k < i) := by
    intro k
    have ek : (BitVec.ofNat 32 k.val).toInt = (k.val : Int) := by
      rw [BitVec.toInt_eq_toNat_of_lt (by rw [BitVec.toNat_ofNat]; omega), BitVec.toNat_ofNat]; omega
    rw [ek, Fin.lt_def]; omega
  simp only [hlt]
  rcases lt_trichotomy c (x i) with hx | hx | hx
  · refine ⟨fun _ => ⟨hc49.trans hx.le, ?_⟩, fun _ => .inl hx⟩
    have := rank_gt x c i hx
    omega
  · have hr := rank_eq x c i hx
    rw [hr]
    constructor
    · rintro (hh | ⟨-, hh⟩)
      · exact absurd hx hh.ne
      · exact ⟨hx ▸ hc49, by omega⟩
    · rintro ⟨-, hh⟩
      exact .inr ⟨hx.symm, by omega⟩
  · have := rank_le x c i hx
    constructor
    · rintro (hh | ⟨hh, -⟩)
      · exact absurd hx hh.not_gt
      · exact absurd hx hh.ge.not_gt
    · rintro ⟨-, hh⟩
      omega

/-- The kernel's rule for a row. -/
theorem row_kept (R : Vec Ideal S100000 .f32) (h : RowOk (rx R) d) (hcap : cntC (rowX R) (thX (rowX R)) 100096 ≤ 4096) (E0 : IVec S96 32) (l l' : S16.Idx) (i : Fin 100000) :
    keepBit (F := Ideal) (rx R i) (cutV (bestV (rowX R)) l) (rowBnd (F := Ideal) E0 (rowX R) l') (BitVec.ofNat 32 i.val) = 1#1
      ↔ d 49 ≤ rx R i ∧ rankOf (rx R) i < pK d (cntGe (rx R) (d 49)) + 1 := by
  obtain ⟨h1, h2⟩ := row_best R h.desc hcap h.far
  have hb : BestOk (rx R) d (bestV (rowX R)) := ⟨h1, fun P _ hP => (cn_blk _ P).trans (h2 P hP)⟩
  exact hb.kept h E0 l l' i

end Cert.Proof.Sc
-- ==== Proof.Sc.RB.lean ====
/- The masked row, its order and its ranks, and reads of slices, broadcasts, casts, joins and the pair scatter, at any extents. -/
module

public import proofs.«01_k».proof.Proof.Sc.RA
public import proofs.«01_k».proof.Proof.Sc.M7
public import Idealize.ShloMosaic.Lib.Routing.OpsSet

@[expose] public section

noncomputable section

namespace Cert.Proof.Sc

open Idealize.ShloMosaic Idealize.ShloMosaic.Routing Idealize.ShloMosaic.ValueIdx

/-! ## Reads -/

theorem ix2_ex {a b : Nat} (j : (shape2 a b).Idx) : ∃ (p : Fin a) (q : Fin b), j = ix2 p q :=
  ⟨j 0, j 1, funext fun e => match e with | ⟨0, _⟩ => rfl | ⟨1, _⟩ => rfl⟩

theorem cutCol {α : Type} {a b c : Nat} (o : Nat) (x : (shape2 a b).Idx → α) (h : (shape2 a b).Slices ![0, o] (shape2 a c)) (i : Fin a) (j : Fin c) (q : Fin b) (hq : q.val = o + j.val) :
    extractStridedSlice (shape2 a c) ![0, o] x h (ix2 i j) = x (ix2 i q) := by
  unfold extractStridedSlice
  refine congrArg x (funext fun a' => Fin.ext ?_)
  match a' with
  | ⟨0, _⟩ => show 0 + i.val = i.val; exact Nat.zero_add _
  | ⟨1, _⟩ => exact hq.symm

theorem spread {α : Type} {n m : Nat} (h : (shape2 n 1).BroadcastsInDim (shape2 n m) (![0, 1] : Fin 2 → Fin (shape2 n m).rank)) (v : (shape2 n 1).Idx → α) (p : Fin n) (q : Fin m) :
    broadcastInDim (shape2 n m) ![0, 1] h v (ix2 p q) = v (ix2 p (0 : Fin 1)) := by
  refine broadcastInDim_apply _ h _ _ _ fun a => ?_
  match a with
  | ⟨0, _⟩ =>
    show p.val = if n = 1 then 0 else p.val
    have := p.isLt
    split <;> omega
  | ⟨1, _⟩ =>
    show (0 : Nat) = if (1 : Nat) = 1 then 0 else q.val
    rw [if_pos rfl]

theorem cast3 {α : Type} {a b : Nat} (x : (shape2 a b).Idx → α) (h : (shape2 a b).ShapeCasts (shape3 a b 1)) (i : Fin a) (j : Fin b) :
    shapeCast (shape3 a b 1) x h (ix3 i j (0 : Fin 1)) = x (ix2 i j) := by
  refine shapeCast_apply x h _ _ ?_
  rw [Shape.rowMajor_val_two, Shape.rowMajor_val_three]
  show i.val * b + j.val = (i.val * b + j.val) * 1 + 0
  omega

theorem join_left {α : Type} {a b c d : Nat} (x : (shape2 a b).Idx → α) (y : (shape2 a c).Idx → α) (h : Shape.Concatenates [shape2 a b, shape2 a c] (shape2 a d) 1)
    (i : Fin a) (j : Fin d) (q : Fin b) (hq : q.val = j.val) : concatenate (shape2 a d) 1 [⟨shape2 a b, x⟩, ⟨shape2 a c, y⟩] h (ix2 i j) = x (ix2 i q) := by
  refine concatenate_pair_apply_left _ x y h _ rfl _ (fun e => ?_)
  match e with
  | ⟨0, _⟩ => rfl
  | ⟨1, _⟩ => exact hq

theorem join_right {α : Type} {a b c d : Nat} (x : (shape2 a b).Idx → α) (y : (shape2 a c).Idx → α) (h : Shape.Concatenates [shape2 a b, shape2 a c] (shape2 a d) 1)
    (i : Fin a) (j : Fin d) (q : Fin c) (hq : q.val + b = j.val) : concatenate (shape2 a d) 1 [⟨shape2 a b, x⟩, ⟨shape2 a c, y⟩] h (ix2 i j) = y (ix2 i q) := by
  refine concatenate_pair_apply_right _ x y h _ rfl rfl _ (fun e he => ?_) hq
  match e with
  | ⟨0, _⟩ => rfl
  | ⟨1, _⟩ => exact absurd rfl he

theorem pair_left {α : Type} {a b : Nat} (x y : (shape3 a b 1).Idx → α) (h : Shape.Concatenates [shape3 a b 1, shape3 a b 1] (shape3 a b 2) 2)
    (i : Fin a) (j : Fin b) : concatenate (shape3 a b 2) 2 [⟨shape3 a b 1, x⟩, ⟨shape3 a b 1, y⟩] h (ix3 i j (0 : Fin 2)) = x (ix3 i j (0 : Fin 1)) := by
  refine concatenate_pair_apply_left _ x y h _ rfl _ (fun e => ?_)
  match e with
  | ⟨0, _⟩ => rfl
  | ⟨1, _⟩ => rfl
  | ⟨2, _⟩ => rfl

theorem pair_right {α : Type} {a b : Nat} (x y : (shape3 a b 1).Idx → α) (h : Shape.Concatenates [shape3 a b 1, shape3 a b 1] (shape3 a b 2) 2)
    (i : Fin a) (j : Fin b) : concatenate (shape3 a b 2) 2 [⟨shape3 a b 1, x⟩, ⟨shape3 a b 1, y⟩] h (ix3 i j (1 : Fin 2)) = y (ix3 i j (0 : Fin 1)) := by
  refine concatenate_pair_apply_right _ x y h _ rfl rfl _ (fun e he => ?_) rfl
  match e with
  | ⟨0, _⟩ => rfl
  | ⟨1, _⟩ => rfl
  | ⟨2, _⟩ => exact absurd rfl he

/-- The scatter of one word for each place, each row's places permuted by `σ`. -/
theorem put_perm {α : Type} {A N : Nat} (d : ScatterDims (shape2 A N) (shape3 A N 2) (shape2 A N)) (hiw : d.insertedWindowDims = [0, 1])
    (hsd : d.scatterDimsToOperandDims = [0, 1]) (hivd : d.indexVectorDim = 2) (x0 : (shape2 A N).Idx → α) (idx : IVec (shape3 A N 2) 32) (upd : (shape2 A N).Idx → α)
    (hA : A < 2 ^ 31) (hN : N < 2 ^ 31) (σ : Fin A → Fin N → Fin N) (hσ : ∀ r, Function.Injective (σ r))
    (h0 : ∀ r k, idx (ix3 r k (0 : Fin 2)) = BitVec.ofNat 32 r.val) (h1 : ∀ r k, idx (ix3 r k (1 : Fin 2)) = BitVec.ofNat 32 (σ r k).val) (r : Fin A) (k : Fin N) :
    Host.scatter d (fun _ b => b) x0 idx upd (ix2 r (σ r k)) = upd (ix2 r k) := by
  have key : ∀ (r' : Fin A) (k' : Fin N), d.resultIdx? (ix2 r' k') idx = some (ix2 r (σ r k)) ↔ r' = r ∧ k' = k := by
    intro r' k'
    have b1 := r'.isLt
    have b2 := (σ r' k').isLt
    rw [scatter_lands2 d hiw hsd hivd idx r' k' r (σ r k), h0, h1, StableHlo.Predicate.toInt_ofNat_small _ (by omega), StableHlo.Predicate.toInt_ofNat_small _ (by omega)]
    constructor
    · rintro ⟨e0, e1⟩
      have er : r' = r := Fin.ext (by exact_mod_cast e0)
      subst er
      exact ⟨rfl, hσ _ (Fin.ext (by exact_mod_cast e1))⟩
    · rintro ⟨rfl, rfl⟩
      exact ⟨rfl, rfl⟩
  refine scatter_set_hit d x0 idx upd _ _ (fun k' hk' => ?_) (ix2 r k) ((key r k).mpr ⟨rfl, rfl⟩)
  obtain ⟨a, b, rfl⟩ := ix2_ex k'
  obtain ⟨h, h'⟩ := (key _ _).mp hk'
  rw [h, h']

/-! ## The masked row -/

variable {n : Nat} (x : Fin n → EReal) (κ : EReal)

/-- The row with the entries below `κ` at −∞. -/
def msk (i : Fin n) : EReal := if x i < κ then ⊥ else x i

theorem le_msk (θ : EReal) (hθ : ⊥ < θ) (i : Fin n) : θ ≤ msk x κ i ↔ θ ≤ x i ∧ κ ≤ x i := by
  unfold msk
  split
  · rename_i h
    exact ⟨fun h' => absurd h' (not_le.mpr hθ), fun h' => absurd h (not_lt.mpr h'.2)⟩
  · rename_i h
    exact ⟨fun h' => ⟨h', not_lt.mp h⟩, fun h' => h'.1⟩

theorem cnt_msk (θ : EReal) (hθ : ⊥ < θ) (r : Nat) : r < cntGe (msk x κ) θ ↔ r < cntGe x θ ∧ r < cntGe x κ := by
  have e : cntGe (msk x κ) θ = (Finset.univ.filter fun i => θ ≤ x i ∧ κ ≤ x i).card := by
    unfold cntGe
    refine congrArg Finset.card (Finset.filter_congr fun i _ => le_msk x κ θ hθ i)
  rw [e]
  rcases le_total κ θ with h | h
  · have e1 : (Finset.univ.filter fun i => θ ≤ x i ∧ κ ≤ x i).card = cntGe x θ :=
      congrArg Finset.card (Finset.filter_congr fun i _ => ⟨fun a => a.1, fun a => ⟨a, h.trans a⟩⟩)
    have e2 : cntGe x θ ≤ cntGe x κ := Finset.card_le_card fun i hi => by
      rw [Finset.mem_filter] at hi ⊢
      exact ⟨hi.1, h.trans hi.2⟩
    rw [e1]; omega
  · have e1 : (Finset.univ.filter fun i => θ ≤ x i ∧ κ ≤ x i).card = cntGe x κ :=
      congrArg Finset.card (Finset.filter_congr fun i _ => ⟨fun a => a.2, fun a => ⟨h.trans a, a⟩⟩)
    have e2 : cntGe x κ ≤ cntGe x θ := Finset.card_le_card fun i hi => by
      rw [Finset.mem_filter] at hi ⊢
      exact ⟨hi.1, h.trans hi.2⟩
    rw [e1]; omega

theorem dsc_msk (r : Nat) (hr : r < n) : dsc (msk x κ) r = if r < cntGe x κ then dsc x r else ⊥ := by
  refine eq_of_forall_le_iff fun θ => ?_
  rcases eq_or_lt_of_le (bot_le (a := θ)) with h | h
  · rw [← h]; exact ⟨fun _ => bot_le, fun _ => bot_le⟩
  · rw [dsc_desc (msk x κ) r hr, cnt_msk x κ θ h, ← dsc_desc x r hr]
    split
    · rename_i hL; exact ⟨fun a => a.1, fun a => ⟨a, hL⟩⟩
    · rename_i hL; exact ⟨fun a => absurd a.2 hL, fun a => absurd a (not_le.mpr h)⟩

theorem rank_msk (hκ : ⊥ < κ) (i : Fin n) (hi : κ ≤ x i) : rankOf (msk x κ) i = rankOf x i := by
  unfold rankOf
  refine congrArg Finset.card (Finset.filter_congr fun m _ => ?_)
  have ei : msk x κ i = x i := if_neg (not_lt.mpr hi)
  unfold Bef
  rw [ei]
  unfold msk
  split
  · rename_i h
    have h1 : x m < x i := lt_of_lt_of_le h hi
    constructor
    · rintro (h2 | ⟨h2, -⟩)
      · exact absurd h2 not_lt_bot
      · exact absurd h2 (lt_of_lt_of_le hκ hi).ne
    · rintro (h2 | ⟨h2, -⟩)
      · exact absurd h2 (not_lt.mpr h1.le)
      · exact absurd h2 h1.ne
  · exact Iff.rfl

theorem dsc_rank (i : Fin n) : dsc x (rankOf x i) = x i := by
  unfold dsc
  rw [dif_pos (rank_lt x i), src_of_rank x i ⟨rankOf x i, rank_lt x i⟩ rfl]

theorem rank_lt_cnt (i : Fin n) (hi : κ ≤ x i) : rankOf x i < cntGe x κ := by
  rw [← dsc_desc x _ (rank_lt x i), dsc_rank]
  exact hi

end Cert.Proof.Sc
-- ==== Proof.Sc.RC.lean ====
/- The reference's result, in named stages. -/
module

public import proofs.«01_k».proof.Proof.Sc.RB
public import proofs.«01_k».proof.Proof.Gen.ReferenceIdeal.Run

@[expose] public section

set_option maxRecDepth 8192

noncomputable section

namespace Cert.Proof.Sc

open Cert.ReferenceIdeal Cert.ReferenceIdeal.Gen Idealize.ShloMosaic Idealize.ShloMosaic.TcCoe Idealize.ShloMosaic.StableHlo

/-- The row cut at its fiftieth value. -/
def rY3 (X : FVec Ideal S64x100000 .f32) : FVec Ideal S64x100000 .f32 :=
  select (cmpf .olt X (broadcastInDim S64x100000 ![0, 1] bcast_S64x1_S64x100000_0_1 (extractStridedSlice S64x1 ![0, 49] ((Host.topK S64x50 1 (FloatOps.cmpfTotal .gt) X sliceFits_S64x100000_S64x50).1) slices_S64x50_S64x1_0_49))) (broadcastInDim S64x100000 ![] bcast_S_S64x100000 (constant S_ .f32 0xFF800000#32)) X

/-- The order of the places, from the greatest value down. -/
def rV5 (X : FVec Ideal S64x100000 .f32) : IVec S64x100000 32 :=
  (Host.sort2 S64x100000 1 comparator_f32_i32_d1 (Host.negf (rY3 X)) (iotaInDim S64x100000 32 1)).2

/-- The same, a negative place counted from the end. -/
def rW5 (X : FVec Ideal S64x100000 .f32) : IVec S64x100000 32 :=
  select (cmpi .slt (rV5 X) (broadcastInDim S64x100000 ![] bcast_S_S64x100000 (constantI S_ 32 0#32))) (addi (rV5 X) (broadcastInDim S64x100000 ![] bcast_S_S64x100000 (constantI S_ 32 100000#32))) (rV5 X)

/-- The same, with a last axis of one. -/
def rIX (X : FVec Ideal S64x100000 .f32) : IVec S64x100000x1 32 :=
  shapeCast S64x100000x1 (rW5 X) shapeCasts_S64x100000_S64x100000x1

/-- The values in that order. -/
def rV6 (X : FVec Ideal S64x100000 .f32) : FVec Ideal S64x100000 .f32 :=
  select (Host.reduce IntOp.andi (andi (cmpi .sge (rIX X) (broadcastInDim S64x100000x1 ![] bcast_S_S64x100000x1 (constantI S_ 32 0#32))) (cmpi .sle (rIX X) (broadcastInDim S64x100000x1 ![0, 1, 2] bcast_S1x1x1_S64x100000x1_0_1_2 (broadcastInDim S1x1x1 ![2] bcast_S1_S1x1x1_2 (constantI S1 32 99999#32))))) (constantI S_ 1 1#1) reducesTo_S64x100000x1_S64x100000_d2 h_S_) (Host.gather gather_S64x100000_S64x100000x1_S64x100000_n_1_0_0_1_2_11 (rY3 X) (rIX X)) (broadcastInDim S64x100000 ![] bcast_S_S64x100000 (constant S_ .f32 0x7FC00000#32))

/-- Less the greatest. -/
def rV12 (X : FVec Ideal S64x100000 .f32) : FVec Ideal S64x100000 .f32 :=
  subf (rV6 X) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (rV6 X) (constant S_ .f32 0xFF800000#32) reducesTo_S64x100000_S64_d1 h_S_))))

/-- The exponentials. -/
def rV13 (X : FVec Ideal S64x100000 .f32) : FVec Ideal S64x100000 .f32 :=
  Host.exp (rV12 X)

/-- The weights. -/
def rV17 (X : FVec Ideal S64x100000 .f32) : FVec Ideal S64x100000 .f32 :=
  Host.divf (rV13 X) (broadcastInDim S64x100000 ![0, 1] bcast_S64x1_S64x100000_0_1 (broadcastInDim S64x1 ![0] bcast_S64_S64x1_0 (Host.reduceAdd (rV13 X) (constant S_ .f32 0x00000000#32) reducesTo_S64x100000_S64_d1 h_S_)))

/-- The running sums of the weights. -/
def rV18 (X : FVec Ideal S64x100000 .f32) : FVec Ideal S64x100000 .f32 :=
  Host.reduceWindowAdd ![1, 100000] ![1, 1] ![0, 99999] ![0, 0] (rV17 X) (broadcastInDim S_ ![] bcast_S_S_ (constant S_ .f32 0x00000000#32)) reduceWindows_S64x100000_S64x100000_w1s1p0_0_w100000s1p99999_0 h_S_

/-- Which running sums pass the bound. -/
def rV20 (X : FVec Ideal S64x100000 .f32) : IVec S64x100000 1 :=
  cmpf .ogt (rV18 X) (broadcastInDim S64x100000 ![] bcast_S_S64x100000 (constant S_ .f32 0x3F666666#32))

/-- The same, one place on. -/
def rV24 (X : FVec Ideal S64x100000 .f32) : IVec S64x100000 1 :=
  concatenate S64x100000 1 [⟨S64x1, (broadcastInDim S64x1 ![] bcast_S_S64x1 (constantI S_ 1 0#1))⟩, ⟨S64x99999, (extractStridedSlice S64x99999 ![0, 0] (rV20 X) slices_S64x100000_S64x99999_0_0)⟩] concatenates_S64x1_S64x99999_S64x100000_d1

/-- The row and place each bit is for. -/
def rV41 (X : FVec Ideal S64x100000 .f32) : IVec S64x100000x2 32 :=
  concatenate S64x100000x2 2 [⟨S64x100000x1, (broadcastInDim S64x100000x1 ![0, 1] bcast_S64x100000_S64x100000x1_0_1 (broadcastInDim S64x100000 ![0, 1] bcast_S64x1_S64x100000_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩, ⟨S64x100000x1, (broadcastInDim S64x100000x1 ![0, 1] bcast_S64x100000_S64x100000x1_0_1 (rW5 X))⟩] concatenates_S64x100000x1_S64x100000x1_S64x100000x2_d2

/-- What the reference returns. -/
def rOut (X : FVec Ideal S64x100000 .f32) : FVec Ideal S64x100000 .f32 :=
  select (Host.scatter scatter_S64x100000_S64x100000x2_S64x100000_n_01_01_2 (fun _ b => b) (broadcastInDim S64x100000 ![] bcast_S_S64x100000 (constantI S_ 1 0#1)) (rV41 X) (rV24 X)) (broadcastInDim S64x100000 ![] bcast_S_S64x100000 (constant S_ .f32 0xFF800000#32)) (rY3 X)

theorem rOut_eq (m : (ℓ : Loc nD τ sig) → Buf (Elt Ideal) ℓ) (c : Dev nD) :
    Cert.ReferenceIdeal.Value.res_main_v43 (F := Ideal) m c = rOut (m ((c.tc : Thread nD τ).loc main_arg0)) := rfl

end Cert.Proof.Sc
-- ==== Proof.Sc.RD.lean ====
/- The reference's stages read at a row and a place, down to its result. -/
module

public import proofs.«01_k».proof.Proof.Sc.RC

@[expose] public section

set_option maxRecDepth 8192

noncomputable section

namespace Cert.Proof.Sc

open Cert.ReferenceIdeal Cert.ReferenceIdeal.Gen Idealize.ShloMosaic Idealize.ShloMosaic.TcCoe Idealize.ShloMosaic.StableHlo
open Idealize.ShloMosaic.Routing Idealize.ShloMosaic.ValueIdx

variable (X : FVec Ideal S64x100000 .f32)

theorem sel_ap {α : Type} {s : Shape} (c : IVec s 1) (a b : s.Idx → α) (i : s.Idx) : select c a b i = Scalar.select (c i) (a i) (b i) := rfl
theorem sel_0 {α : Type} (a b : α) : Scalar.select 0#1 a b = b := rfl
theorem sub_ap {s : Shape} (a b : FVec Ideal s .f32) (i : s.Idx) : subf a b i = ((a i : EReal) - b i : EReal) := rfl
theorem exp_ap {s : Shape} (a : FVec Ideal s .f32) (i : s.Idx) : Host.exp a i = Ideal.exp (a i) := rfl
theorem div_ap {s : Shape} (a b : FVec Ideal s .f32) (i : s.Idx) : Host.divf a b i = Ideal.div (a i) (b i) := rfl
theorem max_ap {s : Shape} (a b : FVec Ideal s .f32) (i : s.Idx) : maximumf a b i = (max (a i : EReal) (b i) : EReal) := rfl
theorem gt_ap {s : Shape} (a b : FVec Ideal s .f32) (i : s.Idx) : cmpf .ogt a b i = BitVec.ofBool (decide ((b i : EReal) < a i)) := rfl

/-- Row `r`. -/
def xx (r : Fin 64) : Fin 100000 → EReal := rw2 (A := 64) (N := 100000) X r
/-- Row `r`, cut at its fiftieth value. -/
def yy (r : Fin 64) : Fin 100000 → EReal := msk (xx X r) (dsc (xx X r) 49)
/-- The cut row's values from the greatest down. -/
def dd (r : Fin 64) : Nat → EReal := dsc (yy X r)

theorem sel_bool {α : Type} (p : Prop) [Decidable p] (a b : α) : Scalar.select (BitVec.ofBool (decide p)) a b = if p then a else b := by
  by_cases h : p <;> simp [Scalar.select, h]

theorem con_bot : constant (F := Ideal) S_ .f32 0xFF800000#32 ix0 = (⊥ : EReal) := neg_bot

theorem rY3_ix (r : Fin 64) (i : Fin 100000) : rY3 X (ix2 r i) = yy X r i := by
  have e1 : (broadcastInDim S64x100000 ![0, 1] bcast_S64x1_S64x100000_0_1 (extractStridedSlice S64x1 ![0, 49] ((Host.topK S64x50 1 (FloatOps.cmpfTotal (F := Ideal) (φ := .f32) .gt) X sliceFits_S64x100000_S64x50).1) slices_S64x50_S64x1_0_49)) (ix2 r i) = dsc (xx X r) 49 :=
    (spread _ _ r i).trans ((cutCol 49 _ _ r 0 ⟨49, by omega⟩ rfl).trans (topK_ix (by omega) X _ r ⟨49, by omega⟩))
  have e2 : (broadcastInDim S64x100000 ![] bcast_S_S64x100000 (constant (F := Ideal) S_ .f32 0xFF800000#32)) (ix2 r i) = (⊥ : EReal) := (bc0 _ _ _).trans con_bot
  unfold rY3
  change Scalar.select (BitVec.ofBool (decide (X (ix2 r i) < _))) _ (X (ix2 r i)) = _
  rw [sel_bool, e1, e2]
  rfl

theorem cmp_lt (l q : EReal × BitVec 32) : comparator_f32_i32_d1 (F := Ideal) l q = BitVec.ofBool (decide (l.1 < q.1)) := by
  have h0 : ∀ a : EReal, Scalar.select (BitVec.ofBool (decide (a = (FloatOps.ofBits (F := Ideal) .f32 0x00000000#32 : EReal)))) (FloatOps.ofBits (F := Ideal) .f32 0x00000000#32 : EReal) a = a := by
    intro a
    rw [sel_bool]
    split
    · rename_i h; exact h.symm
    · rfl
  have h1 : ∀ a b c : EReal, Scalar.select (BitVec.ofBool (decide (a ≠ a))) b c = c := by
    intro a b c
    rw [sel_bool, if_neg (by simp)]
  change BitVec.ofBool (decide (Scalar.select (BitVec.ofBool (decide (l.1 ≠ l.1))) _ (Scalar.select (BitVec.ofBool (decide (l.1 = (FloatOps.ofBits (F := Ideal) .f32 0x00000000#32 : EReal)))) (FloatOps.ofBits (F := Ideal) .f32 0x00000000#32 : EReal) l.1)
    < Scalar.select (BitVec.ofBool (decide (q.1 ≠ q.1))) _ (Scalar.select (BitVec.ofBool (decide (q.1 = (FloatOps.ofBits (F := Ideal) .f32 0x00000000#32 : EReal)))) (FloatOps.ofBits (F := Ideal) .f32 0x00000000#32 : EReal) q.1))) = _
  rw [h1, h1, h0, h0]

theorem rV5_ix (r : Fin 64) (k : Fin 100000) : rV5 X (ix2 r k) = BitVec.ofNat 32 (src (yy X r) k).val := by
  unfold rV5
  refine (sort_ix (A := 64) (N := 100000) _ _ _ (yy X r) r k (fun i j => ?_)).2.trans rfl
  rw [cmp_lt]
  change BitVec.ofBool (decide ((-(rY3 X (ix2 r i)) : EReal) < -(rY3 X (ix2 r j)))) = _
  rw [rY3_ix, rY3_ix]
  congr 2
  exact propext EReal.neg_lt_neg_iff

theorem nat_small {N : Nat} (hN : N < 2 ^ 31) (i : Fin N) : (BitVec.ofNat 32 i.val).toNat < 2 ^ (32 - 1) := by
  have := i.isLt
  rw [BitVec.toNat_ofNat, Nat.mod_eq_of_lt (by omega)]
  omega

theorem rW5_ix (r : Fin 64) (k : Fin 100000) : rW5 X (ix2 r k) = BitVec.ofNat 32 (src (yy X r) k).val := by
  unfold rW5
  change Scalar.select (IntOp.cmpi .slt (rV5 X (ix2 r k)) 0#32) _ (rV5 X (ix2 r k)) = _
  rw [rV5_ix]
  exact wrap_of_lt _ _ (nat_small (by omega) _)

theorem rIX_ix (r : Fin 64) (k : Fin 100000) : rIX X (ix3 r k (0 : Fin 1)) = BitVec.ofNat 32 (src (yy X r) k).val :=
  (cast3 _ _ r k).trans (rW5_ix X r k)

theorem in_range {N : Nat} (M : Nat) (hN : N < 2 ^ 31) (hM : N = M + 1) (i : Fin N) (w : BitVec 32) (hw : w = BitVec.ofNat 32 i.val) :
    IntOp.andi (IntOp.cmpi .sge w 0#32) (IntOp.cmpi .sle w (BitVec.ofNat 32 M)) = 1#1 := by
  subst hw
  have hi := i.isLt
  have e1 : IntOp.cmpi .sge (BitVec.ofNat 32 i.val) 0#32 = 1#1 := (Predicate.sle_ofNat_iff 0 i.val (by omega) (by omega)).mpr (by omega)
  have e2 : IntOp.cmpi .sle (BitVec.ofNat 32 i.val) (BitVec.ofNat 32 M) = 1#1 := (Predicate.sle_ofNat_iff i.val M (by omega) (by omega)).mpr (by omega)
  rw [e1, e2]
  rfl

theorem ix3_ex {a b : Nat} (j : (shape3 a b 1).Idx) : ∃ (p : Fin a) (q : Fin b), j = ix3 p q (0 : Fin 1) :=
  ⟨j 0, j 1, funext fun e => match e with | ⟨0, _⟩ => rfl | ⟨1, _⟩ => rfl | ⟨2, _⟩ => Fin.ext (by have h : (j 2).val < 1 := (j 2).isLt; change (j 2).val = 0; omega)⟩

theorem rV6_ix (r : Fin 64) (k : Fin 100000) : rV6 X (ix2 r k) = dd X r k.val := by
  have e1 := Host.reduce_andi_one (andi (cmpi .sge (rIX X) (broadcastInDim S64x100000x1 ![] bcast_S_S64x100000x1 (constantI S_ 32 0#32))) (cmpi .sle (rIX X) (broadcastInDim S64x100000x1 ![0, 1, 2] bcast_S1x1x1_S64x100000x1_0_1_2 (broadcastInDim S1x1x1 ![2] bcast_S1_S1x1x1_2 (constantI S1 32 99999#32)))))
    (constantI S_ 1 1#1) reducesTo_S64x100000x1_S64x100000_d2 h_S_ (ix2 r k) rfl (fun j => by
      obtain ⟨p, q, rfl⟩ := ix3_ex j
      exact in_range 99999 (by omega) rfl (src (yy X p) q) _ (rIX_ix X p q))
  have e2 := take_row (A := 64) (N := 100000) gather_S64x100000_S64x100000x1_S64x100000_n_1_0_0_1_2_11 rfl rfl rfl rfl rfl rfl (rY3 X) (rIX X) r k (src (yy X r) k) (rIX_ix X r k) (by omega)
  unfold rV6
  change Scalar.select (Host.reduce IntOp.andi _ _ _ _ (ix2 r k)) (Host.gather _ _ _ (ix2 r k)) _ = _
  rw [e1, e2, rY3_ix]
  unfold dd dsc
  rw [dif_pos k.isLt]
  rfl

theorem dd_anti (r : Fin 64) (k : Fin 100000) : dd X r k.val ≤ dd X r 0 := (dsc_desc (yy X r)).anti (Nat.zero_le _) k.isLt

theorem rV12_ix (r : Fin 64) (k : Fin 100000) : rV12 X (ix2 r k) = dd X r k.val - dd X r 0 := by
  have e1 := rmax_ix (A := 64) (N := 100000) (rV6 X) (constant (F := Ideal) S_ .f32 0xFF800000#32) reducesTo_S64x100000_S64_d1 h_S_ r con_bot ⟨0, by omega⟩ (fun i => by
    rw [rV6_ix, rV6_ix]; exact dd_anti X r i)
  have e2 : (broadcastInDim S64 ![] bcast_S_S64 (constant (F := Ideal) S_ .f32 0xFF800000#32)) (ix1 r) = (⊥ : EReal) := (bc0 _ _ _).trans con_bot
  unfold rV12
  rw [sub_ap, bcRows (n := 64) (m := 100000), max_ap, e1, e2, rV6_ix, rV6_ix]
  exact congrArg (fun z : EReal => dd X r k.val - z) (max_eq_right bot_le)

/-! ## The weights and the result -/

variable (h : ∀ r, RowOk (xx X r) (dsc (xx X r)))

/-- How many entries of row `r` are not below its fiftieth value. -/
def LL (r : Fin 64) : Nat := cntGe (xx X r) (dsc (xx X r) 49)
/-- Row `r`'s exponentials. -/
def ff (r : Fin 64) (k : Nat) : EReal := (fK (dsc (xx X r)) (LL X r) k : EReal)

theorem dd_val (r : Fin 64) (k : Nat) (hk : k < 100000) : dd X r k = if k < LL X r then dsc (xx X r) k else ⊥ := dsc_msk _ _ k hk

include h

theorem rV13_ix (r : Fin 64) (k : Fin 100000) : rV13 X (ix2 r k) = ff X r k.val := by
  have hL := (h r).L_lo
  have h0 : dd X r 0 = dsc (xx X r) 0 := by rw [dd_val X r 0 (by omega)]; exact if_pos (by unfold LL; omega)
  unfold rV13
  rw [exp_ap, rV12_ix, h0, dd_val X r k.val k.isLt]
  unfold ff
  split
  · rename_i hk
    exact fK_exp _ _ _ hk (lt_of_lt_of_le (h r).bot (((h r).lt_iff k.val k.isLt).mpr hk)) ((h r).desc.anti (Nat.zero_le _) k.isLt) (h r).top
  · rename_i hk
    unfold fK
    rw [if_neg hk, EReal.bot_sub]
    rfl

theorem rV17_ix (r : Fin 64) (k : Fin 100000) : rV17 X (ix2 r k) = Ideal.div (ff X r k.val) (∑ i ∈ Finset.range 100000, ff X r i) := by
  have e1 := rsum_ix (A := 64) (N := 100000) (rV13 X) (ff X r) (constant (F := Ideal) S_ .f32 0x00000000#32) zero_val reducesTo_S64x100000_S64_d1 h_S_ r (rV13_ix X h r)
  unfold rV17
  rw [div_ap, bcRows (n := 64) (m := 100000), e1, rV13_ix X h]

theorem rV18_ix (r : Fin 64) (k : Fin 100000) : rV18 X (ix2 r k) = Cs (ff X r) 100000 k.val :=
  cums_ix (A := 64) (N := 100000) (M := 99999) rfl (rV17 X) (fun i => Ideal.div (ff X r i) (∑ i ∈ Finset.range 100000, ff X r i)) _
    ((bc0 _ _ _).trans zero_val) reduceWindows_S64x100000_S64x100000_w1s1p0_0_w100000s1p99999_0 h_S_ r k (rV17_ix X h r)

theorem rV20_ix (r : Fin 64) (k : Fin 100000) : rV20 X (ix2 r k) = BitVec.ofBool (decide (topT < Cs (ff X r) 100000 k.val)) := by
  have e1 : (broadcastInDim S64x100000 ![] bcast_S_S64x100000 (constant (F := Ideal) S_ .f32 0x3F666666#32)) (ix2 r k) = topT := bc0 _ _ _
  unfold rV20
  rw [gt_ap, e1, rV18_ix X h]

theorem rV24_zero (r : Fin 64) (k : Fin 100000) (hk : k.val = 0) : rV24 X (ix2 r k) = 0#1 :=
  (join_left _ _ concatenates_S64x1_S64x99999_S64x100000_d1 r k (0 : Fin 1) hk.symm).trans (bc0 _ _ _)

theorem rV24_succ (r : Fin 64) (k : Fin 100000) (j : Nat) (hk : j + 1 = k.val) : rV24 X (ix2 r k) = BitVec.ofBool (decide (topT < Cs (ff X r) 100000 j)) := by
  have hk' := k.isLt
  exact (join_right _ _ concatenates_S64x1_S64x99999_S64x100000_d1 r k (⟨j, by omega⟩ : Fin 99999) hk).trans
    ((cutCol 0 _ slices_S64x100000_S64x99999_0_0 r _ (⟨j, by omega⟩ : Fin 100000) (Nat.zero_add _).symm).trans (rV20_ix X h r _))

omit h in
theorem rV41_row (r : Fin 64) (k : Fin 100000) : rV41 X (ix3 r k (0 : Fin 2)) = BitVec.ofNat 32 r.val := by
  refine (pair_left _ _ concatenates_S64x100000x1_S64x100000x1_S64x100000x2_d2 r k).trans ((bcLane _ _ r k).trans ((spread _ _ r k).trans ?_))
  have e : (broadcastInDim S64x1 ![0] bcast_S64_S64x1_0 (iotaInDim S64 32 0)) (ix2 r (0 : Fin 1)) = BitVec.ofNat 32 r.val := (bcCol _ _ r).trans rfl
  change Scalar.select (IntOp.cmpi .slt ((broadcastInDim S64x1 ![0] bcast_S64_S64x1_0 (iotaInDim S64 32 0)) (ix2 r (0 : Fin 1))) 0#32) _ ((broadcastInDim S64x1 ![0] bcast_S64_S64x1_0 (iotaInDim S64 32 0)) (ix2 r (0 : Fin 1))) = _
  rw [e]
  exact wrap_of_lt _ _ (nat_small (by omega) _)

omit h in
theorem rV41_col (r : Fin 64) (k : Fin 100000) : rV41 X (ix3 r k (1 : Fin 2)) = BitVec.ofNat 32 (src (yy X r) k).val :=
  (pair_right _ _ concatenates_S64x100000x1_S64x100000x1_S64x100000x2_d2 r k).trans ((bcLane _ _ r k).trans (rW5_ix X r k))

omit h in
theorem rank_fin {n : Nat} (x : Fin n → EReal) (i : Fin n) : ∃ k : Fin n, k.val = rankOf x i := ⟨⟨rankOf x i, rank_lt x i⟩, rfl⟩

theorem ff_cs (r : Fin 64) (M : Nat) (hM : 64 ≤ M) (j : Nat) (hj : j < 64) :
    Cs (ff X r) M j ≤ topT ↔ j < pK (dsc (xx X r)) (cntGe (xx X r) (dsc (xx X r) 49)) := (h r).cs.1 M hM j hj

omit h in
theorem big1 : 100000 < 2 ^ 31 := by decide

omit h in
theorem dims0 : (scatter_S64x100000_S64x100000x2_S64x100000_n_01_01_2).insertedWindowDims = [0, 1] := rfl
omit h in
theorem dims1 : (scatter_S64x100000_S64x100000x2_S64x100000_n_01_01_2).scatterDimsToOperandDims = [0, 1] := rfl
omit h in
theorem dims2 : (scatter_S64x100000_S64x100000x2_S64x100000_n_01_01_2).indexVectorDim = 2 := rfl

omit h in
theorem put_ix (d : ScatterDims S64x100000 S64x100000x2 S64x100000) (hd0 : d.insertedWindowDims = [0, 1]) (hd1 : d.scatterDimsToOperandDims = [0, 1]) (hd2 : d.indexVectorDim = 2)
    (Z U : S64x100000.Idx → BitVec 1) (I : IVec S64x100000x2 32) (σ : Fin 64 → Fin 100000 → Fin 100000) (hσ : ∀ r, Function.Injective (σ r))
    (h0 : ∀ (r : Fin 64) (k : Fin 100000), I (ix3 r k (0 : Fin 2)) = BitVec.ofNat 32 r.val) (h1 : ∀ r k, I (ix3 r k (1 : Fin 2)) = BitVec.ofNat 32 (σ r k).val) (r : Fin 64) (k : Fin 100000) :
    Host.scatter d (fun _ b => b) Z I U (ix2 r (σ r k)) = U (ix2 r k) :=
  put_perm (A := 64) (N := 100000) d hd0 hd1 hd2 Z I U (by decide) big1 σ hσ h0 h1 r k

omit h in
theorem scat_ix (r : Fin 64) (k : Fin 100000) (Z : S64x100000.Idx → BitVec 1) :
    Host.scatter scatter_S64x100000_S64x100000x2_S64x100000_n_01_01_2 (fun _ b => b) Z (rV41 X) (rV24 X) (ix2 r (src (yy X r) k)) = rV24 X (ix2 r k) := by
  obtain ⟨σ, hσ⟩ : ∃ σ : Fin 64 → Fin 100000 → Fin 100000, ∀ r, σ r = src (yy X r) := ⟨_, fun _ => rfl⟩
  have h1 : ∀ r k, rV41 X (ix3 r k (1 : Fin 2)) = BitVec.ofNat 32 (σ r k).val := fun r k => by rw [hσ r]; exact rV41_col X r k
  have hi : ∀ r, Function.Injective (σ r) := fun r => by rw [hσ r]; exact src_inj _
  rw [← hσ r]
  exact put_ix _ dims0 dims1 dims2 Z (rV24 X) (rV41 X) σ hi (rV41_row X) h1 r k

omit h in
theorem out_ap (r : Fin 64) (i : Fin 100000) :
    rOut X (ix2 r i) = Scalar.select (Host.scatter scatter_S64x100000_S64x100000x2_S64x100000_n_01_01_2 (fun _ b => b) (broadcastInDim S64x100000 ![] bcast_S_S64x100000 (constantI S_ 1 0#1)) (rV41 X) (rV24 X) (ix2 r i)) (⊥ : EReal) (yy X r i) := by
  have e2 : (broadcastInDim S64x100000 ![] bcast_S_S64x100000 (constant (F := Ideal) S_ .f32 0xFF800000#32)) (ix2 r i) = (⊥ : EReal) := (bc0 _ _ _).trans con_bot
  unfold rOut
  rw [sel_ap, e2, rY3_ix X r i]

theorem rOut_ix (r : Fin 64) (i : Fin 100000) :
    rOut X (ix2 r i) = if dsc (xx X r) 49 ≤ xx X r i ∧ rankOf (xx X r) i < pK (dsc (xx X r)) (cntGe (xx X r) (dsc (xx X r) 49)) + 1 then xx X r i else ⊥ := by
  rw [out_ap]
  by_cases hi : dsc (xx X r) 49 ≤ xx X r i
  · have ey : yy X r i = xx X r i := if_neg (not_lt.mpr hi)
    have hr : rankOf (yy X r) i = rankOf (xx X r) i := rank_msk _ _ (h r).bot i hi
    have hL : rankOf (xx X r) i < cntGe (xx X r) (dsc (xx X r) 49) := rank_lt_cnt _ _ i hi
    have hL64 := (h r).L_hi
    obtain ⟨k, hk⟩ := rank_fin (xx X r) i
    have hs : src (yy X r) k = i := src_of_rank (yy X r) i k (hr.trans hk.symm)
    have e3 := scat_ix X r k (broadcastInDim S64x100000 ![] bcast_S_S64x100000 (constantI S_ 1 0#1))
    rw [hs] at e3
    rw [← hk] at hL ⊢
    rw [e3, ey]
    rcases Nat.eq_zero_or_pos k.val with h0 | h0
    · rw [rV24_zero X h r k h0, if_pos ⟨hi, by omega⟩, sel_0]
    · rw [rV24_succ X h r k (k.val - 1) (by omega), sel_bool]
      have hc := ff_cs X h r 100000 (by omega) (k.val - 1) (by omega)
      by_cases hp : topT < Cs (ff X r) 100000 (k.val - 1)
      · have hn : ¬ (k.val < pK (dsc (xx X r)) (cntGe (xx X r) (dsc (xx X r) 49)) + 1) := fun h2 => absurd (hc.mpr (by omega)) (not_le.mpr hp)
        rw [if_pos hp, if_neg (fun a => hn a.2)]
      · have hn := hc.mp (not_lt.mp hp)
        rw [if_neg hp, if_pos ⟨hi, by omega⟩]
  · have ey : yy X r i = ⊥ := if_pos (not_le.mp hi)
    rw [ey, if_neg (fun a => hi a.1)]
    unfold Scalar.select
    exact ite_self _

end Cert.Proof.Sc
-- ==== Proof.Sc.PR.lean ====
/- What the precondition says of each row, and that the kernel's candidates then fit. -/
module

public import proofs.«01_k».proof.Proof.Sc.RD
public import proofs.«01_k».proof.Pre_row_ok

@[expose] public section

noncomputable section

namespace Cert.Proof.Sc

open Idealize.ShloMosaic Idealize.ShloMosaic.Routing Idealize.ShloMosaic.ValueIdx

/-! ## Reads -/

theorem cast23 {α : Type} {a b c n : Nat} (x : (shape2 a n).Idx → α) (h : (shape2 a n).ShapeCasts (shape3 a b c)) (hn : n = b * c) (i : Fin a) (j : Fin b) (l : Fin c) (p : Fin n)
    (hp : p.val = j.val * c + l.val) : shapeCast (shape3 a b c) x h (ix3 i j l) = x (ix2 i p) := by
  refine shapeCast_apply x h _ _ ?_
  rw [Shape.rowMajor_val_two, Shape.rowMajor_val_three]
  show i.val * n + p.val = (i.val * b + j.val) * c + l.val
  rw [hp, hn, Nat.add_mul, Nat.mul_assoc, Nat.add_assoc]

theorem spread3 {α : Type} {a b c : Nat} (h₁ : (shape1 a).BroadcastsInDim (shape3 a 1 1) (![0] : Fin 1 → Fin (shape3 a 1 1).rank))
    (h₂ : (shape3 a 1 1).BroadcastsInDim (shape3 a b c) (![0, 1, 2] : Fin 3 → Fin (shape3 a b c).rank)) (v : (shape1 a).Idx → α) (i : Fin a) (j : Fin b) (l : Fin c) :
    broadcastInDim (shape3 a b c) ![0, 1, 2] h₂ (broadcastInDim (shape3 a 1 1) ![0] h₁ v) (ix3 i j l) = v (ix1 i) := by
  refine (broadcastInDim_apply _ h₂ _ _ (ix3 i (0 : Fin 1) (0 : Fin 1)) fun e => ?_).trans (broadcastInDim_apply _ h₁ v _ _ fun e => ?_)
  · match e with
    | ⟨0, _⟩ =>
      show i.val = if a = 1 then 0 else i.val
      have := i.isLt
      split <;> omega
    | ⟨1, _⟩ =>
      show (0 : Nat) = if (1 : Nat) = 1 then 0 else j.val
      rw [if_pos rfl]
    | ⟨2, _⟩ =>
      show (0 : Nat) = if (1 : Nat) = 1 then 0 else l.val
      rw [if_pos rfl]
  · match e with
    | ⟨0, _⟩ =>
      show i.val = if a = 1 then 0 else i.val
      have := i.isLt
      split <;> omega

theorem fold_ori {ι : Type} [DecidableEq ι] (f : ι → BitVec 1) (s : Finset ι) : s.fold IntOp.ori 0#1 f = 1#1 → ∃ i ∈ s, f i = 1#1 := by
  induction s using Finset.induction_on with
  | empty => intro h; rw [Finset.fold_empty] at h; exact absurd h (by decide)
  | insert a s ha ih =>
    rw [Finset.fold_insert ha]
    intro h
    by_cases hf : f a = 1#1
    · exact ⟨a, Finset.mem_insert_self _ _, hf⟩
    · have h0 : f a = 0#1 := by
        revert hf; generalize f a = w; revert w; decide
      rw [h0] at h
      have : Finset.fold IntOp.ori 0#1 f s = 1#1 := by
        revert h; generalize Finset.fold IntOp.ori 0#1 f s = w; revert w; decide
      obtain ⟨i, hi, h'⟩ := ih this
      exact ⟨i, Finset.mem_insert_of_mem hi, h'⟩

theorem red3 (a b c : Nat) : (shape3 a b c).Reduces [1] (shape2 a c) := ⟨rfl, Nat.zero_lt_two, fun e => by
  match e with
  | ⟨0, _⟩ => rfl
  | ⟨1, _⟩ => rfl⟩

theorem any_ix {a b c : Nat} (x : (shape3 a b c).Idx → BitVec 1) (init : shape0.Idx → BitVec 1) (h : (shape3 a b c).ReducesTo [1] (shape2 a c)) (hu : 0 < shape0.numel) (hi : init ix0 = 0#1)
    (i : Fin a) (l : Fin c) (e : Host.reduce IntOp.ori x init h hu (ix2 i l) = 1#1) : ∃ j : Fin b, x (ix3 i j l) = 1#1 := by
  rw [Host.reduce_eq_fold_single _ x init h (red3 a b c) hu, (congrArg init (eq_ix0 _)).trans hi] at e
  obtain ⟨j, -, hj⟩ := fold_ori _ _ e
  refine ⟨j, ?_⟩
  rw [← hj]
  refine congrArg x (funext fun q => Fin.ext ?_)
  match q with
  | ⟨0, _⟩ => rfl
  | ⟨1, _⟩ => rfl
  | ⟨2, _⟩ => rfl

theorem of_bool (p : Prop) [Decidable p] (h : BitVec.ofBool (decide p) = 1#1) : p := by
  by_contra hp
  rw [decide_eq_false hp] at h
  exact absurd h (by decide)

instance sub0 : Subsingleton shape0.Idx := ⟨fun _ _ => funext fun e => e.elim0⟩

theorem lt_ap {s : Shape} (a b : FVec Ideal s .f32) (i : s.Idx) : cmpf .olt a b i = BitVec.ofBool (decide ((a i : EReal) < b i)) := rfl

theorem pos_top : (Scalar.ofBits (F := Ideal) .f32 0x7F800000#32 : EReal) = ⊤ := by
  change Idealize.ShloMosaic.Ideal.ofBits .f32 0x7F800000#32 = ⊤
  rfl

/-! ## The precondition's parts -/

section
open Cert.Pre_row_ok Cert.Pre_row_ok.Facts
variable [Cert.Pre_row_ok.Facts] (X : FVec Ideal S64x100000 .f32)

/-- The greatest 4097 values. -/
def pS : FVec Ideal S64x4097 .f32 := (Host.topK S64x4097 1 (FloatOps.cmpfTotal .gt) X sliceFits_S64x100000_S64x4097).1
/-- The rows in columns. -/
def pC : FVec Ideal S64x1564x64 .f32 := shapeCast S64x1564x64 (concatenate S64x100096 1 [⟨S64x100000, X⟩, ⟨S64x96, broadcastInDim S64x96 ![] bcast_S_S64x96 (constant S_ .f32 0xFF800000#32)⟩] concatenates_S64x100000_S64x96_S64x100096_d1) shapeCasts_S64x100096_S64x1564x64
/-- The top values below +∞. -/
def p6 : IVec S64 1 := cmpf .olt (shapeCast S64 (extractStridedSlice S64x1 ![0, 0] (pS X) slices_S64x4097_S64x1_0_0) shapeCasts_S64x1_S64) (broadcastInDim S64 ![] bcast_S_S64 (constant S_ .f32 0x7F800000#32))
/-- The values sixteen apart. -/
def p10 : IVec S64x49 1 := cmpf .olt (extractStridedSlice S64x49 ![0, 16] (pS X) slices_S64x4097_S64x49_0_16) (extractStridedSlice S64x49 ![0, 0] (pS X) slices_S64x4097_S64x49_0_0)
/-- The values 49 and 64. -/
def p16 : IVec S64 1 := cmpf .olt (shapeCast S64 (extractStridedSlice S64x1 ![0, 64] (pS X) slices_S64x4097_S64x1_0_64) shapeCasts_S64x1_S64) (shapeCast S64 (extractStridedSlice S64x1 ![0, 49] (pS X) slices_S64x4097_S64x1_0_49) shapeCasts_S64x1_S64)
/-- The entries above value 4096. -/
def p23 : IVec S64x1564x64 1 := cmpf .ogt (pC X) (broadcastInDim S64x1564x64 ![0, 1, 2] bcast_S64x1x1_S64x1564x64_0_1_2 (broadcastInDim S64x1x1 ![0] bcast_S64_S64x1x1_0 (shapeCast S64 (extractStridedSlice S64x1 ![0, 4096] (pS X) slices_S64x4097_S64x1_0_4096) shapeCasts_S64x1_S64)))

theorem fn_parts : Cert.Pre_row_ok.fn (F := Ideal) X = andi (andi (Host.reduce IntOp.andi (p6 X) (constantI S_ 1 1#1) reducesTo_S64_S_d0 h_S_)
    (andi (Host.reduce IntOp.andi (p10 X) (constantI S_ 1 1#1) reducesTo_S64x49_S_d0_1 h_S_) (Host.reduce IntOp.andi (p16 X) (constantI S_ 1 1#1) reducesTo_S64_S_d0 h_S_)))
    (Host.reduce IntOp.andi (Host.reduce IntOp.ori (p23 X) (constantI S_ 1 0#1) reducesTo_S64x1564x64_S64x64_d1 h_S_) (constantI S_ 1 1#1) reducesTo_S64x64_S_d0_1 h_S_) := rfl

theorem pS_ix (r : Fin 64) (k : Fin 4097) : pS X (ix2 r k) = dsc (xx X r) k.val := topK_ix (by omega) X _ r k

theorem pS_col (o : Nat) (ho : o < 4097) (h : S64x4097.Slices ![0, o] S64x1) (h' : S64x1.ShapeCasts S64) (r : Fin 64) :
    shapeCast S64 (extractStridedSlice S64x1 ![0, o] (pS X) h) h' (ix1 r) = dsc (xx X r) o :=
  (cast21 _ h' r (0 : Fin 1) r (by change r.val = r.val * 1 + 0; omega)).trans ((cutCol o _ h r (0 : Fin 1) (⟨o, ho⟩ : Fin 4097) rfl).trans (pS_ix X r _))

theorem pC_ix (r : Fin 64) (k : Fin 1564) (c : Fin 64) (n : Fin 100000) (hn : n.val = k.val * 64 + c.val) : pC X (ix3 r k c) = xx X r n := by
  have hl := n.isLt
  exact (cast23 _ _ rfl r k c (⟨n.val, by omega⟩ : Fin 100096) hn).trans (join_left _ _ concatenates_S64x100000_S64x96_S64x100096_d1 r _ n rfl)

theorem pC_pad (r : Fin 64) (k : Fin 1564) (c : Fin 64) (hn : 100000 ≤ k.val * 64 + c.val) : (pC X (ix3 r k c) : EReal) = ⊥ := by
  have h1 := k.isLt
  have h2 := c.isLt
  exact (cast23 _ _ rfl r k c (⟨k.val * 64 + c.val, by omega⟩ : Fin 100096) rfl).trans ((join_right _ _ concatenates_S64x100000_S64x96_S64x100096_d1 r _ (⟨k.val * 64 + c.val - 100000, by omega⟩ : Fin 96)
    (by change k.val * 64 + c.val - 100000 + 100000 = k.val * 64 + c.val; omega)).trans ((bc0 _ _ _).trans neg_bot))

theorem fn_reads (hp : Cert.Pre_row_ok.fn (F := Ideal) X = fun _ => 1#1) (r : Fin 64) :
    dsc (xx X r) 0 < ⊤ ∧ (∀ k, k < 49 → dsc (xx X r) (k + 16) < dsc (xx X r) k) ∧ dsc (xx X r) 64 < dsc (xx X r) 49 ∧
      ∀ c : Fin 64, ∃ n : Fin 100000, n.val % 64 = c.val ∧ dsc (xx X r) 4096 < xx X r n := by
  have h0 := congrFun hp ix0
  rw [fn_parts] at h0
  obtain ⟨h1, h2⟩ := IntOp.andi_eq_one.1 h0
  obtain ⟨h3, h4⟩ := IntOp.andi_eq_one.1 h1
  obtain ⟨h5, h6⟩ := IntOp.andi_eq_one.1 h4
  refine ⟨?_, fun k hk => ?_, ?_, fun c => ?_⟩
  · have h := Host.reduce_andi_all _ _ _ _ _ h3 (ix1 r)
    unfold p6 at h
    rw [lt_ap, pS_col X 0 (by omega), bc0] at h
    exact lt_of_lt_of_eq (of_bool _ h) pos_top
  · have h := Host.reduce_andi_all _ _ _ _ _ h5 (ix2 r (⟨k, hk⟩ : Fin 49))
    unfold p10 at h
    rw [lt_ap, cutCol (a := 64) (b := 4097) (c := 49) 16 _ _ r ⟨k, hk⟩ ⟨k + 16, by omega⟩ (Nat.add_comm _ _), cutCol (a := 64) (b := 4097) (c := 49) 0 _ _ r ⟨k, hk⟩ ⟨k, by omega⟩ (Nat.zero_add _).symm, pS_ix, pS_ix] at h
    exact of_bool _ h
  · have h := Host.reduce_andi_all _ _ _ _ _ h6 (ix1 r)
    unfold p16 at h
    rw [lt_ap, pS_col X 64 (by omega), pS_col X 49 (by omega)] at h
    exact of_bool _ h
  · have h := Host.reduce_andi_all _ _ _ _ _ h2 (ix2 r c)
    obtain ⟨k, hk⟩ := any_ix (a := 64) (b := 1564) (c := 64) _ _ _ _ rfl r c h
    unfold p23 at hk
    rw [gt_ap, spread3 (a := 64) (b := 1564) (c := 64), pS_col X 4096 (by omega)] at hk
    have hk' := of_bool _ hk
    by_cases hn : 100000 ≤ k.val * 64 + c.val
    · rw [pC_pad X r k c hn] at hk'
      exact absurd hk' not_lt_bot
    · refine ⟨⟨k.val * 64 + c.val, by omega⟩, ?_, ?_⟩
      · have := c.isLt
        change (k.val * 64 + c.val) % 64 = c.val
        omega
      · rw [pC_ix X r k c ⟨k.val * 64 + c.val, by omega⟩ rfl] at hk'
        exact hk'

theorem row_ok (hp : Cert.Pre_row_ok.fn (F := Ideal) X = fun _ => 1#1) (r : Fin 64) : RowOk (xx X r) (dsc (xx X r)) := by
  obtain ⟨h1, h2, h3, -⟩ := fn_reads X hp r
  exact ⟨dsc_desc _, h1, h3, h2⟩

theorem row_cap (hp : Cert.Pre_row_ok.fn (F := Ideal) X = fun _ => 1#1) (r : Fin 64) (R : Vec Ideal Cert.KernelIdeal.S100000 .f32) (hR : rx R = xx X r) :
    cntC (rowX R) (thX (rowX R)) 100096 ≤ 4096 := by
  obtain ⟨-, -, -, h4⟩ := fn_reads X hp r
  choose g hg hg' using h4
  obtain ⟨c0, -, hc0⟩ := Finset.exists_min_image (Finset.univ : Finset (Fin 64)) (fun c => xx X r (g c)) ⟨0, Finset.mem_univ _⟩
  have hle : xx X r (g c0) ≤ thX (rowX R) := by
    rw [le_thX]
    refine .inr fun c hc => ⟨(g ⟨c, hc⟩).val / 64, ?_, ?_⟩
    · have := (g ⟨c, hc⟩).isLt
      omega
    · have e : 64 * ((g ⟨c, hc⟩).val / 64) + c = (g ⟨c, hc⟩).val := by
        have : (g ⟨c, hc⟩).val % 64 = c := hg ⟨c, hc⟩
        omega
      rw [e, xat_row R _ (g ⟨c, hc⟩).isLt, hR]
      exact hc0 _ (Finset.mem_univ _)
  have hlt : dsc (xx X r) 4096 < thX (rowX R) := lt_of_lt_of_le (hg' c0) hle
  rw [cntC_row R (lt_of_le_of_lt bot_le hlt), hR]
  by_contra hn
  exact absurd ((dsc_desc (xx X r) 4096 (by omega) _).mpr (by omega)) (not_le.mpr hlt)

end

end Cert.Proof.Sc
-- ==== Proof.Sc.Alg.lean ====
/- The kernel's result and the reference's are equal over the extended reals. -/
module

public import proofs.«01_k».proof.Proof.Sc.PR
public import proofs.«01_k».proof.Proof.Sc.Frames

@[expose] public section

noncomputable section

namespace Cert.Proof.Sc

open Idealize.ShloMosaic Idealize.ShloMosaic.Routing Idealize.ShloMosaic.ValueIdx
open Idealize.SL.Sem

section
open Cert.KernelIdeal
variable (m : (ℓ : Loc nD τ sig) → Buf (Elt Ideal) ℓ)

theorem x2_ix (r : Fin 64) (j : Fin 100000) : x2 r j = ix2 r j := by
  funext e
  match e with
  | ⟨0, _⟩ => rfl
  | ⟨1, _⟩ => rfl

theorem iR_fin {n : Nat} (i : Fin n) (h : i.val % n < n) : (⟨i.val % n, h⟩ : Fin n) = i := Fin.ext (Nat.mod_eq_of_lt i.isLt)

theorem rx_xx (d : Dev nD) (r : Fin 64) : rx (xR m d r) = xx (m (xLoc d)) r := by
  funext i
  have e : iR i.val 0 = i := iR_fin i _
  change m (xLoc d) (x2 r (iR i.val 0)) = m (xLoc d) (ix2 r i)
  rw [e, x2_ix]

theorem mask_ix [Cert.Pre_row_ok.Facts] (d : Dev nD) (hp : Cert.Pre_row_ok.fn (F := Ideal) (m (xLoc d)) = fun _ => 1#1) (f : Buf (Elt Ideal) (cLoc d)) (g : Buf (Elt Ideal) (bLoc d))
    (hG : ∀ r, GC m d r f ∧ GB m d r g) : maskAll (F := Ideal) (m (xLoc d)) f g = rOut (m (xLoc d)) := by
  funext y
  obtain ⟨r, i, rfl⟩ := ix2_ex (a := 64) (b := 100000) y
  obtain ⟨hC, E0, hB⟩ := hG r
  have hR := rx_xx m d r
  have hk := row_kept (d := dsc (xx (m (xLoc d)) r)) (xR m d r) (hR ▸ row_ok _ hp r) (row_cap _ hp r _ hR) E0 (ix16 0) (ix16 0) i
  rw [hR] at hk
  have eC : f (o2 r 0) = cutV (bestV (rowX (xR m d r))) (ix16 0) := hC 0
  have eB : g (o2 r 0) = rowBnd E0 (rowX (xR m d r)) (ix16 0) := hB 0
  rw [rOut_ix _ (row_ok _ hp) r i]
  change (if keepBit (F := Ideal) (xx (m (xLoc d)) r i) (f (o2 r 0)) (g (o2 r 0)) (BitVec.ofNat 32 i.val) = 1#1 then (xx (m (xLoc d)) r i : EReal) else (Scalar.ofBits (F := Ideal) .f32 0xFF800000#32 : EReal)) = _
  rw [eC, eB, neg_bot]
  exact if_congr hk rfl rfl

end

theorem frame_ideal_pre [Cert.Pre_row_ok.Facts] : Cert.quiescent_KernelIdeal_pre_row_ok := fun m ρ _ => frame_ideal m ρ trivial

theorem frame_ref_pre [Cert.Pre_row_ok.Facts] : Cert.quiescent_ReferenceIdeal_pre_row_ok := fun m ρ _ => frame_ref m ρ trivial

theorem algebraic [Cert.Pre_row_ok.Facts] : Cert.algebraic_KernelIdeal_ReferenceIdeal_pre_row_ok := by
  intro m g m' g' hp hm
  refine ⟨fun c => rOut (m (xLoc c)), ?_, ?_⟩
  · refine (θ_run Cert.KernelIdeal.defs _ _).mono (fun r h c => ?_) (run_main (F := Ideal) m g)
    obtain ⟨h1, f, b, hG, h2⟩ := h.1 c
    exact ⟨h2.trans (mask_ix m c (hp c) f b hG), h1⟩
  · refine (θ_run Cert.ReferenceIdeal.defs _ _).mono (fun r h c => ⟨(h c).1.trans ?_, (h c).2⟩) (Cert.ReferenceIdeal.Value.run (F := Ideal) m' g')
    exact (rOut_eq m' c).trans (congrArg rOut (hm c))

end Cert.Proof.Sc
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_row_ok
public import proofs.«01_k».proof.Proof.Sc.Frames
public import proofs.«01_k».proof.Proof.Sc.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_row_ok.Gen.facts,
    Sc.frame_kernel, Sc.frame_ideal, Sc.frame_ideal_pre, Sc.frame_ref, Sc.frame_ref_pre, trivial, Sc.algebraic⟩

end Cert.Proof

end
